-- ==== Defs.lean ====
def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_sb_finite [hPre_sb_finite : Cert.Pre_sb_finite.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_sb_finite.fn (F := Ideal) (m ((c.tc : Thread Cert.SbKernelIdeal.nD Cert.SbKernelIdeal.τ).loc Cert.SbKernelIdeal.main_arg0))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_sb_finite [hPre_sb_finite : Cert.Pre_sb_finite.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_sb_finite.fn (F := Ideal) (m ((c.tc : Thread Cert.SbReferenceIdeal.nD Cert.SbReferenceIdeal.τ).loc Cert.SbReferenceIdeal.main_arg0))) = (fun _ => 1#1)

def Pre_MoeKernel (m : (ℓ : Loc Cert.MoeKernel.nD Cert.MoeKernel.τ Cert.MoeKernel.sig) → Buf (Elt Bits) ℓ) : Prop :=
  True

def Pre_MoeKernelIdeal (m : (ℓ : Loc Cert.MoeKernelIdeal.nD Cert.MoeKernelIdeal.τ Cert.MoeKernelIdeal.sig) → Buf (Elt Ideal) ℓ) : Prop :=
  True

def Pre_MoeReferenceIdeal (m : (ℓ : Loc Cert.MoeReferenceIdeal.nD Cert.MoeReferenceIdeal.τ Cert.MoeReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_fox_finite [hPre_fox_finite : Cert.Pre_fox_finite.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1))).1 = (fun _ => 1#1)
    ∧ (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1))).2 = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_finite [hPre_fox_finite : Cert.Pre_fox_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1))).1 = (fun _ => 1#1)
    ∧ (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1))).2 = (fun _ => 1#1)

def Pre_DiffKernel (m : (ℓ : Loc Cert.DiffKernel.nD Cert.DiffKernel.τ Cert.DiffKernel.sig) → Buf (Elt Bits) ℓ) : Prop :=
  True

def Pre_DiffKernelIdeal (m : (ℓ : Loc Cert.DiffKernelIdeal.nD Cert.DiffKernelIdeal.τ Cert.DiffKernelIdeal.sig) → Buf (Elt Ideal) ℓ) : Prop :=
  True

def Pre_DiffKernelIdeal_diff_finite [hPre_diff_finite : Cert.Pre_diff_finite.Facts] (m : (ℓ : Loc Cert.DiffKernelIdeal.nD Cert.DiffKernelIdeal.τ Cert.DiffKernelIdeal.sig) → Buf (Elt Ideal) ℓ) : Prop :=
  ∀ c : Dev Cert.DiffKernelIdeal.nD,
    (Cert.Pre_diff_finite.fn (F := Ideal) (m ((c.tc : Thread Cert.DiffKernelIdeal.nD Cert.DiffKernelIdeal.τ).loc Cert.DiffKernelIdeal.main_arg0)) (m ((c.tc : Thread Cert.DiffKernelIdeal.nD Cert.DiffKernelIdeal.τ).loc Cert.DiffKernelIdeal.main_arg1)) (m ((c.tc : Thread Cert.DiffKernelIdeal.nD Cert.DiffKernelIdeal.τ).loc Cert.DiffKernelIdeal.main_arg2))).1 = (fun _ => 1#1)
    ∧ (Cert.Pre_diff_finite.fn (F := Ideal) (m ((c.tc : Thread Cert.DiffKernelIdeal.nD Cert.DiffKernelIdeal.τ).loc Cert.DiffKernelIdeal.main_arg0)) (m ((c.tc : Thread Cert.DiffKernelIdeal.nD Cert.DiffKernelIdeal.τ).loc Cert.DiffKernelIdeal.main_arg1)) (m ((c.tc : Thread Cert.DiffKernelIdeal.nD Cert.DiffKernelIdeal.τ).loc Cert.DiffKernelIdeal.main_arg2))).2 = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_diff_finite [hPre_diff_finite : Cert.Pre_diff_finite.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_diff_finite.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2))).1 = (fun _ => 1#1)
    ∧ (Cert.Pre_diff_finite.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2))).2 = (fun _ => 1#1)

def Pre_Diff2Kernel (m : (ℓ : Loc Cert.Diff2Kernel.nD Cert.Diff2Kernel.τ Cert.Diff2Kernel.sig) → Buf (Elt Bits) ℓ) : Prop :=
  True

def Pre_Diff2KernelIdeal (m : (ℓ : Loc Cert.Diff2KernelIdeal.nD Cert.Diff2KernelIdeal.τ Cert.Diff2KernelIdeal.sig) → Buf (Elt Ideal) ℓ) : Prop :=
  True

def Pre_Diff2KernelIdeal_diff_finite [hPre_diff_finite : Cert.Pre_diff_finite.Facts] (m : (ℓ : Loc Cert.Diff2KernelIdeal.nD Cert.Diff2KernelIdeal.τ Cert.Diff2KernelIdeal.sig) → Buf (Elt Ideal) ℓ) : Prop :=
  ∀ c : Dev Cert.Diff2KernelIdeal.nD,
    (Cert.Pre_diff_finite.fn (F := Ideal) (m ((c.tc : Thread Cert.Diff2KernelIdeal.nD Cert.Diff2KernelIdeal.τ).loc Cert.Diff2KernelIdeal.main_arg0)) (m ((c.tc : Thread Cert.Diff2KernelIdeal.nD Cert.Diff2KernelIdeal.τ).loc Cert.Diff2KernelIdeal.main_arg1)) (m ((c.tc : Thread Cert.Diff2KernelIdeal.nD Cert.Diff2KernelIdeal.τ).loc Cert.Diff2KernelIdeal.main_arg2))).1 = (fun _ => 1#1)
    ∧ (Cert.Pre_diff_finite.fn (F := Ideal) (m ((c.tc : Thread Cert.Diff2KernelIdeal.nD Cert.Diff2KernelIdeal.τ).loc Cert.Diff2KernelIdeal.main_arg0)) (m ((c.tc : Thread Cert.Diff2KernelIdeal.nD Cert.Diff2KernelIdeal.τ).loc Cert.Diff2KernelIdeal.main_arg1)) (m ((c.tc : Thread Cert.Diff2KernelIdeal.nD Cert.Diff2KernelIdeal.τ).loc Cert.Diff2KernelIdeal.main_arg2))).2 = (fun _ => 1#1)

def Pre_Diff2ReferenceIdeal (m : (ℓ : Loc Cert.Diff2ReferenceIdeal.nD Cert.Diff2ReferenceIdeal.τ Cert.Diff2ReferenceIdeal.sig) → Buf (Elt Ideal) ℓ) : Prop :=
  True

def Pre_Diff2ReferenceIdeal_diff_finite [hPre_diff_finite : Cert.Pre_diff_finite.Facts] (m : (ℓ : Loc Cert.Diff2ReferenceIdeal.nD Cert.Diff2ReferenceIdeal.τ Cert.Diff2ReferenceIdeal.sig) → Buf (Elt Ideal) ℓ) : Prop :=
  ∀ c : Dev Cert.Diff2ReferenceIdeal.nD,
    (Cert.Pre_diff_finite.fn (F := Ideal) (m ((c.tc : Thread Cert.Diff2ReferenceIdeal.nD Cert.Diff2ReferenceIdeal.τ).loc Cert.Diff2ReferenceIdeal.main_arg0)) (m ((c.tc : Thread Cert.Diff2ReferenceIdeal.nD Cert.Diff2ReferenceIdeal.τ).loc Cert.Diff2ReferenceIdeal.main_arg1)) (m ((c.tc : Thread Cert.Diff2ReferenceIdeal.nD Cert.Diff2ReferenceIdeal.τ).loc Cert.Diff2ReferenceIdeal.main_arg2))).1 = (fun _ => 1#1)
    ∧ (Cert.Pre_diff_finite.fn (F := Ideal) (m ((c.tc : Thread Cert.Diff2ReferenceIdeal.nD Cert.Diff2ReferenceIdeal.τ).loc Cert.Diff2ReferenceIdeal.main_arg0)) (m ((c.tc : Thread Cert.Diff2ReferenceIdeal.nD Cert.Diff2ReferenceIdeal.τ).loc Cert.Diff2ReferenceIdeal.main_arg1)) (m ((c.tc : Thread Cert.Diff2ReferenceIdeal.nD Cert.Diff2ReferenceIdeal.τ).loc Cert.Diff2ReferenceIdeal.main_arg2))).2 = (fun _ => 1#1)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0))
      ∧ r.2.sem = fun _ => 0)

def quiescent_SbKernelIdeal_pre_sb_finite [hSbKernelIdeal : Cert.SbKernelIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_sb_finite m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0))
      ∧ r.2.sem = fun _ => 0)

def quiescent_SbReferenceIdeal_pre_sb_finite [hSbReferenceIdeal : Cert.SbReferenceIdeal.Facts] [hPre_sb_finite : Cert.Pre_sb_finite.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_sb_finite m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0))
      ∧ r.2.sem = fun _ => 0)

def quiescent_MoeKernel [hMoeKernel : Cert.MoeKernel.Facts] : Prop :=
  ∀ (m : (ℓ : Loc Cert.MoeKernel.nD Cert.MoeKernel.τ Cert.MoeKernel.sig) → Buf (Elt Bits) ℓ) (g : Dev Cert.MoeKernel.nD → PrngReg), Pre_MoeKernel m →
    θ_run (Cert.MoeKernel.defs (F := Bits)) (onTc (τ := Cert.MoeKernel.τ) (Cert.MoeKernel.main (F := Bits))) ⟨m, fun _ => 0, g⟩ (fun r => (∀ c : Dev Cert.MoeKernel.nD,
      r.2.mem ((c.tc : Thread Cert.MoeKernel.nD Cert.MoeKernel.τ).loc Cert.MoeKernel.main_arg0) = m ((c.tc : Thread Cert.MoeKernel.nD Cert.MoeKernel.τ).loc Cert.MoeKernel.main_arg0)
      ∧ r.2.mem ((c.tc : Thread Cert.MoeKernel.nD Cert.MoeKernel.τ).loc Cert.MoeKernel.main_arg1) = m ((c.tc : Thread Cert.MoeKernel.nD Cert.MoeKernel.τ).loc Cert.MoeKernel.main_arg1)
      ∧ r.2.mem ((c.tc : Thread Cert.MoeKernel.nD Cert.MoeKernel.τ).loc Cert.MoeKernel.main_arg2) = m ((c.tc : Thread Cert.MoeKernel.nD Cert.MoeKernel.τ).loc Cert.MoeKernel.main_arg2)
      ∧ r.2.mem ((c.tc : Thread Cert.MoeKernel.nD Cert.MoeKernel.τ).loc Cert.MoeKernel.main_arg3) = m ((c.tc : Thread Cert.MoeKernel.nD Cert.MoeKernel.τ).loc Cert.MoeKernel.main_arg3)
      ∧ r.2.mem ((c.tc : Thread Cert.MoeKernel.nD Cert.MoeKernel.τ).loc Cert.MoeKernel.main_arg4) = m ((c.tc : Thread Cert.MoeKernel.nD Cert.MoeKernel.τ).loc Cert.MoeKernel.main_arg4)
      ∧ r.2.mem ((c.tc : Thread Cert.MoeKernel.nD Cert.MoeKernel.τ).loc Cert.MoeKernel.main_arg5) = m ((c.tc : Thread Cert.MoeKernel.nD Cert.MoeKernel.τ).loc Cert.MoeKernel.main_arg5)
      ∧ r.2.mem ((c.tc : Thread Cert.MoeKernel.nD Cert.MoeKernel.τ).loc Cert.MoeKernel.main_arg6) = m ((c.tc : Thread Cert.MoeKernel.nD Cert.MoeKernel.τ).loc Cert.MoeKernel.main_arg6))
      ∧ r.2.sem = fun _ => 0)

def quiescent_MoeKernelIdeal [hMoeKernelIdeal : Cert.MoeKernelIdeal.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg), Pre_MoeKernelIdeal m →
    θ_run (Cert.MoeKernelIdeal.defs (F := Ideal)) (onTc (τ := Cert.MoeKernelIdeal.τ) (Cert.MoeKernelIdeal.main (F := Ideal))) ⟨m, fun _ => 0, g⟩ (fun r => (∀ c : Dev Cert.MoeKernelIdeal.nD,
      r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
      ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
      ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
      ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
      ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
      ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5)
      ∧ r.2.mem ((c.tc : Thread Cert.MoeKernelIdeal.nD Cert.MoeKernelIdeal.τ).loc Cert.MoeKernelIdeal.main_arg6) = m ((c.tc : Thread Cert.MoeKernelIdeal.nD Cert.MoeKernelIdeal.τ).loc Cert.MoeKernelIdeal.main_arg6))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1))
      ∧ r.2.sem = fun _ => 0)

def quiescent_FoxKernelIdeal_pre_fox_finite [hFoxKernelIdeal : Cert.FoxKernelIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_fox_finite m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1))
      ∧ r.2.sem = fun _ => 0)

def quiescent_FoxReferenceIdeal_pre_fox_finite [hFoxReferenceIdeal : Cert.FoxReferenceIdeal.Facts] [hPre_fox_finite : Cert.Pre_fox_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1))
      ∧ r.2.sem = fun _ => 0)

def quiescent_DiffKernel [hDiffKernel : Cert.DiffKernel.Facts] : Prop :=
  ∀ (m : (ℓ : Loc Cert.DiffKernel.nD Cert.DiffKernel.τ Cert.DiffKernel.sig) → Buf (Elt Bits) ℓ) (g : Dev Cert.DiffKernel.nD → PrngReg), Pre_DiffKernel m →
    θ_run (Cert.DiffKernel.defs (F := Bits)) (onTc (τ := Cert.DiffKernel.τ) (Cert.DiffKernel.main (F := Bits))) ⟨m, fun _ => 0, g⟩ (fun r => (∀ c : Dev Cert.DiffKernel.nD,
      r.2.mem ((c.tc : Thread Cert.DiffKernel.nD Cert.DiffKernel.τ).loc Cert.DiffKernel.main_arg0) = m ((c.tc : Thread Cert.DiffKernel.nD Cert.DiffKernel.τ).loc Cert.DiffKernel.main_arg0)
      ∧ r.2.mem ((c.tc : Thread Cert.DiffKernel.nD Cert.DiffKernel.τ).loc Cert.DiffKernel.main_arg1) = m ((c.tc : Thread Cert.DiffKernel.nD Cert.DiffKernel.τ).loc Cert.DiffKernel.main_arg1)
      ∧ r.2.mem ((c.tc : Thread Cert.DiffKernel.nD Cert.DiffKernel.τ).loc Cert.DiffKernel.main_arg2) = m ((c.tc : Thread Cert.DiffKernel.nD Cert.DiffKernel.τ).loc Cert.DiffKernel.main_arg2))
      ∧ r.2.sem = fun _ => 0)

def quiescent_DiffKernelIdeal [hDiffKernelIdeal : Cert.DiffKernelIdeal.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg), Pre_DiffKernelIdeal m →
    θ_run (Cert.DiffKernelIdeal.defs (F := Ideal)) (onTc (τ := Cert.DiffKernelIdeal.τ) (Cert.DiffKernelIdeal.main (F := Ideal))) ⟨m, fun _ => 0, g⟩ (fun r => (∀ c : Dev Cert.DiffKernelIdeal.nD,
      r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
      ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
      ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2))
      ∧ r.2.sem = fun _ => 0)

def quiescent_DiffKernelIdeal_pre_diff_finite [hDiffKernelIdeal : Cert.DiffKernelIdeal.Facts] [hPre_diff_finite : Cert.Pre_diff_finite.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg), Pre_DiffKernelIdeal_diff_finite m →
    θ_run (Cert.DiffKernelIdeal.defs (F := Ideal)) (onTc (τ := Cert.DiffKernelIdeal.τ) (Cert.DiffKernelIdeal.main (F := Ideal))) ⟨m, fun _ => 0, g⟩ (fun r => (∀ c : Dev Cert.DiffKernelIdeal.nD,
      r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
      ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
      ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2))
      ∧ r.2.sem = fun _ => 0)

def quiescent_DiffReferenceIdeal_pre_diff_finite [hDiffReferenceIdeal : Cert.DiffReferenceIdeal.Facts] [hPre_diff_finite : Cert.Pre_diff_finite.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_diff_finite m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2))
      ∧ r.2.sem = fun _ => 0)

def quiescent_Diff2Kernel [hDiff2Kernel : Cert.Diff2Kernel.Facts] : Prop :=
  ∀ (m : (ℓ : Loc Cert.Diff2Kernel.nD Cert.Diff2Kernel.τ Cert.Diff2Kernel.sig) → Buf (Elt Bits) ℓ) (g : Dev Cert.Diff2Kernel.nD → PrngReg), Pre_Diff2Kernel m →
    θ_run (Cert.Diff2Kernel.defs (F := Bits)) (onTc (τ := Cert.Diff2Kernel.τ) (Cert.Diff2Kernel.main (F := Bits))) ⟨m, fun _ => 0, g⟩ (fun r => (∀ c : Dev Cert.Diff2Kernel.nD,
      r.2.mem ((c.tc : Thread Cert.Diff2Kernel.nD Cert.Diff2Kernel.τ).loc Cert.Diff2Kernel.main_arg0) = m ((c.tc : Thread Cert.Diff2Kernel.nD Cert.Diff2Kernel.τ).loc Cert.Diff2Kernel.main_arg0)
      ∧ r.2.mem ((c.tc : Thread Cert.Diff2Kernel.nD Cert.Diff2Kernel.τ).loc Cert.Diff2Kernel.main_arg1) = m ((c.tc : Thread Cert.Diff2Kernel.nD Cert.Diff2Kernel.τ).loc Cert.Diff2Kernel.main_arg1)
      ∧ r.2.mem ((c.tc : Thread Cert.Diff2Kernel.nD Cert.Diff2Kernel.τ).loc Cert.Diff2Kernel.main_arg2) = m ((c.tc : Thread Cert.Diff2Kernel.nD Cert.Diff2Kernel.τ).loc Cert.Diff2Kernel.main_arg2))
      ∧ r.2.sem = fun _ => 0)

def quiescent_Diff2KernelIdeal [hDiff2KernelIdeal : Cert.Diff2KernelIdeal.Facts] : Prop :=
  ∀ (m : (ℓ : Loc Cert.Diff2KernelIdeal.nD Cert.Diff2KernelIdeal.τ Cert.Diff2KernelIdeal.sig) → Buf (Elt Ideal) ℓ) (g : Dev Cert.Diff2KernelIdeal.nD → PrngReg), Pre_Diff2KernelIdeal m →
    θ_run (Cert.Diff2KernelIdeal.defs (F := Ideal)) (onTc (τ := Cert.Diff2KernelIdeal.τ) (Cert.Diff2KernelIdeal.main (F := Ideal))) ⟨m, fun _ => 0, g⟩ (fun r => (∀ c : Dev Cert.Diff2KernelIdeal.nD,
      r.2.mem ((c.tc : Thread Cert.Diff2KernelIdeal.nD Cert.Diff2KernelIdeal.τ).loc Cert.Diff2KernelIdeal.main_arg0) = m ((c.tc : Thread Cert.Diff2KernelIdeal.nD Cert.Diff2KernelIdeal.τ).loc Cert.Diff2KernelIdeal.main_arg0)
      ∧ r.2.mem ((c.tc : Thread Cert.Diff2KernelIdeal.nD Cert.Diff2KernelIdeal.τ).loc Cert.Diff2KernelIdeal.main_arg1) = m ((c.tc : Thread Cert.Diff2KernelIdeal.nD Cert.Diff2KernelIdeal.τ).loc Cert.Diff2KernelIdeal.main_arg1)
      ∧ r.2.mem ((c.tc : Thread Cert.Diff2KernelIdeal.nD Cert.Diff2KernelIdeal.τ).loc Cert.Diff2KernelIdeal.main_arg2) = m ((c.tc : Thread Cert.Diff2KernelIdeal.nD Cert.Diff2KernelIdeal.τ).loc Cert.Diff2KernelIdeal.main_arg2))
      ∧ r.2.sem = fun _ => 0)

def quiescent_Diff2KernelIdeal_pre_diff_finite [hDiff2KernelIdeal : Cert.Diff2KernelIdeal.Facts] [hPre_diff_finite : Cert.Pre_diff_finite.Facts] : Prop :=
  ∀ (m : (ℓ : Loc Cert.Diff2KernelIdeal.nD Cert.Diff2KernelIdeal.τ Cert.Diff2KernelIdeal.sig) → Buf (Elt Ideal) ℓ) (g : Dev Cert.Diff2KernelIdeal.nD → PrngReg), Pre_Diff2KernelIdeal_diff_finite m →
    θ_run (Cert.Diff2KernelIdeal.defs (F := Ideal)) (onTc (τ := Cert.Diff2KernelIdeal.τ) (Cert.Diff2KernelIdeal.main (F := Ideal))) ⟨m, fun _ => 0, g⟩ (fun r => (∀ c : Dev Cert.Diff2KernelIdeal.nD,
      r.2.mem ((c.tc : Thread Cert.Diff2KernelIdeal.nD Cert.Diff2KernelIdeal.τ).loc Cert.Diff2KernelIdeal.main_arg0) = m ((c.tc : Thread Cert.Diff2KernelIdeal.nD Cert.Diff2KernelIdeal.τ).loc Cert.Diff2KernelIdeal.main_arg0)
      ∧ r.2.mem ((c.tc : Thread Cert.Diff2KernelIdeal.nD Cert.Diff2KernelIdeal.τ).loc Cert.Diff2KernelIdeal.main_arg1) = m ((c.tc : Thread Cert.Diff2KernelIdeal.nD Cert.Diff2KernelIdeal.τ).loc Cert.Diff2KernelIdeal.main_arg1)
      ∧ r.2.mem ((c.tc : Thread Cert.Diff2KernelIdeal.nD Cert.Diff2KernelIdeal.τ).loc Cert.Diff2KernelIdeal.main_arg2) = m ((c.tc : Thread Cert.Diff2KernelIdeal.nD Cert.Diff2KernelIdeal.τ).loc Cert.Diff2KernelIdeal.main_arg2))
      ∧ r.2.sem = fun _ => 0)

def quiescent_Diff2ReferenceIdeal [hDiff2ReferenceIdeal : Cert.Diff2ReferenceIdeal.Facts] : Prop :=
  ∀ (m : (ℓ : Loc Cert.Diff2ReferenceIdeal.nD Cert.Diff2ReferenceIdeal.τ Cert.Diff2ReferenceIdeal.sig) → Buf (Elt Ideal) ℓ) (g : Dev Cert.Diff2ReferenceIdeal.nD → PrngReg), Pre_Diff2ReferenceIdeal m →
    θ_run (Cert.Diff2ReferenceIdeal.defs (F := Ideal)) (onTc (τ := Cert.Diff2ReferenceIdeal.τ) (Cert.Diff2ReferenceIdeal.main (F := Ideal))) ⟨m, fun _ => 0, g⟩ (fun r => (∀ c : Dev Cert.Diff2ReferenceIdeal.nD,
      r.2.mem ((c.tc : Thread Cert.Diff2ReferenceIdeal.nD Cert.Diff2ReferenceIdeal.τ).loc Cert.Diff2ReferenceIdeal.main_arg0) = m ((c.tc : Thread Cert.Diff2ReferenceIdeal.nD Cert.Diff2ReferenceIdeal.τ).loc Cert.Diff2ReferenceIdeal.main_arg0)
      ∧ r.2.mem ((c.tc : Thread Cert.Diff2ReferenceIdeal.nD Cert.Diff2ReferenceIdeal.τ).loc Cert.Diff2ReferenceIdeal.main_arg1) = m ((c.tc : Thread Cert.Diff2ReferenceIdeal.nD Cert.Diff2ReferenceIdeal.τ).loc Cert.Diff2ReferenceIdeal.main_arg1)
      ∧ r.2.mem ((c.tc : Thread Cert.Diff2ReferenceIdeal.nD Cert.Diff2ReferenceIdeal.τ).loc Cert.Diff2ReferenceIdeal.main_arg2) = m ((c.tc : Thread Cert.Diff2ReferenceIdeal.nD Cert.Diff2ReferenceIdeal.τ).loc Cert.Diff2ReferenceIdeal.main_arg2))
      ∧ r.2.sem = fun _ => 0)

def quiescent_Diff2ReferenceIdeal_pre_diff_finite [hDiff2ReferenceIdeal : Cert.Diff2ReferenceIdeal.Facts] [hPre_diff_finite : Cert.Pre_diff_finite.Facts] : Prop :=
  ∀ (m : (ℓ : Loc Cert.Diff2ReferenceIdeal.nD Cert.Diff2ReferenceIdeal.τ Cert.Diff2ReferenceIdeal.sig) → Buf (Elt Ideal) ℓ) (g : Dev Cert.Diff2ReferenceIdeal.nD → PrngReg), Pre_Diff2ReferenceIdeal_diff_finite m →
    θ_run (Cert.Diff2ReferenceIdeal.defs (F := Ideal)) (onTc (τ := Cert.Diff2ReferenceIdeal.τ) (Cert.Diff2ReferenceIdeal.main (F := Ideal))) ⟨m, fun _ => 0, g⟩ (fun r => (∀ c : Dev Cert.Diff2ReferenceIdeal.nD,
      r.2.mem ((c.tc : Thread Cert.Diff2ReferenceIdeal.nD Cert.Diff2ReferenceIdeal.τ).loc Cert.Diff2ReferenceIdeal.main_arg0) = m ((c.tc : Thread Cert.Diff2ReferenceIdeal.nD Cert.Diff2ReferenceIdeal.τ).loc Cert.Diff2ReferenceIdeal.main_arg0)
      ∧ r.2.mem ((c.tc : Thread Cert.Diff2ReferenceIdeal.nD Cert.Diff2ReferenceIdeal.τ).loc Cert.Diff2ReferenceIdeal.main_arg1) = m ((c.tc : Thread Cert.Diff2ReferenceIdeal.nD Cert.Diff2ReferenceIdeal.τ).loc Cert.Diff2ReferenceIdeal.main_arg1)
      ∧ r.2.mem ((c.tc : Thread Cert.Diff2ReferenceIdeal.nD Cert.Diff2ReferenceIdeal.τ).loc Cert.Diff2ReferenceIdeal.main_arg2) = m ((c.tc : Thread Cert.Diff2ReferenceIdeal.nD Cert.Diff2ReferenceIdeal.τ).loc Cert.Diff2ReferenceIdeal.main_arg2))
      ∧ r.2.sem = fun _ => 0)

def preserves_SbKernel_SbKernelIdeal : Prop :=
  True

def algebraic_SbKernelIdeal_SbReferenceIdeal_pre_sb_finite [hSbKernelIdeal : Cert.SbKernelIdeal.Facts] [hSbReferenceIdeal : Cert.SbReferenceIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_sb_finite m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)) →
    ∃ (v0 : (c : Dev Cert.SbKernelIdeal.nD) → Buf (Elt Ideal) ((c.tc : Thread Cert.SbKernelIdeal.nD Cert.SbKernelIdeal.τ).loc Cert.SbKernelIdeal.main_v0)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v0) = v0 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v32) = v0 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0))

def preserves_MoeKernel_MoeKernelIdeal : Prop :=
  True

def algebraic_MoeKernelIdeal_MoeReferenceIdeal [hMoeKernelIdeal : Cert.MoeKernelIdeal.Facts] [hMoeReferenceIdeal : Cert.MoeReferenceIdeal.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeKernelIdeal m →
    (∀ c : Dev Cert.MoeKernelIdeal.nD,
      m' ((c.tc : Thread Cert.MoeReferenceIdeal.nD Cert.MoeReferenceIdeal.τ).loc Cert.MoeReferenceIdeal.main_arg0) = m ((c.tc : Thread Cert.MoeKernelIdeal.nD Cert.MoeKernelIdeal.τ).loc Cert.MoeKernelIdeal.main_arg0)
      ∧ m' ((c.tc : Thread Cert.MoeReferenceIdeal.nD Cert.MoeReferenceIdeal.τ).loc Cert.MoeReferenceIdeal.main_arg1) = m ((c.tc : Thread Cert.MoeKernelIdeal.nD Cert.MoeKernelIdeal.τ).loc Cert.MoeKernelIdeal.main_arg1)
      ∧ m' ((c.tc : Thread Cert.MoeReferenceIdeal.nD Cert.MoeReferenceIdeal.τ).loc Cert.MoeReferenceIdeal.main_arg2) = m ((c.tc : Thread Cert.MoeKernelIdeal.nD Cert.MoeKernelIdeal.τ).loc Cert.MoeKernelIdeal.main_arg2)
      ∧ m' ((c.tc : Thread Cert.MoeReferenceIdeal.nD Cert.MoeReferenceIdeal.τ).loc Cert.MoeReferenceIdeal.main_arg3) = m ((c.tc : Thread Cert.MoeKernelIdeal.nD Cert.MoeKernelIdeal.τ).loc Cert.MoeKernelIdeal.main_arg3)
      ∧ m' ((c.tc : Thread Cert.MoeReferenceIdeal.nD Cert.MoeReferenceIdeal.τ).loc Cert.MoeReferenceIdeal.main_arg4) = m ((c.tc : Thread Cert.MoeKernelIdeal.nD Cert.MoeKernelIdeal.τ).loc Cert.MoeKernelIdeal.main_arg4)
      ∧ m' ((c.tc : Thread Cert.MoeReferenceIdeal.nD Cert.MoeReferenceIdeal.τ).loc Cert.MoeReferenceIdeal.main_arg5) = m ((c.tc : Thread Cert.MoeKernelIdeal.nD Cert.MoeKernelIdeal.τ).loc Cert.MoeKernelIdeal.main_arg5)
      ∧ m' ((c.tc : Thread Cert.MoeReferenceIdeal.nD Cert.MoeReferenceIdeal.τ).loc Cert.MoeReferenceIdeal.main_arg6) = m ((c.tc : Thread Cert.MoeKernelIdeal.nD Cert.MoeKernelIdeal.τ).loc Cert.MoeKernelIdeal.main_arg6)) →
    ∃ (v0 : (c : Dev Cert.MoeKernelIdeal.nD) → Buf (Elt Ideal) ((c.tc : Thread Cert.MoeKernelIdeal.nD Cert.MoeKernelIdeal.τ).loc Cert.MoeKernelIdeal.main_v13)),
      θ_run (Cert.MoeKernelIdeal.defs (F := Ideal)) (onTc (τ := Cert.MoeKernelIdeal.τ) (Cert.MoeKernelIdeal.main (F := Ideal))) ⟨m, fun _ => 0, g⟩ (fun r => ∀ c : Dev Cert.MoeKernelIdeal.nD,
          r.2.mem ((c.tc : Thread Cert.MoeKernelIdeal.nD Cert.MoeKernelIdeal.τ).loc Cert.MoeKernelIdeal.main_v13) = v0 c
          ∧ r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
          ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
          ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
          ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
          ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
          ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5)
          ∧ r.2.mem ((c.tc : Thread Cert.MoeKernelIdeal.nD Cert.MoeKernelIdeal.τ).loc Cert.MoeKernelIdeal.main_arg6) = m ((c.tc : Thread Cert.MoeKernelIdeal.nD Cert.MoeKernelIdeal.τ).loc Cert.MoeKernelIdeal.main_arg6))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v166) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v13)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v13) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v52) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)) →
    ∃ (v0 : (c : Dev Cert.InKernelIdeal.nD) → Buf (Elt Ideal) ((c.tc : Thread Cert.InKernelIdeal.nD Cert.InKernelIdeal.τ).loc Cert.InKernelIdeal.main_v13_0)) (v1 : (c : Dev Cert.InKernelIdeal.nD) → Buf (Elt Ideal) ((c.tc : Thread Cert.InKernelIdeal.nD Cert.InKernelIdeal.τ).loc Cert.InKernelIdeal.main_v13_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v13_0) = v0 c
          ∧ r.2.mem ((c.tc : Thread Cert.InKernelIdeal.nD Cert.InKernelIdeal.τ).loc Cert.InKernelIdeal.main_v13_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v34) = v0 c
          ∧ r.2.mem ((c.tc : Thread Cert.InReferenceIdeal.nD Cert.InReferenceIdeal.τ).loc Cert.InReferenceIdeal.main_v36) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)) →
    ∃ (v0 : (c : Dev Cert.MergeKernelIdeal.nD) → Buf (Elt Ideal) ((c.tc : Thread Cert.MergeKernelIdeal.nD Cert.MergeKernelIdeal.τ).loc Cert.MergeKernelIdeal.main_v17)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v17) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v73) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_FoxKernel_FoxKernelIdeal : Prop :=
  IdealRules.named_const.Statement Cert.FoxKernelIdeal.κ "mask" .f32 0xF149F2CA#32 ⊥

def algebraic_FoxKernelIdeal_FoxReferenceIdeal_pre_fox_finite [hFoxKernelIdeal : Cert.FoxKernelIdeal.Facts] [hFoxReferenceIdeal : Cert.FoxReferenceIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_fox_finite m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)) →
    ∃ (v0 : (c : Dev Cert.FoxKernelIdeal.nD) → Buf (Elt Ideal) ((c.tc : Thread Cert.FoxKernelIdeal.nD Cert.FoxKernelIdeal.τ).loc Cert.FoxKernelIdeal.main_v2)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          r.2.mem ((c.tc : Thread Cert.FoxKernelIdeal.nD Cert.FoxKernelIdeal.τ).loc Cert.FoxKernelIdeal.main_v2) = v0 c
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v41) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1))

def preserves_DiffKernel_DiffKernelIdeal : Prop :=
  IdealRules.named_const.Statement Cert.DiffKernelIdeal.κ "mask" .f32 0xF149F2CA#32 ⊥

def algebraic_DiffKernelIdeal_DiffReferenceIdeal_pre_diff_finite [hDiffKernelIdeal : Cert.DiffKernelIdeal.Facts] [hDiffReferenceIdeal : Cert.DiffReferenceIdeal.Facts] [hPre_diff_finite : Cert.Pre_diff_finite.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffKernelIdeal_diff_finite m →
    (∀ c : Dev Cert.DiffKernelIdeal.nD,
      m' ((c.tc : Thread Cert.DiffReferenceIdeal.nD Cert.DiffReferenceIdeal.τ).loc Cert.DiffReferenceIdeal.main_arg0) = m ((c.tc : Thread Cert.DiffKernelIdeal.nD Cert.DiffKernelIdeal.τ).loc Cert.DiffKernelIdeal.main_arg0)
      ∧ m' ((c.tc : Thread Cert.DiffReferenceIdeal.nD Cert.DiffReferenceIdeal.τ).loc Cert.DiffReferenceIdeal.main_arg1) = m ((c.tc : Thread Cert.DiffKernelIdeal.nD Cert.DiffKernelIdeal.τ).loc Cert.DiffKernelIdeal.main_arg1)
      ∧ m' ((c.tc : Thread Cert.DiffReferenceIdeal.nD Cert.DiffReferenceIdeal.τ).loc Cert.DiffReferenceIdeal.main_arg2) = m ((c.tc : Thread Cert.DiffKernelIdeal.nD Cert.DiffKernelIdeal.τ).loc Cert.DiffKernelIdeal.main_arg2)) →
    ∃ (v0 : (c : Dev Cert.DiffKernelIdeal.nD) → Buf (Elt Ideal) ((c.tc : Thread Cert.DiffKernelIdeal.nD Cert.DiffKernelIdeal.τ).loc Cert.DiffKernelIdeal.main_v14)),
      θ_run (Cert.DiffKernelIdeal.defs (F := Ideal)) (onTc (τ := Cert.DiffKernelIdeal.τ) (Cert.DiffKernelIdeal.main (F := Ideal))) ⟨m, fun _ => 0, g⟩ (fun r => ∀ c : Dev Cert.DiffKernelIdeal.nD,
          r.2.mem ((c.tc : Thread Cert.DiffKernelIdeal.nD Cert.DiffKernelIdeal.τ).loc Cert.DiffKernelIdeal.main_v14) = v0 c
          ∧ r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
          ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
          ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v117) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2))

def preserves_Diff2Kernel_Diff2KernelIdeal : Prop :=
  IdealRules.named_const.Statement Cert.Diff2KernelIdeal.κ "mask" .f32 0xF149F2CA#32 ⊥

def algebraic_Diff2KernelIdeal_Diff2ReferenceIdeal_pre_diff_finite [hDiff2KernelIdeal : Cert.Diff2KernelIdeal.Facts] [hDiff2ReferenceIdeal : Cert.Diff2ReferenceIdeal.Facts] [hPre_diff_finite : Cert.Pre_diff_finite.Facts] : Prop :=
  ∀ (m : (ℓ : Loc Cert.Diff2KernelIdeal.nD Cert.Diff2KernelIdeal.τ Cert.Diff2KernelIdeal.sig) → Buf (Elt Ideal) ℓ) (g : Dev Cert.Diff2KernelIdeal.nD → PrngReg)
    (m' : (ℓ : Loc Cert.Diff2ReferenceIdeal.nD Cert.Diff2ReferenceIdeal.τ Cert.Diff2ReferenceIdeal.sig) → Buf (Elt Ideal) ℓ) (g' : Dev Cert.Diff2ReferenceIdeal.nD → PrngReg), Pre_Diff2KernelIdeal_diff_finite m →
    (∀ c : Dev Cert.Diff2KernelIdeal.nD,
      m' ((c.tc : Thread Cert.Diff2ReferenceIdeal.nD Cert.Diff2ReferenceIdeal.τ).loc Cert.Diff2ReferenceIdeal.main_arg0) = m ((c.tc : Thread Cert.Diff2KernelIdeal.nD Cert.Diff2KernelIdeal.τ).loc Cert.Diff2KernelIdeal.main_arg0)
      ∧ m' ((c.tc : Thread Cert.Diff2ReferenceIdeal.nD Cert.Diff2ReferenceIdeal.τ).loc Cert.Diff2ReferenceIdeal.main_arg1) = m ((c.tc : Thread Cert.Diff2KernelIdeal.nD Cert.Diff2KernelIdeal.τ).loc Cert.Diff2KernelIdeal.main_arg1)
      ∧ m' ((c.tc : Thread Cert.Diff2ReferenceIdeal.nD Cert.Diff2ReferenceIdeal.τ).loc Cert.Diff2ReferenceIdeal.main_arg2) = m ((c.tc : Thread Cert.Diff2KernelIdeal.nD Cert.Diff2KernelIdeal.τ).loc Cert.Diff2KernelIdeal.main_arg2)) →
    ∃ (v0 : (c : Dev Cert.Diff2KernelIdeal.nD) → Buf (Elt Ideal) ((c.tc : Thread Cert.Diff2KernelIdeal.nD Cert.Diff2KernelIdeal.τ).loc Cert.Diff2KernelIdeal.main_v14)),
      θ_run (Cert.Diff2KernelIdeal.defs (F := Ideal)) (onTc (τ := Cert.Diff2KernelIdeal.τ) (Cert.Diff2KernelIdeal.main (F := Ideal))) ⟨m, fun _ => 0, g⟩ (fun r => ∀ c : Dev Cert.Diff2KernelIdeal.nD,
          r.2.mem ((c.tc : Thread Cert.Diff2KernelIdeal.nD Cert.Diff2KernelIdeal.τ).loc Cert.Diff2KernelIdeal.main_v14) = v0 c
          ∧ r.2.mem ((c.tc : Thread Cert.Diff2KernelIdeal.nD Cert.Diff2KernelIdeal.τ).loc Cert.Diff2KernelIdeal.main_arg0) = m ((c.tc : Thread Cert.Diff2KernelIdeal.nD Cert.Diff2KernelIdeal.τ).loc Cert.Diff2KernelIdeal.main_arg0)
          ∧ r.2.mem ((c.tc : Thread Cert.Diff2KernelIdeal.nD Cert.Diff2KernelIdeal.τ).loc Cert.Diff2KernelIdeal.main_arg1) = m ((c.tc : Thread Cert.Diff2KernelIdeal.nD Cert.Diff2KernelIdeal.τ).loc Cert.Diff2KernelIdeal.main_arg1)
          ∧ r.2.mem ((c.tc : Thread Cert.Diff2KernelIdeal.nD Cert.Diff2KernelIdeal.τ).loc Cert.Diff2KernelIdeal.main_arg2) = m ((c.tc : Thread Cert.Diff2KernelIdeal.nD Cert.Diff2KernelIdeal.τ).loc Cert.Diff2KernelIdeal.main_arg2))
      ∧ θ_run (Cert.Diff2ReferenceIdeal.defs (F := Ideal)) (onTc (τ := Cert.Diff2ReferenceIdeal.τ) (Cert.Diff2ReferenceIdeal.main (F := Ideal))) ⟨m', fun _ => 0, g'⟩ (fun r => ∀ c : Dev Cert.Diff2ReferenceIdeal.nD,
          r.2.mem ((c.tc : Thread Cert.Diff2ReferenceIdeal.nD Cert.Diff2ReferenceIdeal.τ).loc Cert.Diff2ReferenceIdeal.main_v117) = v0 c
          ∧ r.2.mem ((c.tc : Thread Cert.Diff2ReferenceIdeal.nD Cert.Diff2ReferenceIdeal.τ).loc Cert.Diff2ReferenceIdeal.main_arg0) = m' ((c.tc : Thread Cert.Diff2ReferenceIdeal.nD Cert.Diff2ReferenceIdeal.τ).loc Cert.Diff2ReferenceIdeal.main_arg0)
          ∧ r.2.mem ((c.tc : Thread Cert.Diff2ReferenceIdeal.nD Cert.Diff2ReferenceIdeal.τ).loc Cert.Diff2ReferenceIdeal.main_arg1) = m' ((c.tc : Thread Cert.Diff2ReferenceIdeal.nD Cert.Diff2ReferenceIdeal.τ).loc Cert.Diff2ReferenceIdeal.main_arg1)
          ∧ r.2.mem ((c.tc : Thread Cert.Diff2ReferenceIdeal.nD Cert.Diff2ReferenceIdeal.τ).loc Cert.Diff2ReferenceIdeal.main_arg2) = m' ((c.tc : Thread Cert.Diff2ReferenceIdeal.nD Cert.Diff2ReferenceIdeal.τ).loc Cert.Diff2ReferenceIdeal.main_arg2))

def Claim : Prop :=
  ∃ (hSbKernel : Cert.SbKernel.Facts) (hSbKernelIdeal : Cert.SbKernelIdeal.Facts) (hSbReferenceIdeal : Cert.SbReferenceIdeal.Facts) (hMoeKernel : Cert.MoeKernel.Facts) (hMoeKernelIdeal : Cert.MoeKernelIdeal.Facts) (hMoeReferenceIdeal : Cert.MoeReferenceIdeal.Facts) (hFfnKernel : Cert.FfnKernel.Facts) (hFfnKernelIdeal : Cert.FfnKernelIdeal.Facts) (hFfnReferenceIdeal : Cert.FfnReferenceIdeal.Facts) (hInKernel : Cert.InKernel.Facts) (hInKernelIdeal : Cert.InKernelIdeal.Facts) (hInReferenceIdeal : Cert.InReferenceIdeal.Facts) (hMergeKernel : Cert.MergeKernel.Facts) (hMergeKernelIdeal : Cert.MergeKernelIdeal.Facts) (hMergeReferenceIdeal : Cert.MergeReferenceIdeal.Facts) (hFoxKernel : Cert.FoxKernel.Facts) (hFoxKernelIdeal : Cert.FoxKernelIdeal.Facts) (hFoxReferenceIdeal : Cert.FoxReferenceIdeal.Facts) (hDiffKernel : Cert.DiffKernel.Facts) (hDiffKernelIdeal : Cert.DiffKernelIdeal.Facts) (hDiffReferenceIdeal : Cert.DiffReferenceIdeal.Facts) (hDiff2Kernel : Cert.Diff2Kernel.Facts) (hDiff2KernelIdeal : Cert.Diff2KernelIdeal.Facts) (hDiff2ReferenceIdeal : Cert.Diff2ReferenceIdeal.Facts) (hPre_sb_finite : Cert.Pre_sb_finite.Facts) (hPre_fox_finite : Cert.Pre_fox_finite.Facts) (hPre_diff_finite : Cert.Pre_diff_finite.Facts),
    quiescent_SbKernel (hSbKernel := hSbKernel)
    ∧ quiescent_SbKernelIdeal (hSbKernelIdeal := hSbKernelIdeal)
    ∧ quiescent_SbKernelIdeal_pre_sb_finite (hSbKernelIdeal := hSbKernelIdeal) (hPre_sb_finite := hPre_sb_finite)
    ∧ quiescent_SbReferenceIdeal (hSbReferenceIdeal := hSbReferenceIdeal)
    ∧ quiescent_SbReferenceIdeal_pre_sb_finite (hSbReferenceIdeal := hSbReferenceIdeal) (hPre_sb_finite := hPre_sb_finite)
    ∧ quiescent_MoeKernel (hMoeKernel := hMoeKernel)
    ∧ quiescent_MoeKernelIdeal (hMoeKernelIdeal := hMoeKernelIdeal)
    ∧ quiescent_MoeReferenceIdeal (hMoeReferenceIdeal := hMoeReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_FoxKernel (hFoxKernel := hFoxKernel)
    ∧ quiescent_FoxKernelIdeal (hFoxKernelIdeal := hFoxKernelIdeal)
    ∧ quiescent_FoxKernelIdeal_pre_fox_finite (hFoxKernelIdeal := hFoxKernelIdeal) (hPre_fox_finite := hPre_fox_finite)
    ∧ quiescent_FoxReferenceIdeal (hFoxReferenceIdeal := hFoxReferenceIdeal)
    ∧ quiescent_FoxReferenceIdeal_pre_fox_finite (hFoxReferenceIdeal := hFoxReferenceIdeal) (hPre_fox_finite := hPre_fox_finite)
    ∧ quiescent_DiffKernel (hDiffKernel := hDiffKernel)
    ∧ quiescent_DiffKernelIdeal (hDiffKernelIdeal := hDiffKernelIdeal)
    ∧ quiescent_DiffKernelIdeal_pre_diff_finite (hDiffKernelIdeal := hDiffKernelIdeal) (hPre_diff_finite := hPre_diff_finite)
    ∧ quiescent_DiffReferenceIdeal (hDiffReferenceIdeal := hDiffReferenceIdeal)
    ∧ quiescent_DiffReferenceIdeal_pre_diff_finite (hDiffReferenceIdeal := hDiffReferenceIdeal) (hPre_diff_finite := hPre_diff_finite)
    ∧ quiescent_Diff2Kernel (hDiff2Kernel := hDiff2Kernel)
    ∧ quiescent_Diff2KernelIdeal (hDiff2KernelIdeal := hDiff2KernelIdeal)
    ∧ quiescent_Diff2KernelIdeal_pre_diff_finite (hDiff2KernelIdeal := hDiff2KernelIdeal) (hPre_diff_finite := hPre_diff_finite)
    ∧ quiescent_Diff2ReferenceIdeal (hDiff2ReferenceIdeal := hDiff2ReferenceIdeal)
    ∧ quiescent_Diff2ReferenceIdeal_pre_diff_finite (hDiff2ReferenceIdeal := hDiff2ReferenceIdeal) (hPre_diff_finite := hPre_diff_finite)
    ∧ preserves_SbKernel_SbKernelIdeal
    ∧ algebraic_SbKernelIdeal_SbReferenceIdeal_pre_sb_finite (hSbKernelIdeal := hSbKernelIdeal) (hSbReferenceIdeal := hSbReferenceIdeal) (hPre_sb_finite := hPre_sb_finite)
    ∧ preserves_MoeKernel_MoeKernelIdeal
    ∧ algebraic_MoeKernelIdeal_MoeReferenceIdeal (hMoeKernelIdeal := hMoeKernelIdeal) (hMoeReferenceIdeal := hMoeReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_InKernel_InKernelIdeal
    ∧ algebraic_InKernelIdeal_InReferenceIdeal (hInKernelIdeal := hInKernelIdeal) (hInReferenceIdeal := hInReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_FoxKernel_FoxKernelIdeal
    ∧ algebraic_FoxKernelIdeal_FoxReferenceIdeal_pre_fox_finite (hFoxKernelIdeal := hFoxKernelIdeal) (hFoxReferenceIdeal := hFoxReferenceIdeal) (hPre_fox_finite := hPre_fox_finite)
    ∧ preserves_DiffKernel_DiffKernelIdeal
    ∧ algebraic_DiffKernelIdeal_DiffReferenceIdeal_pre_diff_finite (hDiffKernelIdeal := hDiffKernelIdeal) (hDiffReferenceIdeal := hDiffReferenceIdeal) (hPre_diff_finite := hPre_diff_finite)
    ∧ preserves_Diff2Kernel_Diff2KernelIdeal
    ∧ algebraic_Diff2KernelIdeal_Diff2ReferenceIdeal_pre_diff_finite (hDiff2KernelIdeal := hDiff2KernelIdeal) (hDiff2ReferenceIdeal := hDiff2ReferenceIdeal) (hPre_diff_finite := hPre_diff_finite)
-- ==== Pre_diff_finite.lean ====
abbrev S16384x4608 : Shape := ⟨2, ![16384, 4608]⟩
abbrev S4x64 : Shape := ⟨2, ![4, 64]⟩
abbrev S128 : Shape := ⟨1, ![128]⟩
abbrev S16384x512 : Shape := ⟨2, ![16384, 512]⟩
abbrev S_ : Shape := ⟨0, ![]⟩

class Facts : Prop where
  slices_S16384x4608_S16384x512_0_4096 : S16384x4608.Slices ![0, 4096] S16384x512
  bitsLt_bf16_f32 : FTy.bits .bf16 < FTy.bits .f32
  bcast_S_S16384x512 : S_.BroadcastsInDim S16384x512 (![] : Fin 0 → Fin S16384x512.rank)
  bcast_S_S4x64 : S_.BroadcastsInDim S4x64 (![] : Fin 0 → Fin S4x64.rank)

variable [Facts]

def fn {F : FTy → Type} [FloatOps F] (main_arg0 : FVec F S16384x4608 .bf16) (main_arg1 : FVec F S4x64 .f32) (main_arg2 : FVec F S128 .f32) : IVec S16384x512 1 × IVec S4x64 1 :=
  let main_v0 : FVec F S16384x512 .bf16 := (extractStridedSlice S16384x512 ![0, 4096] · slices_S16384x4608_S16384x512_0_4096) main_arg0
  let main_v1 : FVec F S16384x512 .f32 := (extf .f32 · bitsLt_bf16_f32) main_v0
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_v5 : FVec F S4x64 .f32 := Host.absf main_arg1
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  (main_v4, main_v7)
-- ==== Pre_fox_finite.lean ====
abbrev S16384x4608 : Shape := ⟨2, ![16384, 4608]⟩
abbrev S8x8x2048 : Shape := ⟨3, ![8, 8, 2048]⟩
abbrev S16384x1024 : Shape := ⟨2, ![16384, 1024]⟩
abbrev S_ : Shape := ⟨0, ![]⟩

class Facts : Prop where
  slices_S16384x4608_S16384x1024_0_0 : S16384x4608.Slices ![0, 0] S16384x1024
  bitsLt_bf16_f32 : FTy.bits .bf16 < FTy.bits .f32
  bcast_S_S16384x1024 : S_.BroadcastsInDim S16384x1024 (![] : Fin 0 → Fin S16384x1024.rank)
  bcast_S_S8x8x2048 : S_.BroadcastsInDim S8x8x2048 (![] : Fin 0 → Fin S8x8x2048.rank)

variable [Facts]

def fn {F : FTy → Type} [FloatOps F] (main_arg0 : FVec F S16384x4608 .bf16) (main_arg1 : FVec F S8x8x2048 .f32) : IVec S16384x1024 1 × IVec S8x8x2048 1 :=
  let main_v0 : FVec F S16384x1024 .bf16 := (extractStridedSlice S16384x1024 ![0, 0] · slices_S16384x4608_S16384x1024_0_0) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_v5 : FVec F S8x8x2048 .f32 := Host.absf main_arg1
  let main_cst_0 : FVec F S_ .f32 := constant S_ .f32 0x7F800000#32
  let main_v6 : FVec F S8x8x2048 .f32 := broadcastInDim S8x8x2048 ![] bcast_S_S8x8x2048 main_cst_0
  let main_v7 : IVec S8x8x2048 1 := cmpf .olt main_v5 main_v6
  (main_v4, main_v7)
-- ==== Pre_sb_finite.lean ====
abbrev S16384x4608 : Shape := ⟨2, ![16384, 4608]⟩
abbrev S16384x1024 : Shape := ⟨2, ![16384, 1024]⟩
abbrev S_ : Shape := ⟨0, ![]⟩

class Facts : Prop where
  slices_S16384x4608_S16384x1024_0_1536 : S16384x4608.Slices ![0, 1536] S16384x1024
  bitsLt_bf16_f32 : FTy.bits .bf16 < FTy.bits .f32
  bcast_S_S16384x1024 : S_.BroadcastsInDim S16384x1024 (![] : Fin 0 → Fin S16384x1024.rank)

variable [Facts]

def fn {F : FTy → Type} [FloatOps F] (main_arg0 : FVec F S16384x4608 .bf16) : IVec S16384x1024 1 :=
  let main_v0 : FVec F S16384x1024 .bf16 := (extractStridedSlice S16384x1024 ![0, 1536] · slices_S16384x4608_S16384x1024_0_1536) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  main_v4
-- ==== SbKernel.lean ====
abbrev S16384x4608 : Shape := ⟨2, ![16384, 4608]⟩
abbrev S16384x512 : Shape := ⟨2, ![16384, 512]⟩
abbrev S128x128 : Shape := ⟨2, ![128, 128]⟩
abbrev S2048x128 : Shape := ⟨2, ![2048, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 10
  | .smem => 0
  | _ => 0

abbrev bufTy : (tb : Table) → Fin (tcTables nBuf tb) → BufTy
  | .hbm, ⟨0, _⟩ => ⟨S16384x4608, .bf16⟩
  | .hbm, ⟨1, _⟩ => ⟨S16384x512, .bf16⟩
  | .local _ .vmem, ⟨0, _⟩ => ⟨S128x128, .bf16⟩
  | .local _ .vmem, ⟨1, _⟩ => ⟨S128x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S128x128, .bf16⟩
  | .local _ .vmem, ⟨7, _⟩ => ⟨S128x128, .bf16⟩
  | .local _ .vmem, ⟨8, _⟩ => ⟨S256x128, .f32⟩
  | .local _ .vmem, ⟨9, _⟩ => ⟨S256x128, .f32⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_13 : BitVec 32 := 256#32
  let v44 : BitVec 32 := Scalar.muli v17 c256_i32_13
  v44
def k0_off1 (i : grid0.Coords) : Fin 2 → Nat :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_13 : BitVec 32 := 256#32
  let v44 : BitVec 32 := Scalar.muli v17 c256_i32_13
  let v45 : BitVec 32 := v44
  let v46 : Index := Scalar.indexCast v45
  let c0_14 : Index := 0#32
  ![v46.toNat, 0]
def k0_mult2 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_30 : BitVec 32 := 256#32
  let v91 : BitVec 32 := Scalar.muli v17 c256_i32_30
  v91
@[reducible] def k0_t1_loop (i : grid0.Coords) : Scf.Loop 32 :=
  let c0_i32_39 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v107 : BitVec 32 := Scalar.subi v17 c0_i32_39
  let c1_i32_40 : BitVec 32 := 1#32
  let v109 : BitVec 32 := Scalar.divsi v107 c1_i32_40
  let v110 : BitVec 32 := Scalar.muli v109 c1_i32_40
  let v111 : BitVec 32 := Scalar.addi c0_i32_39 v110
  let c1_i32_41 : BitVec 32 := 1#32
  ⟨c0_i32_39, v111, c1_i32_41⟩
def k0_mult3 (i : grid0.Coords) (k0_t1 : Fin (k0_t1_loop i).trips) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_48 : BitVec 32 := 1#32
  let v121 : BitVec 32 := Scalar.subi v17 c1_i32_48
  let c0_i32_39 : BitVec 32 := 0#32
  let c1_i32_41 : BitVec 32 := 1#32
  let arg9 : BitVec 32 := Scf.iv c0_i32_39 c1_i32_41 k0_t1
  let v122 : BitVec 32 := Scalar.subi v121 arg9
  let c256_i32_49 : BitVec 32 := 256#32
  let v123 : BitVec 32 := Scalar.muli v122 c256_i32_49
  v123
def k0_off2 (i : grid0.Coords) (k0_t1 : Fin (k0_t1_loop i).trips) : Fin 2 → Nat :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_48 : BitVec 32 := 1#32
  let v121 : BitVec 32 := Scalar.subi v17 c1_i32_48
  let c0_i32_39 : BitVec 32 := 0#32
  let c1_i32_41 : BitVec 32 := 1#32
  let arg9 : BitVec 32 := Scf.iv c0_i32_39 c1_i32_41 k0_t1
  let v122 : BitVec 32 := Scalar.subi v121 arg9
  let c256_i32_49 : BitVec 32 := 256#32
  let v123 : BitVec 32 := Scalar.muli v122 c256_i32_49
  let v124 : BitVec 32 := v123
  let v125 : Index := Scalar.indexCast v124
  let c0_50 : Index := 0#32
  ![v125.toNat, 0]
def k0_mult4 (i : grid0.Coords) (k0_t1 : Fin (k0_t1_loop i).trips) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_48 : BitVec 32 := 1#32
  let v121 : BitVec 32 := Scalar.subi v17 c1_i32_48
  let c0_i32_39 : BitVec 32 := 0#32
  let c1_i32_41 : BitVec 32 := 1#32
  let arg9 : BitVec 32 := Scf.iv c0_i32_39 c1_i32_41 k0_t1
  let v122 : BitVec 32 := Scalar.subi v121 arg9
  let c256_i32_61 : BitVec 32 := 256#32
  let v153 : BitVec 32 := Scalar.muli v122 c256_i32_61
  v153
@[reducible] def k0_t2_loop (i : grid0.Coords) : Scf.Loop 32 :=
  let c0_i32_39 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v107 : BitVec 32 := Scalar.subi v17 c0_i32_39
  let c1_i32_40 : BitVec 32 := 1#32
  let v109 : BitVec 32 := Scalar.divsi v107 c1_i32_40
  let v110 : BitVec 32 := Scalar.muli v109 c1_i32_40
  let v111 : BitVec 32 := Scalar.addi c0_i32_39 v110
  let v108 : BitVec 32 := Scalar.addi c0_i32_39 v107
  let c1_i32_42 : BitVec 32 := 1#32
  ⟨v111, v108, c1_i32_42⟩
def k0_mult5 (i : grid0.Coords) (k0_t2 : Fin (k0_t2_loop i).trips) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_48 : BitVec 32 := 1#32
  let v121 : BitVec 32 := Scalar.subi v17 c1_i32_48
  let c0_i32_39 : BitVec 32 := 0#32
  let v107 : BitVec 32 := Scalar.subi v17 c0_i32_39
  let c1_i32_40 : BitVec 32 := 1#32
  let v109 : BitVec 32 := Scalar.divsi v107 c1_i32_40
  let v110 : BitVec 32 := Scalar.muli v109 c1_i32_40
  let v111 : BitVec 32 := Scalar.addi c0_i32_39 v110
  let c1_i32_42 : BitVec 32 := 1#32
  let arg9 : BitVec 32 := Scf.iv v111 c1_i32_42 k0_t2
  let v122 : BitVec 32 := Scalar.subi v121 arg9
  let c256_i32_49 : BitVec 32 := 256#32
  let v123 : BitVec 32 := Scalar.muli v122 c256_i32_49
  v123
def k0_off3 (i : grid0.Coords) (k0_t2 : Fin (k0_t2_loop i).trips) : Fin 2 → Nat :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_48 : BitVec 32 := 1#32
  let v121 : BitVec 32 := Scalar.subi v17 c1_i32_48
  let c0_i32_39 : BitVec 32 := 0#32
  let v107 : BitVec 32 := Scalar.subi v17 c0_i32_39
  let c1_i32_40 : BitVec 32 := 1#32
  let v109 : BitVec 32 := Scalar.divsi v107 c1_i32_40
  let v110 : BitVec 32 := Scalar.muli v109 c1_i32_40
  let v111 : BitVec 32 := Scalar.addi c0_i32_39 v110
  let c1_i32_42 : BitVec 32 := 1#32
  let arg9 : BitVec 32 := Scf.iv v111 c1_i32_42 k0_t2
  let v122 : BitVec 32 := Scalar.subi v121 arg9
  let c256_i32_49 : BitVec 32 := 256#32
  let v123 : BitVec 32 := Scalar.muli v122 c256_i32_49
  let v124 : BitVec 32 := v123
  let v125 : Index := Scalar.indexCast v124
  let c0_50 : Index := 0#32
  ![v125.toNat, 0]
def k0_mult6 (i : grid0.Coords) (k0_t2 : Fin (k0_t2_loop i).trips) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_48 : BitVec 32 := 1#32
  let v121 : BitVec 32 := Scalar.subi v17 c1_i32_48
  let c0_i32_39 : BitVec 32 := 0#32
  let v107 : BitVec 32 := Scalar.subi v17 c0_i32_39
  let c1_i32_40 : BitVec 32 := 1#32
  let v109 : BitVec 32 := Scalar.divsi v107 c1_i32_40
  let v110 : BitVec 32 := Scalar.muli v109 c1_i32_40
  let v111 : BitVec 32 := Scalar.addi c0_i32_39 v110
  let c1_i32_42 : BitVec 32 := 1#32
  let arg9 : BitVec 32 := Scf.iv v111 c1_i32_42 k0_t2
  let v122 : BitVec 32 := Scalar.subi v121 arg9
  let c256_i32_61 : BitVec 32 := 256#32
  let v153 : BitVec 32 := Scalar.muli v122 c256_i32_61
  v153
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SbReferenceIdeal.lean ====
abbrev S16384x4608 : Shape := ⟨2, ![16384, 4608]⟩
abbrev S16384x512 : Shape := ⟨2, ![16384, 512]⟩
abbrev S8x2048x8x64 : Shape := ⟨4, ![8, 2048, 8, 64]⟩
abbrev S8x8x2048x64 : Shape := ⟨4, ![8, 8, 2048, 64]⟩
abbrev S8x8x2048x2048 : Shape := ⟨4, ![8, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 75
  | .vmem => 0
  | .smem => 0
  | _ => 0

abbrev bufTy : (tb : Table) → Fin (tcTables nBuf tb) → BufTy
  | .hbm, ⟨0, _⟩ => ⟨S16384x4608, .bf16⟩
  | .hbm, ⟨1, _⟩ => ⟨S16384x4608, .f32⟩
  | .hbm, ⟨2, _⟩ => ⟨S16384x512, .f32⟩
  | .hbm, ⟨3, _⟩ => ⟨S8x2048x8x64, .f32⟩
  | .hbm, ⟨4, _⟩ => ⟨S8x8x2048x64, .f32⟩
  | .hbm, ⟨5, _⟩ => ⟨S16384x512, .f32⟩
  | .hbm, ⟨6, _⟩ => ⟨S8x2048x8x64, .f32⟩
  | .hbm, ⟨7, _⟩ => ⟨S8x8x2048x64, .f32⟩
  | .hbm, ⟨8, _⟩ => ⟨S16384x512, .f32⟩
  | .hbm, ⟨9, _⟩ => ⟨S8x2048x8x64, .f32⟩
  | .hbm, ⟨10, _⟩ => ⟨S8x8x2048x64, .f32⟩
  | .hbm, ⟨11, _⟩ => ⟨S8x8x2048x2048, .f32⟩
  | .hbm, ⟨12, _⟩ => ⟨S_, .f32⟩
  | .hbm, ⟨13, _⟩ => ⟨S8x8x2048x2048, .f32⟩
  | .hbm, ⟨14, _⟩ => ⟨S8x8x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S8x8x2048x2048, .f32⟩
  | .hbm, ⟨23, _⟩ => ⟨S8x8x2048x2048, .f32⟩
  | .hbm, ⟨24, _⟩ => ⟨S_, .f32⟩
  | .hbm, ⟨25, _⟩ => ⟨S8x8x2048x2048, .f32⟩
  | .hbm, ⟨26, _⟩ => ⟨S8x8x2048x2048, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .i1⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S8x8x2048x2048, .f32⟩
  | .hbm, ⟨39, _⟩ => ⟨S_, .f32⟩
  | .hbm, ⟨40, _⟩ => ⟨S_, .f32⟩
  | .hbm, ⟨41, _⟩ => ⟨S8x8x2048x2048, .i1⟩
  | .hbm, ⟨42, _⟩ => ⟨S8x8x2048x2048, .f32⟩
  | .hbm, ⟨43, _⟩ => ⟨S8x8x2048x2048, .f32⟩
  | .hbm, ⟨44, _⟩ => ⟨S_, .f32⟩
  | .hbm, ⟨45, _⟩ => ⟨S_, .f32⟩
  | .hbm, ⟨46, _⟩ => ⟨S8x8x2048x2048, .f32⟩
  | .hbm, ⟨47, _⟩ => ⟨S8x8x2048x2048, .f32⟩
  | .hbm, ⟨48, _⟩ => ⟨S8x8x2048x2048, .f32⟩
  | .hbm, ⟨49, _⟩ => ⟨S_, .f32⟩
  | .hbm, ⟨50, _⟩ => ⟨S8x8x2048x2048, .f32⟩
  | .hbm, ⟨51, _⟩ => ⟨S8x8x2048x2048, .f32⟩
  | .hbm, ⟨52, _⟩ => ⟨S8x8x2048x2048, .f32⟩
  | .hbm, ⟨53, _⟩ => ⟨S8x8x2048x2048, .f32⟩
  | .hbm, ⟨54, _⟩ => ⟨S8x8x2048x2048, .i1⟩
  | .hbm, ⟨55, _⟩ => ⟨S8x8x2048x2048, .f32⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S8x8x2048x2048, .f32⟩
  | .hbm, ⟨64, _⟩ => ⟨S8x8x2048x2048, .f32⟩
  | .hbm, ⟨65, _⟩ => ⟨S8x8x2048x2048, .f32⟩
  | .hbm, ⟨66, _⟩ => ⟨S_, .f32⟩
  | .hbm, ⟨67, _⟩ => ⟨S_, .f32⟩
  | .hbm, ⟨68, _⟩ => ⟨S8x8x2048x2048, .i1⟩
  | .hbm, ⟨69, _⟩ => ⟨S8x8x2048x2048, .f32⟩
  | .hbm, ⟨70, _⟩ => ⟨S8x8x2048x2048, .f32⟩
  | .hbm, ⟨71, _⟩ => ⟨S8x8x2048x64, .f32⟩
  | .hbm, ⟨72, _⟩ => ⟨S8x2048x8x64, .f32⟩
  | .hbm, ⟨73, _⟩ => ⟨S16384x512, .f32⟩
  | .hbm, ⟨74, _⟩ => ⟨S16384x512, .bf16⟩
  | _, _ => ⟨S16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v21 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v22 : Ref sig .tc := ⟨.hbm, 43, rfl⟩
abbrev main_call2_cst : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== MoeKernel.lean ====
abbrev S16384x1024 : Shape := ⟨2, ![16384, 1024]⟩
abbrev S16384x128 : Shape := ⟨2, ![16384, 128]⟩
abbrev S32x1x3072 : Shape := ⟨3, ![32, 1, 3072]⟩
abbrev S2x4x1024 : Shape := ⟨3, ![2, 4, 1024]⟩
abbrev S1x8x1024x3584 : Shape := ⟨4, ![1, 8, 1024, 3584]⟩
abbrev S1x8x3584x1024 : Shape := ⟨4, ![1, 8, 3584, 1024]⟩
abbrev S8x1x1024 : Shape := ⟨3, ![8, 1, 1024]⟩
abbrev S1x1x1024 : Shape := ⟨3, ![1, 1, 1024]⟩
abbrev S1x1024 : Shape := ⟨2, ![1, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1024x128 : Shape := ⟨2, ![1024, 128]⟩
abbrev S1x1x3072 : Shape := ⟨3, ![1, 1, 3072]⟩
abbrev S1x1024x512 : Shape := ⟨3, ![1, 1024, 512]⟩
abbrev S1x512x1024 : Shape := ⟨3, ![1, 512, 1024]⟩
abbrev S1x3072 : Shape := ⟨2, ![1, 3072]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 21
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S32x1x3072, .f32⟩
  | .hbm, ⟨3, _⟩ => ⟨S2x4x1024, .f32⟩
  | .hbm, ⟨4, _⟩ => ⟨S1x8x1024x3584, .f32⟩
  | .hbm, ⟨5, _⟩ => ⟨S1x8x1024x3584, .f32⟩
  | .hbm, ⟨6, _⟩ => ⟨S1x8x3584x1024, .f32⟩
  | .hbm, ⟨7, _⟩ => ⟨S8x1x1024, .f32⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S1x1x1024, .f32⟩
  | .hbm, ⟨12, _⟩ => ⟨S1x1024, .f32⟩
  | .hbm, ⟨13, _⟩ => ⟨S1x1x1024, .f32⟩
  | .hbm, ⟨14, _⟩ => ⟨S8x1024x3584, .f32⟩
  | .hbm, ⟨15, _⟩ => ⟨S8x1024x3584, .bf16⟩
  | .hbm, ⟨16, _⟩ => ⟨S8x1024x3584, .f32⟩
  | .hbm, ⟨17, _⟩ => ⟨S8x1024x3584, .bf16⟩
  | .hbm, ⟨18, _⟩ => ⟨S8x3584x1024, .f32⟩
  | .hbm, ⟨19, _⟩ => ⟨S8x3584x1024, .bf16⟩
  | .hbm, ⟨20, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1x1x3072, .f32⟩
  | .local _ .vmem, ⟨5, _⟩ => ⟨S1x1x3072, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![16, 8, 7], ![false, false, false]⟩

def k0_cond4 (i : grid0.Coords) : BitVec 1 :=
  let arg1 : BitVec 32 := BitVec.ofNat 32 (i 1).val
  let c7_i32 : BitVec 32 := 7#32
  let v30 : BitVec 1 := Scalar.cmpi .eq arg1 c7_i32
  let arg2 : BitVec 32 := BitVec.ofNat 32 (i 2).val
  let c6_i32_21 : BitVec 32 := 6#32
  let v31 : BitVec 1 := Scalar.cmpi .eq arg2 c6_i32_21
  let v32 : BitVec 1 := Scalar.andi v30 v31
  let v33 : BitVec 32 := Scalar.extui v32
  let c0_i32_22 : BitVec 32 := 0#32
  let v34 : BitVec 1 := Scalar.cmpi .ne v33 c0_i32_22
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32 : BitVec 32 := 24#32
  let v17 : BitVec 32 := Scalar.addi c24_i32 v16
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== MoeReferenceIdeal.lean ====
abbrev S16384x1024 : Shape := ⟨2, ![16384, 1024]⟩
abbrev S16384x128 : Shape := ⟨2, ![16384, 128]⟩
abbrev S32x1x3072 : Shape := ⟨3, ![32, 1, 3072]⟩
abbrev S2x4x1024 : Shape := ⟨3, ![2, 4, 1024]⟩
abbrev S1x8x1024x3584 : Shape := ⟨4, ![1, 8, 1024, 3584]⟩
abbrev S1x8x3584x1024 : Shape := ⟨4, ![1, 8, 3584, 1024]⟩
abbrev S8x2048x1024 : Shape := ⟨3, ![8, 2048, 1024]⟩
abbrev S8x2048x128 : Shape := ⟨3, ![8, 2048, 128]⟩
abbrev S8x1x3072 : Shape := ⟨3, ![8, 1, 3072]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024x3584 : Shape := ⟨4, ![1, 1, 1024, 3584]⟩
abbrev S1024x3584 : Shape := ⟨2, ![1024, 3584]⟩
abbrev S1x1x3584x1024 : Shape := ⟨4, ![1, 1, 3584, 1024]⟩
abbrev S3584x1024 : Shape := ⟨2, ![3584, 1024]⟩
abbrev S8x2048x3584 : Shape := ⟨3, ![8, 2048, 3584]⟩

abbrev nBuf : Space → Nat
  | .hbm => 246
  | .vmem => 0
  | .smem => 0
  | _ => 0

abbrev hbmTy0_0 (i : Nat) : BufTy := match i % 128 with
  | 0 => ⟨S16384x1024, .f32⟩
  | 1 => ⟨S16384x128, .f32⟩
  | 2 => ⟨S32x1x3072, .f32⟩
  | 3 => ⟨S2x4x1024, .f32⟩
  | 4 => ⟨S1x8x1024x3584, .f32⟩
  | 5 => ⟨S1x8x1024x3584, .f32⟩
  | 6 => ⟨S1x8x3584x1024, .f32⟩
  | 7 => ⟨S8x2048x1024, .f32⟩
  | 8 => ⟨S8x2048x128, .f32⟩
  | 9 => ⟨S8x1x3072, .f32⟩
  | 10 => ⟨S8x1x1024, .f32⟩
  | 11 => ⟨S8x1x1024, .f32⟩
  | 12 => ⟨S8x1x1024, .f32⟩
  | 13 => ⟨S1x1x1024, .f32⟩
  | 14 => ⟨S1024, .f32⟩
  | 15 => ⟨S8x2048x1024, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x1024, .f32⟩
  | 27 => ⟨S8x2048x1024, .f32⟩
  | 28 => ⟨S1x1x1024, .f32⟩
  | 29 => ⟨S8x2048x1024, .f32⟩
  | 30 => ⟨S8x2048x1024, .f32⟩
  | 31 => ⟨S_, .f32⟩
  | 32 => ⟨S8x1x1024, .f32⟩
  | 33 => ⟨S8x1x1024, .f32⟩
  | 34 => ⟨S8x2048x1024, .f32⟩
  | 35 => ⟨S8x2048x1024, .f32⟩
  | 36 => ⟨S8x2048x1024, .f32⟩
  | 37 => ⟨S8x2048x1024, .f32⟩
  | 38 => ⟨S_, .f32⟩
  | 39 => ⟨S8x2048x1024, .f32⟩
  | 40 => ⟨S8x2048x1, .f32⟩
  | 41 => ⟨S1x1x1024x3584, .f32⟩
  | 42 => ⟨S1024x3584, .f32⟩
  | 43 => ⟨S1x1x1024x3584, .f32⟩
  | 44 => ⟨S1024x3584, .f32⟩
  | 45 => ⟨S1x1x3584x1024, .f32⟩
  | 46 => ⟨S3584x1024, .f32⟩
  | 47 => ⟨S8x2048x3584, .f32⟩
  | 48 => ⟨S8x2048x3584, .f32⟩
  | 49 => ⟨S8x2048x3584, .f32⟩
  | 50 => ⟨S_, .f32⟩
  | 51 => ⟨S8x2048x3584, .f32⟩
  | 52 => ⟨S8x2048x3584, .f32⟩
  | 53 => ⟨S_, .f32⟩
  | 54 => ⟨S8x2048x3584, .f32⟩
  | 55 => ⟨S8x2048x3584, .f32⟩
  | 56 => ⟨S8x2048x3584, .f32⟩
  | 57 => ⟨S8x2048x3584, .f32⟩
  | 58 => ⟨S8x2048x3584, .f32⟩
  | 59 => ⟨S8x2048x1024, .f32⟩
  | 60 => ⟨S8x2048x1024, .f32⟩
  | 61 => ⟨S8x2048x1024, .f32⟩
  | 62 => ⟨S8x2048x1024, .f32⟩
  | 63 => ⟨S8x2048x1, .f32⟩
  | 64 => ⟨S1x1x1024x3584, .f32⟩
  | 65 => ⟨S1024x3584, .f32⟩
  | 66 => ⟨S1x1x1024x3584, .f32⟩
  | 67 => ⟨S1024x3584, .f32⟩
  | 68 => ⟨S1x1x3584x1024, .f32⟩
  | 69 => ⟨S3584x1024, .f32⟩
  | 70 => ⟨S8x2048x3584, .f32⟩
  | 71 => ⟨S8x2048x3584, .f32⟩
  | 72 => ⟨S8x2048x3584, .f32⟩
  | 73 => ⟨S_, .f32⟩
  | 74 => ⟨S8x2048x3584, .f32⟩
  | 75 => ⟨S8x2048x3584, .f32⟩
  | 76 => ⟨S_, .f32⟩
  | 77 => ⟨S8x2048x3584, .f32⟩
  | 78 => ⟨S8x2048x3584, .f32⟩
  | 79 => ⟨S8x2048x3584, .f32⟩
  | 80 => ⟨S8x2048x3584, .f32⟩
  | 81 => ⟨S8x2048x3584, .f32⟩
  | 82 => ⟨S8x2048x1024, .f32⟩
  | 83 => ⟨S8x2048x1024, .f32⟩
  | 84 => ⟨S8x2048x1024, .f32⟩
  | 85 => ⟨S8x2048x1024, .f32⟩
  | 86 => ⟨S8x2048x1, .f32⟩
  | 87 => ⟨S1x1x1024x3584, .f32⟩
  | 88 => ⟨S1024x3584, .f32⟩
  | 89 => ⟨S1x1x1024x3584, .f32⟩
  | 90 => ⟨S1024x3584, .f32⟩
  | 91 => ⟨S1x1x3584x1024, .f32⟩
  | 92 => ⟨S3584x1024, .f32⟩
  | 93 => ⟨S8x2048x3584, .f32⟩
  | 94 => ⟨S8x2048x3584, .f32⟩
  | 95 => ⟨S8x2048x3584, .f32⟩
  | 96 => ⟨S_, .f32⟩
  | 97 => ⟨S8x2048x3584, .f32⟩
  | 98 => ⟨S8x2048x3584, .f32⟩
  | 99 => ⟨S_, .f32⟩
  | 100 => ⟨S8x2048x3584, .f32⟩
  | 101 => ⟨S8x2048x3584, .f32⟩
  | 102 => ⟨S8x2048x3584, .f32⟩
  | 103 => ⟨S8x2048x3584, .f32⟩
  | 104 => ⟨S8x2048x3584, .f32⟩
  | 105 => ⟨S8x2048x1024, .f32⟩
  | 106 => ⟨S8x2048x1024, .f32⟩
  | 107 => ⟨S8x2048x1024, .f32⟩
  | 108 => ⟨S8x2048x1024, .f32⟩
  | 109 => ⟨S8x2048x1, .f32⟩
  | 110 => ⟨S1x1x1024x3584, .f32⟩
  | 111 => ⟨S1024x3584, .f32⟩
  | 112 => ⟨S1x1x1024x3584, .f32⟩
  | 113 => ⟨S1024x3584, .f32⟩
  | 114 => ⟨S1x1x3584x1024, .f32⟩
  | 115 => ⟨S3584x1024, .f32⟩
  | 116 => ⟨S8x2048x3584, .f32⟩
  | 117 => ⟨S8x2048x3584, .f32⟩
  | 118 => ⟨S8x2048x3584, .f32⟩
  | 119 => ⟨S_, .f32⟩
  | 120 => ⟨S8x2048x3584, .f32⟩
  | 121 => ⟨S8x2048x3584, .f32⟩
  | 122 => ⟨S_, .f32⟩
  | 123 => ⟨S8x2048x3584, .f32⟩
  | 124 => ⟨S8x2048x3584, .f32⟩
  | 125 => ⟨S8x2048x3584, .f32⟩
  | 126 => ⟨S8x2048x3584, .f32⟩
  | 127 => ⟨S8x2048x3584, .f32⟩
  | _ => ⟨S16384x1024, .f32⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S8x2048x1024, .f32⟩
  | 4 => ⟨S8x2048x1, .f32⟩
  | 5 => ⟨S1x1x1024x3584, .f32⟩
  | 6 => ⟨S1024x3584, .f32⟩
  | 7 => ⟨S1x1x1024x3584, .f32⟩
  | 8 => ⟨S1024x3584, .f32⟩
  | 9 => ⟨S1x1x3584x1024, .f32⟩
  | 10 => ⟨S3584x1024, .f32⟩
  | 11 => ⟨S8x2048x3584, .f32⟩
  | 12 => ⟨S8x2048x3584, .f32⟩
  | 13 => ⟨S8x2048x3584, .f32⟩
  | 14 => ⟨S_, .f32⟩
  | 15 => ⟨S8x2048x3584, .f32⟩
  | 16 => ⟨S8x2048x3584, .f32⟩
  | 17 => ⟨S_, .f32⟩
  | 18 => ⟨S8x2048x3584, .f32⟩
  | 19 => ⟨S8x2048x3584, .f32⟩
  | 20 => ⟨S8x2048x3584, .f32⟩
  | 21 => ⟨S8x2048x3584, .f32⟩
  | 22 => ⟨S8x2048x3584, .f32⟩
  | 23 => ⟨S8x2048x1024, .f32⟩
  | 24 => ⟨S8x2048x1024, .f32⟩
  | 25 => ⟨S8x2048x1024, .f32⟩
  | 26 => ⟨S8x2048x1024, .f32⟩
  | 27 => ⟨S8x2048x1, .f32⟩
  | 28 => ⟨S1x1x1024x3584, .f32⟩
  | 29 => ⟨S1024x3584, .f32⟩
  | 30 => ⟨S1x1x1024x3584, .f32⟩
  | 31 => ⟨S1024x3584, .f32⟩
  | 32 => ⟨S1x1x3584x1024, .f32⟩
  | 33 => ⟨S3584x1024, .f32⟩
  | 34 => ⟨S8x2048x3584, .f32⟩
  | 35 => ⟨S8x2048x3584, .f32⟩
  | 36 => ⟨S8x2048x3584, .f32⟩
  | 37 => ⟨S_, .f32⟩
  | 38 => ⟨S8x2048x3584, .f32⟩
  | 39 => ⟨S8x2048x3584, .f32⟩
  | 40 => ⟨S_, .f32⟩
  | 41 => ⟨S8x2048x3584, .f32⟩
  | 42 => ⟨S8x2048x3584, .f32⟩
  | 43 => ⟨S8x2048x3584, .f32⟩
  | 44 => ⟨S8x2048x3584, .f32⟩
  | 45 => ⟨S8x2048x3584, .f32⟩
  | 46 => ⟨S8x2048x1024, .f32⟩
  | 47 => ⟨S8x2048x1024, .f32⟩
  | 48 => ⟨S8x2048x1024, .f32⟩
  | 49 => ⟨S8x2048x1024, .f32⟩
  | 50 => ⟨S8x2048x1, .f32⟩
  | 51 => ⟨S1x1x1024x3584, .f32⟩
  | 52 => ⟨S1024x3584, .f32⟩
  | 53 => ⟨S1x1x1024x3584, .f32⟩
  | 54 => ⟨S1024x3584, .f32⟩
  | 55 => ⟨S1x1x3584x1024, .f32⟩
  | 56 => ⟨S3584x1024, .f32⟩
  | 57 => ⟨S8x2048x3584, .f32⟩
  | 58 => ⟨S8x2048x3584, .f32⟩
  | 59 => ⟨S8x2048x3584, .f32⟩
  | 60 => ⟨S_, .f32⟩
  | 61 => ⟨S8x2048x3584, .f32⟩
  | 62 => ⟨S8x2048x3584, .f32⟩
  | 63 => ⟨S_, .f32⟩
  | 64 => ⟨S8x2048x3584, .f32⟩
  | 65 => ⟨S8x2048x3584, .f32⟩
  | 66 => ⟨S8x2048x3584, .f32⟩
  | 67 => ⟨S8x2048x3584, .f32⟩
  | 68 => ⟨S8x2048x3584, .f32⟩
  | 69 => ⟨S8x2048x1024, .f32⟩
  | 70 => ⟨S8x2048x1024, .f32⟩
  | 71 => ⟨S8x2048x1024, .f32⟩
  | 72 => ⟨S8x2048x1024, .f32⟩
  | 73 => ⟨S8x2048x1, .f32⟩
  | 74 => ⟨S1x1x1024x3584, .f32⟩
  | 75 => ⟨S1024x3584, .f32⟩
  | 76 => ⟨S1x1x1024x3584, .f32⟩
  | 77 => ⟨S1024x3584, .f32⟩
  | 78 => ⟨S1x1x3584x1024, .f32⟩
  | 79 => ⟨S3584x1024, .f32⟩
  | 80 => ⟨S8x2048x3584, .f32⟩
  | 81 => ⟨S8x2048x3584, .f32⟩
  | 82 => ⟨S8x2048x3584, .f32⟩
  | 83 => ⟨S_, .f32⟩
  | 84 => ⟨S8x2048x3584, .f32⟩
  | 85 => ⟨S8x2048x3584, .f32⟩
  | 86 => ⟨S_, .f32⟩
  | 87 => ⟨S8x2048x3584, .f32⟩
  | 88 => ⟨S8x2048x3584, .f32⟩
  | 89 => ⟨S8x2048x3584, .f32⟩
  | 90 => ⟨S8x2048x3584, .f32⟩
  | 91 => ⟨S8x2048x3584, .f32⟩
  | 92 => ⟨S8x2048x1024, .f32⟩
  | 93 => ⟨S8x2048x1024, .f32⟩
  | 94 => ⟨S8x2048x1024, .f32⟩
  | 95 => ⟨S8x2048x1024, .f32⟩
  | 96 => ⟨S1x1x1024, .f32⟩
  | 97 => ⟨S1024, .f32⟩
  | 98 => ⟨S8x2048x1024, .f32⟩
  | 99 => ⟨S_, .f32⟩
  | 100 => ⟨S8x2048, .f32⟩
  | 101 => ⟨S8x2048x1, .f32⟩
  | 102 => ⟨S_, .f32⟩
  | 103 => ⟨S8x2048x1, .f32⟩
  | 104 => ⟨S8x2048x1, .f32⟩
  | 105 => ⟨S_, .f32⟩
  | 106 => ⟨S8x2048x1, .f32⟩
  | 107 => ⟨S8x2048x1, .f32⟩
  | 108 => ⟨S8x2048x1, .f32⟩
  | 109 => ⟨S8x2048x1024, .f32⟩
  | 110 => ⟨S8x2048x1024, .f32⟩
  | 111 => ⟨S1x1x1024, .f32⟩
  | 112 => ⟨S8x2048x1024, .f32⟩
  | 113 => ⟨S8x2048x1024, .f32⟩
  | 114 => ⟨S8x2048x1024, .f32⟩
  | 115 => ⟨S8x2048x1024, .f32⟩
  | 116 => ⟨S8x2048x1024, .f32⟩
  | 117 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call3_v0 : Ref sig .tc := ⟨.hbm, 117, rfl⟩
abbrev main_call3_v1 : Ref sig .tc := ⟨.hbm, 118, rfl⟩
abbrev main_call3_cst : Ref sig .tc := ⟨.hbm, 119, rfl⟩
abbrev main_call3_v2 : Ref sig .tc := ⟨.hbm, 120, rfl⟩
abbrev main_call3_v3 : Ref sig .tc := ⟨.hbm, 121, rfl⟩
abbrev main_call3_cst_0 : Ref sig .tc := ⟨.hbm, 122, rfl⟩
abbrev main_call3_v4 : Ref sig .tc := ⟨.hbm, 123, rfl⟩
abbrev main_call3_v5 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_call4_v0 : Ref sig .tc := ⟨.hbm, 140, rfl⟩
abbrev main_call4_v1 : Ref sig .tc := ⟨.hbm, 141, rfl⟩
abbrev main_call4_cst : Ref sig .tc := ⟨.hbm, 142, rfl⟩
abbrev main_call4_v2 : Ref sig .tc := ⟨.hbm, 143, rfl⟩
abbrev main_call4_v3 : Ref sig .tc := ⟨.hbm, 144, rfl⟩
abbrev main_call4_cst_0 : Ref sig .tc := ⟨.hbm, 145, rfl⟩
abbrev main_call4_v4 : Ref sig .tc := ⟨.hbm, 146, rfl⟩
abbrev main_call4_v5 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_call5_v0 : Ref sig .tc := ⟨.hbm, 163, rfl⟩
abbrev main_call5_v1 : Ref sig .tc := ⟨.hbm, 164, rfl⟩
abbrev main_call5_cst : Ref sig .tc := ⟨.hbm, 165, rfl⟩
abbrev main_call5_v2 : Ref sig .tc := ⟨.hbm, 166, rfl⟩
abbrev main_call5_v3 : Ref sig .tc := ⟨.hbm, 167, rfl⟩
abbrev main_call5_cst_0 : Ref sig .tc := ⟨.hbm, 168, rfl⟩
abbrev main_call5_v4 : Ref sig .tc := ⟨.hbm, 169, rfl⟩
abbrev main_call5_v5 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_call6_v0 : Ref sig .tc := ⟨.hbm, 186, rfl⟩
abbrev main_call6_v1 : Ref sig .tc := ⟨.hbm, 187, rfl⟩
abbrev main_call6_cst : Ref sig .tc := ⟨.hbm, 188, rfl⟩
abbrev main_call6_v2 : Ref sig .tc := ⟨.hbm, 189, rfl⟩
abbrev main_call6_v3 : Ref sig .tc := ⟨.hbm, 190, rfl⟩
abbrev main_call6_cst_0 : Ref sig .tc := ⟨.hbm, 191, rfl⟩
abbrev main_call6_v4 : Ref sig .tc := ⟨.hbm, 192, rfl⟩
abbrev main_call6_v5 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_call7_v0 : Ref sig .tc := ⟨.hbm, 209, rfl⟩
abbrev main_call7_v1 : Ref sig .tc := ⟨.hbm, 210, rfl⟩
abbrev main_call7_cst : Ref sig .tc := ⟨.hbm, 211, rfl⟩
abbrev main_call7_v2 : Ref sig .tc := ⟨.hbm, 212, rfl⟩
abbrev main_call7_v3 : Ref sig .tc := ⟨.hbm, 213, rfl⟩
abbrev main_call7_cst_0 : Ref sig .tc := ⟨.hbm, 214, rfl⟩
abbrev main_call7_v4 : Ref sig .tc := ⟨.hbm, 215, rfl⟩
abbrev main_call7_v5 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_cst_4 : Ref sig .tc := ⟨.hbm, 227, rfl⟩
abbrev main_v151 : Ref sig .tc := ⟨.hbm, 228, rfl⟩
abbrev main_v152 : Ref sig .tc := ⟨.hbm, 229, rfl⟩
abbrev main_cst_5 : Ref sig .tc := ⟨.hbm, 230, rfl⟩
abbrev main_v153 : Ref sig .tc := ⟨.hbm, 231, rfl⟩
abbrev main_v154 : Ref sig .tc := ⟨.hbm, 232, rfl⟩
abbrev main_cst_6 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩

abbrev nD : Nat := 1
abbrev τ : Topo := Topo.v7x

variable {F : FTy → Type} [FloatOps F]
-- ==== FfnKernel.lean ====
abbrev S16384x1024 : Shape := ⟨2, ![16384, 1024]⟩
abbrev S32x1x3072 : Shape := ⟨3, ![32, 1, 3072]⟩
abbrev S2x4x1024 : Shape := ⟨3, ![2, 4, 1024]⟩
abbrev S1x1024x3584 : Shape := ⟨3, ![1, 1024, 3584]⟩
abbrev S1x3584x1024 : Shape := ⟨3, ![1, 3584, 1024]⟩
abbrev S8x1x1024 : Shape := ⟨3, ![8, 1, 1024]⟩
abbrev S1x1x1024 : Shape := ⟨3, ![1, 1, 1024]⟩
abbrev S1x1024 : Shape := ⟨2, ![1, 1024]⟩
abbrev S1024x3584 : Shape := ⟨2, ![1024, 3584]⟩
abbrev S3584x1024 : Shape := ⟨2, ![3584, 1024]⟩
abbrev S1024x1024 : Shape := ⟨2, ![1024, 1024]⟩
abbrev S1x1x3072 : Shape := ⟨3, ![1, 1, 3072]⟩
abbrev S1024x512 : Shape := ⟨2, ![1024, 512]⟩
abbrev S512x1024 : Shape := ⟨2, ![512, 1024]⟩
abbrev S1x3072 : Shape := ⟨2, ![1, 3072]⟩
abbrev S1024 : Shape := ⟨1, ![1024]⟩
abbrev S1024x1 : Shape := ⟨2, ![1024, 1]⟩

abbrev nBuf : Space → Nat
  | .hbm => 20
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S32x1x3072, .f32⟩
  | .hbm, ⟨2, _⟩ => ⟨S2x4x1024, .f32⟩
  | .hbm, ⟨3, _⟩ => ⟨S1x1024x3584, .f32⟩
  | .hbm, ⟨4, _⟩ => ⟨S1x1024x3584, .f32⟩
  | .hbm, ⟨5, _⟩ => ⟨S1x3584x1024, .f32⟩
  | .hbm, ⟨6, _⟩ => ⟨S8x1x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S1024x3584, .f32⟩
  | .hbm, ⟨14, _⟩ => ⟨S1024x3584, .bf16⟩
  | .hbm, ⟨15, _⟩ => ⟨S1024x3584, .f32⟩
  | .hbm, ⟨16, _⟩ => ⟨S1024x3584, .bf16⟩
  | .hbm, ⟨17, _⟩ => ⟨S3584x1024, .f32⟩
  | .hbm, ⟨18, _⟩ => ⟨S3584x1024, .bf16⟩
  | .hbm, ⟨19, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1x1024, .f32⟩
  | .local _ .vmem, ⟨5, _⟩ => ⟨S1x1x1024, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v22 : BitVec 1 := Scalar.cmpi .eq arg1 c6_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnReferenceIdeal.lean ====
abbrev S16384x1024 : Shape := ⟨2, ![16384, 1024]⟩
abbrev S32x1x3072 : Shape := ⟨3, ![32, 1, 3072]⟩
abbrev S2x4x1024 : Shape := ⟨3, ![2, 4, 1024]⟩
abbrev S1x1024x3584 : Shape := ⟨3, ![1, 1024, 3584]⟩
abbrev S1x3584x1024 : Shape := ⟨3, ![1, 3584, 1024]⟩
abbrev S8x2048x1024 : Shape := ⟨3, ![8, 2048, 1024]⟩
abbrev S8x1x3072 : Shape := ⟨3, ![8, 1, 3072]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1024x3584 : Shape := ⟨2, ![1024, 3584]⟩
abbrev S3584x1024 : Shape := ⟨2, ![3584, 1024]⟩
abbrev S8x2048x3584 : Shape := ⟨3, ![8, 2048, 3584]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S32x1x3072, .f32⟩
  | .hbm, ⟨2, _⟩ => ⟨S2x4x1024, .f32⟩
  | .hbm, ⟨3, _⟩ => ⟨S1x1024x3584, .f32⟩
  | .hbm, ⟨4, _⟩ => ⟨S1x1024x3584, .f32⟩
  | .hbm, ⟨5, _⟩ => ⟨S1x3584x1024, .f32⟩
  | .hbm, ⟨6, _⟩ => ⟨S8x2048x1024, .f32⟩
  | .hbm, ⟨7, _⟩ => ⟨S8x1x3072, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S1x1x1024, .f32⟩
  | .hbm, ⟨12, _⟩ => ⟨S1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S1024x3584, .f32⟩
  | .hbm, ⟨37, _⟩ => ⟨S1024x3584, .f32⟩
  | .hbm, ⟨38, _⟩ => ⟨S3584x1024, .f32⟩
  | .hbm, ⟨39, _⟩ => ⟨S8x2048x3584, .f32⟩
  | .hbm, ⟨40, _⟩ => ⟨S8x2048x3584, .f32⟩
  | .hbm, ⟨41, _⟩ => ⟨S8x2048x3584, .f32⟩
  | .hbm, ⟨42, _⟩ => ⟨S_, .f32⟩
  | .hbm, ⟨43, _⟩ => ⟨S8x2048x3584, .f32⟩
  | .hbm, ⟨44, _⟩ => ⟨S8x2048x3584, .f32⟩
  | .hbm, ⟨45, _⟩ => ⟨S_, .f32⟩
  | .hbm, ⟨46, _⟩ => ⟨S8x2048x3584, .f32⟩
  | .hbm, ⟨47, _⟩ => ⟨S8x2048x3584, .f32⟩
  | .hbm, ⟨48, _⟩ => ⟨S8x2048x3584, .f32⟩
  | .hbm, ⟨49, _⟩ => ⟨S8x2048x3584, .f32⟩
  | .hbm, ⟨50, _⟩ => ⟨S8x2048x3584, .f32⟩
  | .hbm, ⟨51, _⟩ => ⟨S8x2048x1024, .f32⟩
  | .hbm, ⟨52, _⟩ => ⟨S1x1x1024, .f32⟩
  | .hbm, ⟨53, _⟩ => ⟨S1024, .f32⟩
  | .hbm, ⟨54, _⟩ => ⟨S8x2048x1024, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | .hbm, ⟨64, _⟩ => ⟨S8x2048x1, .f32⟩
  | .hbm, ⟨65, _⟩ => ⟨S8x2048x1024, .f32⟩
  | .hbm, ⟨66, _⟩ => ⟨S8x2048x1024, .f32⟩
  | .hbm, ⟨67, _⟩ => ⟨S1x1x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== InKernel.lean ====
abbrev S16384x1024 : Shape := ⟨2, ![16384, 1024]⟩
abbrev S32x1x3072 : Shape := ⟨3, ![32, 1, 3072]⟩
abbrev S2x4x1024 : Shape := ⟨3, ![2, 4, 1024]⟩
abbrev S2x1024x7688 : Shape := ⟨3, ![2, 1024, 7688]⟩
abbrev S8x1x1024 : Shape := ⟨3, ![8, 1, 1024]⟩
abbrev S1x1024x7688 : Shape := ⟨3, ![1, 1024, 7688]⟩
abbrev S1024x7688 : Shape := ⟨2, ![1024, 7688]⟩
abbrev S1024x1536 : Shape := ⟨2, ![1024, 1536]⟩
abbrev S1024x3072 : Shape := ⟨2, ![1024, 3072]⟩
abbrev S1024x4608 : Shape := ⟨2, ![1024, 4608]⟩
abbrev S1024x8 : Shape := ⟨2, ![1024, 8]⟩
abbrev S_ : Shape := ⟨0, ![]⟩
abbrev S1024x128 : Shape := ⟨2, ![1024, 128]⟩
abbrev S1x1x1024 : Shape := ⟨3, ![1, 1, 1024]⟩
abbrev S1x1024 : Shape := ⟨2, ![1, 1024]⟩
abbrev S16384x4608 : Shape := ⟨2, ![16384, 4608]⟩
abbrev S16384x128 : Shape := ⟨2, ![16384, 128]⟩
abbrev S512x1024 : Shape := ⟨2, ![512, 1024]⟩
abbrev S1x1x3072 : Shape := ⟨3, ![1, 1, 3072]⟩
abbrev S512x4608 : Shape := ⟨2, ![512, 4608]⟩
abbrev S512x128 : Shape := ⟨2, ![512, 128]⟩
abbrev S1x3072 : Shape := ⟨2, ![1, 3072]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩

abbrev nBuf : Space → Nat
  | .hbm => 21
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S32x1x3072, .f32⟩
  | .hbm, ⟨2, _⟩ => ⟨S2x4x1024, .f32⟩
  | .hbm, ⟨3, _⟩ => ⟨S2x1024x7688, .f32⟩
  | .hbm, ⟨4, _⟩ => ⟨S8x1x1024, .f32⟩
  | .hbm, ⟨5, _⟩ => ⟨S1x1024x7688, .f32⟩
  | .hbm, ⟨6, _⟩ => ⟨S1024x7688, .f32⟩
  | .hbm, ⟨7, _⟩ => ⟨S1024x1536, .f32⟩
  | .hbm, ⟨8, _⟩ => ⟨S1024x3072, .f32⟩
  | .hbm, ⟨9, _⟩ => ⟨S1024x4608, .f32⟩
  | .hbm, ⟨10, _⟩ => ⟨S1024x4608, .bf16⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S1x1x1024, .f32⟩
  | .hbm, ⟨17, _⟩ => ⟨S1x1024, .f32⟩
  | .hbm, ⟨18, _⟩ => ⟨S1x1x1024, .f32⟩
  | .hbm, ⟨19, _⟩ => ⟨S16384x4608, .bf16⟩
  | .hbm, ⟨20, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1x1024, .f32⟩
  | .local _ .vmem, ⟨5, _⟩ => ⟨S1024x4608, .bf16⟩
  | .local _ .vmem, ⟨6, _⟩ => ⟨S1024x128, .bf16⟩
  | .local _ .vmem, ⟨7, _⟩ => ⟨S512x4608, .bf16⟩
  | .local _ .vmem, ⟨8, _⟩ => ⟨S512x4608, .bf16⟩
  | .local _ .vmem, ⟨9, _⟩ => ⟨S512x128, .f32⟩
  | .local _ .vmem, ⟨10, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4608 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InReferenceIdeal.lean ====
abbrev S16384x1024 : Shape := ⟨2, ![16384, 1024]⟩
abbrev S32x1x3072 : Shape := ⟨3, ![32, 1, 3072]⟩
abbrev S2x4x1024 : Shape := ⟨3, ![2, 4, 1024]⟩
abbrev S2x1024x7688 : Shape := ⟨3, ![2, 1024, 7688]⟩
abbrev S8x2048x1024 : Shape := ⟨3, ![8, 2048, 1024]⟩
abbrev S8x1x3072 : Shape := ⟨3, ![8, 1, 3072]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1024x7688 : Shape := ⟨3, ![1, 1024, 7688]⟩
abbrev S1024x7688 : Shape := ⟨2, ![1024, 7688]⟩
abbrev S8x2048x7688 : Shape := ⟨3, ![8, 2048, 7688]⟩
abbrev S8x2048x1536 : Shape := ⟨3, ![8, 2048, 1536]⟩
abbrev S8x2048x8 : Shape := ⟨3, ![8, 2048, 8]⟩
abbrev S8x2048x3072 : Shape := ⟨3, ![8, 2048, 3072]⟩
abbrev S8x2048x4608 : Shape := ⟨3, ![8, 2048, 4608]⟩
abbrev S16384x4608 : Shape := ⟨2, ![16384, 4608]⟩
abbrev S16384x8 : Shape := ⟨2, ![16384, 8]⟩
abbrev S16384x128 : Shape := ⟨2, ![16384, 128]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S32x1x3072, .f32⟩
  | .hbm, ⟨2, _⟩ => ⟨S2x4x1024, .f32⟩
  | .hbm, ⟨3, _⟩ => ⟨S2x1024x7688, .f32⟩
  | .hbm, ⟨4, _⟩ => ⟨S8x2048x1024, .f32⟩
  | .hbm, ⟨5, _⟩ => ⟨S8x1x3072, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1x1x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S1x1024x7688, .f32⟩
  | .hbm, ⟨35, _⟩ => ⟨S1024x7688, .f32⟩
  | .hbm, ⟨36, _⟩ => ⟨S8x2048x7688, .f32⟩
  | .hbm, ⟨37, _⟩ => ⟨S8x2048x1536, .f32⟩
  | .hbm, ⟨38, _⟩ => ⟨S8x2048x8, .f32⟩
  | .hbm, ⟨39, _⟩ => ⟨S8x2048x3072, .f32⟩
  | .hbm, ⟨40, _⟩ => ⟨S8x2048x4608, .f32⟩
  | .hbm, ⟨41, _⟩ => ⟨S16384x4608, .f32⟩
  | .hbm, ⟨42, _⟩ => ⟨S16384x4608, .bf16⟩
  | .hbm, ⟨43, _⟩ => ⟨S16384x8, .f32⟩
  | .hbm, ⟨44, _⟩ => ⟨S_, .i32⟩
  | .hbm, ⟨45, _⟩ => ⟨S_, .f32⟩
  | .hbm, ⟨46, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c : Ref sig .tc := ⟨.hbm, 44, rfl⟩
abbrev main_call0_v0 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== MergeKernel.lean ====
abbrev S16384x1024 : Shape := ⟨2, ![16384, 1024]⟩
abbrev S16384x512 : Shape := ⟨2, ![16384, 512]⟩
abbrev S32x1x3072 : Shape := ⟨3, ![32, 1, 3072]⟩
abbrev S2x4x1024 : Shape := ⟨3, ![2, 4, 1024]⟩
abbrev S2x1024x7688 : Shape := ⟨3, ![2, 1024, 7688]⟩
abbrev S2x3x512x1024 : Shape := ⟨4, ![2, 3, 512, 1024]⟩
abbrev S2x1024x1024 : Shape := ⟨3, ![2, 1024, 1024]⟩
abbrev S8x1x1024 : Shape := ⟨3, ![8, 1, 1024]⟩
abbrev S1x1024x7688 : Shape := ⟨3, ![1, 1024, 7688]⟩
abbrev S1024x7688 : Shape := ⟨2, ![1024, 7688]⟩
abbrev S1024x3072 : Shape := ⟨2, ![1024, 3072]⟩
abbrev S1x1x1024 : Shape := ⟨3, ![1, 1, 1024]⟩
abbrev S1x1024 : Shape := ⟨2, ![1, 1024]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S256x1024 : Shape := ⟨2, ![256, 1024]⟩
abbrev S256x512 : Shape := ⟨2, ![256, 512]⟩
abbrev S1x1x3072 : Shape := ⟨3, ![1, 1, 3072]⟩
abbrev S1x3072 : Shape := ⟨2, ![1, 3072]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩

abbrev nBuf : Space → Nat
  | .hbm => 27
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S32x1x3072, .f32⟩
  | .hbm, ⟨5, _⟩ => ⟨S2x4x1024, .f32⟩
  | .hbm, ⟨6, _⟩ => ⟨S2x1024x7688, .f32⟩
  | .hbm, ⟨7, _⟩ => ⟨S2x3x512x1024, .f32⟩
  | .hbm, ⟨8, _⟩ => ⟨S2x1024x1024, .f32⟩
  | .hbm, ⟨9, _⟩ => ⟨S8x1x1024, .f32⟩
  | .hbm, ⟨10, _⟩ => ⟨S1x1024x7688, .f32⟩
  | .hbm, ⟨11, _⟩ => ⟨S1024x7688, .f32⟩
  | .hbm, ⟨12, _⟩ => ⟨S1024x3072, .f32⟩
  | .hbm, ⟨13, _⟩ => ⟨S1024x3072, .bf16⟩
  | .hbm, ⟨14, _⟩ => ⟨S1x1x1024, .f32⟩
  | .hbm, ⟨15, _⟩ => ⟨S1x1024, .f32⟩
  | .hbm, ⟨16, _⟩ => ⟨S1x1x1024, .f32⟩
  | .hbm, ⟨17, _⟩ => ⟨S1x1x1024, .f32⟩
  | .hbm, ⟨18, _⟩ => ⟨S1x1024, .f32⟩
  | .hbm, ⟨19, _⟩ => ⟨S1x1x1024, .f32⟩
  | .hbm, ⟨20, _⟩ => ⟨S1x3x512x1024, .f32⟩
  | .hbm, ⟨21, _⟩ => ⟨S3x512x1024, .f32⟩
  | .hbm, ⟨22, _⟩ => ⟨S3x512x1024, .bf16⟩
  | .hbm, ⟨23, _⟩ => ⟨S1x1024x1024, .f32⟩
  | .hbm, ⟨24, _⟩ => ⟨S1024x1024, .f32⟩
  | .hbm, ⟨25, _⟩ => ⟨S1024x1024, .bf16⟩
  | .hbm, ⟨26, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S1x1x3072, .f32⟩
  | .local _ .vmem, ⟨9, _⟩ => ⟨S1x1x3072, .f32⟩
  | .local _ .vmem, ⟨10, _⟩ => ⟨S1x1x1024, .f32⟩
  | .local _ .vmem, ⟨11, _⟩ => ⟨S1x1x1024, .f32⟩
  | .local _ .vmem, ⟨12, _⟩ => ⟨S1024x3072, .bf16⟩
  | .local _ .vmem, ⟨13, _⟩ => ⟨S3x512x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S16384x1024 : Shape := ⟨2, ![16384, 1024]⟩
abbrev S16384x512 : Shape := ⟨2, ![16384, 512]⟩
abbrev S32x1x3072 : Shape := ⟨3, ![32, 1, 3072]⟩
abbrev S2x4x1024 : Shape := ⟨3, ![2, 4, 1024]⟩
abbrev S2x1024x7688 : Shape := ⟨3, ![2, 1024, 7688]⟩
abbrev S2x3x512x1024 : Shape := ⟨4, ![2, 3, 512, 1024]⟩
abbrev S2x1024x1024 : Shape := ⟨3, ![2, 1024, 1024]⟩
abbrev S8x2048x1024 : Shape := ⟨3, ![8, 2048, 1024]⟩
abbrev S8x1x3072 : Shape := ⟨3, ![8, 1, 3072]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1024x3072 : Shape := ⟨3, ![1, 1024, 3072]⟩
abbrev S1024x3072 : Shape := ⟨2, ![1024, 3072]⟩
abbrev S8x2048x3072 : Shape := ⟨3, ![8, 2048, 3072]⟩
abbrev S8x2048x3x1024 : Shape := ⟨4, ![8, 2048, 3, 1024]⟩
abbrev S8x2048x512 : Shape := ⟨3, ![8, 2048, 512]⟩
abbrev S8x2048x1x512 : Shape := ⟨4, ![8, 2048, 1, 512]⟩
abbrev S8x2048x3x512 : Shape := ⟨4, ![8, 2048, 3, 512]⟩
abbrev S1x3x512x1024 : Shape := ⟨4, ![1, 3, 512, 1024]⟩
abbrev S3x512x1024 : Shape := ⟨3, ![3, 512, 1024]⟩
abbrev S3x1024x8x2048 : Shape := ⟨4, ![3, 1024, 8, 2048]⟩
abbrev S1x1024x1024 : Shape := ⟨3, ![1, 1024, 1024]⟩
abbrev S1024x1024 : Shape := ⟨2, ![1024, 1024]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S32x1x3072, .f32⟩
  | .hbm, ⟨5, _⟩ => ⟨S2x4x1024, .f32⟩
  | .hbm, ⟨6, _⟩ => ⟨S2x1024x7688, .f32⟩
  | .hbm, ⟨7, _⟩ => ⟨S2x3x512x1024, .f32⟩
  | .hbm, ⟨8, _⟩ => ⟨S2x1024x1024, .f32⟩
  | .hbm, ⟨9, _⟩ => ⟨S8x2048x1024, .f32⟩
  | .hbm, ⟨10, _⟩ => ⟨S8x1x3072, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S1x1x1024, .f32⟩
  | .hbm, ⟨15, _⟩ => ⟨S1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S1x1024x3072, .f32⟩
  | .hbm, ⟨40, _⟩ => ⟨S1024x3072, .f32⟩
  | .hbm, ⟨41, _⟩ => ⟨S8x2048x3072, .f32⟩
  | .hbm, ⟨42, _⟩ => ⟨S8x2048x3x1024, .f32⟩
  | .hbm, ⟨43, _⟩ => ⟨S8x2048x3x1024, .f32⟩
  | .hbm, ⟨44, _⟩ => ⟨S8x2048x3x1024, .f32⟩
  | .hbm, ⟨45, _⟩ => ⟨S_, .f32⟩
  | .hbm, ⟨46, _⟩ => ⟨S8x2048x3x1024, .f32⟩
  | .hbm, ⟨47, _⟩ => ⟨S8x2048x3x1024, .f32⟩
  | .hbm, ⟨48, _⟩ => ⟨S_, .f32⟩
  | .hbm, ⟨49, _⟩ => ⟨S8x2048x3x1024, .f32⟩
  | .hbm, ⟨50, _⟩ => ⟨S8x2048x3x1024, .f32⟩
  | .hbm, ⟨51, _⟩ => ⟨S8x2048x512, .bf16⟩
  | .hbm, ⟨52, _⟩ => ⟨S8x2048x512, .f32⟩
  | .hbm, ⟨53, _⟩ => ⟨S8x2048x512, .bf16⟩
  | .hbm, ⟨54, _⟩ => ⟨S8x2048x512, .f32⟩
  | .hbm, ⟨55, _⟩ => ⟨S8x2048x512, .bf16⟩
  | .hbm, ⟨56, _⟩ => ⟨S8x2048x512, .f32⟩
  | .hbm, ⟨57, _⟩ => ⟨S8x2048x1x512, .f32⟩
  | .hbm, ⟨58, _⟩ => ⟨S8x2048x1x512, .f32⟩
  | .hbm, ⟨59, _⟩ => ⟨S8x2048x1x512, .f32⟩
  | .hbm, ⟨60, _⟩ => ⟨S8x2048x3x512, .f32⟩
  | .hbm, ⟨61, _⟩ => ⟨S1x3x512x1024, .f32⟩
  | .hbm, ⟨62, _⟩ => ⟨S3x512x1024, .f32⟩
  | .hbm, ⟨63, _⟩ => ⟨S3x1024x8x2048, .f32⟩
  | .hbm, ⟨64, _⟩ => ⟨S8x2048x3x1024, .f32⟩
  | .hbm, ⟨65, _⟩ => ⟨S8x2048x3x1024, .f32⟩
  | .hbm, ⟨66, _⟩ => ⟨S_, .f32⟩
  | .hbm, ⟨67, _⟩ => ⟨S8x2048x1024, .f32⟩
  | .hbm, ⟨68, _⟩ => ⟨S1x1024x1024, .f32⟩
  | .hbm, ⟨69, _⟩ => ⟨S1024x1024, .f32⟩
  | .hbm, ⟨70, _⟩ => ⟨S8x2048x1024, .f32⟩
  | .hbm, ⟨71, _⟩ => ⟨S1x1x1024, .f32⟩
  | .hbm, ⟨72, _⟩ => ⟨S1024, .f32⟩
  | .hbm, ⟨73, _⟩ => ⟨S8x2048x1024, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S8x2048x1, .f32⟩
  | .hbm, ⟨84, _⟩ => ⟨S8x2048x1024, .f32⟩
  | .hbm, ⟨85, _⟩ => ⟨S8x2048x1024, .f32⟩
  | .hbm, ⟨86, _⟩ => ⟨S1x1x1024, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_6 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== FoxKernel.lean ====
abbrev S16384x4608 : Shape := ⟨2, ![16384, 4608]⟩
abbrev S8x8x2048 : Shape := ⟨3, ![8, 8, 2048]⟩
abbrev S8x4x2x8x256 : Shape := ⟨5, ![8, 4, 2, 8, 256]⟩
abbrev S8x4x8x2x256 : Shape := ⟨5, ![8, 4, 8, 2, 256]⟩
abbrev S16384x512 : Shape := ⟨2, ![16384, 512]⟩
abbrev S128x128 : Shape := ⟨2, ![128, 128]⟩
abbrev S2048x128 : Shape := ⟨2, ![2048, 128]⟩
abbrev S1x1x8x2x256 : Shape := ⟨5, ![1, 1, 8, 2, 256]⟩
abbrev S256x128 : Shape := ⟨2, ![256, 128]⟩
abbrev S256x256 : Shape := ⟨2, ![256, 256]⟩
abbrev S2x128x256 : Shape := ⟨3, ![2, 128, 256]⟩
abbrev S1x1x1x2x256 : Shape := ⟨5, ![1, 1, 1, 2, 256]⟩
abbrev S2x256 : Shape := ⟨2, ![2, 256]⟩
abbrev S2x1x256 : Shape := ⟨3, ![2, 1, 256]⟩
abbrev S256 : Shape := ⟨1, ![256]⟩
abbrev S256x1 : Shape := ⟨2, ![256, 1]⟩

abbrev nBuf : Space → Nat
  | .hbm => 5
  | .vmem => 13
  | .smem => 0
  | _ => 0

abbrev bufTy : (tb : Table) → Fin (tcTables nBuf tb) → BufTy
  | .hbm, ⟨0, _⟩ => ⟨S16384x4608, .bf16⟩
  | .hbm, ⟨1, _⟩ => ⟨S8x8x2048, .f32⟩
  | .hbm, ⟨2, _⟩ => ⟨S8x4x2x8x256, .f32⟩
  | .hbm, ⟨3, _⟩ => ⟨S8x4x8x2x256, .f32⟩
  | .hbm, ⟨4, _⟩ => ⟨S16384x512, .bf16⟩
  | .local _ .vmem, ⟨0, _⟩ => ⟨S128x128, .bf16⟩
  | .local _ .vmem, ⟨1, _⟩ => ⟨S128x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x8x2x256, .f32⟩
  | .local _ .vmem, ⟨7, _⟩ => ⟨S1x1x8x2x256, .f32⟩
  | .local _ .vmem, ⟨8, _⟩ => ⟨S128x128, .bf16⟩
  | .local _ .vmem, ⟨9, _⟩ => ⟨S128x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

@[reducible] def k0_t1_loop (i : grid0.Coords) : Scf.Loop 32 :=
  let c0_i32_17 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v42 : BitVec 32 := Scalar.subi v17 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_19 : BitVec 32 := 1#32
  ⟨c0_i32_17, v46, c1_i32_19⟩
def k0_mult1 (i : grid0.Coords) (k0_t1 : Fin (k0_t1_loop i).trips) : BitVec 32 :=
  let c0_i32_17 : BitVec 32 := 0#32
  let c1_i32_19 : BitVec 32 := 1#32
  let arg11 : BitVec 32 := Scf.iv c0_i32_17 c1_i32_19 k0_t1
  let c256_i32_56 : BitVec 32 := 256#32
  let v120 : BitVec 32 := Scalar.muli arg11 c256_i32_56
  v120
def k0_off1 (i : grid0.Coords) (k0_t1 : Fin (k0_t1_loop i).trips) : Fin 2 → Nat :=
  let c0_i32_17 : BitVec 32 := 0#32
  let c1_i32_19 : BitVec 32 := 1#32
  let arg11 : BitVec 32 := Scf.iv c0_i32_17 c1_i32_19 k0_t1
  let c256_i32_56 : BitVec 32 := 256#32
  let v120 : BitVec 32 := Scalar.muli arg11 c256_i32_56
  let v121 : BitVec 32 := v120
  let v122 : Index := Scalar.indexCast v121
  let c0_57 : Index := 0#32
  ![v122.toNat, 0]
def k0_off2 (i : grid0.Coords) (k0_t1 : Fin (k0_t1_loop i).trips) : Fin 5 → Nat :=
  let c0_59 : Index := 0#32
  let c0_60 : Index := 0#32
  let c0_i32_17 : BitVec 32 := 0#32
  let c1_i32_19 : BitVec 32 := 1#32
  let arg11 : BitVec 32 := Scf.iv c0_i32_17 c1_i32_19 k0_t1
  let v126 : Index := Scalar.indexCast arg11
  let c0_61 : Index := 0#32
  let c0_62 : Index := 0#32
  ![0, 0, v126.toNat, 0, 0]
def k0_mult2 (i : grid0.Coords) (k0_t1 : Fin (k0_t1_loop i).trips) : BitVec 32 :=
  let c0_i32_17 : BitVec 32 := 0#32
  let c1_i32_19 : BitVec 32 := 1#32
  let arg11 : BitVec 32 := Scf.iv c0_i32_17 c1_i32_19 k0_t1
  let c256_i32_63 : BitVec 32 := 256#32
  let v133 : BitVec 32 := Scalar.muli arg11 c256_i32_63
  v133
@[reducible] def k0_t2_loop (i : grid0.Coords) : Scf.Loop 32 :=
  let c0_i32_17 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v42 : BitVec 32 := Scalar.subi v17 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let v43 : BitVec 32 := Scalar.addi c0_i32_17 v42
  let c1_i32_20 : BitVec 32 := 1#32
  ⟨v46, v43, c1_i32_20⟩
def k0_mult3 (i : grid0.Coords) (k0_t2 : Fin (k0_t2_loop i).trips) : BitVec 32 :=
  let c0_i32_17 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v42 : BitVec 32 := Scalar.subi v17 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg11 : BitVec 32 := Scf.iv v46 c1_i32_20 k0_t2
  let c256_i32_56 : BitVec 32 := 256#32
  let v120 : BitVec 32 := Scalar.muli arg11 c256_i32_56
  v120
def k0_off3 (i : grid0.Coords) (k0_t2 : Fin (k0_t2_loop i).trips) : Fin 2 → Nat :=
  let c0_i32_17 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v42 : BitVec 32 := Scalar.subi v17 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg11 : BitVec 32 := Scf.iv v46 c1_i32_20 k0_t2
  let c256_i32_56 : BitVec 32 := 256#32
  let v120 : BitVec 32 := Scalar.muli arg11 c256_i32_56
  let v121 : BitVec 32 := v120
  let v122 : Index := Scalar.indexCast v121
  let c0_57 : Index := 0#32
  ![v122.toNat, 0]
def k0_off4 (i : grid0.Coords) (k0_t2 : Fin (k0_t2_loop i).trips) : Fin 5 → Nat :=
  let c0_59 : Index := 0#32
  let c0_60 : Index := 0#32
  let c0_i32_17 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v42 : BitVec 32 := Scalar.subi v17 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg11 : BitVec 32 := Scf.iv v46 c1_i32_20 k0_t2
  let v126 : Index := Scalar.indexCast arg11
  let c0_61 : Index := 0#32
  let c0_62 : Index := 0#32
  ![0, 0, v126.toNat, 0, 0]
def k0_mult4 (i : grid0.Coords) (k0_t2 : Fin (k0_t2_loop i).trips) : BitVec 32 :=
  let c0_i32_17 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v42 : BitVec 32 := Scalar.subi v17 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg11 : BitVec 32 := Scf.iv v46 c1_i32_20 k0_t2
  let c256_i32_63 : BitVec 32 := 256#32
  let v133 : BitVec 32 := Scalar.muli arg11 c256_i32_63
  v133
def k0_mult5 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_21 : BitVec 32 := 256#32
  let v47 : BitVec 32 := Scalar.muli v17 c256_i32_21
  v47
def k0_off5 (i : grid0.Coords) : Fin 2 → Nat :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_21 : BitVec 32 := 256#32
  let v47 : BitVec 32 := Scalar.muli v17 c256_i32_21
  let v48 : BitVec 32 := v47
  let v49 : Index := Scalar.indexCast v48
  let c0_22 : Index := 0#32
  ![v49.toNat, 0]
def k0_off6 (i : grid0.Coords) : Fin 5 → Nat :=
  let c0_24 : Index := 0#32
  let c0_25 : Index := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v53 : Index := Scalar.indexCast v17
  let c0_26 : Index := 0#32
  let c0_27 : Index := 0#32
  ![0, 0, v53.toNat, 0, 0]
def k0_mult6 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_32 : BitVec 32 := 256#32
  let v75 : BitVec 32 := Scalar.muli v17 c256_i32_32
  v75
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FoxKernelIdeal.lean ====
variable {F : FTy → Type} [FloatOps F] [Named F]
def κ : String → Option EReal := fun
  | "mask" => some ⊥
  | _ => none
-- ==== FoxReferenceIdeal.lean ====
abbrev S16384x4608 : Shape := ⟨2, ![16384, 4608]⟩
abbrev S8x8x2048 : Shape := ⟨3, ![8, 8, 2048]⟩
abbrev S16384x512 : Shape := ⟨2, ![16384, 512]⟩
abbrev S8x2048x8x64 : Shape := ⟨4, ![8, 2048, 8, 64]⟩
abbrev S8x8x2048x64 : Shape := ⟨4, ![8, 8, 2048, 64]⟩
abbrev S8x8x2048x2048 : Shape := ⟨4, ![8, 8, 2048, 2048]⟩
abbrev S_ : Shape := ⟨0, ![]⟩
abbrev S8x8x2048x1 : Shape := ⟨4, ![8, 8, 2048, 1]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16384x4608, .bf16⟩
  | .hbm, ⟨1, _⟩ => ⟨S8x8x2048, .f32⟩
  | .hbm, ⟨2, _⟩ => ⟨S16384x4608, .f32⟩
  | .hbm, ⟨3, _⟩ => ⟨S16384x512, .f32⟩
  | .hbm, ⟨4, _⟩ => ⟨S8x2048x8x64, .f32⟩
  | .hbm, ⟨5, _⟩ => ⟨S8x8x2048x64, .f32⟩
  | .hbm, ⟨6, _⟩ => ⟨S16384x512, .f32⟩
  | .hbm, ⟨7, _⟩ => ⟨S8x2048x8x64, .f32⟩
  | .hbm, ⟨8, _⟩ => ⟨S8x8x2048x64, .f32⟩
  | .hbm, ⟨9, _⟩ => ⟨S16384x512, .f32⟩
  | .hbm, ⟨10, _⟩ => ⟨S8x2048x8x64, .f32⟩
  | .hbm, ⟨11, _⟩ => ⟨S8x8x2048x64, .f32⟩
  | .hbm, ⟨12, _⟩ => ⟨S8x8x2048x2048, .f32⟩
  | .hbm, ⟨13, _⟩ => ⟨S_, .f32⟩
  | .hbm, ⟨14, _⟩ => ⟨S8x8x2048x2048, .f32⟩
  | .hbm, ⟨15, _⟩ => ⟨S8x8x2048x2048, .f32⟩
  | .hbm, ⟨16, _⟩ => ⟨S8x8x2048x1, .f32⟩
  | .hbm, ⟨17, _⟩ => ⟨S8x8x2048x2048, .f32⟩
  | .hbm, ⟨18, _⟩ => ⟨S8x8x2048x2048, .f32⟩
  | .hbm, ⟨19, _⟩ => ⟨S8x8x1x2048, .f32⟩
  | .hbm, ⟨20, _⟩ => ⟨S8x8x2048x2048, .f32⟩
  | .hbm, ⟨21, _⟩ => ⟨S8x8x2048x2048, .f32⟩
  | .hbm, ⟨22, _⟩ => ⟨S2048, .i32⟩
  | .hbm, ⟨23, _⟩ => ⟨S1x2048, .i32⟩
  | .hbm, ⟨24, _⟩ => ⟨S2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S8x8x2048x2048, .i1⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S8x8x2048, .f32⟩
  | .hbm, ⟨36, _⟩ => ⟨S_, .f32⟩
  | .hbm, ⟨37, _⟩ => ⟨S8x8x2048, .f32⟩
  | .hbm, ⟨38, _⟩ => ⟨S8x8x2048, .f32⟩
  | .hbm, ⟨39, _⟩ => ⟨S8x8x2048x1, .f32⟩
  | .hbm, ⟨40, _⟩ => ⟨S8x8x2048x2048, .f32⟩
  | .hbm, ⟨41, _⟩ => ⟨S8x8x2048x2048, .f32⟩
  | .hbm, ⟨42, _⟩ => ⟨S8x8x2048x2048, .f32⟩
  | .hbm, ⟨43, _⟩ => ⟨S_, .f32⟩
  | .hbm, ⟨44, _⟩ => ⟨S8x8x2048, .f32⟩
  | .hbm, ⟨45, _⟩ => ⟨S8x8x2048x1, .f32⟩
  | .hbm, ⟨46, _⟩ => ⟨S8x8x2048x2048, .f32⟩
  | .hbm, ⟨47, _⟩ => ⟨S8x8x2048x2048, .f32⟩
  | .hbm, ⟨48, _⟩ => ⟨S8x8x2048x64, .f32⟩
  | .hbm, ⟨49, _⟩ => ⟨S8x2048x8x64, .f32⟩
  | .hbm, ⟨50, _⟩ => ⟨S16384x512, .f32⟩
  | .hbm, ⟨51, _⟩ => ⟨S16384x512, .bf16⟩
  | _, _ => ⟨S16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== DiffKernel.lean ====
abbrev S16384x4608 : Shape := ⟨2, ![16384, 4608]⟩
abbrev S4x64 : Shape := ⟨2, ![4, 64]⟩
abbrev S128 : Shape := ⟨1, ![128]⟩
abbrev S4 : Shape := ⟨1, ![4]⟩
abbrev S_ : Shape := ⟨0, ![]⟩
abbrev S4x1x1 : Shape := ⟨3, ![4, 1, 1]⟩
abbrev S4x1x128 : Shape := ⟨3, ![4, 1, 128]⟩
abbrev S1x4x64 : Shape := ⟨3, ![1, 4, 64]⟩
abbrev S1x128 : Shape := ⟨2, ![1, 128]⟩
abbrev S16384x512 : Shape := ⟨2, ![16384, 512]⟩
abbrev S128x128 : Shape := ⟨2, ![128, 128]⟩
abbrev S2048x128 : Shape := ⟨2, ![2048, 128]⟩
abbrev S1x1x128 : Shape := ⟨3, ![1, 1, 128]⟩
abbrev S256x128 : Shape := ⟨2, ![256, 128]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S1x64 : Shape := ⟨2, ![1, 64]⟩
abbrev S1 : Shape := ⟨1, ![1]⟩
abbrev S1x1 : Shape := ⟨2, ![1, 1]⟩
abbrev S128x1 : Shape := ⟨2, ![128, 1]⟩

abbrev nBuf : Space → Nat
  | .hbm => 22
  | .vmem => 15
  | .smem => 0
  | _ => 0

abbrev bufTy : (tb : Table) → Fin (tcTables nBuf tb) → BufTy
  | .hbm, ⟨0, _⟩ => ⟨S16384x4608, .bf16⟩
  | .hbm, ⟨1, _⟩ => ⟨S4x64, .f32⟩
  | .hbm, ⟨2, _⟩ => ⟨S128, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S4x1x1, .f32⟩
  | .hbm, ⟨18, _⟩ => ⟨S4x1x128, .f32⟩
  | .hbm, ⟨19, _⟩ => ⟨S1x4x64, .f32⟩
  | .hbm, ⟨20, _⟩ => ⟨S1x128, .f32⟩
  | .hbm, ⟨21, _⟩ => ⟨S16384x512, .bf16⟩
  | .local _ .vmem, ⟨0, _⟩ => ⟨S128x128, .bf16⟩
  | .local _ .vmem, ⟨1, _⟩ => ⟨S128x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x128, .f32⟩
  | .local _ .vmem, ⟨7, _⟩ => ⟨S1x1x128, .f32⟩
  | .local _ .vmem, ⟨8, _⟩ => ⟨S1x4x64, .f32⟩
  | .local _ .vmem, ⟨9, _⟩ => ⟨S1x128, .f32⟩
  | .local _ .vmem, ⟨10, _⟩ => ⟨S128x128, .bf16⟩
  | .local _ .vmem, ⟨11, _⟩ => ⟨S128x128, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 16], ![false, false, false]⟩

@[reducible] def k0_t1_loop (i : grid0.Coords) : Scf.Loop 32 :=
  let c0_i32_20 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v44 : BitVec 32 := Scalar.subi v17 c0_i32_20
  let c1_i32_21 : BitVec 32 := 1#32
  let v46 : BitVec 32 := Scalar.divsi v44 c1_i32_21
  let v47 : BitVec 32 := Scalar.muli v46 c1_i32_21
  let v48 : BitVec 32 := Scalar.addi c0_i32_20 v47
  let c1_i32_22 : BitVec 32 := 1#32
  ⟨c0_i32_20, v48, c1_i32_22⟩
def k0_mult1 (i : grid0.Coords) (k0_t1 : Fin (k0_t1_loop i).trips) : BitVec 32 :=
  let c0_i32_20 : BitVec 32 := 0#32
  let c1_i32_22 : BitVec 32 := 1#32
  let arg13 : BitVec 32 := Scf.iv c0_i32_20 c1_i32_22 k0_t1
  let c256_i32_67 : BitVec 32 := 256#32
  let v156 : BitVec 32 := Scalar.muli arg13 c256_i32_67
  v156
def k0_off1 (i : grid0.Coords) (k0_t1 : Fin (k0_t1_loop i).trips) : Fin 2 → Nat :=
  let c0_i32_20 : BitVec 32 := 0#32
  let c1_i32_22 : BitVec 32 := 1#32
  let arg13 : BitVec 32 := Scf.iv c0_i32_20 c1_i32_22 k0_t1
  let c256_i32_67 : BitVec 32 := 256#32
  let v156 : BitVec 32 := Scalar.muli arg13 c256_i32_67
  let v157 : BitVec 32 := v156
  let v158 : Index := Scalar.indexCast v157
  let c0_68 : Index := 0#32
  ![v158.toNat, 0]
def k0_mult2 (i : grid0.Coords) (k0_t1 : Fin (k0_t1_loop i).trips) : BitVec 32 :=
  let c0_i32_20 : BitVec 32 := 0#32
  let c1_i32_22 : BitVec 32 := 1#32
  let arg13 : BitVec 32 := Scf.iv c0_i32_20 c1_i32_22 k0_t1
  let c256_i32_71 : BitVec 32 := 256#32
  let v171 : BitVec 32 := Scalar.muli arg13 c256_i32_71
  v171
@[reducible] def k0_t2_loop (i : grid0.Coords) : Scf.Loop 32 :=
  let c0_i32_20 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v44 : BitVec 32 := Scalar.subi v17 c0_i32_20
  let c1_i32_21 : BitVec 32 := 1#32
  let v46 : BitVec 32 := Scalar.divsi v44 c1_i32_21
  let v47 : BitVec 32 := Scalar.muli v46 c1_i32_21
  let v48 : BitVec 32 := Scalar.addi c0_i32_20 v47
  let v45 : BitVec 32 := Scalar.addi c0_i32_20 v44
  let c1_i32_23 : BitVec 32 := 1#32
  ⟨v48, v45, c1_i32_23⟩
def k0_mult3 (i : grid0.Coords) (k0_t2 : Fin (k0_t2_loop i).trips) : BitVec 32 :=
  let c0_i32_20 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v44 : BitVec 32 := Scalar.subi v17 c0_i32_20
  let c1_i32_21 : BitVec 32 := 1#32
  let v46 : BitVec 32 := Scalar.divsi v44 c1_i32_21
  let v47 : BitVec 32 := Scalar.muli v46 c1_i32_21
  let v48 : BitVec 32 := Scalar.addi c0_i32_20 v47
  let c1_i32_23 : BitVec 32 := 1#32
  let arg13 : BitVec 32 := Scf.iv v48 c1_i32_23 k0_t2
  let c256_i32_67 : BitVec 32 := 256#32
  let v156 : BitVec 32 := Scalar.muli arg13 c256_i32_67
  v156
def k0_off2 (i : grid0.Coords) (k0_t2 : Fin (k0_t2_loop i).trips) : Fin 2 → Nat :=
  let c0_i32_20 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v44 : BitVec 32 := Scalar.subi v17 c0_i32_20
  let c1_i32_21 : BitVec 32 := 1#32
  let v46 : BitVec 32 := Scalar.divsi v44 c1_i32_21
  let v47 : BitVec 32 := Scalar.muli v46 c1_i32_21
  let v48 : BitVec 32 := Scalar.addi c0_i32_20 v47
  let c1_i32_23 : BitVec 32 := 1#32
  let arg13 : BitVec 32 := Scf.iv v48 c1_i32_23 k0_t2
  let c256_i32_67 : BitVec 32 := 256#32
  let v156 : BitVec 32 := Scalar.muli arg13 c256_i32_67
  let v157 : BitVec 32 := v156
  let v158 : Index := Scalar.indexCast v157
  let c0_68 : Index := 0#32
  ![v158.toNat, 0]
def k0_mult4 (i : grid0.Coords) (k0_t2 : Fin (k0_t2_loop i).trips) : BitVec 32 :=
  let c0_i32_20 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v44 : BitVec 32 := Scalar.subi v17 c0_i32_20
  let c1_i32_21 : BitVec 32 := 1#32
  let v46 : BitVec 32 := Scalar.divsi v44 c1_i32_21
  let v47 : BitVec 32 := Scalar.muli v46 c1_i32_21
  let v48 : BitVec 32 := Scalar.addi c0_i32_20 v47
  let c1_i32_23 : BitVec 32 := 1#32
  let arg13 : BitVec 32 := Scf.iv v48 c1_i32_23 k0_t2
  let c256_i32_71 : BitVec 32 := 256#32
  let v171 : BitVec 32 := Scalar.muli arg13 c256_i32_71
  v171
def k0_mult5 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_24 : BitVec 32 := 256#32
  let v49 : BitVec 32 := Scalar.muli v17 c256_i32_24
  v49
def k0_off3 (i : grid0.Coords) : Fin 2 → Nat :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_24 : BitVec 32 := 256#32
  let v49 : BitVec 32 := Scalar.muli v17 c256_i32_24
  let v50 : BitVec 32 := v49
  let v51 : Index := Scalar.indexCast v50
  let c0_25 : Index := 0#32
  ![v51.toNat, 0]
def k0_mult6 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_32 : BitVec 32 := 256#32
  let v79 : BitVec 32 := Scalar.muli v17 c256_i32_32
  v79
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DiffKernelIdeal.lean ====
variable {F : FTy → Type} [FloatOps F] [Named F]
def κ : String → Option EReal := fun
  | "mask" => some ⊥
  | _ => none
-- ==== DiffReferenceIdeal.lean ====
abbrev S16384x4608 : Shape := ⟨2, ![16384, 4608]⟩
abbrev S4x64 : Shape := ⟨2, ![4, 64]⟩
abbrev S128 : Shape := ⟨1, ![128]⟩
abbrev S16384x512 : Shape := ⟨2, ![16384, 512]⟩
abbrev S8x2048x4x128 : Shape := ⟨4, ![8, 2048, 4, 128]⟩
abbrev S8x4x2048x128 : Shape := ⟨4, ![8, 4, 2048, 128]⟩
abbrev S4 : Shape := ⟨1, ![4]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S4x1x1 : Shape := ⟨3, ![4, 1, 1]⟩
abbrev S2048x2048 : Shape := ⟨2, ![2048, 2048]⟩
abbrev S1x2048x2048 : Shape := ⟨3, ![1, 2048, 2048]⟩
abbrev S4x2048x2048 : Shape := ⟨3, ![4, 2048, 2048]⟩
abbrev S8x4x2048x64 : Shape := ⟨4, ![8, 4, 2048, 64]⟩
abbrev S8x4x2048x2048 : Shape := ⟨4, ![8, 4, 2048, 2048]⟩
abbrev S1x4x2048x2048 : Shape := ⟨4, ![1, 4, 2048, 2048]⟩
abbrev S8x4x2048 : Shape := ⟨3, ![8, 4, 2048]⟩
abbrev S8x4x2048x1 : Shape := ⟨4, ![8, 4, 2048, 1]⟩
abbrev S1x64 : Shape := ⟨2, ![1, 64]⟩
abbrev S64 : Shape := ⟨1, ![64]⟩
abbrev S1x1x1x128 : Shape := ⟨4, ![1, 1, 1, 128]⟩

abbrev nBuf : Space → Nat
  | .hbm => 148
  | .vmem => 0
  | .smem => 0
  | _ => 0

abbrev hbmTy0_0 (i : Nat) : BufTy := match i % 128 with
  | 0 => ⟨S16384x4608, .bf16⟩
  | 1 => ⟨S4x64, .f32⟩
  | 2 => ⟨S128, .f32⟩
  | 3 => ⟨S16384x4608, .f32⟩
  | 4 => ⟨S16384x512, .f32⟩
  | 5 => ⟨S8x2048x4x128, .f32⟩
  | 6 => ⟨S8x4x2048x128, .f32⟩
  | 7 => ⟨S16384x512, .f32⟩
  | 8 => ⟨S8x2048x4x128, .f32⟩
  | 9 => ⟨S8x4x2048x128, .f32⟩
  | 10 => ⟨S16384x512, .f32⟩
  | 11 => ⟨S8x2048x4x128, .f32⟩
  | 12 => ⟨S8x4x2048x128, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S_, .f32⟩
  | 21 => ⟨S4, .f32⟩
  | 22 => ⟨S4, .f32⟩
  | 23 => ⟨S_, .f32⟩
  | 24 => ⟨S4, .f32⟩
  | 25 => ⟨S4, .f32⟩
  | 26 => ⟨S4, .f32⟩
  | 27 => ⟨S2048, .i32⟩
  | 28 => ⟨S2048x1, .i32⟩
  | 29 => ⟨S2048, .i32⟩
  | 30 => ⟨S1x2048, .i32⟩
  | 31 => ⟨S4x1x1, .f32⟩
  | 32 => ⟨S4x1x1, .f32⟩
  | 33 => ⟨S2048x2048, .i32⟩
  | 34 => ⟨S2048x2048, .i32⟩
  | 35 => ⟨S2048x2048, .i32⟩
  | 36 => ⟨S2048x2048, .f32⟩
  | 37 => ⟨S1x2048x2048, .f32⟩
  | 38 => ⟨S4x2048x2048, .f32⟩
  | 39 => ⟨S4x2048x2048, .f32⟩
  | 40 => ⟨S4x2048x2048, .f32⟩
  | 41 => ⟨S8x4x2048x64, .f32⟩
  | 42 => ⟨S8x4x2048x64, .f32⟩
  | 43 => ⟨S8x4x2048x2048, .f32⟩
  | 44 => ⟨S_, .f32⟩
  | 45 => ⟨S8x4x2048x2048, .f32⟩
  | 46 => ⟨S8x4x2048x2048, .f32⟩
  | 47 => ⟨S1x4x2048x2048, .f32⟩
  | 48 => ⟨S8x4x2048x2048, .f32⟩
  | 49 => ⟨S8x4x2048x2048, .f32⟩
  | 50 => ⟨S8x4x2048x64, .f32⟩
  | 51 => ⟨S8x4x2048x64, .f32⟩
  | 52 => ⟨S8x4x2048x2048, .f32⟩
  | 53 => ⟨S_, .f32⟩
  | 54 => ⟨S8x4x2048x2048, .f32⟩
  | 55 => ⟨S8x4x2048x2048, .f32⟩
  | 56 => ⟨S1x4x2048x2048, .f32⟩
  | 57 => ⟨S8x4x2048x2048, .f32⟩
  | 58 => ⟨S8x4x2048x2048, .f32⟩
  | 59 => ⟨S2048x2048, .i32⟩
  | 60 => ⟨S2048x2048, .i32⟩
  | 61 => ⟨S2048x2048, .i1⟩
  | 62 => ⟨S_, .f32⟩
  | 63 => ⟨S_, .f32⟩
  | 64 => ⟨S8x4x2048x2048, .i1⟩
  | 65 => ⟨S8x4x2048x2048, .f32⟩
  | 66 => ⟨S8x4x2048x2048, .f32⟩
  | 67 => ⟨S_, .f32⟩
  | 68 => ⟨S8x4x2048, .f32⟩
  | 69 => ⟨S_, .f32⟩
  | 70 => ⟨S8x4x2048, .f32⟩
  | 71 => ⟨S8x4x2048, .f32⟩
  | 72 => ⟨S8x4x2048x1, .f32⟩
  | 73 => ⟨S8x4x2048x2048, .f32⟩
  | 74 => ⟨S8x4x2048x2048, .f32⟩
  | 75 => ⟨S8x4x2048x2048, .f32⟩
  | 76 => ⟨S_, .f32⟩
  | 77 => ⟨S8x4x2048, .f32⟩
  | 78 => ⟨S8x4x2048x1, .f32⟩
  | 79 => ⟨S8x4x2048x2048, .f32⟩
  | 80 => ⟨S8x4x2048x2048, .f32⟩
  | 81 => ⟨S2048x2048, .i32⟩
  | 82 => ⟨S2048x2048, .i32⟩
  | 83 => ⟨S2048x2048, .i1⟩
  | 84 => ⟨S_, .f32⟩
  | 85 => ⟨S_, .f32⟩
  | 86 => ⟨S8x4x2048x2048, .i1⟩
  | 87 => ⟨S8x4x2048x2048, .f32⟩
  | 88 => ⟨S8x4x2048x2048, .f32⟩
  | 89 => ⟨S_, .f32⟩
  | 90 => ⟨S8x4x2048, .f32⟩
  | 91 => ⟨S_, .f32⟩
  | 92 => ⟨S8x4x2048, .f32⟩
  | 93 => ⟨S8x4x2048, .f32⟩
  | 94 => ⟨S8x4x2048x1, .f32⟩
  | 95 => ⟨S8x4x2048x2048, .f32⟩
  | 96 => ⟨S8x4x2048x2048, .f32⟩
  | 97 => ⟨S8x4x2048x2048, .f32⟩
  | 98 => ⟨S_, .f32⟩
  | 99 => ⟨S8x4x2048, .f32⟩
  | 100 => ⟨S8x4x2048x1, .f32⟩
  | 101 => ⟨S8x4x2048x2048, .f32⟩
  | 102 => ⟨S8x4x2048x2048, .f32⟩
  | 103 => ⟨S1x64, .f32⟩
  | 104 => ⟨S64, .f32⟩
  | 105 => ⟨S1x64, .f32⟩
  | 106 => ⟨S64, .f32⟩
  | 107 => ⟨S64, .f32⟩
  | 108 => ⟨S_, .f32⟩
  | 109 => ⟨S_, .f32⟩
  | 110 => ⟨S_, .f32⟩
  | 111 => ⟨S1x64, .f32⟩
  | 112 => ⟨S64, .f32⟩
  | 113 => ⟨S1x64, .f32⟩
  | 114 => ⟨S64, .f32⟩
  | 115 => ⟨S64, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S8x4x2048x2048, .f32⟩
  | 123 => ⟨S8x4x2048x2048, .f32⟩
  | 124 => ⟨S8x4x2048x2048, .f32⟩
  | 125 => ⟨S8x4x2048x128, .f32⟩
  | 126 => ⟨S8x4x2048x128, .f32⟩
  | 127 => ⟨S_, .f32⟩
  | _ => ⟨S16384x4608, .bf16⟩

abbrev hbmTy0_1 (i : Nat) : BufTy := match i % 128 with
  | 0 => ⟨S8x4x2048, .f32⟩
  | 1 => ⟨S8x4x2048x1, .f32⟩
  | 2 => ⟨S_, .f32⟩
  | 3 => ⟨S8x4x2048x1, .f32⟩
  | 4 => ⟨S8x4x2048x1, .f32⟩
  | 5 => ⟨S_, .f32⟩
  | 6 => ⟨S8x4x2048x1, .f32⟩
  | 7 => ⟨S8x4x2048x1, .f32⟩
  | 8 => ⟨S8x4x2048x1, .f32⟩
  | 9 => ⟨S8x4x2048x128, .f32⟩
  | 10 => ⟨S8x4x2048x128, .f32⟩
  | 11 => ⟨S1x1x1x128, .f32⟩
  | 12 => ⟨S8x4x2048x128, .f32⟩
  | 13 => ⟨S8x4x2048x128, .f32⟩
  | 14 => ⟨S_, .f32⟩
  | 15 => ⟨S8x4x2048x128, .f32⟩
  | 16 => ⟨S8x4x2048x128, .f32⟩
  | 17 => ⟨S8x2048x4x128, .f32⟩
  | 18 => ⟨S16384x512, .f32⟩
  | 19 => ⟨S16384x512, .bf16⟩
  | _ => ⟨S16384x4608, .bf16⟩

abbrev hbmTy (i : Nat) : BufTy := match i / 128 with
  | 0 => hbmTy0_0 i
  | 1 => hbmTy0_1 i
  | _ => ⟨S16384x4608, .bf16⟩

abbrev bufTy : (tb : Table) → Fin (tcTables nBuf tb) → BufTy
  | .hbm, ⟨i, _⟩ => hbmTy i
  | _, _ => ⟨S16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_9 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_13 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_14 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_15 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_16 : Ref sig .tc := ⟨.hbm, 127, rfl⟩
abbrev main_v101 : Ref sig .tc := ⟨.hbm, 128, rfl⟩
abbrev main_v102 : Ref sig .tc := ⟨.hbm, 129, rfl⟩
abbrev main_cst_17 : Ref sig .tc := ⟨.hbm, 130, rfl⟩
abbrev main_v103 : Ref sig .tc := ⟨.hbm, 131, rfl⟩
abbrev main_v104 : Ref sig .tc := ⟨.hbm, 132, rfl⟩
abbrev main_cst_18 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_19 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩

abbrev nD : Nat := 1
abbrev τ : Topo := Topo.v7x

variable {F : FTy → Type} [FloatOps F]
-- ==== Diff2Kernel.lean ====
abbrev S16384x4608 : Shape := ⟨2, ![16384, 4608]⟩
abbrev S4x64 : Shape := ⟨2, ![4, 64]⟩
abbrev S128 : Shape := ⟨1, ![128]⟩
abbrev S4 : Shape := ⟨1, ![4]⟩
abbrev S_ : Shape := ⟨0, ![]⟩
abbrev S4x1x1 : Shape := ⟨3, ![4, 1, 1]⟩
abbrev S4x1x128 : Shape := ⟨3, ![4, 1, 128]⟩
abbrev S1x4x64 : Shape := ⟨3, ![1, 4, 64]⟩
abbrev S1x128 : Shape := ⟨2, ![1, 128]⟩
abbrev S16384x512 : Shape := ⟨2, ![16384, 512]⟩
abbrev S128x128 : Shape := ⟨2, ![128, 128]⟩
abbrev S2048x128 : Shape := ⟨2, ![2048, 128]⟩
abbrev S1x1x128 : Shape := ⟨3, ![1, 1, 128]⟩
abbrev S256x128 : Shape := ⟨2, ![256, 128]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S1x64 : Shape := ⟨2, ![1, 64]⟩
abbrev S1 : Shape := ⟨1, ![1]⟩
abbrev S1x1 : Shape := ⟨2, ![1, 1]⟩
abbrev S128x1 : Shape := ⟨2, ![128, 1]⟩

abbrev nBuf : Space → Nat
  | .hbm => 22
  | .vmem => 15
  | .smem => 0
  | _ => 0

abbrev bufTy : (tb : Table) → Fin (tcTables nBuf tb) → BufTy
  | .hbm, ⟨0, _⟩ => ⟨S16384x4608, .bf16⟩
  | .hbm, ⟨1, _⟩ => ⟨S4x64, .f32⟩
  | .hbm, ⟨2, _⟩ => ⟨S128, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S4x1x1, .f32⟩
  | .hbm, ⟨18, _⟩ => ⟨S4x1x128, .f32⟩
  | .hbm, ⟨19, _⟩ => ⟨S1x4x64, .f32⟩
  | .hbm, ⟨20, _⟩ => ⟨S1x128, .f32⟩
  | .hbm, ⟨21, _⟩ => ⟨S16384x512, .bf16⟩
  | .local _ .vmem, ⟨0, _⟩ => ⟨S128x128, .bf16⟩
  | .local _ .vmem, ⟨1, _⟩ => ⟨S128x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x128, .f32⟩
  | .local _ .vmem, ⟨7, _⟩ => ⟨S1x1x128, .f32⟩
  | .local _ .vmem, ⟨8, _⟩ => ⟨S1x4x64, .f32⟩
  | .local _ .vmem, ⟨9, _⟩ => ⟨S1x128, .f32⟩
  | .local _ .vmem, ⟨10, _⟩ => ⟨S128x128, .bf16⟩
  | .local _ .vmem, ⟨11, _⟩ => ⟨S128x128, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 16], ![false, false, false]⟩

@[reducible] def k0_t1_loop (i : grid0.Coords) : Scf.Loop 32 :=
  let c0_i32_20 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v44 : BitVec 32 := Scalar.subi v17 c0_i32_20
  let c1_i32_21 : BitVec 32 := 1#32
  let v46 : BitVec 32 := Scalar.divsi v44 c1_i32_21
  let v47 : BitVec 32 := Scalar.muli v46 c1_i32_21
  let v48 : BitVec 32 := Scalar.addi c0_i32_20 v47
  let c1_i32_22 : BitVec 32 := 1#32
  ⟨c0_i32_20, v48, c1_i32_22⟩
def k0_mult1 (i : grid0.Coords) (k0_t1 : Fin (k0_t1_loop i).trips) : BitVec 32 :=
  let c0_i32_20 : BitVec 32 := 0#32
  let c1_i32_22 : BitVec 32 := 1#32
  let arg13 : BitVec 32 := Scf.iv c0_i32_20 c1_i32_22 k0_t1
  let c256_i32_67 : BitVec 32 := 256#32
  let v156 : BitVec 32 := Scalar.muli arg13 c256_i32_67
  v156
def k0_off1 (i : grid0.Coords) (k0_t1 : Fin (k0_t1_loop i).trips) : Fin 2 → Nat :=
  let c0_i32_20 : BitVec 32 := 0#32
  let c1_i32_22 : BitVec 32 := 1#32
  let arg13 : BitVec 32 := Scf.iv c0_i32_20 c1_i32_22 k0_t1
  let c256_i32_67 : BitVec 32 := 256#32
  let v156 : BitVec 32 := Scalar.muli arg13 c256_i32_67
  let v157 : BitVec 32 := v156
  let v158 : Index := Scalar.indexCast v157
  let c0_68 : Index := 0#32
  ![v158.toNat, 0]
def k0_mult2 (i : grid0.Coords) (k0_t1 : Fin (k0_t1_loop i).trips) : BitVec 32 :=
  let c0_i32_20 : BitVec 32 := 0#32
  let c1_i32_22 : BitVec 32 := 1#32
  let arg13 : BitVec 32 := Scf.iv c0_i32_20 c1_i32_22 k0_t1
  let c256_i32_71 : BitVec 32 := 256#32
  let v171 : BitVec 32 := Scalar.muli arg13 c256_i32_71
  v171
@[reducible] def k0_t2_loop (i : grid0.Coords) : Scf.Loop 32 :=
  let c0_i32_20 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v44 : BitVec 32 := Scalar.subi v17 c0_i32_20
  let c1_i32_21 : BitVec 32 := 1#32
  let v46 : BitVec 32 := Scalar.divsi v44 c1_i32_21
  let v47 : BitVec 32 := Scalar.muli v46 c1_i32_21
  let v48 : BitVec 32 := Scalar.addi c0_i32_20 v47
  let v45 : BitVec 32 := Scalar.addi c0_i32_20 v44
  let c1_i32_23 : BitVec 32 := 1#32
  ⟨v48, v45, c1_i32_23⟩
def k0_mult3 (i : grid0.Coords) (k0_t2 : Fin (k0_t2_loop i).trips) : BitVec 32 :=
  let c0_i32_20 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v44 : BitVec 32 := Scalar.subi v17 c0_i32_20
  let c1_i32_21 : BitVec 32 := 1#32
  let v46 : BitVec 32 := Scalar.divsi v44 c1_i32_21
  let v47 : BitVec 32 := Scalar.muli v46 c1_i32_21
  let v48 : BitVec 32 := Scalar.addi c0_i32_20 v47
  let c1_i32_23 : BitVec 32 := 1#32
  let arg13 : BitVec 32 := Scf.iv v48 c1_i32_23 k0_t2
  let c256_i32_67 : BitVec 32 := 256#32
  let v156 : BitVec 32 := Scalar.muli arg13 c256_i32_67
  v156
def k0_off2 (i : grid0.Coords) (k0_t2 : Fin (k0_t2_loop i).trips) : Fin 2 → Nat :=
  let c0_i32_20 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v44 : BitVec 32 := Scalar.subi v17 c0_i32_20
  let c1_i32_21 : BitVec 32 := 1#32
  let v46 : BitVec 32 := Scalar.divsi v44 c1_i32_21
  let v47 : BitVec 32 := Scalar.muli v46 c1_i32_21
  let v48 : BitVec 32 := Scalar.addi c0_i32_20 v47
  let c1_i32_23 : BitVec 32 := 1#32
  let arg13 : BitVec 32 := Scf.iv v48 c1_i32_23 k0_t2
  let c256_i32_67 : BitVec 32 := 256#32
  let v156 : BitVec 32 := Scalar.muli arg13 c256_i32_67
  let v157 : BitVec 32 := v156
  let v158 : Index := Scalar.indexCast v157
  let c0_68 : Index := 0#32
  ![v158.toNat, 0]
def k0_mult4 (i : grid0.Coords) (k0_t2 : Fin (k0_t2_loop i).trips) : BitVec 32 :=
  let c0_i32_20 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v44 : BitVec 32 := Scalar.subi v17 c0_i32_20
  let c1_i32_21 : BitVec 32 := 1#32
  let v46 : BitVec 32 := Scalar.divsi v44 c1_i32_21
  let v47 : BitVec 32 := Scalar.muli v46 c1_i32_21
  let v48 : BitVec 32 := Scalar.addi c0_i32_20 v47
  let c1_i32_23 : BitVec 32 := 1#32
  let arg13 : BitVec 32 := Scf.iv v48 c1_i32_23 k0_t2
  let c256_i32_71 : BitVec 32 := 256#32
  let v171 : BitVec 32 := Scalar.muli arg13 c256_i32_71
  v171
def k0_mult5 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_24 : BitVec 32 := 256#32
  let v49 : BitVec 32 := Scalar.muli v17 c256_i32_24
  v49
def k0_off3 (i : grid0.Coords) : Fin 2 → Nat :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_24 : BitVec 32 := 256#32
  let v49 : BitVec 32 := Scalar.muli v17 c256_i32_24
  let v50 : BitVec 32 := v49
  let v51 : Index := Scalar.indexCast v50
  let c0_25 : Index := 0#32
  ![v51.toNat, 0]
def k0_mult6 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_32 : BitVec 32 := 256#32
  let v79 : BitVec 32 := Scalar.muli v17 c256_i32_32
  v79
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Diff2KernelIdeal.lean ====
variable {F : FTy → Type} [FloatOps F] [Named F]
def κ : String → Option EReal := fun
  | "mask" => some ⊥
  | _ => none
-- ==== Diff2ReferenceIdeal.lean ====
abbrev S16384x4608 : Shape := ⟨2, ![16384, 4608]⟩
abbrev S4x64 : Shape := ⟨2, ![4, 64]⟩
abbrev S128 : Shape := ⟨1, ![128]⟩
abbrev S16384x512 : Shape := ⟨2, ![16384, 512]⟩
abbrev S8x2048x4x128 : Shape := ⟨4, ![8, 2048, 4, 128]⟩
abbrev S8x4x2048x128 : Shape := ⟨4, ![8, 4, 2048, 128]⟩
abbrev S4 : Shape := ⟨1, ![4]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S4x1x1 : Shape := ⟨3, ![4, 1, 1]⟩
abbrev S2048x2048 : Shape := ⟨2, ![2048, 2048]⟩
abbrev S1x2048x2048 : Shape := ⟨3, ![1, 2048, 2048]⟩
abbrev S4x2048x2048 : Shape := ⟨3, ![4, 2048, 2048]⟩
abbrev S8x4x2048x64 : Shape := ⟨4, ![8, 4, 2048, 64]⟩
abbrev S8x4x2048x2048 : Shape := ⟨4, ![8, 4, 2048, 2048]⟩
abbrev S1x4x2048x2048 : Shape := ⟨4, ![1, 4, 2048, 2048]⟩
abbrev S8x4x2048 : Shape := ⟨3, ![8, 4, 2048]⟩
abbrev S8x4x2048x1 : Shape := ⟨4, ![8, 4, 2048, 1]⟩
abbrev S1x64 : Shape := ⟨2, ![1, 64]⟩
abbrev S64 : Shape := ⟨1, ![64]⟩
abbrev S1x1x1x128 : Shape := ⟨4, ![1, 1, 1, 128]⟩

abbrev nBuf : Space → Nat
  | .hbm => 148
  | .vmem => 0
  | .smem => 0
  | _ => 0

abbrev hbmTy0_0 (i : Nat) : BufTy := match i % 128 with
  | 0 => ⟨S16384x4608, .bf16⟩
  | 1 => ⟨S4x64, .f32⟩
  | 2 => ⟨S128, .f32⟩
  | 3 => ⟨S16384x4608, .f32⟩
  | 4 => ⟨S16384x512, .f32⟩
  | 5 => ⟨S8x2048x4x128, .f32⟩
  | 6 => ⟨S8x4x2048x128, .f32⟩
  | 7 => ⟨S16384x512, .f32⟩
  | 8 => ⟨S8x2048x4x128, .f32⟩
  | 9 => ⟨S8x4x2048x128, .f32⟩
  | 10 => ⟨S16384x512, .f32⟩
  | 11 => ⟨S8x2048x4x128, .f32⟩
  | 12 => ⟨S8x4x2048x128, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S_, .f32⟩
  | 21 => ⟨S4, .f32⟩
  | 22 => ⟨S4, .f32⟩
  | 23 => ⟨S_, .f32⟩
  | 24 => ⟨S4, .f32⟩
  | 25 => ⟨S4, .f32⟩
  | 26 => ⟨S4, .f32⟩
  | 27 => ⟨S2048, .i32⟩
  | 28 => ⟨S2048x1, .i32⟩
  | 29 => ⟨S2048, .i32⟩
  | 30 => ⟨S1x2048, .i32⟩
  | 31 => ⟨S4x1x1, .f32⟩
  | 32 => ⟨S4x1x1, .f32⟩
  | 33 => ⟨S2048x2048, .i32⟩
  | 34 => ⟨S2048x2048, .i32⟩
  | 35 => ⟨S2048x2048, .i32⟩
  | 36 => ⟨S2048x2048, .f32⟩
  | 37 => ⟨S1x2048x2048, .f32⟩
  | 38 => ⟨S4x2048x2048, .f32⟩
  | 39 => ⟨S4x2048x2048, .f32⟩
  | 40 => ⟨S4x2048x2048, .f32⟩
  | 41 => ⟨S8x4x2048x64, .f32⟩
  | 42 => ⟨S8x4x2048x64, .f32⟩
  | 43 => ⟨S8x4x2048x2048, .f32⟩
  | 44 => ⟨S_, .f32⟩
  | 45 => ⟨S8x4x2048x2048, .f32⟩
  | 46 => ⟨S8x4x2048x2048, .f32⟩
  | 47 => ⟨S1x4x2048x2048, .f32⟩
  | 48 => ⟨S8x4x2048x2048, .f32⟩
  | 49 => ⟨S8x4x2048x2048, .f32⟩
  | 50 => ⟨S8x4x2048x64, .f32⟩
  | 51 => ⟨S8x4x2048x64, .f32⟩
  | 52 => ⟨S8x4x2048x2048, .f32⟩
  | 53 => ⟨S_, .f32⟩
  | 54 => ⟨S8x4x2048x2048, .f32⟩
  | 55 => ⟨S8x4x2048x2048, .f32⟩
  | 56 => ⟨S1x4x2048x2048, .f32⟩
  | 57 => ⟨S8x4x2048x2048, .f32⟩
  | 58 => ⟨S8x4x2048x2048, .f32⟩
  | 59 => ⟨S2048x2048, .i32⟩
  | 60 => ⟨S2048x2048, .i32⟩
  | 61 => ⟨S2048x2048, .i1⟩
  | 62 => ⟨S_, .f32⟩
  | 63 => ⟨S_, .f32⟩
  | 64 => ⟨S8x4x2048x2048, .i1⟩
  | 65 => ⟨S8x4x2048x2048, .f32⟩
  | 66 => ⟨S8x4x2048x2048, .f32⟩
  | 67 => ⟨S_, .f32⟩
  | 68 => ⟨S8x4x2048, .f32⟩
  | 69 => ⟨S_, .f32⟩
  | 70 => ⟨S8x4x2048, .f32⟩
  | 71 => ⟨S8x4x2048, .f32⟩
  | 72 => ⟨S8x4x2048x1, .f32⟩
  | 73 => ⟨S8x4x2048x2048, .f32⟩
  | 74 => ⟨S8x4x2048x2048, .f32⟩
  | 75 => ⟨S8x4x2048x2048, .f32⟩
  | 76 => ⟨S_, .f32⟩
  | 77 => ⟨S8x4x2048, .f32⟩
  | 78 => ⟨S8x4x2048x1, .f32⟩
  | 79 => ⟨S8x4x2048x2048, .f32⟩
  | 80 => ⟨S8x4x2048x2048, .f32⟩
  | 81 => ⟨S2048x2048, .i32⟩
  | 82 => ⟨S2048x2048, .i32⟩
  | 83 => ⟨S2048x2048, .i1⟩
  | 84 => ⟨S_, .f32⟩
  | 85 => ⟨S_, .f32⟩
  | 86 => ⟨S8x4x2048x2048, .i1⟩
  | 87 => ⟨S8x4x2048x2048, .f32⟩
  | 88 => ⟨S8x4x2048x2048, .f32⟩
  | 89 => ⟨S_, .f32⟩
  | 90 => ⟨S8x4x2048, .f32⟩
  | 91 => ⟨S_, .f32⟩
  | 92 => ⟨S8x4x2048, .f32⟩
  | 93 => ⟨S8x4x2048, .f32⟩
  | 94 => ⟨S8x4x2048x1, .f32⟩
  | 95 => ⟨S8x4x2048x2048, .f32⟩
  | 96 => ⟨S8x4x2048x2048, .f32⟩
  | 97 => ⟨S8x4x2048x2048, .f32⟩
  | 98 => ⟨S_, .f32⟩
  | 99 => ⟨S8x4x2048, .f32⟩
  | 100 => ⟨S8x4x2048x1, .f32⟩
  | 101 => ⟨S8x4x2048x2048, .f32⟩
  | 102 => ⟨S8x4x2048x2048, .f32⟩
  | 103 => ⟨S1x64, .f32⟩
  | 104 => ⟨S64, .f32⟩
  | 105 => ⟨S1x64, .f32⟩
  | 106 => ⟨S64, .f32⟩
  | 107 => ⟨S64, .f32⟩
  | 108 => ⟨S_, .f32⟩
  | 109 => ⟨S_, .f32⟩
  | 110 => ⟨S_, .f32⟩
  | 111 => ⟨S1x64, .f32⟩
  | 112 => ⟨S64, .f32⟩
  | 113 => ⟨S1x64, .f32⟩
  | 114 => ⟨S64, .f32⟩
  | 115 => ⟨S64, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S8x4x2048x2048, .f32⟩
  | 123 => ⟨S8x4x2048x2048, .f32⟩
  | 124 => ⟨S8x4x2048x2048, .f32⟩
  | 125 => ⟨S8x4x2048x128, .f32⟩
  | 126 => ⟨S8x4x2048x128, .f32⟩
  | 127 => ⟨S_, .f32⟩
  | _ => ⟨S16384x4608, .bf16⟩

abbrev hbmTy0_1 (i : Nat) : BufTy := match i % 128 with
  | 0 => ⟨S8x4x2048, .f32⟩
  | 1 => ⟨S8x4x2048x1, .f32⟩
  | 2 => ⟨S_, .f32⟩
  | 3 => ⟨S8x4x2048x1, .f32⟩
  | 4 => ⟨S8x4x2048x1, .f32⟩
  | 5 => ⟨S_, .f32⟩
  | 6 => ⟨S8x4x2048x1, .f32⟩
  | 7 => ⟨S8x4x2048x1, .f32⟩
  | 8 => ⟨S8x4x2048x1, .f32⟩
  | 9 => ⟨S8x4x2048x128, .f32⟩
  | 10 => ⟨S8x4x2048x128, .f32⟩
  | 11 => ⟨S1x1x1x128, .f32⟩
  | 12 => ⟨S8x4x2048x128, .f32⟩
  | 13 => ⟨S8x4x2048x128, .f32⟩
  | 14 => ⟨S_, .f32⟩
  | 15 => ⟨S8x4x2048x128, .f32⟩
  | 16 => ⟨S8x4x2048x128, .f32⟩
  | 17 => ⟨S8x2048x4x128, .f32⟩
  | 18 => ⟨S16384x512, .f32⟩
  | 19 => ⟨S16384x512, .bf16⟩
  | _ => ⟨S16384x4608, .bf16⟩

abbrev hbmTy (i : Nat) : BufTy := match i / 128 with
  | 0 => hbmTy0_0 i
  | 1 => hbmTy0_1 i
  | _ => ⟨S16384x4608, .bf16⟩

abbrev bufTy : (tb : Table) → Fin (tcTables nBuf tb) → BufTy
  | .hbm, ⟨i, _⟩ => hbmTy i
  | _, _ => ⟨S16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_9 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_13 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_14 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_15 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_16 : Ref sig .tc := ⟨.hbm, 127, rfl⟩
abbrev main_v101 : Ref sig .tc := ⟨.hbm, 128, rfl⟩
abbrev main_v102 : Ref sig .tc := ⟨.hbm, 129, rfl⟩
abbrev main_cst_17 : Ref sig .tc := ⟨.hbm, 130, rfl⟩
abbrev main_v103 : Ref sig .tc := ⟨.hbm, 131, rfl⟩
abbrev main_v104 : Ref sig .tc := ⟨.hbm, 132, rfl⟩
abbrev main_cst_18 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_19 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩

abbrev nD : Nat := 1
abbrev τ : Topo := Topo.v7x

variable {F : FTy → Type} [FloatOps F]
-- ==== Proof.Sb.Body.lean ====
/- One grid point of the stick-breaking attention kernel: what its body leaves in the output block, as a recursion over
   the key blocks. The two scratch buffers (the sum of the logarithms of the parts left, and the accumulated output) are
   carried from one key block to the next; the recursion `st` below carries them as values. -/
module

public import proofs.«01_k».proof.Proof.Gen.SbKernelIdeal.Value
public import Idealize.ShloMosaic.Lib.Pointwise
public import Idealize.ShloMosaic.Lib.VecWindow

@[expose] public section

set_option maxRecDepth 16384

noncomputable section

namespace Cert.Sb
open Cert.SbKernelIdeal Cert.SbKernelIdeal.Gen Idealize.ShloMosaic Idealize.ShloMosaic.TcCoe Idealize.ShloMosaic.Tactic Idealize.SL.Sem

/-- The two scratch buffers' contents. -/
abbrev Scr := FVec Ideal S256x128 .f32 × FVec Ideal S256x128 .f32

/-- The key block the `k`th trip reads. -/
def blkAt (i : grid0.Coords) (x : Vec Ideal S2048x128 .bf16) (k : Fin (k0_t1_loop i).trips) : Vec Ideal S256x128 .bf16 :=
  View.ld x (Rect.unit (s := S2048x128) (k0_off2 i k) S256x128.size (k0_off2_inb i k))

/-- The key block on the diagonal. -/
def blkDiag (i : grid0.Coords) (x : Vec Ideal S2048x128 .bf16) : Vec Ideal S256x128 .bf16 :=
  View.ld x (Rect.unit (s := S2048x128) (k0_off1 i) S256x128.size (k0_off1_inb i))

/-- The scratch contents before trip `k`, from those before the loop. -/
def st (i : grid0.Coords) (q : FVec Ideal S256x128 .bf16) (x1 x2 : Vec Ideal S2048x128 .bf16) (s0 : Scr) : ℕ → Scr
  | 0 => s0
  | k + 1 =>
    if h : k < (k0_t1_loop i).trips then
      (k0_pay22 (k0_pay4 q (blkAt i x1 ⟨k, h⟩)) (st i q x1 x2 s0 k).1,
       k0_pay5 q k0_pay14 (blkAt i x1 ⟨k, h⟩) (st i q x1 x2 s0 k).1 (st i q x1 x2 s0 k).2 (blkAt i x2 ⟨k, h⟩))
    else st i q x1 x2 s0 k

/-- The scratch contents after the diagonal block. -/
def st0 (i : grid0.Coords) (x0 : Vec Ideal S128x128 .bf16) (x1 x2 : Vec Ideal S2048x128 .bf16) : Scr :=
  (k0_pay21 (F := Ideal) (k0_pay18 (F := Ideal) (kernelRun0_A.sl.v0 i) (kernelRun0_A.sl.v17 i) (k0_pay10 (F := Ideal) x0) (blkDiag i x1)) (k0_pay11 (F := Ideal)),
   k0_pay20 (F := Ideal) (k0_pay16 (F := Ideal) (k0_pay10 (F := Ideal) x0) (blkDiag i x1)) (k0_pay17 (kernelRun0_A.sl.v0 i) (kernelRun0_A.sl.v17 i))
    (k0_pay19 (F := Ideal) (kernelRun0_A.sl.v0 i) (kernelRun0_A.sl.v17 i) (k0_pay10 (F := Ideal) x0) (blkDiag i x1)) (k0_pay11 (F := Ideal))
    (k0_pay13 (F := Ideal) (k0_pay12 (F := Ideal))) (blkDiag i x2))

section
variable (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S128x128 .bf16) (harg6 : arg6.IsWhole) (arg7 : Memref sig .tc .vmem S256x128 .f32) (harg7 : arg7.IsWhole) (arg8 : Memref sig .tc .vmem S256x128 .f32) (harg8 : arg8.IsWhole)

/-- The scratch contents after `k` trips are the recursion's. -/
theorem loop_st (𝒱 : Variants) (v17 : BitVec 32) (q : FVec Ideal S256x128 .bf16) (v58 : FVec Ideal S256x256 .f32)
    (v72 : IVec S256x256 1) (v74 : FVec Ideal S256x256 .f32) (v81 : FVec Ideal S256x256 .f32)
    (x1 x2 : Vec Ideal S2048x128 .bf16) (G7 : BufTy.Contents (Elt Ideal) arg7.view.ty) (G8 : BufTy.Contents (Elt Ideal) arg8.view.ty)
    (k : ℕ) (hk : k ≤ (k0_t1_loop i).trips) :
    (arg7.view.read (Elt Ideal) (arg7.view.writes (Elt Ideal) G7 (pb_k0_t1 (F := Ideal) 𝒱 c none i arg3 harg3 arg4 harg4 arg5 harg5 arg6 harg6 arg7 harg7 arg8 harg8 v17 q k0_pay14 v58 v72 v74 v81 (harg4.unread x1) (harg5.unread x2) G7 G8 k).1),
     arg8.view.read (Elt Ideal) (arg8.view.writes (Elt Ideal) G8 (pb_k0_t1 (F := Ideal) 𝒱 c none i arg3 harg3 arg4 harg4 arg5 harg5 arg6 harg6 arg7 harg7 arg8 harg8 v17 q k0_pay14 v58 v72 v74 v81 (harg4.unread x1) (harg5.unread x2) G7 G8 k).2))
      = st i q x1 x2 (arg7.view.read (Elt Ideal) G7, arg8.view.read (Elt Ideal) G8) k := by
  induction k with
  | zero => rfl
  | succ k ih =>
    have hk' : k < (k0_t1_loop i).trips := hk
    have ih := ih (le_of_lt hk')
    rw [pb_k0_t1_succ (F := Ideal) 𝒱 c none i arg3 harg3 arg4 harg4 arg5 harg5 arg6 harg6 arg7 harg7 arg8 harg8 v17 q k0_pay14 v58 v72 v74 v81 (harg4.unread x1) (harg5.unread x2) G7 G8 ⟨k, hk'⟩]
    dsimp only [tripL_k0_t1]
    unfold trip_k0_t1
    dsimp only [List.cons_append, List.nil_append]
    rw [View.read_writes_full, View.read_writes_full]
    simp only [st, dif_pos hk', ← ih]
    unfold trip_k0_t1.sl.r trip_k0_t1.sl.r_1 trip_k0_t1.sl.r_2
    have hz : (![0,0] : Fin 2 → Nat) = fun _ => 0 := by funext a; fin_cases a <;> rfl
    simp only [View.readAt_eq_ld, harg4.read_unread, harg5.read_unread, View.ld_unit_zero (S := S256x128) hz]
    rfl

/-- What the body leaves in the output block: the last accumulator, each lane's head picked. -/
theorem out_eq (x0 : Vec Ideal S128x128 .bf16) (x1 x2 : Vec Ideal S2048x128 .bf16) (h2 : (k0_t2_loop i).trips = 0) :
    out0_A_3 (F := Ideal) c i arg3 harg3 arg4 harg4 arg5 harg5 arg6 harg6 arg7 harg7 arg8 harg8 x0 x1 x2
      = k0_pay1 (F := Ideal) k0_pay24 (k0_pay25 (F := Ideal) (st i (k0_pay10 (F := Ideal) x0) x1 x2 (st0 i x0 x1 x2) (k0_t1_loop i).trips).2)
        (k0_pay26 (F := Ideal) (st i (k0_pay10 (F := Ideal) x0) x1 x2 (st0 i x0 x1 x2) (k0_t1_loop i).trips).2) := by
  have hz : (![0,0] : Fin 2 → Nat) = fun _ => 0 := by funext a; fin_cases a <;> rfl
  unfold out0_A_3
  rw [View.read_writes_eq_canon _ _ _ (cover0_A_3 c i arg3 harg3 arg4 harg4 arg5 harg5 arg6 harg6 arg7 harg7 arg8 harg8 x0 x1 x2)]
  unfold kernelRun0_A
  dsimp only
  rw [View.canon_unit_zero hz]
  unfold kernelRun0_A.sl.r_6 kernelRun0_A.sl.r_7
  have key : kernelRun0_A.sl.v112 (F := Ideal) c i arg3 harg3 arg4 harg4 arg5 harg5 arg6 harg6 arg7 harg7 arg8 harg8 x0 x1 x2 = (st i (k0_pay10 (F := Ideal) x0) x1 x2 (st0 i x0 x1 x2) (k0_t1_loop i).trips).2 := by
    unfold kernelRun0_A.sl.v112 View.readCov
    rw [View.readAt_full]
    have e2 : Scf.trips (k0_t2_loop i).lb (k0_t2_loop i).ub (k0_t2_loop i).st = 0 := h2
    rw [e2]
    unfold pb_k0_t2
    dsimp only [List.nil_append]
    rw [View.writes_append]
    have hl := loop_st c i arg3 harg3 arg4 harg4 arg5 harg5 arg6 harg6 arg7 harg7 arg8 harg8 Variants.none (kernelRun0_A.sl.v17 i) (kernelRun0_A.sl.r c arg3 harg3 x0)
      (kernelRun0_A.sl.r_2 c i arg3 harg3 arg4 harg4 x0 x1) (kernelRun0_A.sl.r_3 i)
                        (kernelRun0_A.sl.r_4 c i arg3 harg3 arg4 harg4 x0 x1)
                        (kernelRun0_A.sl.r_5 c i arg3 harg3 arg4 harg4 x0 x1) x1 x2
                        (arg7.view.writes (Elt Ideal) arg7.view.junk
                          (kernelRun0_A.sl.HS0_2 c i arg3 harg3 arg4 harg4 arg7 x0 x1))
                        (arg8.view.writes (Elt Ideal) arg8.view.junk
                          (kernelRun0_A.sl.HS1_2 c i arg3 harg3 arg4 harg4 arg5 harg5 arg7 arg8 x0 x1 x2)) _ le_rfl
    refine (congrArg Prod.snd hl).trans ?_
    have eq : kernelRun0_A.sl.r (F := Ideal) c arg3 harg3 x0 = k0_pay10 x0 := by
      unfold kernelRun0_A.sl.r
      simp only [View.readAt_eq_ld, View.ld_unit_zero (S := S128x128) hz, harg3.read_unread]
    unfold kernelRun0_A.sl.HS0_2 kernelRun0_A.sl.HS1_2
    rw [View.read_writes_full, View.read_writes_full, eq]
    have e82 : kernelRun0_A.sl.v82 (F := Ideal) c arg7 = k0_pay11 (F := Ideal) := by
      unfold kernelRun0_A.sl.v82 kernelRun0_A.sl.HS0_1
      rw [View.readCov_full]
    have e89 : kernelRun0_A.sl.v89 (F := Ideal) c arg8 = k0_pay13 (F := Ideal) (k0_pay12 (F := Ideal)) := by
      unfold kernelRun0_A.sl.v89 kernelRun0_A.sl.HS1_1
      rw [View.readCov_full]
    rw [e82, e89]
    unfold kernelRun0_A.sl.r_4 kernelRun0_A.sl.r_2 kernelRun0_A.sl.r_3 kernelRun0_A.sl.r_5
    simp only [eq, View.readAt_eq_ld, harg4.read_unread, harg5.read_unread]
    rfl
  rw [key]

end
end Cert.Sb
end
-- ==== Proof.Sb.Math.lean ====
/- The stick-breaking weights over the reals, and the arithmetic both programs reduce to. -/
module

public import Idealize.ShloMosaic.Lib.Pointwise
public import Idealize.ShloMosaic.Lib.WordCmp

@[expose] public section

noncomputable section

namespace Cert.Sb
open Idealize.ShloMosaic

/-- The logarithm of the sigmoid. -/
def Lb (r : ℝ) : ℝ := min r 0 - Real.log (1 + Real.exp (-|r|))

/-- The logarithm of the part a key leaves. -/
def St (r : ℝ) : ℝ := Lb r - r

theorem cmax (a b : ℝ) : ((max a b : ℝ) : EReal) = max (a : EReal) (b : EReal) := EReal.coe_strictMono.monotone.map_max

theorem cmin (a b : ℝ) : ((min a b : ℝ) : EReal) = min (a : EReal) (b : EReal) := EReal.coe_strictMono.monotone.map_min

/-- A choice by a decided bit. -/
theorem sel_bool {α : Type} (p : Prop) [Decidable p] (a b : α) : Scalar.select (BitVec.ofBool (decide p)) a b = if p then a else b := by
  unfold Scalar.select
  by_cases h : p <;> simp [h]

/-- A choice by a comparison of small numbers. -/
theorem sel_lt {α : Type} (s t : ℕ) (hs : s < 2 ^ 31) (ht : t < 2 ^ 31) (a b : α) :
    Scalar.select (IntOp.cmpi .slt (BitVec.ofNat 32 s) (BitVec.ofNat 32 t)) a b = if s < t then a else b := by
  rw [WordCmp.cmpi_slt_ofNat hs ht, sel_bool]

theorem sel_ge {α : Type} (s t : ℕ) (hs : s < 2 ^ 31) (ht : t < 2 ^ 31) (a b : α) :
    Scalar.select (IntOp.cmpi .sge (BitVec.ofNat 32 s) (BitVec.ofNat 32 t)) a b = if t ≤ s then a else b := by
  rw [WordCmp.cmpi_sge_ofNat hs ht, sel_bool]

/-- A decided bit as a number. -/
theorem bit_coe (p : Prop) [Decidable p] :
    (FloatOps.sitofp .f32 ((BitVec.ofBool (decide p)).setWidth 32) : Ideal .f32) = ((if p then 1 else 0 : ℝ) : EReal) := by
  show (((BitVec.setWidth 32 (BitVec.ofBool (decide p))).toInt : ℝ) : EReal) = _
  by_cases h : p <;> simp [h]

theorem max_neg_coe (r : ℝ) : max (r : EReal) (-(r : EReal)) = ((|r| : ℝ) : EReal) := by
  rw [abs_eq_max_neg, ← EReal.coe_neg, ← cmax]

theorem exp_coe (r : ℝ) : Ideal.exp (r : EReal) = ((Real.exp r : ℝ) : EReal) := rfl

theorem log_one_exp (r : ℝ) : Ideal.log (1 + ((Real.exp r : ℝ) : EReal)) = ((Real.log (1 + Real.exp r) : ℝ) : EReal) := by
  have h : (1 : EReal) + ((Real.exp r : ℝ) : EReal) = ((1 + Real.exp r : ℝ) : EReal) := by
    rw [EReal.coe_add, EReal.coe_one]
  rw [h]
  show (if 1 + Real.exp r ≤ 0 then ⊥ else ((Real.log (1 + Real.exp r) : ℝ) : EReal)) = _
  rw [if_neg (by have := Real.exp_pos r; linarith)]

/-- The kernel's form of the logarithm of the sigmoid. -/
theorem lb_kernel (r : ℝ) :
    min (r : EReal) 0 - Ideal.log (1 + Ideal.exp (0 - max (r : EReal) (-(r : EReal)))) = ((Lb r : ℝ) : EReal) := by
  rw [max_neg_coe, zero_sub, ← EReal.coe_neg, exp_coe, log_one_exp, ← EReal.coe_zero, ← cmin, ← EReal.coe_sub]
  rfl

/-- The reference's form of it, from the negated logit. -/
theorem lb_ref (r : ℝ) :
    -(max (-(r : EReal)) 0 + Ideal.log1p (Ideal.exp (-(max (-(r : EReal)) (-(-(r : EReal))))))) = ((Lb r : ℝ) : EReal) := by
  unfold Ideal.log1p
  rw [neg_neg, max_comm (-(r : EReal)) (r : EReal), max_neg_coe, ← EReal.coe_neg, ← EReal.coe_neg, exp_coe, log_one_exp, ← EReal.coe_zero, ← cmax,
    ← EReal.coe_add, ← EReal.coe_neg, EReal.coe_eq_coe_iff]
  unfold Lb
  rcases le_total r 0 with h | h
  · rw [max_eq_left (by linarith), min_eq_left h]; ring
  · rw [max_eq_right (by linarith), min_eq_right h]; ring

/-- The reference's form of what a key leaves. -/
theorem st_ref (r : ℝ) :
    -(max (-(-(r : EReal))) 0 + Ideal.log1p (Ideal.exp (-(max (-(-(r : EReal))) (-(-(-(r : EReal)))))))) = ((St r : ℝ) : EReal) := by
  unfold Ideal.log1p
  rw [neg_neg, max_neg_coe, ← EReal.coe_neg, exp_coe, log_one_exp, ← EReal.coe_zero, ← cmax,
    ← EReal.coe_add, ← EReal.coe_neg, EReal.coe_eq_coe_iff]
  unfold St Lb
  rcases le_total r 0 with h | h
  · rw [max_eq_right h, min_eq_left h]; ring
  · rw [max_eq_left h, min_eq_right h]; ring

/-- What key `s` leaves of the stick at row `t`: nothing is taken from row `t` on. -/
def mS (z : ℕ → ℝ) (t s : ℕ) : ℝ := if s < t then St (z s) else 0

/-- What the keys after `s` leave together. -/
def tl (z : ℕ → ℝ) (t s : ℕ) : ℝ := ∑ u ∈ Finset.Ico (s + 1) 2048, mS z t u

/-- The weight of key `s` at row `t`. -/
def wt (z : ℕ → ℝ) (t s : ℕ) : EReal := if s < t then ((Real.exp (Lb (z s) + tl z t s) : ℝ) : EReal) else 0

/-- Row `t`'s attention over the keys from `lo` on. -/
def at' (z : ℕ → ℝ) (v : ℕ → EReal) (t lo : ℕ) : EReal := ∑ s ∈ Finset.Ico lo 2048, wt z t s * v s

/-- A sum over the reals, read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- Splitting the first block of 256 off a sum over an interval. -/
theorem sum_block {M : Type} [AddCommMonoid M] (g : ℕ → M) (j : ℕ) (hj : (j + 1) * 256 ≤ 2048) :
    ∑ s ∈ Finset.Ico (j * 256) 2048, g s = ∑ s ∈ Finset.Ico ((j + 1) * 256) 2048, g s + ∑ c : Fin 256, g (j * 256 + c.val) := by
  rw [← Finset.sum_Ico_consecutive g (show j * 256 ≤ (j + 1) * 256 by omega) hj, add_comm]
  congr 1
  rw [Finset.sum_Ico_eq_sum_range, show (j + 1) * 256 - j * 256 = 256 by omega, Finset.sum_range]

/-- The part of a block after column `x`, and the blocks after it, make the tail. -/
theorem sum_after {M : Type} [AddCommMonoid M] (g : ℕ → M) (j : ℕ) (hj : (j + 1) * 256 ≤ 2048) (x : Fin 256) :
    (∑ u : Fin 256, if x < u then g (j * 256 + u.val) else 0) + ∑ s ∈ Finset.Ico ((j + 1) * 256) 2048, g s
      = ∑ s ∈ Finset.Ico (j * 256 + x.val + 1) 2048, g s := by
  have hx := x.isLt
  rw [← Finset.sum_Ico_consecutive g (show j * 256 + x.val + 1 ≤ (j + 1) * 256 by omega) hj]
  congr 1
  rw [Finset.sum_Ico_eq_sum_range, show (j + 1) * 256 - (j * 256 + x.val + 1) = 256 - (x.val + 1) by omega]
  have h1 : (∑ u : Fin 256, if x < u then g (j * 256 + u.val) else 0) = ∑ n ∈ Finset.range 256, if x.val < n then g (j * 256 + n) else 0 := by
    rw [Finset.sum_range]; rfl
  rw [h1, Finset.range_eq_Ico, ← Finset.sum_Ico_consecutive _ (Nat.zero_le (x.val + 1)) (show x.val + 1 ≤ 256 by omega)]
  rw [Finset.sum_eq_zero (fun n hn => if_neg (by rw [Finset.mem_Ico] at hn; omega)), zero_add, Finset.sum_Ico_eq_sum_range]
  refine Finset.sum_congr rfl fun n _ => ?_
  rw [if_pos (by omega)]
  congr 1; omega

/-- The keys from block `j` on take nothing when the row is not after them. -/
theorem sum_mS_zero (z : ℕ → ℝ) (t lo : ℕ) (h : t ≤ lo) : ∑ s ∈ Finset.Ico lo 2048, mS z t s = 0 :=
  Finset.sum_eq_zero fun s hs => if_neg (by rw [Finset.mem_Ico] at hs; omega)

theorem at_zero (z : ℕ → ℝ) (v : ℕ → EReal) (t lo : ℕ) (h : t ≤ lo) : at' z v t lo = 0 :=
  Finset.sum_eq_zero fun s hs => by
    rw [Finset.mem_Ico] at hs
    unfold wt
    rw [if_neg (by omega), zero_mul]

/-- The whole-row sum of the reference: over all keys. -/
theorem at_univ (z : ℕ → ℝ) (v : ℕ → EReal) (t : ℕ) : at' z v t 0 = ∑ s : Fin 2048, wt z t s.val * v s.val := by
  unfold at'
  rw [← Finset.range_eq_Ico, Finset.sum_range]

/-- The running sum from the end, less its first term, is the tail. -/
theorem csum_tail (z : ℕ → ℝ) (t : ℕ) (s : Fin 2048) :
    (∑ n : Fin 2048, if s.val + n.val < 2048 then ((mS z t (s.val + n.val) : ℝ) : EReal) else 0) - ((mS z t s.val : ℝ) : EReal)
      = ((tl z t s.val : ℝ) : EReal) := by
  have hs := s.isLt
  have h1 : (∑ n : Fin 2048, if s.val + n.val < 2048 then ((mS z t (s.val + n.val) : ℝ) : EReal) else 0)
      = ((∑ u ∈ Finset.Ico s.val 2048, mS z t u : ℝ) : EReal) := by
    rw [coe_sum, Finset.sum_Ico_eq_sum_range, Finset.range_eq_Ico]
    rw [← Finset.sum_range (fun n => if s.val + n < 2048 then ((mS z t (s.val + n) : ℝ) : EReal) else 0), Finset.range_eq_Ico,
      ← Finset.sum_Ico_consecutive _ (Nat.zero_le (2048 - s.val)) (show 2048 - s.val ≤ 2048 by omega)]
    rw [Finset.sum_eq_zero (s := Finset.Ico (2048 - s.val) 2048) (fun n hn => if_neg (by rw [Finset.mem_Ico] at hn; omega)), add_zero]
    refine Finset.sum_congr rfl fun n hn => if_pos (by rw [Finset.mem_Ico] at hn; omega)
  rw [h1, Finset.sum_eq_sum_Ico_succ_bot hs, ← EReal.coe_sub, EReal.coe_eq_coe_iff]
  unfold tl
  ring

end Cert.Sb
end
-- ==== Proof.Sb.Row.lean ====
/- One row of the stick-breaking kernel: what one key block does to the two carried sums, at one row and lane. -/
module

public import proofs.«01_k».proof.Proof.Sb.Body
public import proofs.«01_k».proof.Proof.Sb.Math

@[expose] public section

set_option maxRecDepth 16384

noncomputable section

namespace Cert.Sb
open Cert.SbKernelIdeal Cert.SbKernelIdeal.Gen Idealize.ShloMosaic Idealize.ShloMosaic.TcCoe Idealize.ShloMosaic.Tactic Idealize.SL.Sem

abbrev QB := FVec Ideal S256x128 .bf16
abbrev RB := FVec Ideal S256x128 .f32

theorem pay2_at (q kb : QB) (R c : Fin 256) : k0_pay2 (F := Ideal) q kb (ix2 R c) = ∑ x : Fin 128, q (ix2 R x) * kb (ix2 c x) := by
  pointwise [k0_pay2]

theorem pay15_eq (q kb : QB) : k0_pay15 (F := Ideal) q kb = k0_pay2 (F := Ideal) q kb := rfl
theorem pay16_eq (q kb : QB) : k0_pay16 (F := Ideal) q kb = k0_pay3 (F := Ideal) q kb := rfl

/-- The logarithm of the sigmoid, where the logit is a real number. -/
theorem pay3_at (q kb : QB) (R c : Fin 256) (r : ℝ) (h : ∑ x : Fin 128, q (ix2 R x) * kb (ix2 c x) = (r : EReal)) :
    k0_pay3 (F := Ideal) q kb (ix2 R c) = ((Lb r : ℝ) : EReal) := by
  pointwise [k0_pay3]
  rw [pay2_at, h]
  exact lb_kernel r

theorem pay4_at (q kb : QB) (R c : Fin 256) (r : ℝ) (h : ∑ x : Fin 128, q (ix2 R x) * kb (ix2 c x) = (r : EReal)) :
    k0_pay4 (F := Ideal) q kb (ix2 R c) = ((St r : ℝ) : EReal) := by
  pointwise [k0_pay4]
  rw [pay3_at q kb R c r h, pay2_at, h, ← EReal.coe_sub]
  rfl

/-- The triangle of ones. -/
theorem pay14_at (u c : Fin 256) : k0_pay14 (F := Ideal) (ix2 u c) = ((if c < u then 1 else 0 : ℝ) : EReal) := by
  pointwise [k0_pay14]
  rw [WordCmp.cmpi_sgt_ofNat (by omega) (by omega), bit_coe]
  rfl

/-- The product with the triangle sums what comes after. -/
theorem tri (L : FVec Ideal S256x256 .f32) (hL : ∀ u c : Fin 256, L (ix2 u c) = ((if c < u then 1 else 0 : ℝ) : EReal)) (f : Fin 256 → ℝ) (x : Fin 256) :
    (∑ u : Fin 256, ((f u : ℝ) : EReal) * L (ix2 u x)) + (∑ u : Fin 256, (((f u : ℝ) : EReal) - ((f u : ℝ) : EReal)) * L (ix2 u x))
      = ((∑ u : Fin 256, if x < u then f u else 0 : ℝ) : EReal) := by
  have h2 : (∑ u : Fin 256, (((f u : ℝ) : EReal) - ((f u : ℝ) : EReal)) * L (ix2 u x)) = 0 :=
    Finset.sum_eq_zero fun u _ => by rw [← EReal.coe_sub, sub_self, EReal.coe_zero, zero_mul]
  rw [h2, add_zero, coe_sum]
  refine Finset.sum_congr rfl fun u _ => ?_
  rw [hL, ← EReal.coe_mul]
  by_cases h : x < u <;> simp [h]

section
variable (z : ℕ → ℝ) (t j : ℕ) (q kb vb : QB) (r acc : RB) (R : Fin 256) (v : ℕ → EReal) (l : Fin 128)

/-- One block's update of the sum of logarithms, before the diagonal. -/
theorem step_log (hj : (j + 1) * 256 ≤ 2048) (ht : (j + 1) * 256 ≤ t)
    (hz : ∀ c : Fin 256, ∑ x : Fin 128, q (ix2 R x) * kb (ix2 c x) = ((z (j * 256 + c.val) : ℝ) : EReal))
    (hr : r (ix2 R l) = ((∑ s ∈ Finset.Ico ((j + 1) * 256) 2048, mS z t s : ℝ) : EReal)) :
    k0_pay22 (F := Ideal) (k0_pay4 (F := Ideal) q kb) r (ix2 R l) = ((∑ s ∈ Finset.Ico (j * 256) 2048, mS z t s : ℝ) : EReal) := by
  pointwise [k0_pay22]
  rw [hr, sum_block _ j hj, EReal.coe_add, coe_sum Finset.univ]
  congr 1
  refine Finset.sum_congr rfl fun c _ => ?_
  rw [pay4_at q kb R c _ (hz c)]
  unfold mS
  rw [if_pos (by omega)]

/-- One block's update of the output, before the diagonal. -/
theorem step_acc (hj : (j + 1) * 256 ≤ 2048) (ht : (j + 1) * 256 ≤ t)
    (hz : ∀ c : Fin 256, ∑ x : Fin 128, q (ix2 R x) * kb (ix2 c x) = ((z (j * 256 + c.val) : ℝ) : EReal))
    (hr : ∀ l, r (ix2 R l) = ((∑ s ∈ Finset.Ico ((j + 1) * 256) 2048, mS z t s : ℝ) : EReal))
    (ha : acc (ix2 R l) = at' z v t ((j + 1) * 256)) (hv : ∀ c : Fin 256, vb (ix2 c l) = v (j * 256 + c.val)) :
    k0_pay5 (F := Ideal) q (k0_pay14 (F := Ideal)) kb r acc vb (ix2 R l) = at' z v t (j * 256) := by
  have hw : ∀ c : Fin 256, k0_pay3 (F := Ideal) q kb (ix2 R c) + ((∑ u : Fin 256, k0_pay4 (F := Ideal) q kb (ix2 R u) * k0_pay14 (F := Ideal) (ix2 u c)) + (∑ u : Fin 256, (k0_pay4 (F := Ideal) q kb (ix2 R u) - k0_pay4 (F := Ideal) q kb (ix2 R u)) * k0_pay14 (F := Ideal) (ix2 u c)))
      + ((∑ s ∈ Finset.Ico ((j + 1) * 256) 2048, mS z t s : ℝ) : EReal) = ((Lb (z (j * 256 + c.val)) + tl z t (j * 256 + c.val) : ℝ) : EReal) := by
    intro c
    simp only [fun u => pay4_at q kb R u _ (hz u)]
    rw [tri _ pay14_at, pay3_at q kb R c _ (hz c), ← EReal.coe_add, ← EReal.coe_add, EReal.coe_eq_coe_iff, add_assoc]
    unfold tl
    rw [← sum_after (mS z t) j hj c]
    congr 2
    refine Finset.sum_congr rfl fun u _ => ?_
    unfold mS
    rw [if_pos (show j * 256 + u.val < t by omega)]
  have hc : ∀ c : Fin 256, Ideal.exp ((Lb (z (j * 256 + c.val)) + tl z t (j * 256 + c.val) : ℝ) : EReal) = wt z t (j * 256 + c.val) := by
    intro c
    unfold wt
    rw [if_pos (by omega)]
    rfl
  pointwise [k0_pay5]
  simp only [hr, hw, hv, ha]
  unfold at'
  rw [sum_block _ j hj, Fin.sum_univ_two_halves 128 128 rfl (fun c : Fin 256 => wt z t (j * 256 + c.val) * v (j * 256 + c.val))]
  congr 1
  exact congrArg₂ (· + ·) (Finset.sum_congr rfl fun x _ => congrArg₂ (· * ·) (hc ⟨x.val, by omega⟩) rfl)
    (Finset.sum_congr rfl fun x _ => congrArg₂ (· * ·) (hc ⟨128 + x.val, by omega⟩) rfl)

/-- The diagonal block's sum of logarithms. -/
theorem diag_log (v0 v17 : BitVec 32) (hj : (j + 1) * 256 ≤ 2048) (ht : t ≤ (j + 1) * 256)
    (hm : ∀ c : Fin 256, k0_pay17 v0 v17 (ix2 R c) = BitVec.ofBool (decide (j * 256 + c.val < t)))
    (hz : ∀ c : Fin 256, ∑ x : Fin 128, q (ix2 R x) * kb (ix2 c x) = ((z (j * 256 + c.val) : ℝ) : EReal)) :
    (∀ c : Fin 256, k0_pay18 (F := Ideal) v0 v17 q kb (ix2 R c) = ((mS z t (j * 256 + c.val) : ℝ) : EReal)) ∧
    k0_pay21 (F := Ideal) (k0_pay18 (F := Ideal) v0 v17 q kb) (k0_pay11 (F := Ideal)) (ix2 R l) = ((∑ s ∈ Finset.Ico (j * 256) 2048, mS z t s : ℝ) : EReal) := by
  have h18 : ∀ c : Fin 256, k0_pay18 (F := Ideal) v0 v17 q kb (ix2 R c) = ((mS z t (j * 256 + c.val) : ℝ) : EReal) := by
    intro c
    pointwise [k0_pay18]
    rw [hm, sel_bool, pay16_eq, pay15_eq, pay3_at q kb R c _ (hz c), pay2_at, hz, ← EReal.coe_sub]
    unfold mS St
    by_cases h : j * 256 + c.val < t <;> simp [h]
  refine ⟨h18, ?_⟩
  pointwise [k0_pay21]
  simp only [h18]
  rw [sum_block _ j hj, sum_mS_zero _ _ _ ht, zero_add, coe_sum]
  have : k0_pay11 (F := Ideal) (ix2 R l) = (0 : EReal) := by pointwise [k0_pay11]
  rw [this, zero_add]

/-- The diagonal block's output. -/
theorem diag_acc (v0 v17 : BitVec 32) (hj : (j + 1) * 256 ≤ 2048) (ht : t ≤ (j + 1) * 256)
    (hm : ∀ c : Fin 256, k0_pay17 v0 v17 (ix2 R c) = BitVec.ofBool (decide (j * 256 + c.val < t)))
    (hz : ∀ c : Fin 256, ∑ x : Fin 128, q (ix2 R x) * kb (ix2 c x) = ((z (j * 256 + c.val) : ℝ) : EReal))
    (hv : ∀ c : Fin 256, vb (ix2 c l) = v (j * 256 + c.val)) :
    k0_pay20 (F := Ideal) (k0_pay16 (F := Ideal) q kb) (k0_pay17 v0 v17) (k0_pay19 (F := Ideal) v0 v17 q kb) (k0_pay11 (F := Ideal))
      (k0_pay13 (F := Ideal) (k0_pay12 (F := Ideal))) vb (ix2 R l) = at' z v t (j * 256) := by
  have h18 := (diag_log z t j q kb R l v0 v17 hj ht hm hz).1
  have h19 : ∀ c : Fin 256, k0_pay19 (F := Ideal) v0 v17 q kb (ix2 R c) = ((tl z t (j * 256 + c.val) : ℝ) : EReal) := by
    intro c
    pointwise [k0_pay19]
    simp only [h18]
    rw [tri _ pay14_at, EReal.coe_eq_coe_iff]
    unfold tl
    rw [← sum_after (mS z t) j hj c, sum_mS_zero _ _ _ ht, add_zero]
  have h11 : ∀ c, k0_pay11 (F := Ideal) (ix2 R c) = (0 : EReal) := fun c => by pointwise [k0_pay11]
  have h13 : k0_pay13 (F := Ideal) (k0_pay12 (F := Ideal)) (ix2 R l) = (0 : EReal) := by pointwise [k0_pay13, k0_pay12]
  have hc : ∀ c : Fin 256, Scalar.select (k0_pay17 v0 v17 (ix2 R c)) (Ideal.exp (k0_pay16 (F := Ideal) q kb (ix2 R c) + ((tl z t (j * 256 + c.val) : ℝ) : EReal)) * v (j * 256 + c.val)) 0 = wt z t (j * 256 + c.val) * v (j * 256 + c.val) := by
    intro c
    rw [hm, sel_bool, pay16_eq, pay3_at q kb R c _ (hz c), ← EReal.coe_add]
    unfold wt
    by_cases h : j * 256 + c.val < t
    · rw [if_pos h, if_pos h]; rfl
    · rw [if_neg h, if_neg h, zero_mul]
  pointwise [k0_pay20]
  simp only [h19, h11, add_zero, hv, h13, zero_add]
  unfold at'
  have h0 := at_zero z v t _ ht
  unfold at' at h0
  rw [sum_block _ j hj, h0, zero_add, Fin.sum_univ_two_halves 128 128 rfl (fun c : Fin 256 => wt z t (j * 256 + c.val) * v (j * 256 + c.val))]
  exact congrArg₂ (· + ·) (Finset.sum_congr rfl fun x _ => hc ⟨x.val, by omega⟩) (Finset.sum_congr rfl fun x _ => hc ⟨128 + x.val, by omega⟩)

end
end Cert.Sb
end
-- ==== Proof.Sb.Inp.lean ====
/- The projected queries, keys and values as numbers by row and column, and a row's logits. -/
module

public import proofs.«01_k».proof.Proof.Sb.Math

@[expose] public section

noncomputable section

namespace Cert.Sb
open Idealize.ShloMosaic Idealize.ShloMosaic.Tactic

abbrev Inp := FVec Ideal (⟨2, ![16384, 4608]⟩ : Shape) .bf16

/-- The entry at a row and a column. -/
def Xe (X : Inp) (r c : ℕ) : EReal := if h : r < 16384 ∧ c < 4608 then X (ix2 (⟨r, h.1⟩ : Fin 16384) (⟨c, h.2⟩ : Fin 4608)) else 0

/-- The same as a real number, where it is one. -/
def Xr (X : Inp) (r c : ℕ) : ℝ := (Xe X r c).toReal

/-- The queries and the keys are real numbers. -/
def Fine (X : Inp) : Prop := ∀ r c : ℕ, 1536 ≤ c → c < 2560 → Xe X r c = ((Xr X r c : ℝ) : EReal)

theorem Xe_eq (X : Inp) (r : Fin 16384) (c : Fin 4608) : X (ix2 r c) = Xe X r.val c.val := by
  unfold Xe
  rw [dif_pos ⟨r.isLt, c.isLt⟩]

theorem fine_of (X : Inp) (h : ∀ (r : Fin 16384) (c : Fin 4608), 1536 ≤ c.val → c.val < 2560 → max (X (ix2 r c)) (-(X (ix2 r c))) < (⊤ : EReal)) : Fine X := by
  intro r c h1 h2
  by_cases hr : r < 16384
  · have hlt := h ⟨r, hr⟩ ⟨c, by omega⟩ h1 h2
    rw [Xe_eq X] at hlt
    unfold Xr
    refine (EReal.coe_toReal ?_ ?_).symm
    · intro e
      rw [e] at hlt
      simp at hlt
    · intro e
      rw [e] at hlt
      simp at hlt
  · have h0 : Xe X r c = 0 := dif_neg fun h => hr h.1
    unfold Xr
    rw [h0]
    simp

/-- Row `t`'s logits in sequence `b`, head `h`. -/
def zX (X : Inp) (b h t s : ℕ) : ℝ :=
  (∑ x : Fin 64, Xr X (b * 2048 + t) (1536 + (h * 64 + x.val)) * Xr X (b * 2048 + s) (2048 + (h * 64 + x.val))) * (1 / 8)

/-- A lane of the values in sequence `b`. -/
def vX (X : Inp) (b l s : ℕ) : EReal := Xe X (b * 2048 + s) (2560 + l)

theorem eighth_bf16 : Ideal.ofBits .bf16 15872#16 = ((1 / 8 : ℝ) : EReal) := by
  simp [Ideal.ofBits, Ideal.ieee]
  rw [← EReal.coe_mul]
  norm_num

theorem eighth_f32 : Ideal.ofBits .f32 1040187392#32 = ((1 / 8 : ℝ) : EReal) := by
  simp [Ideal.ofBits, Ideal.ieee]
  rw [← EReal.coe_mul]
  norm_num

end Cert.Sb
end
-- ==== Proof.Sb.KerVal.lean ====
/- The stick-breaking kernel's output block at one index: the recursion over the key blocks summed up. -/
module

public import proofs.«01_k».proof.Proof.Sb.Row
public import proofs.«01_k».proof.Proof.Sb.Inp

@[expose] public section

set_option maxRecDepth 16384

noncomputable section

namespace Cert.Sb
open Cert.SbKernelIdeal Cert.SbKernelIdeal.Gen Idealize.ShloMosaic Idealize.ShloMosaic.TcCoe Idealize.ShloMosaic.Tactic Idealize.SL.Sem

theorem v0_eq (i : grid0.Coords) : kernelRun0_A.sl.v0 i = BitVec.ofNat 32 (128 * (i 2).val) := by
  unfold kernelRun0_A.sl.v0
  generalize i 2 = x
  revert x
  decide +kernel

theorem t1_trips (i : grid0.Coords) : (k0_t1_loop i).trips = (i 2).val / 2 := by
  unfold k0_t1_loop
  generalize i 2 = x
  revert x
  decide +kernel

theorem t2_trips (i : grid0.Coords) : (k0_t2_loop i).trips = 0 := by
  unfold k0_t2_loop
  generalize i 2 = x
  revert x
  decide +kernel

theorem off1_eq (i : grid0.Coords) : k0_off1 i = ![(i 2).val / 2 * 256, 0] := by
  unfold k0_off1
  generalize i 2 = x
  revert x
  decide +kernel

theorem off2_eq (i : grid0.Coords) (k : Fin (k0_t1_loop i).trips) : k0_off2 i k = ![((i 2).val / 2 - 1 - k.val) * 256, 0] := by
  have h16 : (i 2).val < 16 := (i 2).isLt
  have hk : k.val < (i 2).val / 2 := lt_of_lt_of_eq k.isLt (t1_trips i)
  have h8 : k.val < 8 := by omega
  unfold k0_off2
  generalize k.val = n at *
  lift n to Fin 8 using h8
  clear h16
  generalize i 2 = x at *
  revert hk
  clear k
  revert n x
  decide +kernel

theorem v17_eq (i : grid0.Coords) : kernelRun0_A.sl.v17 i = BitVec.ofNat 32 ((i 2).val / 2) := by
  unfold kernelRun0_A.sl.v17
  sl_unfold_words
  generalize i 2 = x
  revert x
  decide +kernel

/-- The mask at a row and a column of the diagonal block. -/
theorem mask_at (i : grid0.Coords) (R c : Fin 256) :
    k0_pay17 (kernelRun0_A.sl.v0 i) (kernelRun0_A.sl.v17 i) (ix2 R c)
      = BitVec.ofBool (decide ((i 2).val / 2 * 256 + c.val < (i 2).val * 128 + R.val % 128)) := by
  rw [v0_eq, v17_eq]
  pointwise [k0_pay17]
  have h16 : (i 2).val < 16 := (i 2).isLt
  have hR : ∀ R : Fin 256, Scalar.select (IntOp.cmpi .sge (BitVec.ofNat 32 R.val) 128#32) (IntOp.subi (BitVec.ofNat 32 R.val) 128#32) (BitVec.ofNat 32 R.val)
      = BitVec.ofNat 32 (R.val % 128) := by decide +kernel
  have hm : IntOp.addi (Scalar.muli (BitVec.ofNat 32 ((i 2).val / 2)) 256#32) (BitVec.ofNat 32 c.val) = BitVec.ofNat 32 ((i 2).val / 2 * 256 + c.val) := by
    rw [BitVec.ofNat_add, BitVec.ofNat_mul]; rfl
  have ha : IntOp.addi (BitVec.ofNat 32 (128 * (i 2).val)) (BitVec.ofNat 32 (R.val % 128)) = BitVec.ofNat 32 ((i 2).val * 128 + R.val % 128) := by
    rw [BitVec.ofNat_add, mul_comm]; rfl
  rw [hR, hm, ha, WordCmp.cmpi_slt_ofNat (by omega) (by omega)]

/-- A row of the scaled queries: its own head's lanes, the other head's zero. -/
theorem pay10_at (x0 : FVec Ideal S128x128 .bf16) (R : Fin 256) (c : Fin 128) :
    k0_pay10 (F := Ideal) x0 (ix2 R c) = if R.val / 128 = c.val / 64 then x0 (ix2 ⟨R.val % 128, Nat.mod_lt _ (by omega)⟩ c) * ((1 / 8 : ℝ) : EReal) else 0 := by
  pointwise [k0_pay10]
  simp only [eighth_bf16]
  have h64 : (64#32 : BitVec 32) = BitVec.ofNat 32 64 := rfl
  rw [h64]
  by_cases hR : R.val < 128
  · rw [dif_pos hR, sel_lt _ _ (by omega) (by omega)]
    by_cases hc : c.val < 64
    · rw [if_pos hc, if_pos (by omega)]
      congr 3
      exact Fin.ext (by dsimp only; omega)
    · rw [if_neg hc, if_neg (by omega)]
  · rw [dif_neg hR, sel_ge _ _ (by omega) (by omega)]
    by_cases hc : 64 ≤ c.val
    · refine (if_pos hc).trans (Eq.trans ?_ (if_pos (by omega)).symm)
      exact congrArg (fun r => x0 (ix2 r c) * ((1 / 8 : ℝ) : EReal)) (Fin.ext (by dsimp only; omega))
    · exact (if_neg hc).trans (if_neg (by omega)).symm

/-- The output block: each lane from its head's row. -/
theorem pick_at (v : FVec Ideal S256x128 .f32) (R c : Fin 128) :
    k0_pay1 (F := Ideal) k0_pay24 (k0_pay25 (F := Ideal) v) (k0_pay26 (F := Ideal) v) (ix2 R c) = v (ix2 ⟨c.val / 64 * 128 + R.val, by omega⟩ c) := by
  pointwise [k0_pay1, k0_pay24, k0_pay25, k0_pay26]
  rw [show (64#32 : BitVec 32) = BitVec.ofNat 32 64 from rfl, sel_lt _ _ (by omega) (by omega)]
  by_cases hc : c.val < 64
  · rw [if_pos hc]
    congr 2
    exact Fin.ext (by dsimp only; omega)
  · rw [if_neg hc]
    congr 2
    exact Fin.ext (by dsimp only; omega)

/-- A key block, at an index. -/
theorem blkAt_at (i : grid0.Coords) (x : Vec Ideal S2048x128 .bf16) (k : Fin (k0_t1_loop i).trips) (j : ℕ) (hj : (i 2).val / 2 = j + 1 + k.val) (c : Fin 256) (l : Fin 128) :
    blkAt i x k (ix2 c l) = x (ix2 ⟨j * 256 + c.val, by have : (i 2).val < 16 := (i 2).isLt; omega⟩ l) := by
  unfold blkAt
  refine congrArg x (funext fun a => Fin.ext ?_)
  have h0 := congrFun (off2_eq i k) a
  match a, h0 with
  | ⟨0, _⟩, h0 =>
    have h0 : k0_off2 i k 0 = ((i 2).val / 2 - 1 - k.val) * 256 := h0
    rw [hj, show j + 1 + k.val - 1 - k.val = j by omega] at h0
    show k0_off2 i k 0 + 1 * c.val = j * 256 + c.val
    rw [h0, one_mul]
  | ⟨1, _⟩, h0 =>
    have h0 : k0_off2 i k 1 = 0 := h0
    show k0_off2 i k 1 + 1 * l.val = l.val
    rw [h0]; omega

theorem blkDiag_at (i : grid0.Coords) (x : Vec Ideal S2048x128 .bf16) (c : Fin 256) (l : Fin 128) :
    blkDiag i x (ix2 c l) = x (ix2 ⟨(i 2).val / 2 * 256 + c.val, by have : (i 2).val < 16 := (i 2).isLt; omega⟩ l) := by
  unfold blkDiag
  refine congrArg x (funext fun a => Fin.ext ?_)
  have h0 := congrFun (off1_eq i) a
  match a, h0 with
  | ⟨0, _⟩, h0 =>
    have h0 : k0_off1 i 0 = (i 2).val / 2 * 256 := h0
    show k0_off1 i 0 + 1 * c.val = (i 2).val / 2 * 256 + c.val
    rw [h0, one_mul]
  | ⟨1, _⟩, h0 =>
    have h0 : k0_off1 i 1 = 0 := h0
    show k0_off1 i 1 + 1 * l.val = l.val
    rw [h0]; omega

section
variable (X : Inp) (hX : Fine X) (i : grid0.Coords) (b p : ℕ) (hp : p < 4) (x0 : Vec Ideal S128x128 .bf16) (x1 x2 : Vec Ideal S2048x128 .bf16)
  (h0 : ∀ R l : Fin 128, x0 (ix2 R l) = Xe X (b * 2048 + ((i 2).val * 128 + R.val)) (1536 + (p * 128 + l.val)))
  (h1 : ∀ (s : Fin 2048) (l : Fin 128), x1 (ix2 s l) = Xe X (b * 2048 + s.val) (2048 + (p * 128 + l.val)))
  (h2 : ∀ (s : Fin 2048) (l : Fin 128), x2 (ix2 s l) = Xe X (b * 2048 + s.val) (2560 + (p * 128 + l.val)))

include hX hp h0 h1 in
/-- The kernel's logits: the products over all lanes are those over the head's own. -/
theorem logit (R : Fin 256) (s : Fin 2048) :
    (∑ x : Fin 128, k0_pay10 (F := Ideal) x0 (ix2 R x) * x1 (ix2 s x))
      = ((zX X b (2 * p + R.val / 128) ((i 2).val * 128 + R.val % 128) s.val : ℝ) : EReal) := by
  have hR := R.isLt
  rw [Fin.sum_univ_two_halves 64 64 rfl]
  unfold zX
  rw [Finset.sum_mul, coe_sum]
  have hterm : ∀ x : Fin 128, R.val / 128 = x.val / 64 → k0_pay10 (F := Ideal) x0 (ix2 R x) * x1 (ix2 s x)
      = ((Xr X (b * 2048 + ((i 2).val * 128 + R.val % 128)) (1536 + (p * 128 + x.val)) * Xr X (b * 2048 + s.val) (2048 + (p * 128 + x.val)) * (1 / 8) : ℝ) : EReal) := by
    intro x hx
    have hx' := x.isLt
    rw [pay10_at, if_pos hx, h0, h1, hX _ _ (by omega) (by omega), hX _ _ (by omega) (by omega), ← EReal.coe_mul, ← EReal.coe_mul, EReal.coe_eq_coe_iff]
    ring
  have hzero : ∀ x : Fin 128, R.val / 128 ≠ x.val / 64 → k0_pay10 (F := Ideal) x0 (ix2 R x) * x1 (ix2 s x) = 0 := by
    intro x hx
    rw [pay10_at, if_neg hx, zero_mul]
  rcases Nat.lt_or_ge R.val 128 with h | h
  · rw [Finset.sum_eq_zero (f := fun k : Fin 64 => k0_pay10 (F := Ideal) x0 (ix2 R ⟨64 + k.val, _⟩) * x1 (ix2 s ⟨64 + k.val, _⟩)) (fun k _ => hzero _ (by dsimp only; omega)), add_zero]
    refine Finset.sum_congr rfl fun k _ => ?_
    rw [hterm ⟨k.val, by omega⟩ (by dsimp only; omega), show R.val / 128 = 0 by omega]
    rw [show (2 * p + 0) * 64 + k.val = p * 128 + k.val by omega]
  · rw [Finset.sum_eq_zero (f := fun k : Fin 64 => k0_pay10 (F := Ideal) x0 (ix2 R ⟨k.val, _⟩) * x1 (ix2 s ⟨k.val, _⟩)) (fun k _ => hzero _ (by dsimp only; omega)), zero_add]
    refine Finset.sum_congr rfl fun k _ => ?_
    rw [hterm ⟨64 + k.val, by omega⟩ (by dsimp only; omega), show R.val / 128 = 1 by omega]
    rw [show (2 * p + 1) * 64 + k.val = p * 128 + (64 + k.val) by omega]

include hX hp h0 h1 h2 in
/-- The carried sums before trip `k`: the keys from the last block taken on. -/
theorem st_val (R : Fin 256) (k : ℕ) (hk : k ≤ (i 2).val / 2) (l : Fin 128) :
    (st i (k0_pay10 (F := Ideal) x0) x1 x2 (st0 i x0 x1 x2) k).1 (ix2 R l)
      = ((∑ s ∈ Finset.Ico (((i 2).val / 2 - k) * 256) 2048, mS (zX X b (2 * p + R.val / 128) ((i 2).val * 128 + R.val % 128)) ((i 2).val * 128 + R.val % 128) s : ℝ) : EReal)
    ∧ (st i (k0_pay10 (F := Ideal) x0) x1 x2 (st0 i x0 x1 x2) k).2 (ix2 R l)
      = at' (zX X b (2 * p + R.val / 128) ((i 2).val * 128 + R.val % 128)) (vX X b (p * 128 + l.val)) ((i 2).val * 128 + R.val % 128) (((i 2).val / 2 - k) * 256) := by
  have h16 : (i 2).val < 16 := (i 2).isLt
  have hR := R.isLt
  induction k generalizing l with
  | zero =>
    have hz : ∀ c : Fin 256, ∑ x : Fin 128, k0_pay10 (F := Ideal) x0 (ix2 R x) * blkDiag i x1 (ix2 c x)
        = ((zX X b (2 * p + R.val / 128) ((i 2).val * 128 + R.val % 128) ((i 2).val / 2 * 256 + c.val) : ℝ) : EReal) := by
      intro c
      simp only [blkDiag_at]
      exact logit X hX i b p hp x0 x1 h0 h1 R _
    have hv : ∀ c : Fin 256, blkDiag i x2 (ix2 c l) = vX X b (p * 128 + l.val) ((i 2).val / 2 * 256 + c.val) := by
      intro c
      rw [blkDiag_at, h2]
      rfl
    rw [Nat.sub_zero]
    exact ⟨(diag_log _ _ _ _ _ R l _ _ (by omega) (by omega) (mask_at i R) hz).2,
      diag_acc _ _ _ _ _ _ R _ l _ _ (by omega) (by omega) (mask_at i R) hz hv⟩
  | succ k ih =>
    have hk' : k < (k0_t1_loop i).trips := by rw [t1_trips]; omega
    obtain ⟨j, hj⟩ : ∃ j, (i 2).val / 2 = j + 1 + k := ⟨(i 2).val / 2 - 1 - k, by omega⟩
    have e1 : (i 2).val / 2 - (k + 1) = j := by omega
    have e2 : (i 2).val / 2 - k = j + 1 := by omega
    rw [e1]
    simp only [e2] at ih
    have hz : ∀ c : Fin 256, ∑ x : Fin 128, k0_pay10 (F := Ideal) x0 (ix2 R x) * blkAt i x1 ⟨k, hk'⟩ (ix2 c x)
        = ((zX X b (2 * p + R.val / 128) ((i 2).val * 128 + R.val % 128) (j * 256 + c.val) : ℝ) : EReal) := by
      intro c
      simp only [fun x => blkAt_at i x1 ⟨k, hk'⟩ j hj c x]
      exact logit X hX i b p hp x0 x1 h0 h1 R _
    have hv : ∀ c : Fin 256, blkAt i x2 ⟨k, hk'⟩ (ix2 c l) = vX X b (p * 128 + l.val) (j * 256 + c.val) := by
      intro c
      rw [blkAt_at i x2 ⟨k, hk'⟩ j hj c l, h2]
      rfl
    simp only [st, dif_pos hk']
    exact ⟨step_log _ _ j _ _ _ R l (by omega) (by omega) hz (ih (by omega) l).1,
      step_acc _ _ j _ _ _ _ _ R _ l (by omega) (by omega) hz (fun l => (ih (by omega) l).1) (ih (by omega) l).2 hv⟩

include hX hp h0 h1 h2 in
/-- The output block at an index. -/
theorem block_val (R c : Fin 128) :
    k0_pay1 (F := Ideal) k0_pay24 (k0_pay25 (F := Ideal) (st i (k0_pay10 (F := Ideal) x0) x1 x2 (st0 i x0 x1 x2) (k0_t1_loop i).trips).2)
        (k0_pay26 (F := Ideal) (st i (k0_pay10 (F := Ideal) x0) x1 x2 (st0 i x0 x1 x2) (k0_t1_loop i).trips).2) (ix2 R c)
      = at' (zX X b (2 * p + c.val / 64) ((i 2).val * 128 + R.val)) (vX X b (p * 128 + c.val)) ((i 2).val * 128 + R.val) 0 := by
  have hR := R.isLt
  have hc := c.isLt
  rw [pick_at, t1_trips, (st_val X hX i b p hp x0 x1 x2 h0 h1 h2 _ _ le_rfl c).2, Nat.sub_self, zero_mul]
  dsimp only
  rw [show (c.val / 64 * 128 + R.val) / 128 = c.val / 64 by omega, show (c.val / 64 * 128 + R.val) % 128 = R.val by omega]

end
end Cert.Sb
end
-- ==== Proof.Sb.Ref.lean ====
/- The stick-breaking attention's reference, by stages, and each stage read at an index. -/
module

public import proofs.«01_k».proof.Proof.Gen.SbReferenceIdeal.Run
public import proofs.«01_k».proof.Proof.Sb.Math

@[expose] public section

set_option maxRecDepth 16384

noncomputable section

namespace Cert.Sb.Ref
open Cert.SbReferenceIdeal Cert.SbReferenceIdeal.Gen Cert.SbReferenceIdeal.Value Idealize.ShloMosaic Idealize.ShloMosaic.TcCoe Idealize.ShloMosaic.Tactic Idealize.SL.Sem

abbrev Sq := FVec Ideal S8x8x2048x2048 .f32

/-- The queries, by sequence and head. -/
def heads1536 (X : FVec Ideal S16384x4608 .bf16) : FVec Ideal S8x8x2048x64 .f32 :=
  transpose S8x8x2048x64 [0, 2, 1, 3] (shapeCast S8x2048x8x64 (extractStridedSlice S16384x512 ![0, 1536] (extf .f32 X bitsLt_bf16_f32) slices_S16384x4608_S16384x512_0_1536) shapeCasts_S16384x512_S8x2048x8x64) transposes_S8x2048x8x64_S8x8x2048x64_0_2_1_3
/-- The keys, by sequence and head. -/
def heads2048 (X : FVec Ideal S16384x4608 .bf16) : FVec Ideal S8x8x2048x64 .f32 :=
  transpose S8x8x2048x64 [0, 2, 1, 3] (shapeCast S8x2048x8x64 (extractStridedSlice S16384x512 ![0, 2048] (extf .f32 X bitsLt_bf16_f32) slices_S16384x4608_S16384x512_0_2048) shapeCasts_S16384x512_S8x2048x8x64) transposes_S8x2048x8x64_S8x8x2048x64_0_2_1_3
/-- The values, by sequence and head. -/
def heads2560 (X : FVec Ideal S16384x4608 .bf16) : FVec Ideal S8x8x2048x64 .f32 :=
  transpose S8x8x2048x64 [0, 2, 1, 3] (shapeCast S8x2048x8x64 (extractStridedSlice S16384x512 ![0, 2560] (extf .f32 X bitsLt_bf16_f32) slices_S16384x4608_S16384x512_0_2560) shapeCasts_S16384x512_S8x2048x8x64) transposes_S8x2048x8x64_S8x8x2048x64_0_2_1_3

def bc0 : Sq := broadcastInDim S8x8x2048x2048 ![] bcast_S_S8x8x2048x2048 (constant (F := Ideal) S_ .f32 0x00000000#32)

/-- The logits. -/
def zz (q k : FVec Ideal S8x8x2048x64 .f32) : Sq :=
  mulf (Host.dotGeneral dot_S8x8x2048x64_S8x8x2048x64_S8x8x2048x2048_3_3_2_2_01_01 none q k) (broadcastInDim S8x8x2048x2048 ![] bcast_S_S8x8x2048x2048 (constant (F := Ideal) S_ .f32 0x3E000000#32))

def mask : IVec S8x8x2048x2048 1 :=
  broadcastInDim S8x8x2048x2048 ![2, 3] bcast_S2048x2048_S8x8x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The negated softplus, of what is handed in negated. -/
def nsp (y : Sq) : Sq :=
  Host.negf (select (cmpf .une (subf y bc0) (subf y bc0)) (addf y bc0) (addf (maximumf y bc0) (Host.log1p (Host.exp (Host.negf (Host.absf (subf y bc0)))))))

/-- The logarithm of what each key leaves. -/
def stay (z : Sq) : Sq := select mask (nsp (Host.negf (Host.negf z))) bc0

/-- The sum over the keys from this one on. -/
def csum (x : Sq) : Sq :=
  Host.reduceWindowAdd ![1, 1, 1, 2048] ![1, 1, 1, 1] ![0, 0, 0, 0] ![0, 0, 0, 2047] x (broadcastInDim S_ ![] bcast_S_S_ (constant (F := Ideal) S_ .f32 0x00000000#32)) reduceWindows_S8x8x2048x2048_S8x8x2048x2048_w1s1p0_0_w1s1p0_0_w1s1p0_0_w2048s1p0_2047 h_S_

/-- The attention weights. -/
def att (z : Sq) : Sq := select mask (Host.exp (addf (nsp (Host.negf z)) (subf (csum (stay z)) (stay z)))) bc0

def out (a : Sq) (v : FVec Ideal S8x8x2048x64 .f32) : FVec Ideal S16384x512 .bf16 :=
  truncf .bf16 (shapeCast S16384x512 (transpose S8x2048x8x64 [0, 2, 1, 3] (Host.dotGeneral dot_S8x8x2048x2048_S8x8x2048x64_S8x8x2048x64_3_2_2_3_01_01 none a v) transposes_S8x8x2048x64_S8x2048x8x64_0_2_1_3) shapeCasts_S8x2048x8x64_S16384x512) bitsLt_bf16_f32

/-- The program's result is the stages composed. -/
theorem res_eq (m : (ℓ : Loc nD τ sig) → Buf (Elt Ideal) ℓ) (c : Dev nD) :
    res_out0 (F := Ideal) m c
      = out (att (zz (heads1536 (m ((c.tc : Thread nD τ).loc main_arg0))) (heads2048 (m ((c.tc : Thread nD τ).loc main_arg0))))) (heads2560 (m ((c.tc : Thread nD τ).loc main_arg0))) := by
  unfold res_out0 res_main_v32
  rfl

theorem foldl_sum {β : Type} (l : List β) (g : β → EReal) (v : EReal) :
    l.foldl (fun r n => r + g n) v = v + (l.map g).sum := by
  induction l generalizing v with
  | nil => simp
  | cons a l ih => simp [ih, add_assoc]

/-- The running sum from the end, at an index: the entries from this one on. -/
theorem csum_at (x : Sq) (b h : Fin 8) (t s : Fin 2048) :
    csum x (ix4 b h t s) = ∑ n : Fin 2048, if hn : s.val + n.val < 2048 then x (ix4 b h t ⟨s.val + n.val, hn⟩) else 0 := by
  unfold csum Host.reduceWindowAdd
  rw [Ideal.hostReduceWindowAdd_def]
  unfold Ideal.hostReduceWindowAdd Host.reduceWindow
  dsimp only
  have h0 : (broadcastInDim S_ ![] bcast_S_S_ (constant (F := Ideal) S_ .f32 0x00000000#32) (Shape.Idx.first h_S_) : EReal) = 0 := by
    show Ideal.ofBits .f32 0x00000000#32 = 0
    exact Ideal.ofBits_zero_f32
  rw [h0]
  refine (foldl_sum _ _ _).trans ?_
  rw [zero_add, ← Fin.sum_univ_def]
  symm
  let W : Shape := ⟨4, ![1, 1, 1, 2048]⟩
  let e : Fin 2048 → W.Idx := fun n => ix4 (0 : Fin 1) (0 : Fin 1) (0 : Fin 1) n
  have he : Function.Bijective e := ⟨fun n n' e => congrFun e 3, fun i => ⟨i 3, by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl⟩⟩
  refine Fintype.sum_bijective (fun n : Fin 2048 => W.rowMajor (e n)) (W.rowMajor.bijective.comp he) _ _ fun n => ?_
  have key : ∀ a : Fin 4, (ix4 b h t s a).val * (![1, 1, 1, 1] : Fin 4 → ℕ) a + (W.rowMajor.symm (W.rowMajor (e n)) a).val - (![0, 0, 0, 0] : Fin 4 → ℕ) a
      = (![b.val, h.val, t.val, s.val + n.val] : Fin 4 → ℕ) a := by
    intro a
    rw [Equiv.symm_apply_apply]
    match a with
    | ⟨0, _⟩ => exact Nat.mul_one _
    | ⟨1, _⟩ => exact Nat.mul_one _
    | ⟨2, _⟩ => exact Nat.mul_one _
    | ⟨3, _⟩ => exact congrArg (· + n.val) (Nat.mul_one s.val)
  by_cases hn : s.val + n.val < 2048
  · rw [dif_pos hn, dif_pos fun a => ⟨by fin_cases a <;> exact Nat.zero_le _, by
      refine lt_of_eq_of_lt (key a) ?_
      match a with
      | ⟨0, _⟩ => exact b.isLt
      | ⟨1, _⟩ => exact h.isLt
      | ⟨2, _⟩ => exact t.isLt
      | ⟨3, _⟩ => exact hn⟩]
    refine congrArg x (funext fun a => Fin.ext ?_)
    refine Eq.trans ?_ (key a).symm
    match a with
    | ⟨0, _⟩ => rfl
    | ⟨1, _⟩ => rfl
    | ⟨2, _⟩ => rfl
    | ⟨3, _⟩ => rfl
  · rw [dif_neg hn, dif_neg fun hin => hn ?_]
    exact lt_of_eq_of_lt (key 3).symm (hin 3).2

theorem out_at (a : Sq) (v : FVec Ideal S8x8x2048x64 .f32) (b : Fin 8) (t : Fin 2048) (h : Fin 8) (l : Fin 64) :
    out a v (ix2 ⟨b.val * 2048 + t.val, by omega⟩ ⟨h.val * 64 + l.val, by omega⟩) = ∑ x : Fin 2048, a (ix4 b h t x) * v (ix4 b h x l) := by
  pointwise [out]

theorem zz_at (q k : FVec Ideal S8x8x2048x64 .f32) (b h : Fin 8) (t s : Fin 2048) :
    zz q k (ix4 b h t s) = (∑ x : Fin 64, q (ix4 b h t x) * k (ix4 b h s x)) * Ideal.ofBits .f32 1040187392#32 := by
  pointwise [zz]

/-- The negated softplus of one number. -/
def nsp1 (y : EReal) : EReal := -(max y 0 + Ideal.log1p (Ideal.exp (-(max y (-y)))))

theorem nsp_at (y : Sq) (b h : Fin 8) (t s : Fin 2048) : nsp y (ix4 b h t s) = nsp1 (y (ix4 b h t s)) := by
  pointwise [nsp, bc0]
  rw [if_neg (by simp)]
  rfl

theorem stay_at (z : Sq) (b h : Fin 8) (t s : Fin 2048) :
    stay z (ix4 b h t s) = if s < t then nsp1 (-(-z (ix4 b h t s))) else 0 := by
  pointwise [stay, mask, bc0]
  rw [nsp_at, sel_lt _ _ (by omega) (by omega)]
  rfl

theorem att_at (z : Sq) (b h : Fin 8) (t s : Fin 2048) :
    att z (ix4 b h t s) = if s < t then Ideal.exp (nsp1 (-z (ix4 b h t s)) + (csum (stay z) (ix4 b h t s) - stay z (ix4 b h t s))) else 0 := by
  pointwise [att, mask, bc0]
  rw [nsp_at, sel_lt _ _ (by omega) (by omega)]
  rfl

theorem heads1536_at (X : FVec Ideal S16384x4608 .bf16) (b h : Fin 8) (t : Fin 2048) (l : Fin 64) :
    heads1536 X (ix4 b h t l) = X (ix2 ⟨b.val * 2048 + t.val, by omega⟩ ⟨1536 + (h.val * 64 + l.val), by omega⟩) := by
  pointwise [heads1536]
theorem heads2048_at (X : FVec Ideal S16384x4608 .bf16) (b h : Fin 8) (t : Fin 2048) (l : Fin 64) :
    heads2048 X (ix4 b h t l) = X (ix2 ⟨b.val * 2048 + t.val, by omega⟩ ⟨2048 + (h.val * 64 + l.val), by omega⟩) := by
  pointwise [heads2048]
theorem heads2560_at (X : FVec Ideal S16384x4608 .bf16) (b h : Fin 8) (t : Fin 2048) (l : Fin 64) :
    heads2560 X (ix4 b h t l) = X (ix2 ⟨b.val * 2048 + t.val, by omega⟩ ⟨2560 + (h.val * 64 + l.val), by omega⟩) := by
  pointwise [heads2560]

end Cert.Sb.Ref
end
-- ==== Proof.Sb.RefVal.lean ====
/- The stick-breaking attention's reference at one index of its result. -/
module

public import proofs.«01_k».proof.Proof.Sb.Ref
public import proofs.«01_k».proof.Proof.Sb.Inp

@[expose] public section

set_option maxRecDepth 16384

noncomputable section

namespace Cert.Sb.Ref
open Cert.SbReferenceIdeal Idealize.ShloMosaic Idealize.ShloMosaic.Tactic

variable (X : Inp) (hX : Fine X)

include hX in
theorem zz_coe (b h : Fin 8) (t s : Fin 2048) :
    zz (heads1536 X) (heads2048 X) (ix4 b h t s) = ((zX X b.val h.val t.val s.val : ℝ) : EReal) := by
  rw [zz_at, eighth_f32]
  unfold zX
  rw [EReal.coe_mul, coe_sum]
  congr 1
  refine Finset.sum_congr rfl fun x _ => ?_
  rw [heads1536_at, heads2048_at, Xe_eq X, Xe_eq X, EReal.coe_mul]
  rw [hX _ _ (by dsimp only; omega) (by dsimp only; omega), hX _ _ (by dsimp only; omega) (by dsimp only; omega)]

include hX in
theorem stay_coe (b h : Fin 8) (t s : Fin 2048) :
    stay (zz (heads1536 X) (heads2048 X)) (ix4 b h t s) = ((mS (zX X b.val h.val t.val) t.val s.val : ℝ) : EReal) := by
  rw [stay_at, zz_coe X hX]
  unfold nsp1 mS
  rw [st_ref]
  by_cases hs : s < t
  · rw [if_pos hs, if_pos (show s.val < t.val from hs)]
  · rw [if_neg hs, if_neg (show ¬ s.val < t.val from hs), EReal.coe_zero]

include hX in
theorem att_coe (b h : Fin 8) (t s : Fin 2048) :
    att (zz (heads1536 X) (heads2048 X)) (ix4 b h t s) = wt (zX X b.val h.val t.val) t.val s.val := by
  have hc : csum (stay (zz (heads1536 X) (heads2048 X))) (ix4 b h t s) - stay (zz (heads1536 X) (heads2048 X)) (ix4 b h t s)
      = ((tl (zX X b.val h.val t.val) t.val s.val : ℝ) : EReal) := by
    rw [csum_at, stay_coe X hX, ← csum_tail]
    congr 1
    refine Finset.sum_congr rfl fun n _ => ?_
    by_cases hn : s.val + n.val < 2048
    · rw [dif_pos hn, if_pos hn, stay_coe X hX]
    · rw [dif_neg hn, if_neg hn]
  rw [att_at, hc, zz_coe X hX]
  unfold nsp1 wt
  rw [lb_ref, ← EReal.coe_add]
  rfl

include hX in
/-- The reference's result, at a sequence, row, head and lane. -/
theorem ref_val (b h : Fin 8) (t : Fin 2048) (l : Fin 64) :
    out (att (zz (heads1536 X) (heads2048 X))) (heads2560 X) (ix2 ⟨b.val * 2048 + t.val, by omega⟩ ⟨h.val * 64 + l.val, by omega⟩)
      = at' (zX X b.val h.val t.val) (vX X b.val (h.val * 64 + l.val)) t.val 0 := by
  rw [out_at, at_univ]
  refine Finset.sum_congr rfl fun s _ => ?_
  rw [att_coe X hX, heads2560_at, Xe_eq X]
  rfl

end Cert.Sb.Ref
end
-- ==== Proof.Sb.Value.lean ====
/- The stick-breaking attention: the kernel's result array is the reference's. -/
module

public import proofs.«01_k».proof.Proof.Sb.KerVal
public import proofs.«01_k».proof.Proof.Sb.RefVal
public import proofs.«01_k».proof.Proof.Gen.Pre_sb_finite
public import proofs.«01_k».proof.Defs
public import Idealize.ShloMosaic.Lib.Pipeline.ValueKit

@[expose] public section

set_option maxRecDepth 16384

noncomputable section

namespace Cert.Sb
open Cert.SbKernelIdeal Cert.SbKernelIdeal.Gen Idealize.ShloMosaic Idealize.ShloMosaic.TcCoe Idealize.ShloMosaic.Tactic Idealize.SL.Sem

/-- Where each window's block stands at a point. -/
theorem idx (t : Fin grid0.N) :
    win0_0.index t = ![(grid0.coords t 0).val * 16 + (grid0.coords t 2).val, 12 + (grid0.coords t 1).val]
    ∧ win0_1.index t = ![(grid0.coords t 0).val, 16 + (grid0.coords t 1).val]
    ∧ win0_2.index t = ![(grid0.coords t 0).val, 20 + (grid0.coords t 1).val]
    ∧ win0_3.index t = ![(grid0.coords t 0).val * 16 + (grid0.coords t 2).val, (grid0.coords t 1).val] :=
  (by decide +kernel : ∀ t : Fin grid0.N, win0_0.index t = ![(grid0.coords t 0).val * 16 + (grid0.coords t 2).val, 12 + (grid0.coords t 1).val]
    ∧ win0_1.index t = ![(grid0.coords t 0).val, 16 + (grid0.coords t 1).val]
    ∧ win0_2.index t = ![(grid0.coords t 0).val, 20 + (grid0.coords t 1).val]
    ∧ win0_3.index t = ![(grid0.coords t 0).val * 16 + (grid0.coords t 2).val, (grid0.coords t 1).val]) t

variable (m : (ℓ : Loc nD τ sig) → Buf (Elt Ideal) ℓ) (c : Dev nD)

theorem in0 (t : Fin cfg0.N) (R l : Fin 128) :
    iblk (F := Ideal) m c 0 t (ix2 R l) = Xe (m ((c.tc : Thread nD τ).loc main_arg0)) ((grid0.coords t 0).val * 2048 + ((grid0.coords t 2).val * 128 + R.val)) (1536 + ((grid0.coords t 1).val * 128 + l.val)) := by
  have h0 : (grid0.coords t 0).val < 8 := (grid0.coords t 0).isLt
  have h1 : (grid0.coords t 1).val < 4 := (grid0.coords t 1).isLt
  have h2 : (grid0.coords t 2).val < 16 := (grid0.coords t 2).isLt
  unfold Xe
  rw [dif_pos ⟨by omega, by omega⟩]
  blk_ext [iblk, V, idx t]

theorem in1 (t : Fin cfg0.N) (s : Fin 2048) (l : Fin 128) :
    iblk (F := Ideal) m c 1 t (ix2 s l) = Xe (m ((c.tc : Thread nD τ).loc main_arg0)) ((grid0.coords t 0).val * 2048 + s.val) (2048 + ((grid0.coords t 1).val * 128 + l.val)) := by
  have h0 : (grid0.coords t 0).val < 8 := (grid0.coords t 0).isLt
  have h1 : (grid0.coords t 1).val < 4 := (grid0.coords t 1).isLt
  unfold Xe
  rw [dif_pos ⟨by omega, by omega⟩]
  blk_ext [iblk, V, idx t]

theorem in2 (t : Fin cfg0.N) (s : Fin 2048) (l : Fin 128) :
    iblk (F := Ideal) m c 2 t (ix2 s l) = Xe (m ((c.tc : Thread nD τ).loc main_arg0)) ((grid0.coords t 0).val * 2048 + s.val) (2560 + ((grid0.coords t 1).val * 128 + l.val)) := by
  have h0 : (grid0.coords t 0).val < 8 := (grid0.coords t 0).isLt
  have h1 : (grid0.coords t 1).val < 4 := (grid0.coords t 1).isLt
  unfold Xe
  rw [dif_pos ⟨by omega, by omega⟩]
  blk_ext [iblk, V, idx t]

/-- A set bit says that the test it holds came out true. -/
theorem of_bit {p : Prop} [Decidable p] (h : BitVec.ofBool (decide p) = 1#1) : p := by
  by_contra hn
  rw [decide_eq_false hn] at h
  exact absurd h (by decide)

/-- The precondition, read: the queries and the keys are real numbers. -/
theorem fine (h : Pre_SbKernelIdeal_sb_finite m) : Fine (m ((c.tc : Thread nD τ).loc main_arg0)) := by
  refine fine_of _ fun r k h1 h2 => ?_
  have e := congrFun (h c) (ix2 r ⟨k.val - 1536, by omega⟩)
  unfold Cert.Pre_sb_finite.fn at e
  pointwise at e
  have hk : (⟨1536 + (k.val - 1536), by omega⟩ : Fin 4608) = k := Fin.ext (by dsimp only; omega)
  rw [hk] at e
  have ht : Ideal.ofBits .f32 2139095040#32 = (⊤ : EReal) := by simp [Ideal.ofBits, Ideal.ieee]
  rw [ht] at e
  exact of_bit e

/-- The array after the run is the reference's. -/
theorem arr_eq (h : Pre_SbKernelIdeal_sb_finite m) :
    (dats (F := Ideal) m 0 c).arrAt 3 cfg0.N
      = Ref.out (Ref.att (Ref.zz (Ref.heads1536 (m ((c.tc : Thread nD τ).loc main_arg0))) (Ref.heads2048 (m ((c.tc : Thread nD τ).loc main_arg0))))) (Ref.heads2560 (m ((c.tc : Thread nD τ).loc main_arg0))) := by
  refine (dats m 0 c).arrAt_eq_of_covers 3 _ (by decide +kernel) fun t hf y => ?_
  blk_simp
  rw [after0_3]
  have hX := fine m c h
  have h0 : (grid0.coords t 0).val < 8 := (grid0.coords t 0).isLt
  have h1 : (grid0.coords t 1).val < 4 := (grid0.coords t 1).isLt
  have h2 : (grid0.coords t 2).val < 16 := (grid0.coords t 2).isLt
  obtain ⟨R, l, rfl⟩ : ∃ (R : Fin 128) (l : Fin 128), y = ix2 R l := ⟨y 0, y 1, by funext a; match a with | ⟨0, _⟩ => rfl | ⟨1, _⟩ => rfl⟩
  have hR := R.isLt
  have hl := l.isLt
  have hemb : (win0_3.blk t).view.emb (ix2 R l) = ix2 (⟨(grid0.coords t 0).val * 2048 + ((grid0.coords t 2).val * 128 + R.val), by omega⟩ : Fin 16384)
      (⟨(2 * (grid0.coords t 1).val + l.val / 64) * 64 + l.val % 64, by omega⟩ : Fin 512) := by
    blk_ext [idx t]
  rw [hemb]
  refine Eq.trans ?_ (Ref.ref_val _ hX ⟨(grid0.coords t 0).val, h0⟩ ⟨2 * (grid0.coords t 1).val + l.val / 64, by omega⟩ ⟨(grid0.coords t 2).val * 128 + R.val, by omega⟩ ⟨l.val % 64, by omega⟩).symm
  unfold outsAt0
  rw [out_eq _ _ _ _ _ _ _ _ _ _ _ _ _ _ _ _ _ (t2_trips _)]
  refine (block_val _ hX (grid0.coords t) (grid0.coords t 0).val (grid0.coords t 1).val h1 _ _ _ (in0 m c t) (in1 m c t) (in2 m c t) R l).trans ?_
  dsimp only
  rw [show (2 * (grid0.coords t 1).val + l.val / 64) * 64 + l.val % 64 = (grid0.coords t 1).val * 128 + l.val by omega]

/-- The kernel computes the reference. -/
theorem algebraic : algebraic_SbKernelIdeal_SbReferenceIdeal_pre_sb_finite := by
  intro m g m' g' hpre hagree
  refine ⟨fun c => (dats (F := Ideal) m 0 c).arrAt 3 cfg0.N, Cert.SbKernelIdeal.Value.run_blocks m g, ?_⟩
  refine (θ_run _ _ _).mono (fun r h c => ⟨(h c).1.trans ?_, (h c).2⟩) (Cert.SbReferenceIdeal.Value.run m' g')
  refine (Ref.res_eq m' c).trans ?_
  rw [hagree c]
  exact (arr_eq m c hpre).symm

end Cert.Sb
end
-- ==== Proof.Moe.Body.lean ====
/- What one grid point of the expert layer's kernel leaves in its scratch buffers and in its output window. -/
module

public import proofs.«01_k».proof.Proof.Gen.MoeKernelIdeal.Value
public import Idealize.ShloMosaic.Lib.Pipeline.ValueKit
public import Idealize.ShloMosaic.Lib.Pipeline.ReadBack

@[expose] public section

set_option maxRecDepth 16384

noncomputable section

namespace Cert.Moe
open Cert.MoeKernelIdeal Cert.MoeKernelIdeal.Gen Idealize.ShloMosaic Idealize.ShloMosaic.TcCoe Idealize.ShloMosaic.Tactic Idealize.SL.Sem

variable (m : (ℓ : Loc nD τ sig) → Buf (Elt Ideal) ℓ) (c : Dev nD) (t : Fin cfg0.N)

/-- The first point of a block of rows stores the normalised rows. -/
theorem first_h (h0 : t.val % 56 = 0) (h1 : t.val % 7 = 0) (h2 : ¬t.val % 7 = 6) (h3 : ¬t.val % 56 = 55) :
    (outsAt0 m c t.val t.isLt).2.1 = k0_pay3 (iblk m c 0 t) (iblk m c 2 t) (iblk m c 3 t) := by
  rw [outsAt0_A m c t h0 h1 h2 h3]
  dsimp only
  frame_out

/-- The first point of a block of rows starts the first expert's product. -/
theorem first_part (h0 : t.val % 56 = 0) (h1 : t.val % 7 = 0) (h2 : ¬t.val % 7 = 6) (h3 : ¬t.val % 56 = 55) :
    (outsAt0 m c t.val t.isLt).2.2.1 = k0_pay6 (k0_pay5 (F := Ideal)) (k0_pay3 (iblk m c 0 t) (iblk m c 2 t) (iblk m c 3 t)) (iblk m c 5 t) (iblk m c 6 t) (iblk m c 7 t) := by
  rw [outsAt0_A m c t h0 h1 h2 h3]
  dsimp only
  frame_out

/-- The first point of a block of rows clears the sum over the experts. -/
theorem first_acc (h0 : t.val % 56 = 0) (h1 : t.val % 7 = 0) (h2 : ¬t.val % 7 = 6) (h3 : ¬t.val % 56 = 55) :
    (outsAt0 m c t.val t.isLt).2.2.2 = k0_pay4 (F := Ideal) := by
  rw [outsAt0_A m c t h0 h1 h2 h3]
  dsimp only
  frame_out

/-- A point in the middle of an expert keeps the normalised rows. -/
theorem mid_h (h0 : ¬t.val % 56 = 0) (h1 : ¬t.val % 7 = 0) (h2 : ¬t.val % 7 = 6) (h3 : ¬t.val % 56 = 55) :
    (outsAt0 m c t.val t.isLt).2.1 = (outsAt0 m c (t.val - 1) (by omega)).2.1 := by
  rw [outsAt0_B m c t h0 h1 h2 h3]
  rfl

/-- A point in the middle of an expert adds its columns to the expert's product. -/
theorem mid_part (h0 : ¬t.val % 56 = 0) (h1 : ¬t.val % 7 = 0) (h2 : ¬t.val % 7 = 6) (h3 : ¬t.val % 56 = 55) :
    (outsAt0 m c t.val t.isLt).2.2.1 = k0_pay6 (outsAt0 m c (t.val - 1) (by omega)).2.2.1 (outsAt0 m c (t.val - 1) (by omega)).2.1 (iblk m c 5 t) (iblk m c 6 t) (iblk m c 7 t) := by
  rw [outsAt0_B m c t h0 h1 h2 h3]
  dsimp only
  frame_out
  simp only [read_unread_whole]

/-- A point in the middle of an expert keeps the sum over the experts. -/
theorem mid_acc (h0 : ¬t.val % 56 = 0) (h1 : ¬t.val % 7 = 0) (h2 : ¬t.val % 7 = 6) (h3 : ¬t.val % 56 = 55) :
    (outsAt0 m c t.val t.isLt).2.2.2 = (outsAt0 m c (t.val - 1) (by omega)).2.2.2 := by
  rw [outsAt0_B m c t h0 h1 h2 h3]
  rfl

/-- The last point of an expert but the eighth keeps the normalised rows. -/
theorem last_h (h0 : ¬t.val % 56 = 0) (h1 : ¬t.val % 7 = 0) (h2 : t.val % 7 = 6) (h3 : ¬t.val % 56 = 55) :
    (outsAt0 m c t.val t.isLt).2.1 = (outsAt0 m c (t.val - 1) (by omega)).2.1 := by
  rw [outsAt0_C m c t h0 h1 h2 h3]
  rfl

/-- The last point of an expert but the eighth adds its columns to the expert's product. -/
theorem last_part (h0 : ¬t.val % 56 = 0) (h1 : ¬t.val % 7 = 0) (h2 : t.val % 7 = 6) (h3 : ¬t.val % 56 = 55) :
    (outsAt0 m c t.val t.isLt).2.2.1 = k0_pay6 (outsAt0 m c (t.val - 1) (by omega)).2.2.1 (outsAt0 m c (t.val - 1) (by omega)).2.1 (iblk m c 5 t) (iblk m c 6 t) (iblk m c 7 t) := by
  rw [outsAt0_C m c t h0 h1 h2 h3]
  dsimp only
  frame_out
  simp only [read_unread_whole]

/-- The last point of an expert but the eighth adds the expert's product at its weight. -/
theorem last_acc (h0 : ¬t.val % 56 = 0) (h1 : ¬t.val % 7 = 0) (h2 : t.val % 7 = 6) (h3 : ¬t.val % 56 = 55) :
    (outsAt0 m c t.val t.isLt).2.2.2 = k0_pay1 (BitVec.ofNat 32 (grid0.coords t 1).val) (iblk m c 1 t) (outsAt0 m c (t.val - 1) (by omega)).2.2.2 (k0_pay6 (outsAt0 m c (t.val - 1) (by omega)).2.2.1 (outsAt0 m c (t.val - 1) (by omega)).2.1 (iblk m c 5 t) (iblk m c 6 t) (iblk m c 7 t)) := by
  rw [outsAt0_C m c t h0 h1 h2 h3]
  dsimp only
  frame_out
  simp only [read_unread_whole]

/-- The first point of an expert but the first keeps the normalised rows. -/
theorem open_h (h0 : ¬t.val % 56 = 0) (h1 : t.val % 7 = 0) (h2 : ¬t.val % 7 = 6) (h3 : ¬t.val % 56 = 55) :
    (outsAt0 m c t.val t.isLt).2.1 = (outsAt0 m c (t.val - 1) (by omega)).2.1 := by
  rw [outsAt0_D m c t h0 h1 h2 h3]
  rfl

/-- The first point of an expert but the first starts the expert's product. -/
theorem open_part (h0 : ¬t.val % 56 = 0) (h1 : t.val % 7 = 0) (h2 : ¬t.val % 7 = 6) (h3 : ¬t.val % 56 = 55) :
    (outsAt0 m c t.val t.isLt).2.2.1 = k0_pay6 (k0_pay5 (F := Ideal)) (outsAt0 m c (t.val - 1) (by omega)).2.1 (iblk m c 5 t) (iblk m c 6 t) (iblk m c 7 t) := by
  rw [outsAt0_D m c t h0 h1 h2 h3]
  dsimp only
  frame_out
  simp only [read_unread_whole]

/-- The first point of an expert but the first keeps the sum over the experts. -/
theorem open_acc (h0 : ¬t.val % 56 = 0) (h1 : t.val % 7 = 0) (h2 : ¬t.val % 7 = 6) (h3 : ¬t.val % 56 = 55) :
    (outsAt0 m c t.val t.isLt).2.2.2 = (outsAt0 m c (t.val - 1) (by omega)).2.2.2 := by
  rw [outsAt0_D m c t h0 h1 h2 h3]
  rfl

/-- The last point of the eighth expert keeps the normalised rows. -/
theorem end_h (h0 : ¬t.val % 56 = 0) (h1 : ¬t.val % 7 = 0) (h2 : t.val % 7 = 6) (h3 : t.val % 56 = 55) :
    (outsAt0 m c t.val t.isLt).2.1 = (outsAt0 m c (t.val - 1) (by omega)).2.1 := by
  rw [outsAt0_E m c t h0 h1 h2 h3]
  rfl

/-- The last point of the eighth expert adds its columns to the expert's product. -/
theorem end_part (h0 : ¬t.val % 56 = 0) (h1 : ¬t.val % 7 = 0) (h2 : t.val % 7 = 6) (h3 : t.val % 56 = 55) :
    (outsAt0 m c t.val t.isLt).2.2.1 = k0_pay6 (outsAt0 m c (t.val - 1) (by omega)).2.2.1 (outsAt0 m c (t.val - 1) (by omega)).2.1 (iblk m c 5 t) (iblk m c 6 t) (iblk m c 7 t) := by
  rw [outsAt0_E m c t h0 h1 h2 h3]
  dsimp only
  frame_out
  simp only [read_unread_whole]

/-- The last point of the eighth expert adds the expert's product at its weight. -/
theorem end_acc (h0 : ¬t.val % 56 = 0) (h1 : ¬t.val % 7 = 0) (h2 : t.val % 7 = 6) (h3 : t.val % 56 = 55) :
    (outsAt0 m c t.val t.isLt).2.2.2 = k0_pay1 (BitVec.ofNat 32 (grid0.coords t 1).val) (iblk m c 1 t) (outsAt0 m c (t.val - 1) (by omega)).2.2.2 (k0_pay6 (outsAt0 m c (t.val - 1) (by omega)).2.2.1 (outsAt0 m c (t.val - 1) (by omega)).2.1 (iblk m c 5 t) (iblk m c 6 t) (iblk m c 7 t)) := by
  rw [outsAt0_E m c t h0 h1 h2 h3]
  dsimp only
  frame_out
  simp only [read_unread_whole]

/-- The last point of the eighth expert writes the rows out. -/
theorem end_out (h0 : ¬t.val % 56 = 0) (h1 : ¬t.val % 7 = 0) (h2 : t.val % 7 = 6) (h3 : t.val % 56 = 55) :
    (outsAt0 m c t.val t.isLt).1 = k0_pay2 (iblk m c 0 t) (k0_pay1 (BitVec.ofNat 32 (grid0.coords t 1).val) (iblk m c 1 t) (outsAt0 m c (t.val - 1) (by omega)).2.2.2 (k0_pay6 (outsAt0 m c (t.val - 1) (by omega)).2.2.1 (outsAt0 m c (t.val - 1) (by omega)).2.1 (iblk m c 5 t) (iblk m c 6 t) (iblk m c 7 t))) (iblk m c 2 t) (iblk m c 4 t) := by
  rw [outsAt0_E m c t h0 h1 h2 h3]
  dsimp only
  frame_out
  simp only [read_unread_whole]

end Cert.Moe
-- ==== Proof.Glu.Math.lean ====
/- A row of a gated layer in plain numbers: its normalisation and modulation, the gated product over the hidden
   columns, the experts' weighted sum, and the gated residual. -/
module

public import Idealize.ShloMosaic.Lib.Pointwise

@[expose] public section

noncomputable section

namespace Cert.Glu
open Idealize.ShloMosaic Idealize.ShloMosaic.Tactic

/-- The reciprocal root of a row's mean square. -/
def rs (X : Fin 1024 → EReal) : EReal :=
  Ideal.rsqrt (Ideal.div (∑ l, X l * X l) (Ideal.ofBits .f32 1149239296#32) + Ideal.ofBits .f32 897988541#32)

/-- The row normalised, scaled and shifted. -/
def hid (X g sc sh : Fin 1024 → EReal) (k : Fin 1024) : EReal := X k * rs X * g k * (1 + sc k) + sh k

/-- A row's product with a column. -/
def dot {J : ℕ} (h : Fin 1024 → EReal) (w : Fin 1024 → Fin J → EReal) (j : Fin J) : EReal := ∑ k, h k * w k j

/-- A hidden entry: the gate, through `x · logistic x`, times the other product. -/
def up {J : ℕ} (h : Fin 1024 → EReal) (wg wu : Fin 1024 → Fin J → EReal) (j : Fin J) : EReal :=
  dot h wg j * Ideal.logistic (dot h wg j) * dot h wu j

/-- What a hidden column adds to an output column. -/
def col {J : ℕ} (h : Fin 1024 → EReal) (wg wu : Fin 1024 → Fin J → EReal) (wd : Fin J → Fin 1024 → EReal) (d : Fin 1024) (j : Fin J) : EReal :=
  up h wg wu j * wd j d

/-- The gated layer of a row. -/
def glu {J : ℕ} (h : Fin 1024 → EReal) (wg wu : Fin 1024 → Fin J → EReal) (wd : Fin J → Fin 1024 → EReal) (d : Fin 1024) : EReal :=
  ∑ j, col h wg wu wd d j

/-- The row and its gated, normalised update. -/
def res (X gt g Y : Fin 1024 → EReal) (d : Fin 1024) : EReal := X d + gt d * (Y d * rs Y * g d)

/-- The sum over the first columns. -/
def psum {J : ℕ} (f : Fin J → EReal) (q : ℕ) : EReal := ∑ j ∈ Finset.range q, if h : j < J then f ⟨j, h⟩ else 0

theorem psum_zero {J : ℕ} (f : Fin J → EReal) : psum f 0 = 0 := rfl

/-- A block of further columns adds its own sum. -/
theorem psum_add {J : ℕ} (f : Fin J → EReal) (q w : ℕ) (h : q + w ≤ J) :
    psum f (q + w) = psum f q + ∑ x : Fin w, f ⟨q + x.val, by omega⟩ := by
  unfold psum
  rw [Finset.sum_range_add]
  refine congrArg (_ + ·) ?_
  rw [Finset.sum_range]
  refine Finset.sum_congr rfl fun x _ => ?_
  rw [dif_pos (by omega : q + x.val < J)]

theorem psum_all {J : ℕ} (f : Fin J → EReal) : psum f J = ∑ j, f j := by
  unfold psum
  rw [Finset.sum_range]
  refine Finset.sum_congr rfl fun x _ => ?_
  rw [dif_pos x.isLt]

/-- The weighted sum over the first experts, in their order. -/
def mix (c : Fin 8 → EReal) (y : Fin 8 → EReal) : ℕ → EReal
  | 0 => 0
  | e + 1 => mix c y e + if h : e < 8 then c ⟨e, h⟩ * y ⟨e, h⟩ else 0

theorem mix_succ (c y : Fin 8 → EReal) (e : ℕ) (h : e < 8) : mix c y (e + 1) = mix c y e + c ⟨e, h⟩ * y ⟨e, h⟩ := by
  show mix c y e + _ = _
  rw [dif_pos h]

/-- The whole mixture, written out. -/
theorem mix_all (c y : Fin 8 → EReal) :
    mix c y 8 = 0 + c 0 * y 0 + c 1 * y 1 + c 2 * y 2 + c 3 * y 3 + c 4 * y 4 + c 5 * y 5 + c 6 * y 6 + c 7 * y 7 := rfl

end Cert.Glu
end
-- ==== Proof.Moe.Pay.lean ====
/- The stored vectors of the expert layer's kernel, at an index. -/
module

public import proofs.«01_k».proof.Proof.Gen.MoeKernelIdeal.Skeleton
public import proofs.«01_k».proof.Proof.Glu.Math
public import Idealize.ShloMosaic.Lib.WordCmp

@[expose] public section

set_option maxRecDepth 16384

noncomputable section

namespace Cert.Moe
open Cert.MoeKernelIdeal Cert.MoeKernelIdeal.Gen Cert.Glu Idealize.ShloMosaic Idealize.ShloMosaic.TcCoe Idealize.ShloMosaic.Tactic Idealize.SL.Sem

/-- The normalised rows. -/
theorem pay3_at (x : Vec Ideal S1024x1024 .f32) (md : Vec Ideal S1x1x3072 .f32) (g : Vec Ideal S1x1x1024 .f32) (r k : Fin 1024) :
    (k0_pay3 x md g : FVec Ideal S1024x1024 .bf16) (ix2 r k)
      = hid (fun l => x (ix2 r l)) (fun l => g (ix3 0 0 l)) (fun l => md (ix3 0 0 ⟨1024 + l.val, by omega⟩)) (fun l => md (ix3 0 0 ⟨l.val, by omega⟩)) k := by
  pointwise [k0_pay3]
  rfl

/-- The rows written out. -/
theorem pay2_at (x a : Vec Ideal S1024x1024 .f32) (md : Vec Ideal S1x1x3072 .f32) (g : Vec Ideal S1x1x1024 .f32) (r k : Fin 1024) :
    (k0_pay2 x a md g : FVec Ideal S1024x1024 .f32) (ix2 r k)
      = res (fun l => x (ix2 r l)) (fun l => md (ix3 0 0 ⟨2048 + l.val, by omega⟩)) (fun l => g (ix3 0 0 l)) (fun l => a (ix2 r l)) k := by
  pointwise [k0_pay2]
  rfl

/-- The expert's weight is the one lane of its own number. -/
theorem pick (c : Fin 128 → EReal) (e : ℕ) (he : e < 8) :
    (∑ x : Fin 128, Scalar.select (IntOp.cmpi CmpIPredicate.eq (BitVec.ofNat 32 x.val) (BitVec.ofNat 32 e)) (c x) (0 : EReal)) = c ⟨e, by omega⟩ := by
  rw [Finset.sum_eq_single (⟨e, by omega⟩ : Fin 128)]
  · simp [Scalar.select, IntOp.cmpi]
  · intro x _ hx
    have hne : BitVec.ofNat 32 x.val ≠ BitVec.ofNat 32 e := fun h => hx (Fin.ext (by
      have := congrArg BitVec.toNat h
      simp only [BitVec.toNat_ofNat] at this
      show x.val = e
      omega))
    have hb : (BitVec.ofNat 32 x.val == BitVec.ofNat 32 e) = false := by simpa using hne
    simp only [Scalar.select, IntOp.cmpi, hb]
    rfl
  · intro h
    exact absurd (Finset.mem_univ _) h

/-- The sum over the experts, one expert on. -/
theorem pay1_at (e : ℕ) (he : e < 8) (cb : Vec Ideal S1024x128 .f32) (a p : Vec Ideal S1024x1024 .f32) (r k : Fin 1024) :
    (k0_pay1 (BitVec.ofNat 32 e) cb a p : FVec Ideal S1024x1024 .f32) (ix2 r k) = a (ix2 r k) + cb (ix2 r ⟨e, by omega⟩) * p (ix2 r k) := by
  pointwise [k0_pay1]
  rw [pick (fun x => cb (ix2 r x)) e he]

/-- The expert's product, a block of hidden columns on. -/
theorem pay6_at (a : Vec Ideal S1024x1024 .f32) (h : Vec Ideal S1024x1024 .bf16) (wg wu : Vec Ideal S1x1024x512 .bf16) (wd : Vec Ideal S1x512x1024 .bf16) (r k : Fin 1024) :
    (k0_pay6 a h wg wu wd : FVec Ideal S1024x1024 .f32) (ix2 r k)
      = a (ix2 r k) + ∑ x : Fin 512, col (fun l => h (ix2 r l)) (fun l j => wg (ix3 0 l j)) (fun l j => wu (ix3 0 l j)) (fun j d => wd (ix3 0 j d)) k x := by
  pointwise [k0_pay6]
  rfl

theorem pay5_at (r k : Fin 1024) : (k0_pay5 : FVec Ideal S1024x1024 .f32) (ix2 r k) = (0 : EReal) := by
  pointwise [k0_pay5]
theorem pay4_at (r k : Fin 1024) : (k0_pay4 : FVec Ideal S1024x1024 .f32) (ix2 r k) = (0 : EReal) := by
  pointwise [k0_pay4]

end Cert.Moe
end
-- ==== Proof.Moe.Inp.lean ====
/- The blocks of the expert layer's kernel, read off the layer's arguments. -/
module

public import proofs.«01_k».proof.Proof.Gen.MoeKernelIdeal.Value
public import Idealize.ShloMosaic.Lib.Pipeline.ValueKit
public import Idealize.ShloMosaic.Lib.Pointwise

@[expose] public section

set_option maxRecDepth 16384

noncomputable section

namespace Cert.Moe
open Cert.MoeKernelIdeal Cert.MoeKernelIdeal.Gen Idealize.ShloMosaic Idealize.ShloMosaic.TcCoe Idealize.ShloMosaic.Tactic Idealize.SL.Sem

variable (m : (ℓ : Loc nD τ sig) → Buf (Elt Ideal) ℓ) (c : Dev nD) (t : Fin cfg0.N)

theorem idx0 : win0_0.index t = ![t.val / 56, 0] := (by decide +kernel : ∀ t : Fin grid0.N, win0_0.index t = ![t.val / 56, 0]) t
theorem idx1 : win0_1.index t = ![t.val / 56, 0] := (by decide +kernel : ∀ t : Fin grid0.N, win0_1.index t = ![t.val / 56, 0]) t
theorem idx2 : win0_2.index t = ![24 + t.val / 112, 0, 0] := (by decide +kernel : ∀ t : Fin grid0.N, win0_2.index t = ![24 + t.val / 112, 0, 0]) t
theorem idx3 : win0_3.index t = ![0, 0, 0] := (by decide +kernel : ∀ t : Fin grid0.N, win0_3.index t = ![0, 0, 0]) t
theorem idx4 : win0_4.index t = ![0, 0, 0] := (by decide +kernel : ∀ t : Fin grid0.N, win0_4.index t = ![0, 0, 0]) t
theorem idx5 : win0_5.index t = ![t.val / 7 % 8, 0, t.val % 7] := (by decide +kernel : ∀ t : Fin grid0.N, win0_5.index t = ![t.val / 7 % 8, 0, t.val % 7]) t
theorem idx6 : win0_6.index t = ![t.val / 7 % 8, 0, t.val % 7] := (by decide +kernel : ∀ t : Fin grid0.N, win0_6.index t = ![t.val / 7 % 8, 0, t.val % 7]) t
theorem idx7 : win0_7.index t = ![t.val / 7 % 8, t.val % 7, 0] := (by decide +kernel : ∀ t : Fin grid0.N, win0_7.index t = ![t.val / 7 % 8, t.val % 7, 0]) t
theorem idx8 : win0_8.index t = ![t.val / 56, 0] := (by decide +kernel : ∀ t : Fin grid0.N, win0_8.index t = ![t.val / 56, 0]) t
theorem word1 : (grid0.coords t 1).val = t.val / 7 % 8 := (by decide +kernel : ∀ t : Fin grid0.N, (grid0.coords t 1).val = t.val / 7 % 8) t

theorem blk0 (i : ℕ) (hi : i < 16) (h : t.val / 56 = i) (r k : Fin 1024) :
    iblk m c 0 t (ix2 r k) = m ((c : Thread nD τ).loc main_arg0) (ix2 (⟨i * 1024 + r.val, by omega⟩ : Fin 16384) k) := by
  subst h
  blk_ext [iblk, V, idx0 t]
theorem blk1 (i : ℕ) (hi : i < 16) (h : t.val / 56 = i) (r : Fin 1024) (k : Fin 128) :
    iblk m c 1 t (ix2 r k) = m ((c : Thread nD τ).loc main_arg1) (ix2 (⟨i * 1024 + r.val, by omega⟩ : Fin 16384) k) := by
  subst h
  blk_ext [iblk, V, idx1 t]
theorem blk2 (i : ℕ) (hi : i < 16) (h : t.val / 56 = i) (k : Fin 3072) :
    iblk m c 2 t (ix3 0 0 k) = m ((c : Thread nD τ).loc main_arg2) (ix3 (⟨24 + i / 2, by omega⟩ : Fin 32) 0 k) := by
  subst h
  have h2 : t.val / 112 = t.val / 56 / 2 := by omega
  blk_ext [iblk, V, idx2 t]

theorem gain6 (G : FVec Ideal S2x4x1024 .f32) (k : Fin 1024) :
    broadcastInDim S1x1x1024 ![1, 2] bcast_S1x1024_S1x1x1024_1_2 (shapeCast S1x1024 (extractStridedSlice S1x1x1024 ![6, 0, 0] (shapeCast S8x1x1024 G shapeCasts_S2x4x1024_S8x1x1024) slices_S8x1x1024_S1x1x1024_6_0_0) shapeCasts_S1x1x1024_S1x1024) (ix3 (0 : Fin 1) (0 : Fin 1) k)
      = G (ix3 (1 : Fin 2) (⟨2, by omega⟩ : Fin 4) k) := by
  pointwise
theorem gain7 (G : FVec Ideal S2x4x1024 .f32) (k : Fin 1024) :
    broadcastInDim S1x1x1024 ![1, 2] bcast_S1x1024_S1x1x1024_1_2 (shapeCast S1x1024 (extractStridedSlice S1x1x1024 ![7, 0, 0] (shapeCast S8x1x1024 G shapeCasts_S2x4x1024_S8x1x1024) slices_S8x1x1024_S1x1x1024_7_0_0) shapeCasts_S1x1x1024_S1x1024) (ix3 (0 : Fin 1) (0 : Fin 1) k)
      = G (ix3 (1 : Fin 2) (⟨3, by omega⟩ : Fin 4) k) := by
  pointwise
theorem wt_in (W : FVec Ideal S1x8x1024x3584 .f32) (e : Fin 8) (k : Fin 1024) (j : Fin 3584) :
    (truncf .bf16 (shapeCast S8x1024x3584 W shapeCasts_S1x8x1024x3584_S8x1024x3584 : FVec Ideal S8x1024x3584 .f32) bitsLt_bf16_f32 : FVec Ideal S8x1024x3584 .bf16) (ix3 e k j) = W (ix4 (0 : Fin 1) e k j) := by
  pointwise
theorem wt_out (W : FVec Ideal S1x8x3584x1024 .f32) (e : Fin 8) (k : Fin 3584) (j : Fin 1024) :
    (truncf .bf16 (shapeCast S8x3584x1024 W shapeCasts_S1x8x3584x1024_S8x3584x1024 : FVec Ideal S8x3584x1024 .f32) bitsLt_bf16_f32 : FVec Ideal S8x3584x1024 .bf16) (ix3 e k j) = W (ix4 (0 : Fin 1) e k j) := by
  pointwise

/-- The first gain, as the region finds it. -/
theorem V3 (k : Fin 1024) : V m c main_v3 (ix3 (0 : Fin 1) (0 : Fin 1) k) = m ((c : Thread nD τ).loc main_arg3) (ix3 (1 : Fin 2) (2 : Fin 4) k) := by
  have hv : V m c main_v3 = broadcastInDim S1x1x1024 ![1, 2] bcast_S1x1024_S1x1x1024_1_2 (shapeCast S1x1024 (extractStridedSlice S1x1x1024 ![6, 0, 0] (shapeCast S8x1x1024 (m ((c : Thread nD τ).loc main_arg3)) shapeCasts_S2x4x1024_S8x1x1024) slices_S8x1x1024_S1x1x1024_6_0_0) shapeCasts_S1x1x1024_S1x1024) := by
    unfold V
    simp only [hostOps0]
    after_results_simp
    rfl
  exact (congrFun hv _).trans (gain6 _ k)
/-- The second gain, as the region finds it. -/
theorem V6 (k : Fin 1024) : V m c main_v6 (ix3 (0 : Fin 1) (0 : Fin 1) k) = m ((c : Thread nD τ).loc main_arg3) (ix3 (1 : Fin 2) (3 : Fin 4) k) := by
  have hv : V m c main_v6 = broadcastInDim S1x1x1024 ![1, 2] bcast_S1x1024_S1x1x1024_1_2 (shapeCast S1x1024 (extractStridedSlice S1x1x1024 ![7, 0, 0] (shapeCast S8x1x1024 (m ((c : Thread nD τ).loc main_arg3)) shapeCasts_S2x4x1024_S8x1x1024) slices_S8x1x1024_S1x1x1024_7_0_0) shapeCasts_S1x1x1024_S1x1024) := by
    unfold V
    simp only [hostOps0]
    after_results_simp
    rfl
  exact (congrFun hv _).trans (gain7 _ k)
/-- The gate weights, as the region finds them. -/
theorem V8 (e : Fin 8) (k : Fin 1024) (j : Fin 3584) : V m c main_v8 (ix3 e k j) = m ((c : Thread nD τ).loc main_arg4) (ix4 (0 : Fin 1) e k j) := by
  have hv : V m c main_v8 = (truncf .bf16 (shapeCast S8x1024x3584 (m ((c : Thread nD τ).loc main_arg4)) shapeCasts_S1x8x1024x3584_S8x1024x3584 : FVec Ideal S8x1024x3584 .f32) bitsLt_bf16_f32 : FVec Ideal S8x1024x3584 .bf16) := by
    unfold V
    simp only [hostOps0]
    after_results_simp
    rfl
  exact (congrFun hv _).trans (wt_in _ e k j)
/-- The other weights, as the region finds them. -/
theorem V10 (e : Fin 8) (k : Fin 1024) (j : Fin 3584) : V m c main_v10 (ix3 e k j) = m ((c : Thread nD τ).loc main_arg5) (ix4 (0 : Fin 1) e k j) := by
  have hv : V m c main_v10 = (truncf .bf16 (shapeCast S8x1024x3584 (m ((c : Thread nD τ).loc main_arg5)) shapeCasts_S1x8x1024x3584_S8x1024x3584 : FVec Ideal S8x1024x3584 .f32) bitsLt_bf16_f32 : FVec Ideal S8x1024x3584 .bf16) := by
    unfold V
    simp only [hostOps0]
    after_results_simp
    rfl
  exact (congrFun hv _).trans (wt_in _ e k j)
/-- The last weights, as the region finds them. -/
theorem V12 (e : Fin 8) (k : Fin 3584) (j : Fin 1024) : V m c main_v12 (ix3 e k j) = m ((c : Thread nD τ).loc main_arg6) (ix4 (0 : Fin 1) e k j) := by
  have hv : V m c main_v12 = (truncf .bf16 (shapeCast S8x3584x1024 (m ((c : Thread nD τ).loc main_arg6)) shapeCasts_S1x8x3584x1024_S8x3584x1024 : FVec Ideal S8x3584x1024 .f32) bitsLt_bf16_f32 : FVec Ideal S8x3584x1024 .bf16) := by
    unfold V
    simp only [hostOps0]
    after_results_simp
    rfl
  exact (congrFun hv _).trans (wt_out _ e k j)

theorem blk3 (k : Fin 1024) : iblk m c 3 t (ix3 0 0 k) = m ((c : Thread nD τ).loc main_arg3) (ix3 (1 : Fin 2) (2 : Fin 4) k) := by
  refine Eq.trans ?_ (V3 m c k)
  blk_ext [iblk, idx3 t]
theorem blk4 (k : Fin 1024) : iblk m c 4 t (ix3 0 0 k) = m ((c : Thread nD τ).loc main_arg3) (ix3 (1 : Fin 2) (3 : Fin 4) k) := by
  refine Eq.trans ?_ (V6 m c k)
  blk_ext [iblk, idx4 t]
theorem blk5 (e f : ℕ) (he : e < 8) (hf : f < 7) (h : t.val / 7 % 8 = e) (h' : t.val % 7 = f) (k : Fin 1024) (j : Fin 512) :
    iblk m c 5 t (ix3 0 k j) = m ((c : Thread nD τ).loc main_arg4) (ix4 (0 : Fin 1) (⟨e, he⟩ : Fin 8) k (⟨f * 512 + j.val, by omega⟩ : Fin 3584)) := by
  refine Eq.trans ?_ (V8 m c ⟨e, he⟩ k ⟨f * 512 + j.val, by omega⟩)
  subst h h'
  blk_ext [iblk, idx5 t]
theorem blk6 (e f : ℕ) (he : e < 8) (hf : f < 7) (h : t.val / 7 % 8 = e) (h' : t.val % 7 = f) (k : Fin 1024) (j : Fin 512) :
    iblk m c 6 t (ix3 0 k j) = m ((c : Thread nD τ).loc main_arg5) (ix4 (0 : Fin 1) (⟨e, he⟩ : Fin 8) k (⟨f * 512 + j.val, by omega⟩ : Fin 3584)) := by
  refine Eq.trans ?_ (V10 m c ⟨e, he⟩ k ⟨f * 512 + j.val, by omega⟩)
  subst h h'
  blk_ext [iblk, idx6 t]
theorem blk7 (e f : ℕ) (he : e < 8) (hf : f < 7) (h : t.val / 7 % 8 = e) (h' : t.val % 7 = f) (j : Fin 512) (k : Fin 1024) :
    iblk m c 7 t (ix3 0 j k) = m ((c : Thread nD τ).loc main_arg6) (ix4 (0 : Fin 1) (⟨e, he⟩ : Fin 8) (⟨f * 512 + j.val, by omega⟩ : Fin 3584) k) := by
  refine Eq.trans ?_ (V12 m c ⟨e, he⟩ ⟨f * 512 + j.val, by omega⟩ k)
  subst h h'
  blk_ext [iblk, idx7 t]

end Cert.Moe
end
-- ==== Proof.Moe.Ref.lean ====
/- The expert layer's reference, by stages, and each stage read at an index. -/
module

public import proofs.«01_k».proof.Proof.Gen.MoeReferenceIdeal.Run
public import proofs.«01_k».proof.Proof.Glu.Math

@[expose] public section

set_option maxRecDepth 16384

noncomputable section

namespace Cert.Moe.Ref
open Cert.MoeReferenceIdeal Cert.MoeReferenceIdeal.Gen Cert.MoeReferenceIdeal.Value Cert.Glu Idealize.ShloMosaic Idealize.ShloMosaic.TcCoe Idealize.ShloMosaic.Tactic Idealize.SL.Sem Idealize.ShloMosaic.StableHlo

abbrev Rows := FVec Ideal S8x2048x1024 .f32
abbrev Wide := FVec Ideal S8x2048x3584 .f32

/-- The rows by sequence. -/
def rows (x : FVec Ideal S16384x1024 .f32) : Rows := shapeCast S8x2048x1024 x shapeCasts_S16384x1024_S8x2048x1024
/-- The weights by sequence. -/
def comb (x : FVec Ideal S16384x128 .f32) : FVec Ideal S8x2048x128 .f32 := shapeCast S8x2048x128 x shapeCasts_S16384x128_S8x2048x128
/-- The modulation's rows. -/
def mods (x : FVec Ideal S32x1x3072 .f32) : FVec Ideal S8x1x3072 .f32 := extractStridedSlice S8x1x3072 ![24, 0, 0] x slices_S32x1x3072_S8x1x3072_24_0_0
/-- The normalised rows at their gain. -/
def norm (X : Rows) (G : FVec Ideal S1x1x1024 .f32) : Rows :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast S1024 G shapeCasts_S1x1x1024_S1024)))
/-- The modulated rows. -/
def modul (X : Rows) (G : FVec Ideal S1x1x1024 .f32) (M : FVec Ideal S8x1x3072 .f32) : Rows :=
  addf (mulf (norm X G) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] M slices_S8x1x3072_S8x1x1024_0_0_1024)))) (broadcastInDim S8x2048x1024 ![0, 1, 2] bcast_S8x1x1024_S8x2048x1024_0_1_2 (extractStridedSlice S8x1x1024 ![0, 0, 0] M slices_S8x1x3072_S8x1x1024_0_0_0))
/-- The rows' products with an expert's columns. -/
def wide (H : Rows) (W : FVec Ideal S1x1x1024x3584 .f32) : Wide :=
  Host.dotGeneral dot_S8x2048x1024_S1024x3584_S8x2048x3584_2_0_01_1_n_n none H (shapeCast S1024x3584 W shapeCasts_S1x1x1024x3584_S1024x3584)
/-- The hidden entries. -/
def hidden (a b : Wide) : Wide :=
  mulf (mulf a (Host.divf (broadcastInDim S8x2048x3584 ![] bcast_S_S8x2048x3584 (constant S_ .f32 0x3F800000#32)) (addf (broadcastInDim S8x2048x3584 ![] bcast_S_S8x2048x3584 (constant S_ .f32 0x3F800000#32)) (Host.exp (Host.negf a))))) b
/-- An expert's output. -/
def swiglu (H : Rows) (Wg Wu : FVec Ideal S1x1x1024x3584 .f32) (Wd : FVec Ideal S1x1x3584x1024 .f32) : Rows :=
  Host.dotGeneral dot_S8x2048x3584_S3584x1024_S8x2048x1024_2_0_01_1_n_n none (hidden (wide H Wg) (wide H Wu)) (shapeCast S3584x1024 Wd shapeCasts_S1x1x3584x1024_S3584x1024)
/-- An expert's output at its weight. -/
def weigh (C : FVec Ideal S8x2048x1 .f32) (Y : Rows) : Rows :=
  mulf (broadcastInDim S8x2048x1024 ![0, 1, 2] bcast_S8x2048x1_S8x2048x1024_0_1_2 C) Y
/-- The experts' weighted sum. -/
def mixture (H : Rows) (C : FVec Ideal S8x2048x128 .f32) (wg wu : FVec Ideal S1x8x1024x3584 .f32) (wd : FVec Ideal S1x8x3584x1024 .f32) : Rows :=
  addf (addf (addf (addf (addf (addf (addf (addf (broadcastInDim S8x2048x1024 ![] bcast_S_S8x2048x1024 (constant (F := Ideal) S_ .f32 0x00000000#32))
    (weigh (extractStridedSlice S8x2048x1 ![0, 0, 0] C slices_S8x2048x128_S8x2048x1_0_0_0) (swiglu H (extractStridedSlice S1x1x1024x3584 ![0, 0, 0, 0] wg slices_S1x8x1024x3584_S1x1x1024x3584_0_0_0_0) (extractStridedSlice S1x1x1024x3584 ![0, 0, 0, 0] wu slices_S1x8x1024x3584_S1x1x1024x3584_0_0_0_0) (extractStridedSlice S1x1x3584x1024 ![0, 0, 0, 0] wd slices_S1x8x3584x1024_S1x1x3584x1024_0_0_0_0))))
    (weigh (extractStridedSlice S8x2048x1 ![0, 0, 1] C slices_S8x2048x128_S8x2048x1_0_0_1) (swiglu H (extractStridedSlice S1x1x1024x3584 ![0, 1, 0, 0] wg slices_S1x8x1024x3584_S1x1x1024x3584_0_1_0_0) (extractStridedSlice S1x1x1024x3584 ![0, 1, 0, 0] wu slices_S1x8x1024x3584_S1x1x1024x3584_0_1_0_0) (extractStridedSlice S1x1x3584x1024 ![0, 1, 0, 0] wd slices_S1x8x3584x1024_S1x1x3584x1024_0_1_0_0))))
    (weigh (extractStridedSlice S8x2048x1 ![0, 0, 2] C slices_S8x2048x128_S8x2048x1_0_0_2) (swiglu H (extractStridedSlice S1x1x1024x3584 ![0, 2, 0, 0] wg slices_S1x8x1024x3584_S1x1x1024x3584_0_2_0_0) (extractStridedSlice S1x1x1024x3584 ![0, 2, 0, 0] wu slices_S1x8x1024x3584_S1x1x1024x3584_0_2_0_0) (extractStridedSlice S1x1x3584x1024 ![0, 2, 0, 0] wd slices_S1x8x3584x1024_S1x1x3584x1024_0_2_0_0))))
    (weigh (extractStridedSlice S8x2048x1 ![0, 0, 3] C slices_S8x2048x128_S8x2048x1_0_0_3) (swiglu H (extractStridedSlice S1x1x1024x3584 ![0, 3, 0, 0] wg slices_S1x8x1024x3584_S1x1x1024x3584_0_3_0_0) (extractStridedSlice S1x1x1024x3584 ![0, 3, 0, 0] wu slices_S1x8x1024x3584_S1x1x1024x3584_0_3_0_0) (extractStridedSlice S1x1x3584x1024 ![0, 3, 0, 0] wd slices_S1x8x3584x1024_S1x1x3584x1024_0_3_0_0))))
    (weigh (extractStridedSlice S8x2048x1 ![0, 0, 4] C slices_S8x2048x128_S8x2048x1_0_0_4) (swiglu H (extractStridedSlice S1x1x1024x3584 ![0, 4, 0, 0] wg slices_S1x8x1024x3584_S1x1x1024x3584_0_4_0_0) (extractStridedSlice S1x1x1024x3584 ![0, 4, 0, 0] wu slices_S1x8x1024x3584_S1x1x1024x3584_0_4_0_0) (extractStridedSlice S1x1x3584x1024 ![0, 4, 0, 0] wd slices_S1x8x3584x1024_S1x1x3584x1024_0_4_0_0))))
    (weigh (extractStridedSlice S8x2048x1 ![0, 0, 5] C slices_S8x2048x128_S8x2048x1_0_0_5) (swiglu H (extractStridedSlice S1x1x1024x3584 ![0, 5, 0, 0] wg slices_S1x8x1024x3584_S1x1x1024x3584_0_5_0_0) (extractStridedSlice S1x1x1024x3584 ![0, 5, 0, 0] wu slices_S1x8x1024x3584_S1x1x1024x3584_0_5_0_0) (extractStridedSlice S1x1x3584x1024 ![0, 5, 0, 0] wd slices_S1x8x3584x1024_S1x1x3584x1024_0_5_0_0))))
    (weigh (extractStridedSlice S8x2048x1 ![0, 0, 6] C slices_S8x2048x128_S8x2048x1_0_0_6) (swiglu H (extractStridedSlice S1x1x1024x3584 ![0, 6, 0, 0] wg slices_S1x8x1024x3584_S1x1x1024x3584_0_6_0_0) (extractStridedSlice S1x1x1024x3584 ![0, 6, 0, 0] wu slices_S1x8x1024x3584_S1x1x1024x3584_0_6_0_0) (extractStridedSlice S1x1x3584x1024 ![0, 6, 0, 0] wd slices_S1x8x3584x1024_S1x1x3584x1024_0_6_0_0))))
    (weigh (extractStridedSlice S8x2048x1 ![0, 0, 7] C slices_S8x2048x128_S8x2048x1_0_0_7) (swiglu H (extractStridedSlice S1x1x1024x3584 ![0, 7, 0, 0] wg slices_S1x8x1024x3584_S1x1x1024x3584_0_7_0_0) (extractStridedSlice S1x1x1024x3584 ![0, 7, 0, 0] wu slices_S1x8x1024x3584_S1x1x1024x3584_0_7_0_0) (extractStridedSlice S1x1x3584x1024 ![0, 7, 0, 0] wd slices_S1x8x3584x1024_S1x1x3584x1024_0_7_0_0)))
/-- The layer's rows. -/
def out (X Y : Rows) (G : FVec Ideal S1x1x1024 .f32) (M : FVec Ideal S8x1x3072 .f32) : FVec Ideal S16384x1024 .f32 :=
  shapeCast S16384x1024 (addf X (mulf (broadcastInDim S8x2048x1024 ![0, 1, 2] bcast_S8x1x1024_S8x2048x1024_0_1_2 (extractStridedSlice S8x1x1024 ![0, 0, 2048] M slices_S8x1x3072_S8x1x1024_0_0_2048)) (norm Y G))) shapeCasts_S8x2048x1024_S16384x1024

/-- The whole reference. -/
def layer (x : FVec Ideal S16384x1024 .f32) (cb : FVec Ideal S16384x128 .f32) (md : FVec Ideal S32x1x3072 .f32) (ng : FVec Ideal S2x4x1024 .f32)
    (wg wu : FVec Ideal S1x8x1024x3584 .f32) (wd : FVec Ideal S1x8x3584x1024 .f32) : FVec Ideal S16384x1024 .f32 :=
  out (rows x) (mixture (modul (rows x) (extractStridedSlice S1x1x1024 ![1, 2, 0] ng slices_S2x4x1024_S1x1x1024_1_2_0) (mods md)) (comb cb) wg wu wd)
    (extractStridedSlice S1x1x1024 ![1, 3, 0] ng slices_S2x4x1024_S1x1x1024_1_3_0) (mods md)

theorem norm_at (X : Rows) (G : FVec Ideal S1x1x1024 .f32) (b : Fin 8) (s : Fin 2048) (k : Fin 1024) :
    norm X G (ix3 b s k) = X (ix3 b s k) * rs (fun l => X (ix3 b s l)) * G (ix3 0 0 k) := by
  pointwise [norm]
  rfl

theorem modul_at (X : Rows) (G : FVec Ideal S1x1x1024 .f32) (M : FVec Ideal S8x1x3072 .f32) (b : Fin 8) (s : Fin 2048) (k : Fin 1024) :
    modul X G M (ix3 b s k) = hid (fun l => X (ix3 b s l)) (fun l => G (ix3 0 0 l)) (fun l => M (ix3 b 0 ⟨1024 + l.val, by omega⟩)) (fun l => M (ix3 b 0 ⟨l.val, by omega⟩)) k := by
  pointwise [modul]
  rw [norm_at]
  rfl

theorem wide_at (H : Rows) (W : FVec Ideal S1x1x1024x3584 .f32) (b : Fin 8) (s : Fin 2048) (j : Fin 3584) :
    wide H W (ix3 b s j) = dot (fun l => H (ix3 b s l)) (fun l j => W (ix4 0 0 l j)) j := by
  pointwise [wide]
  rfl

theorem hidden_at (a b' : Wide) (b : Fin 8) (s : Fin 2048) (j : Fin 3584) :
    hidden a b' (ix3 b s j) = a (ix3 b s j) * Ideal.logistic (a (ix3 b s j)) * b' (ix3 b s j) := by
  pointwise [hidden]
  rfl

theorem swiglu_at (H : Rows) (Wg Wu : FVec Ideal S1x1x1024x3584 .f32) (Wd : FVec Ideal S1x1x3584x1024 .f32) (b : Fin 8) (s : Fin 2048) (d : Fin 1024) :
    swiglu H Wg Wu Wd (ix3 b s d) = glu (fun l => H (ix3 b s l)) (fun l j => Wg (ix4 0 0 l j)) (fun l j => Wu (ix4 0 0 l j)) (fun j d => Wd (ix4 0 0 j d)) d := by
  pointwise [swiglu]
  simp only [hidden_at, wide_at]
  rfl

theorem weigh_at (C : FVec Ideal S8x2048x1 .f32) (Y : Rows) (b : Fin 8) (s : Fin 2048) (d : Fin 1024) :
    weigh C Y (ix3 b s d) = C (ix3 b s 0) * Y (ix3 b s d) := by
  pointwise [weigh]

/-- The mixture at an index. -/
theorem mixture_at (H : Rows) (C : FVec Ideal S8x2048x128 .f32) (wg wu : FVec Ideal S1x8x1024x3584 .f32) (wd : FVec Ideal S1x8x3584x1024 .f32) (b : Fin 8) (s : Fin 2048) (d : Fin 1024) :
    mixture H C wg wu wd (ix3 b s d)
      = mix (fun e => C (ix3 b s ⟨e.val, by omega⟩)) (fun e => glu (fun l => H (ix3 b s l)) (fun l j => wg (ix4 0 e l j)) (fun l j => wu (ix4 0 e l j)) (fun j d => wd (ix4 0 e j d)) d) 8 := by
  rw [mix_all]
  pointwise [mixture]
  simp only [weigh_at, swiglu_at]
  pointwise

theorem out_at (X Y : Rows) (G : FVec Ideal S1x1x1024 .f32) (M : FVec Ideal S8x1x3072 .f32) (b : Fin 8) (s : Fin 2048) (d : Fin 1024) :
    out X Y G M (ix2 (⟨b.val * 2048 + s.val, by omega⟩ : Fin 16384) d)
      = res (fun l => X (ix3 b s l)) (fun l => M (ix3 b 0 ⟨2048 + l.val, by omega⟩)) (fun l => G (ix3 0 0 l)) (fun l => Y (ix3 b s l)) d := by
  pointwise [out]
  rw [norm_at]
  rfl

/-- The program's result is the stages composed. -/
theorem run (m : (ℓ : Loc nD τ sig) → Buf (Elt Ideal) ℓ) (c : Dev nD) :
    (shapeCast _ (addf (res_main_v0 (launchContents m c)) (mulf (broadcastInDim S8x2048x1024 ![0, 1, 2] bcast_S8x1x1024_S8x2048x1024_0_1_2 (extractStridedSlice S8x1x1024 ![0, 0, 2048] (res_main_v2 (launchContents m c)) slices_S8x1x3072_S8x1x1024_0_0_2048)) (mulf (mulf (res_main_v147 (launchContents m c)) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v147 (launchContents m c)) (res_main_v147 (launchContents m c))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1x1024 ![1, 3, 0] ((launchContents m c) (Proc.devRef .tc main_arg3)) slices_S2x4x1024_S1x1x1024_1_3_0) shapeCasts_S1x1x1024_S1024)))))) shapeCasts_S8x2048x1024_S16384x1024 : FVec Ideal S16384x1024 .f32)
      = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rfl

end Cert.Moe.Ref
end
-- ==== Proof.Moe.Row.lean ====
/- A row of the expert layer in plain numbers, from the layer's arguments. -/
module

public import proofs.«01_k».proof.Proof.Glu.Math

@[expose] public section

noncomputable section

namespace Cert.Moe
open Cert.Glu Idealize.ShloMosaic Idealize.ShloMosaic.Tactic

/-- The layer's arguments. -/
structure Args where
  x : FVec Ideal (⟨2, ![16384, 1024]⟩ : Shape) .f32
  cb : FVec Ideal (⟨2, ![16384, 128]⟩ : Shape) .f32
  md : FVec Ideal (⟨3, ![32, 1, 3072]⟩ : Shape) .f32
  ng : FVec Ideal (⟨3, ![2, 4, 1024]⟩ : Shape) .f32
  wg : FVec Ideal (⟨4, ![1, 8, 1024, 3584]⟩ : Shape) .f32
  wu : FVec Ideal (⟨4, ![1, 8, 1024, 3584]⟩ : Shape) .f32
  wd : FVec Ideal (⟨4, ![1, 8, 3584, 1024]⟩ : Shape) .f32

/-- Sequence `b`'s row `n`, normalised and modulated. -/
def hidR (A : Args) (n : Fin 16384) (b : Fin 8) : Fin 1024 → EReal :=
  hid (fun l => A.x (ix2 n l)) (fun l => A.ng (ix3 1 2 l)) (fun l => A.md (ix3 ⟨24 + b.val, by omega⟩ 0 ⟨1024 + l.val, by omega⟩)) (fun l => A.md (ix3 ⟨24 + b.val, by omega⟩ 0 ⟨l.val, by omega⟩))

/-- What a hidden column of expert `e` adds to output column `d`. -/
def colR (A : Args) (n : Fin 16384) (b : Fin 8) (e : Fin 8) (d : Fin 1024) : Fin 3584 → EReal :=
  col (hidR A n b) (fun l j => A.wg (ix4 0 e l j)) (fun l j => A.wu (ix4 0 e l j)) (fun j d => A.wd (ix4 0 e j d)) d

/-- The weighted sum over the first experts. -/
def mixR (A : Args) (n : Fin 16384) (b : Fin 8) (d : Fin 1024) : ℕ → EReal :=
  mix (fun e => A.cb (ix2 n ⟨e.val, by omega⟩)) (fun e => ∑ j, colR A n b e d j)

/-- The layer's row. -/
def outR (A : Args) (n : Fin 16384) (b : Fin 8) : Fin 1024 → EReal :=
  res (fun l => A.x (ix2 n l)) (fun l => A.md (ix3 ⟨24 + b.val, by omega⟩ 0 ⟨2048 + l.val, by omega⟩)) (fun l => A.ng (ix3 1 3 l)) (fun l => mixR A n b l 8)

end Cert.Moe
end
-- ==== Proof.Moe.RefVal.lean ====
/- The expert layer's reference, at an index, is the layer's row. -/
module

public import proofs.«01_k».proof.Proof.Moe.Ref
public import proofs.«01_k».proof.Proof.Moe.Row

@[expose] public section

set_option maxRecDepth 16384

noncomputable section

namespace Cert.Moe.Ref
open Cert.MoeReferenceIdeal Cert.MoeReferenceIdeal.Gen Cert.Glu Idealize.ShloMosaic Idealize.ShloMosaic.Tactic

theorem rows_at (x : FVec Ideal S16384x1024 .f32) (b : Fin 8) (s : Fin 2048) (k : Fin 1024) :
    rows x (ix3 b s k) = x (ix2 (⟨b.val * 2048 + s.val, by omega⟩ : Fin 16384) k) := by
  pointwise [rows]
theorem comb_at (x : FVec Ideal S16384x128 .f32) (b : Fin 8) (s : Fin 2048) (k : Fin 128) :
    comb x (ix3 b s k) = x (ix2 (⟨b.val * 2048 + s.val, by omega⟩ : Fin 16384) k) := by
  pointwise [comb]
theorem mods_at (x : FVec Ideal S32x1x3072 .f32) (b : Fin 8) (k : Fin 3072) :
    mods x (ix3 b 0 k) = x (ix3 (⟨24 + b.val, by omega⟩ : Fin 32) 0 k) := by
  pointwise [mods]
theorem gain2_at (x : FVec Ideal S2x4x1024 .f32) (k : Fin 1024) :
    extractStridedSlice S1x1x1024 ![1, 2, 0] x slices_S2x4x1024_S1x1x1024_1_2_0 (ix3 0 0 k) = x (ix3 1 2 k) := by
  pointwise
theorem gain3_at (x : FVec Ideal S2x4x1024 .f32) (k : Fin 1024) :
    extractStridedSlice S1x1x1024 ![1, 3, 0] x slices_S2x4x1024_S1x1x1024_1_3_0 (ix3 0 0 k) = x (ix3 1 3 k) := by
  pointwise

/-- The reference's row. -/
theorem layer_at (A : Args) (b : Fin 8) (s : Fin 2048) (d : Fin 1024) :
    layer A.x A.cb A.md A.ng A.wg A.wu A.wd (ix2 (⟨b.val * 2048 + s.val, by omega⟩ : Fin 16384) d)
      = outR A ⟨b.val * 2048 + s.val, by omega⟩ b d := by
  unfold layer
  rw [out_at]
  simp only [mixture_at, modul_at, rows_at, comb_at, mods_at, gain2_at, gain3_at]
  rfl

end Cert.Moe.Ref
end
-- ==== Proof.Moe.Value.lean ====
/- The expert layer's kernel computes its reference: the scratch buffers after each grid point, the array after the
   run, and the value claim. -/
module

public import proofs.«01_k».proof.Proof.Moe.Body
public import proofs.«01_k».proof.Proof.Moe.Pay
public import proofs.«01_k».proof.Proof.Moe.Inp
public import proofs.«01_k».proof.Proof.Moe.RefVal
public import proofs.«01_k».proof.Defs

@[expose] public section

set_option maxRecDepth 16384

noncomputable section

namespace Cert.Moe
open Cert.MoeKernelIdeal Cert.MoeKernelIdeal.Gen Cert.Glu Idealize.ShloMosaic Idealize.ShloMosaic.TcCoe Idealize.ShloMosaic.Tactic Idealize.SL.Sem

variable (m : (ℓ : Loc nD τ sig) → Buf (Elt Ideal) ℓ) (c : Dev nD)

/-- The arguments as launched. -/
def args : Args where
  x := m ((c : Thread nD τ).loc main_arg0)
  cb := m ((c : Thread nD τ).loc main_arg1)
  md := m ((c : Thread nD τ).loc main_arg2)
  ng := m ((c : Thread nD τ).loc main_arg3)
  wg := m ((c : Thread nD τ).loc main_arg4)
  wu := m ((c : Thread nD τ).loc main_arg5)
  wd := m ((c : Thread nD τ).loc main_arg6)

abbrev rowOf (i : ℕ) (hi : i < 16) (r : Fin 1024) : Fin 16384 := ⟨i * 1024 + r.val, by omega⟩
abbrev seqOf (i : ℕ) (hi : i < 16) : Fin 8 := ⟨i / 2, by omega⟩

/-- A point's normalised rows are its block's. -/
theorem hid_of (t : Fin cfg0.N) (i : ℕ) (hi : i < 16) (h : t.val / 56 = i) (r k : Fin 1024) :
    (k0_pay3 (iblk m c 0 t) (iblk m c 2 t) (iblk m c 3 t) : FVec Ideal S1024x1024 .bf16) (ix2 r k) = hidR (args m c) (rowOf i hi r) (seqOf i hi) k := by
  rw [pay3_at]
  simp only [blk0 m c t i hi h, blk2 m c t i hi h, blk3 m c t]
  rfl

/-- A block of hidden columns adds its own to an expert's product. -/
theorem part_of (t : Fin cfg0.N) (i e f : ℕ) (hi : i < 16) (he : e < 8) (hf : f < 7) (ht : t.val = 56 * i + 7 * e + f)
    (a : Vec Ideal S1024x1024 .f32) (h : Vec Ideal S1024x1024 .bf16) (r k : Fin 1024)
    (ha : a (ix2 r k) = psum (colR (args m c) (rowOf i hi r) (seqOf i hi) ⟨e, he⟩ k) (f * 512))
    (hh : ∀ l : Fin 1024, h (ix2 r l) = hidR (args m c) (rowOf i hi r) (seqOf i hi) l) :
    (k0_pay6 a h (iblk m c 5 t) (iblk m c 6 t) (iblk m c 7 t) : FVec Ideal S1024x1024 .f32) (ix2 r k)
      = psum (colR (args m c) (rowOf i hi r) (seqOf i hi) ⟨e, he⟩ k) ((f + 1) * 512) := by
  have h1 : t.val / 7 % 8 = e := by omega
  have h2 : t.val % 7 = f := by omega
  rw [pay6_at, ha, Nat.succ_mul, psum_add _ _ _ (by omega)]
  refine congrArg (_ + ·) (Finset.sum_congr rfl fun x _ => ?_)
  unfold colR col up dot
  simp only [hh, blk5 m c t e f he hf h1 h2, blk6 m c t e f he hf h1 h2, blk7 m c t e f he hf h1 h2]
  rfl

/-- An expert's finished product joins the sum at its weight. -/
theorem acc_of (t : Fin cfg0.N) (i e : ℕ) (hi : i < 16) (he : e < 8) (ht : t.val = 56 * i + 7 * e + 6)
    (a p : Vec Ideal S1024x1024 .f32) (r k : Fin 1024)
    (ha : a (ix2 r k) = mixR (args m c) (rowOf i hi r) (seqOf i hi) k e)
    (hp : p (ix2 r k) = psum (colR (args m c) (rowOf i hi r) (seqOf i hi) ⟨e, he⟩ k) ((6 + 1) * 512)) :
    (k0_pay1 (BitVec.ofNat 32 (grid0.coords t 1).val) (iblk m c 1 t) a p : FVec Ideal S1024x1024 .f32) (ix2 r k)
      = mixR (args m c) (rowOf i hi r) (seqOf i hi) k (e + 1) := by
  have hw : (grid0.coords t 1).val = e := (word1 t).trans (by omega)
  rw [hw, pay1_at e he, ha, hp, blk1 m c t i hi (by omega)]
  unfold mixR
  rw [mix_succ _ _ e he]
  refine congrArg (fun z : EReal => _ + _ * z) ?_
  exact psum_all _

/-- What the scratch buffers hold after expert `e`'s block `f` of hidden columns, for block `i` of rows. -/
def St (i e f : ℕ) (hi : i < 16) (he : e < 8) (h : Vec Ideal S1024x1024 .bf16) (p a : Vec Ideal S1024x1024 .f32) : Prop :=
  ∀ r k : Fin 1024, h (ix2 r k) = hidR (args m c) (rowOf i hi r) (seqOf i hi) k
    ∧ p (ix2 r k) = psum (colR (args m c) (rowOf i hi r) (seqOf i hi) ⟨e, he⟩ k) ((f + 1) * 512)
    ∧ a (ix2 r k) = mixR (args m c) (rowOf i hi r) (seqOf i hi) k (if f = 6 then e + 1 else e)

/-- The first point of a block of rows. -/
theorem st_first (t : Fin cfg0.N) (i : ℕ) (hi : i < 16) (ht : t.val = 56 * i) :
    St m c i 0 0 hi (by omega) (outsAt0 m c t.val t.isLt).2.1 (outsAt0 m c t.val t.isLt).2.2.1 (outsAt0 m c t.val t.isLt).2.2.2 := by
  intro r k
  have h0 : t.val % 56 = 0 := by omega
  have h1 : t.val % 7 = 0 := by omega
  have h2 : ¬t.val % 7 = 6 := by omega
  have h3 : ¬t.val % 56 = 55 := by omega
  rw [first_h m c t h0 h1 h2 h3, first_part m c t h0 h1 h2 h3, first_acc m c t h0 h1 h2 h3]
  refine ⟨hid_of m c t i hi (by omega) r k, ?_, pay4_at r k⟩
  exact part_of m c t i 0 0 hi (by omega) (by omega) (by omega) _ _ r k (pay5_at r k) fun l => hid_of m c t i hi (by omega) r l

/-- The first point of a later expert. -/
theorem st_open (t : Fin cfg0.N) (i e : ℕ) (hi : i < 16) (he : e + 1 < 8) (ht : t.val = 56 * i + 7 * (e + 1))
    (ih : St m c i e 6 hi (by omega) (outsAt0 m c (t.val - 1) (by omega)).2.1 (outsAt0 m c (t.val - 1) (by omega)).2.2.1 (outsAt0 m c (t.val - 1) (by omega)).2.2.2) :
    St m c i (e + 1) 0 hi he (outsAt0 m c t.val t.isLt).2.1 (outsAt0 m c t.val t.isLt).2.2.1 (outsAt0 m c t.val t.isLt).2.2.2 := by
  intro r k
  have h0 : ¬t.val % 56 = 0 := by omega
  have h1 : t.val % 7 = 0 := by omega
  have h2 : ¬t.val % 7 = 6 := by omega
  have h3 : ¬t.val % 56 = 55 := by omega
  rw [open_h m c t h0 h1 h2 h3, open_part m c t h0 h1 h2 h3, open_acc m c t h0 h1 h2 h3]
  refine ⟨(ih r k).1, ?_, (ih r k).2.2⟩
  exact part_of m c t i (e + 1) 0 hi he (by omega) (by omega) _ _ r k (pay5_at r k) fun l => (ih r l).1

/-- A point in the middle of an expert. -/
theorem st_mid (t : Fin cfg0.N) (i e f : ℕ) (hi : i < 16) (he : e < 8) (hf : f + 1 < 6) (ht : t.val = 56 * i + 7 * e + (f + 1))
    (ih : St m c i e f hi he (outsAt0 m c (t.val - 1) (by omega)).2.1 (outsAt0 m c (t.val - 1) (by omega)).2.2.1 (outsAt0 m c (t.val - 1) (by omega)).2.2.2) :
    St m c i e (f + 1) hi he (outsAt0 m c t.val t.isLt).2.1 (outsAt0 m c t.val t.isLt).2.2.1 (outsAt0 m c t.val t.isLt).2.2.2 := by
  intro r k
  have h0 : ¬t.val % 56 = 0 := by omega
  have h1 : ¬t.val % 7 = 0 := by omega
  have h2 : ¬t.val % 7 = 6 := by omega
  have h3 : ¬t.val % 56 = 55 := by omega
  rw [mid_h m c t h0 h1 h2 h3, mid_part m c t h0 h1 h2 h3, mid_acc m c t h0 h1 h2 h3]
  refine ⟨(ih r k).1, ?_, ?_⟩
  · exact part_of m c t i e (f + 1) hi he (by omega) (by omega) _ _ r k (ih r k).2.1 fun l => (ih r l).1
  · have := (ih r k).2.2
    rw [if_neg (by omega)] at this ⊢
    exact this

/-- The last point of an expert. -/
theorem st_last (t : Fin cfg0.N) (i e : ℕ) (hi : i < 16) (he : e < 8) (ht : t.val = 56 * i + 7 * e + 6)
    (ih : St m c i e 5 hi he (outsAt0 m c (t.val - 1) (by omega)).2.1 (outsAt0 m c (t.val - 1) (by omega)).2.2.1 (outsAt0 m c (t.val - 1) (by omega)).2.2.2) :
    St m c i e 6 hi he (outsAt0 m c t.val t.isLt).2.1 (outsAt0 m c t.val t.isLt).2.2.1 (outsAt0 m c t.val t.isLt).2.2.2 := by
  intro r k
  have h0 : ¬t.val % 56 = 0 := by omega
  have h1 : ¬t.val % 7 = 0 := by omega
  have h2 : t.val % 7 = 6 := by omega
  have hp := part_of m c t i e 6 hi he (by omega) ht _ _ r k (ih r k).2.1 fun l => (ih r l).1
  by_cases h3 : t.val % 56 = 55
  · rw [end_h m c t h0 h1 h2 h3, end_part m c t h0 h1 h2 h3, end_acc m c t h0 h1 h2 h3]
    exact ⟨(ih r k).1, hp, acc_of m c t i e hi he ht _ _ r k (ih r k).2.2 hp⟩
  · rw [last_h m c t h0 h1 h2 h3, last_part m c t h0 h1 h2 h3, last_acc m c t h0 h1 h2 h3]
    exact ⟨(ih r k).1, hp, acc_of m c t i e hi he ht _ _ r k (ih r k).2.2 hp⟩

/-- The scratch buffers after every point. -/
theorem state (n : ℕ) : ∀ (hn : n < cfg0.N) (i e f : ℕ) (hi : i < 16) (he : e < 8) (hf : f < 7), n = 56 * i + 7 * e + f →
    St m c i e f hi he (outsAt0 m c n hn).2.1 (outsAt0 m c n hn).2.2.1 (outsAt0 m c n hn).2.2.2 := by
  induction n with
  | zero =>
    intro hn i e f hi he hf h
    obtain rfl : i = 0 := by omega
    obtain rfl : e = 0 := by omega
    obtain rfl : f = 0 := by omega
    exact st_first m c ⟨0, hn⟩ 0 hi rfl
  | succ n ih =>
    intro hn i e f hi he hf h
    cases f with
    | zero =>
      cases e with
      | zero => exact st_first m c ⟨n + 1, hn⟩ i hi (by dsimp only; omega)
      | succ e => exact st_open m c ⟨n + 1, hn⟩ i e hi he (by dsimp only; omega) (ih (by omega) i e 6 hi (by omega) (by omega) (by omega))
    | succ f =>
      by_cases h6 : f + 1 = 6
      · obtain rfl : f = 5 := by omega
        exact st_last m c ⟨n + 1, hn⟩ i e hi he h (ih (by omega) i e 5 hi he (by omega) (by omega))
      · exact st_mid m c ⟨n + 1, hn⟩ i e f hi he (by omega) h (ih (by omega) i e f hi he (by omega) (by omega))

/-- The last point of a block of rows writes the layer's rows. -/
theorem out_of (t : Fin cfg0.N) (i : ℕ) (hi : i < 16) (ht : t.val = 56 * i + 55) (r k : Fin 1024) :
    (outsAt0 m c t.val t.isLt).1 (ix2 r k) = outR (args m c) (rowOf i hi r) (seqOf i hi) k := by
  have h0 : ¬t.val % 56 = 0 := by omega
  have h1 : ¬t.val % 7 = 0 := by omega
  have h2 : t.val % 7 = 6 := by omega
  have h3 : t.val % 56 = 55 := by omega
  have hs := state m c t.val t.isLt i 7 6 hi (by omega) (by omega) (by omega)
  rw [end_out m c t h0 h1 h2 h3, ← end_acc m c t h0 h1 h2 h3, pay2_at]
  unfold outR
  simp only [blk0 m c t i hi (by omega), blk2 m c t i hi (by omega), blk4 m c t, (hs r _).2.2]
  rfl

/-- The array after the run is the reference's. -/
theorem arr_eq : (dats (F := Ideal) m 0 c).arrAt 8 cfg0.N
    = Ref.layer (args m c).x (args m c).cb (args m c).md (args m c).ng (args m c).wg (args m c).wu (args m c).wd := by
  refine (dats m 0 c).arrAt_eq_of_covers 8 _ (by decide +kernel) fun t hf y => ?_
  have ht : t.val = 56 * (t.val / 56) + 55 := (by decide +kernel : ∀ t : Fin grid0.N, (cfg0.win 8).flush t = true → t.val = 56 * (t.val / 56) + 55) t hf
  have hi : t.val / 56 < 16 := by have h' : t.val < 896 := t.isLt; omega
  blk_simp
  rw [after0_8]
  obtain ⟨r, k, rfl⟩ : ∃ (r : Fin 1024) (k : Fin 1024), y = ix2 r k := ⟨y 0, y 1, by funext a; match a with | ⟨0, _⟩ => rfl | ⟨1, _⟩ => rfl⟩
  have hr := r.isLt
  have hemb : (win0_8.blk t).view.emb (ix2 r k) = ix2 (⟨(seqOf (t.val / 56) hi).val * 2048 + (t.val / 56 % 2 * 1024 + r.val), by dsimp only; omega⟩ : Fin 16384) k := by
    have e : (t.val / 56 / 2) * 2048 + (t.val / 56 % 2 * 1024 + r.val) = t.val / 56 * 1024 + r.val := by omega
    blk_ext [idx8 t]
  rw [hemb]
  refine Eq.trans ?_ (Ref.layer_at (args m c) (seqOf (t.val / 56) hi) ⟨t.val / 56 % 2 * 1024 + r.val, by omega⟩ k).symm
  rw [out_of m c t (t.val / 56) hi ht r k]
  refine congrArg (fun n => outR (args m c) n _ k) (Fin.ext ?_)
  dsimp only
  omega

/-- The kernel computes the reference. -/
theorem algebraic : algebraic_MoeKernelIdeal_MoeReferenceIdeal := by
  intro m g m' g' _ hagree
  refine ⟨fun c => (dats (F := Ideal) m 0 c).arrAt 8 cfg0.N, Cert.MoeKernelIdeal.Value.run_blocks m g, ?_⟩
  refine (θ_run _ _ _).mono (fun r h c => ⟨(h c).1.trans ?_, (h c).2⟩) (Cert.MoeReferenceIdeal.Value.run m' g')
  refine (Ref.run m' c).trans ?_
  obtain ⟨h0, h1, h2, h3, h4, h5, h6⟩ := hagree c
  rw [h0, h1, h2, h3, h4, h5, h6]
  exact (arr_eq m c).symm

end Cert.Moe
end
-- ==== Proof.Ffn.Body.lean ====
/- What one grid point of the dense layer's kernel leaves in its scratch buffers and in its output window. -/
module

public import proofs.«01_k».proof.Proof.Gen.FfnKernelIdeal.Value
public import Idealize.ShloMosaic.Lib.Pipeline.ValueKit
public import Idealize.ShloMosaic.Lib.Pipeline.ReadBack

@[expose] public section

set_option maxRecDepth 16384

noncomputable section

namespace Cert.Ffn
open Cert.FfnKernelIdeal Cert.FfnKernelIdeal.Gen Idealize.ShloMosaic Idealize.ShloMosaic.TcCoe Idealize.ShloMosaic.Tactic Idealize.SL.Sem

variable (m : (ℓ : Loc nD τ sig) → Buf (Elt Ideal) ℓ) (c : Dev nD) (t : Fin cfg0.N)

/-- The first point of a block of rows stores the normalised rows. -/
theorem first_h (h0 : t.val % 7 = 0) (h1 : ¬t.val % 7 = 6) :
    (outsAt0 m c t.val t.isLt).2.1 = k0_pay1 (iblk m c 0 t) (iblk m c 1 t) (iblk m c 2 t) := by
  rw [outsAt0_A m c t h0 h1]
  dsimp only
  frame_out

/-- The first point of a block of rows starts the product. -/
theorem first_acc (h0 : t.val % 7 = 0) (h1 : ¬t.val % 7 = 6) :
    (outsAt0 m c t.val t.isLt).2.2 = k0_pay3 (k0_pay2 (F := Ideal)) (k0_pay1 (iblk m c 0 t) (iblk m c 1 t) (iblk m c 2 t)) (iblk m c 4 t) (iblk m c 5 t) (iblk m c 6 t) := by
  rw [outsAt0_A m c t h0 h1]
  dsimp only
  frame_out

/-- A later point keeps the normalised rows. -/
theorem mid_h (h0 : ¬t.val % 7 = 0) (h1 : ¬t.val % 7 = 6) :
    (outsAt0 m c t.val t.isLt).2.1 = (outsAt0 m c (t.val - 1) (by omega)).2.1 := by
  rw [outsAt0_B m c t h0 h1]
  rfl

/-- A later point adds its columns to the product. -/
theorem mid_acc (h0 : ¬t.val % 7 = 0) (h1 : ¬t.val % 7 = 6) :
    (outsAt0 m c t.val t.isLt).2.2 = k0_pay3 (outsAt0 m c (t.val - 1) (by omega)).2.2 (outsAt0 m c (t.val - 1) (by omega)).2.1 (iblk m c 4 t) (iblk m c 5 t) (iblk m c 6 t) := by
  rw [outsAt0_B m c t h0 h1]
  dsimp only
  frame_out
  try simp only [read_unread_whole]

/-- The last point keeps the normalised rows. -/
theorem end_h (h0 : ¬t.val % 7 = 0) (h1 : t.val % 7 = 6) :
    (outsAt0 m c t.val t.isLt).2.1 = (outsAt0 m c (t.val - 1) (by omega)).2.1 := by
  rw [outsAt0_C m c t h0 h1]
  rfl

/-- The last point adds its columns to the product. -/
theorem end_acc (h0 : ¬t.val % 7 = 0) (h1 : t.val % 7 = 6) :
    (outsAt0 m c t.val t.isLt).2.2 = k0_pay3 (outsAt0 m c (t.val - 1) (by omega)).2.2 (outsAt0 m c (t.val - 1) (by omega)).2.1 (iblk m c 4 t) (iblk m c 5 t) (iblk m c 6 t) := by
  rw [outsAt0_C m c t h0 h1]
  dsimp only
  frame_out
  try simp only [read_unread_whole]

/-- The last point writes the rows out. -/
theorem end_out (h0 : ¬t.val % 7 = 0) (h1 : t.val % 7 = 6) :
    (outsAt0 m c t.val t.isLt).1 = k0_pay4 (iblk m c 0 t) (k0_pay3 (outsAt0 m c (t.val - 1) (by omega)).2.2 (outsAt0 m c (t.val - 1) (by omega)).2.1 (iblk m c 4 t) (iblk m c 5 t) (iblk m c 6 t)) (iblk m c 1 t) (iblk m c 3 t) := by
  rw [outsAt0_C m c t h0 h1]
  dsimp only
  frame_out
  try simp only [read_unread_whole]

end Cert.Ffn
end
-- ==== Proof.Ffn.Pay.lean ====
/- The stored vectors of the dense layer's kernel, at an index. -/
module

public import proofs.«01_k».proof.Proof.Gen.FfnKernelIdeal.Skeleton
public import proofs.«01_k».proof.Proof.Glu.Math

@[expose] public section

set_option maxRecDepth 16384

noncomputable section

namespace Cert.Ffn
open Cert.FfnKernelIdeal Cert.FfnKernelIdeal.Gen Cert.Glu Idealize.ShloMosaic Idealize.ShloMosaic.TcCoe Idealize.ShloMosaic.Tactic Idealize.SL.Sem

/-- The normalised rows. -/
theorem pay1_at (x : Vec Ideal S1024x1024 .f32) (md : Vec Ideal S1x1x3072 .f32) (g : Vec Ideal S1x1x1024 .f32) (r k : Fin 1024) :
    (k0_pay1 x md g : FVec Ideal S1024x1024 .bf16) (ix2 r k)
      = hid (fun l => x (ix2 r l)) (fun l => g (ix3 0 0 l)) (fun l => md (ix3 0 0 ⟨1024 + l.val, by omega⟩)) (fun l => md (ix3 0 0 ⟨l.val, by omega⟩)) k := by
  pointwise [k0_pay1]
  rfl

theorem pay2_at (r k : Fin 1024) : (k0_pay2 : FVec Ideal S1024x1024 .f32) (ix2 r k) = (0 : EReal) := by
  pointwise [k0_pay2]

/-- The product, a block of hidden columns on. -/
theorem pay3_at (a : Vec Ideal S1024x1024 .f32) (h : Vec Ideal S1024x1024 .bf16) (wg wu : Vec Ideal S1024x512 .bf16) (wd : Vec Ideal S512x1024 .bf16) (r k : Fin 1024) :
    (k0_pay3 a h wg wu wd : FVec Ideal S1024x1024 .f32) (ix2 r k)
      = a (ix2 r k) + ∑ x : Fin 512, col (fun l => h (ix2 r l)) (fun l j => wg (ix2 l j)) (fun l j => wu (ix2 l j)) (fun j d => wd (ix2 j d)) k x := by
  pointwise [k0_pay3]
  rfl

/-- The rows written out. -/
theorem pay4_at (x a : Vec Ideal S1024x1024 .f32) (md : Vec Ideal S1x1x3072 .f32) (g : Vec Ideal S1x1x1024 .f32) (r k : Fin 1024) :
    (k0_pay4 x a md g : FVec Ideal S1024x1024 .f32) (ix2 r k)
      = res (fun l => x (ix2 r l)) (fun l => md (ix3 0 0 ⟨2048 + l.val, by omega⟩)) (fun l => g (ix3 0 0 l)) (fun l => a (ix2 r l)) k := by
  pointwise [k0_pay4]
  rfl

end Cert.Ffn
end
-- ==== Proof.Ffn.Inp.lean ====
/- The blocks of the dense layer's kernel, read off the layer's arguments. -/
module

public import proofs.«01_k».proof.Proof.Gen.FfnKernelIdeal.Value
public import Idealize.ShloMosaic.Lib.Pipeline.ValueKit
public import Idealize.ShloMosaic.Lib.Pointwise

@[expose] public section

set_option maxRecDepth 16384

noncomputable section

namespace Cert.Ffn
open Cert.FfnKernelIdeal Cert.FfnKernelIdeal.Gen Idealize.ShloMosaic Idealize.ShloMosaic.TcCoe Idealize.ShloMosaic.Tactic Idealize.SL.Sem

variable (m : (ℓ : Loc nD τ sig) → Buf (Elt Ideal) ℓ) (c : Dev nD) (t : Fin cfg0.N)

theorem idx0 : win0_0.index t = ![t.val / 7, 0] := (by decide +kernel : ∀ t : Fin grid0.N, win0_0.index t = ![t.val / 7, 0]) t
theorem idx1 : win0_1.index t = ![8 + t.val / 14, 0, 0] := (by decide +kernel : ∀ t : Fin grid0.N, win0_1.index t = ![8 + t.val / 14, 0, 0]) t
theorem idx2 : win0_2.index t = ![0, 0, 0] := (by decide +kernel : ∀ t : Fin grid0.N, win0_2.index t = ![0, 0, 0]) t
theorem idx3 : win0_3.index t = ![0, 0, 0] := (by decide +kernel : ∀ t : Fin grid0.N, win0_3.index t = ![0, 0, 0]) t
theorem idx4 : win0_4.index t = ![0, t.val % 7] := (by decide +kernel : ∀ t : Fin grid0.N, win0_4.index t = ![0, t.val % 7]) t
theorem idx5 : win0_5.index t = ![0, t.val % 7] := (by decide +kernel : ∀ t : Fin grid0.N, win0_5.index t = ![0, t.val % 7]) t
theorem idx6 : win0_6.index t = ![t.val % 7, 0] := (by decide +kernel : ∀ t : Fin grid0.N, win0_6.index t = ![t.val % 7, 0]) t
theorem idx7 : win0_7.index t = ![t.val / 7, 0] := (by decide +kernel : ∀ t : Fin grid0.N, win0_7.index t = ![t.val / 7, 0]) t

theorem blk0 (i : ℕ) (hi : i < 16) (h : t.val / 7 = i) (r k : Fin 1024) :
    iblk m c 0 t (ix2 r k) = m ((c : Thread nD τ).loc main_arg0) (ix2 (⟨i * 1024 + r.val, by omega⟩ : Fin 16384) k) := by
  subst h
  blk_ext [iblk, V, idx0 t]
theorem blk1 (i : ℕ) (hi : i < 16) (h : t.val / 7 = i) (k : Fin 3072) :
    iblk m c 1 t (ix3 0 0 k) = m ((c : Thread nD τ).loc main_arg1) (ix3 (⟨8 + i / 2, by omega⟩ : Fin 32) 0 k) := by
  subst h
  have h2 : t.val / 14 = t.val / 7 / 2 := by omega
  blk_ext [iblk, V, idx1 t]

theorem gain2 (G : FVec Ideal S2x4x1024 .f32) (k : Fin 1024) :
    broadcastInDim S1x1x1024 ![1, 2] bcast_S1x1024_S1x1x1024_1_2 (shapeCast S1x1024 (extractStridedSlice S1x1x1024 ![2, 0, 0] (shapeCast S8x1x1024 G shapeCasts_S2x4x1024_S8x1x1024) slices_S8x1x1024_S1x1x1024_2_0_0) shapeCasts_S1x1x1024_S1x1024) (ix3 (0 : Fin 1) (0 : Fin 1) k) = G (ix3 (0 : Fin 2) (2 : Fin 4) k) := by
  pointwise

/-- The first gain, as the region finds it. -/
theorem V3 (k : Fin 1024) : V m c main_v3 (ix3 (0 : Fin 1) (0 : Fin 1) k) = m ((c : Thread nD τ).loc main_arg2) (ix3 (0 : Fin 2) (2 : Fin 4) k) := by
  have hv : V m c main_v3 = broadcastInDim S1x1x1024 ![1, 2] bcast_S1x1024_S1x1x1024_1_2 (shapeCast S1x1024 (extractStridedSlice S1x1x1024 ![2, 0, 0] (shapeCast S8x1x1024 (m ((c : Thread nD τ).loc main_arg2)) shapeCasts_S2x4x1024_S8x1x1024) slices_S8x1x1024_S1x1x1024_2_0_0) shapeCasts_S1x1x1024_S1x1024) := by
    unfold V
    simp only [hostOps0]
    after_results_simp
    rfl
  exact (congrFun hv _).trans (gain2 _ k)

theorem gain3 (G : FVec Ideal S2x4x1024 .f32) (k : Fin 1024) :
    broadcastInDim S1x1x1024 ![1, 2] bcast_S1x1024_S1x1x1024_1_2 (shapeCast S1x1024 (extractStridedSlice S1x1x1024 ![3, 0, 0] (shapeCast S8x1x1024 G shapeCasts_S2x4x1024_S8x1x1024) slices_S8x1x1024_S1x1x1024_3_0_0) shapeCasts_S1x1x1024_S1x1024) (ix3 (0 : Fin 1) (0 : Fin 1) k) = G (ix3 (0 : Fin 2) (3 : Fin 4) k) := by
  pointwise

/-- The second gain, as the region finds it. -/
theorem V6 (k : Fin 1024) : V m c main_v6 (ix3 (0 : Fin 1) (0 : Fin 1) k) = m ((c : Thread nD τ).loc main_arg2) (ix3 (0 : Fin 2) (3 : Fin 4) k) := by
  have hv : V m c main_v6 = broadcastInDim S1x1x1024 ![1, 2] bcast_S1x1024_S1x1x1024_1_2 (shapeCast S1x1024 (extractStridedSlice S1x1x1024 ![3, 0, 0] (shapeCast S8x1x1024 (m ((c : Thread nD τ).loc main_arg2)) shapeCasts_S2x4x1024_S8x1x1024) slices_S8x1x1024_S1x1x1024_3_0_0) shapeCasts_S1x1x1024_S1x1024) := by
    unfold V
    simp only [hostOps0]
    after_results_simp
    rfl
  exact (congrFun hv _).trans (gain3 _ k)

theorem wt_in (W : FVec Ideal S1x1024x3584 .f32) (k : Fin 1024) (j : Fin 3584) :
    (truncf .bf16 (shapeCast S1024x3584 W shapeCasts_S1x1024x3584_S1024x3584 : FVec Ideal S1024x3584 .f32) bitsLt_bf16_f32 : FVec Ideal S1024x3584 .bf16) (ix2 k j) = W (ix3 (0 : Fin 1) k j) := by
  pointwise

theorem wt_out (W : FVec Ideal S1x3584x1024 .f32) (k : Fin 3584) (j : Fin 1024) :
    (truncf .bf16 (shapeCast S3584x1024 W shapeCasts_S1x3584x1024_S3584x1024 : FVec Ideal S3584x1024 .f32) bitsLt_bf16_f32 : FVec Ideal S3584x1024 .bf16) (ix2 k j) = W (ix3 (0 : Fin 1) k j) := by
  pointwise

/-- The gate weights, as the region finds them. -/
theorem V8 (k : Fin 1024) (j : Fin 3584) : V m c main_v8 (ix2 k j) = m ((c : Thread nD τ).loc main_arg3) (ix3 (0 : Fin 1) k j) := by
  have hv : V m c main_v8 = (truncf .bf16 (shapeCast S1024x3584 (m ((c : Thread nD τ).loc main_arg3)) shapeCasts_S1x1024x3584_S1024x3584 : FVec Ideal S1024x3584 .f32) bitsLt_bf16_f32 : FVec Ideal S1024x3584 .bf16) := by
    unfold V
    simp only [hostOps0]
    after_results_simp
    rfl
  exact (congrFun hv _).trans (wt_in _ k j)

/-- The other weights, as the region finds them. -/
theorem V10 (k : Fin 1024) (j : Fin 3584) : V m c main_v10 (ix2 k j) = m ((c : Thread nD τ).loc main_arg4) (ix3 (0 : Fin 1) k j) := by
  have hv : V m c main_v10 = (truncf .bf16 (shapeCast S1024x3584 (m ((c : Thread nD τ).loc main_arg4)) shapeCasts_S1x1024x3584_S1024x3584 : FVec Ideal S1024x3584 .f32) bitsLt_bf16_f32 : FVec Ideal S1024x3584 .bf16) := by
    unfold V
    simp only [hostOps0]
    after_results_simp
    rfl
  exact (congrFun hv _).trans (wt_in _ k j)

/-- The last weights, as the region finds them. -/
theorem V12 (k : Fin 3584) (j : Fin 1024) : V m c main_v12 (ix2 k j) = m ((c : Thread nD τ).loc main_arg5) (ix3 (0 : Fin 1) k j) := by
  have hv : V m c main_v12 = (truncf .bf16 (shapeCast S3584x1024 (m ((c : Thread nD τ).loc main_arg5)) shapeCasts_S1x3584x1024_S3584x1024 : FVec Ideal S3584x1024 .f32) bitsLt_bf16_f32 : FVec Ideal S3584x1024 .bf16) := by
    unfold V
    simp only [hostOps0]
    after_results_simp
    rfl
  exact (congrFun hv _).trans (wt_out _ k j)

theorem blk2 (k : Fin 1024) : iblk m c 2 t (ix3 0 0 k) = m ((c : Thread nD τ).loc main_arg2) (ix3 (0 : Fin 2) (2 : Fin 4) k) := by
  refine Eq.trans ?_ (V3 m c k)
  blk_ext [iblk, idx2 t]
theorem blk3 (k : Fin 1024) : iblk m c 3 t (ix3 0 0 k) = m ((c : Thread nD τ).loc main_arg2) (ix3 (0 : Fin 2) (3 : Fin 4) k) := by
  refine Eq.trans ?_ (V6 m c k)
  blk_ext [iblk, idx3 t]
theorem blk4 (f : ℕ) (hf : f < 7) (h' : t.val % 7 = f) (k : Fin 1024) (j : Fin 512) :
    iblk m c 4 t (ix2 k j) = m ((c : Thread nD τ).loc main_arg3) (ix3 (0 : Fin 1) k (⟨f * 512 + j.val, by omega⟩ : Fin 3584)) := by
  refine Eq.trans ?_ (V8 m c k ⟨f * 512 + j.val, by omega⟩)
  subst h'
  blk_ext [iblk, idx4 t]
theorem blk5 (f : ℕ) (hf : f < 7) (h' : t.val % 7 = f) (k : Fin 1024) (j : Fin 512) :
    iblk m c 5 t (ix2 k j) = m ((c : Thread nD τ).loc main_arg4) (ix3 (0 : Fin 1) k (⟨f * 512 + j.val, by omega⟩ : Fin 3584)) := by
  refine Eq.trans ?_ (V10 m c k ⟨f * 512 + j.val, by omega⟩)
  subst h'
  blk_ext [iblk, idx5 t]
theorem blk6 (f : ℕ) (hf : f < 7) (h' : t.val % 7 = f) (j : Fin 512) (k : Fin 1024) :
    iblk m c 6 t (ix2 j k) = m ((c : Thread nD τ).loc main_arg5) (ix3 (0 : Fin 1) (⟨f * 512 + j.val, by omega⟩ : Fin 3584) k) := by
  refine Eq.trans ?_ (V12 m c ⟨f * 512 + j.val, by omega⟩ k)
  subst h'
  blk_ext [iblk, idx6 t]

end Cert.Ffn
end
-- ==== Proof.Ffn.Ref.lean ====
/- The dense layer's reference, by stages, and each stage read at an index. -/
module

public import proofs.«01_k».proof.Proof.Gen.FfnReferenceIdeal.Run
public import proofs.«01_k».proof.Proof.Glu.Math

@[expose] public section

set_option maxRecDepth 16384

noncomputable section

namespace Cert.Ffn.Ref
open Cert.FfnReferenceIdeal Cert.FfnReferenceIdeal.Gen Cert.FfnReferenceIdeal.Value Cert.Glu Idealize.ShloMosaic Idealize.ShloMosaic.TcCoe Idealize.ShloMosaic.Tactic Idealize.SL.Sem Idealize.ShloMosaic.StableHlo

abbrev Rows := FVec Ideal S8x2048x1024 .f32
abbrev Wide := FVec Ideal S8x2048x3584 .f32

/-- The rows by sequence. -/
def rows (x : FVec Ideal S16384x1024 .f32) : Rows := shapeCast S8x2048x1024 x shapeCasts_S16384x1024_S8x2048x1024
/-- The modulation's rows. -/
def mods (x : FVec Ideal S32x1x3072 .f32) : FVec Ideal S8x1x3072 .f32 := extractStridedSlice S8x1x3072 ![8, 0, 0] x slices_S32x1x3072_S8x1x3072_8_0_0
/-- The normalised rows at their gain. -/
def norm (X : Rows) (G : FVec Ideal S1x1x1024 .f32) : Rows :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast S1024 G shapeCasts_S1x1x1024_S1024)))
/-- The modulated rows. -/
def modul (X : Rows) (G : FVec Ideal S1x1x1024 .f32) (M : FVec Ideal S8x1x3072 .f32) : Rows :=
  addf (mulf (norm X G) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] M slices_S8x1x3072_S8x1x1024_0_0_1024)))) (broadcastInDim S8x2048x1024 ![0, 1, 2] bcast_S8x1x1024_S8x2048x1024_0_1_2 (extractStridedSlice S8x1x1024 ![0, 0, 0] M slices_S8x1x3072_S8x1x1024_0_0_0))
/-- The rows' products with the gate's or the other columns. -/
def wide (H : Rows) (W : FVec Ideal S1x1024x3584 .f32) : Wide :=
  Host.dotGeneral dot_S8x2048x1024_S1024x3584_S8x2048x3584_2_0_01_1_n_n none H (shapeCast S1024x3584 W shapeCasts_S1x1024x3584_S1024x3584)
/-- The hidden entries. -/
def hidden (a b : Wide) : Wide :=
  mulf (mulf a (Host.divf (broadcastInDim S8x2048x3584 ![] bcast_S_S8x2048x3584 (constant S_ .f32 0x3F800000#32)) (addf (broadcastInDim S8x2048x3584 ![] bcast_S_S8x2048x3584 (constant S_ .f32 0x3F800000#32)) (Host.exp (Host.negf a))))) b
/-- The gated layer's output. -/
def swiglu (H : Rows) (Wg Wu : FVec Ideal S1x1024x3584 .f32) (Wd : FVec Ideal S1x3584x1024 .f32) : Rows :=
  Host.dotGeneral dot_S8x2048x3584_S3584x1024_S8x2048x1024_2_0_01_1_n_n none (hidden (wide H Wg) (wide H Wu)) (shapeCast S3584x1024 Wd shapeCasts_S1x3584x1024_S3584x1024)
/-- The layer's rows. -/
def out (X Y : Rows) (G : FVec Ideal S1x1x1024 .f32) (M : FVec Ideal S8x1x3072 .f32) : FVec Ideal S16384x1024 .f32 :=
  shapeCast S16384x1024 (addf X (mulf (broadcastInDim S8x2048x1024 ![0, 1, 2] bcast_S8x1x1024_S8x2048x1024_0_1_2 (extractStridedSlice S8x1x1024 ![0, 0, 2048] M slices_S8x1x3072_S8x1x1024_0_0_2048)) (norm Y G))) shapeCasts_S8x2048x1024_S16384x1024

/-- The whole reference. -/
def layer (x : FVec Ideal S16384x1024 .f32) (md : FVec Ideal S32x1x3072 .f32) (ng : FVec Ideal S2x4x1024 .f32)
    (wg wu : FVec Ideal S1x1024x3584 .f32) (wd : FVec Ideal S1x3584x1024 .f32) : FVec Ideal S16384x1024 .f32 :=
  out (rows x) (swiglu (modul (rows x) (extractStridedSlice S1x1x1024 ![0, 2, 0] ng slices_S2x4x1024_S1x1x1024_0_2_0) (mods md)) wg wu wd)
    (extractStridedSlice S1x1x1024 ![0, 3, 0] ng slices_S2x4x1024_S1x1x1024_0_3_0) (mods md)

theorem norm_at (X : Rows) (G : FVec Ideal S1x1x1024 .f32) (b : Fin 8) (s : Fin 2048) (k : Fin 1024) :
    norm X G (ix3 b s k) = X (ix3 b s k) * rs (fun l => X (ix3 b s l)) * G (ix3 0 0 k) := by
  pointwise [norm]
  rfl

theorem modul_at (X : Rows) (G : FVec Ideal S1x1x1024 .f32) (M : FVec Ideal S8x1x3072 .f32) (b : Fin 8) (s : Fin 2048) (k : Fin 1024) :
    modul X G M (ix3 b s k) = hid (fun l => X (ix3 b s l)) (fun l => G (ix3 0 0 l)) (fun l => M (ix3 b 0 ⟨1024 + l.val, by omega⟩)) (fun l => M (ix3 b 0 ⟨l.val, by omega⟩)) k := by
  pointwise [modul]
  rw [norm_at]
  rfl

theorem wide_at (H : Rows) (W : FVec Ideal S1x1024x3584 .f32) (b : Fin 8) (s : Fin 2048) (j : Fin 3584) :
    wide H W (ix3 b s j) = dot (fun l => H (ix3 b s l)) (fun l j => W (ix3 0 l j)) j := by
  pointwise [wide]
  rfl

theorem hidden_at (a b' : Wide) (b : Fin 8) (s : Fin 2048) (j : Fin 3584) :
    hidden a b' (ix3 b s j) = a (ix3 b s j) * Ideal.logistic (a (ix3 b s j)) * b' (ix3 b s j) := by
  pointwise [hidden]
  rfl

theorem swiglu_at (H : Rows) (Wg Wu : FVec Ideal S1x1024x3584 .f32) (Wd : FVec Ideal S1x3584x1024 .f32) (b : Fin 8) (s : Fin 2048) (d : Fin 1024) :
    swiglu H Wg Wu Wd (ix3 b s d) = glu (fun l => H (ix3 b s l)) (fun l j => Wg (ix3 0 l j)) (fun l j => Wu (ix3 0 l j)) (fun j d => Wd (ix3 0 j d)) d := by
  pointwise [swiglu]
  simp only [hidden_at, wide_at]
  rfl

theorem out_at (X Y : Rows) (G : FVec Ideal S1x1x1024 .f32) (M : FVec Ideal S8x1x3072 .f32) (b : Fin 8) (s : Fin 2048) (d : Fin 1024) :
    out X Y G M (ix2 (⟨b.val * 2048 + s.val, by omega⟩ : Fin 16384) d)
      = res (fun l => X (ix3 b s l)) (fun l => M (ix3 b 0 ⟨2048 + l.val, by omega⟩)) (fun l => G (ix3 0 0 l)) (fun l => Y (ix3 b s l)) d := by
  pointwise [out]
  rw [norm_at]
  rfl

/-- The program's result is the stages composed. -/
theorem run (m : (ℓ : Loc nD τ sig) → Buf (Elt Ideal) ℓ) (c : Dev nD) :
    res_main_v52 (F := Ideal) m c
      = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v52
  rfl

end Cert.Ffn.Ref
end
-- ==== Proof.Ffn.Row.lean ====
/- A row of the dense layer in plain numbers, from the layer's arguments. -/
module

public import proofs.«01_k».proof.Proof.Glu.Math

@[expose] public section

noncomputable section

namespace Cert.Ffn
open Cert.Glu Idealize.ShloMosaic Idealize.ShloMosaic.Tactic

/-- The layer's arguments. -/
structure Args where
  x : FVec Ideal (⟨2, ![16384, 1024]⟩ : Shape) .f32
  md : FVec Ideal (⟨3, ![32, 1, 3072]⟩ : Shape) .f32
  ng : FVec Ideal (⟨3, ![2, 4, 1024]⟩ : Shape) .f32
  wg : FVec Ideal (⟨3, ![1, 1024, 3584]⟩ : Shape) .f32
  wu : FVec Ideal (⟨3, ![1, 1024, 3584]⟩ : Shape) .f32
  wd : FVec Ideal (⟨3, ![1, 3584, 1024]⟩ : Shape) .f32

/-- Sequence `b`'s row `n`, normalised and modulated. -/
def hidR (A : Args) (n : Fin 16384) (b : Fin 8) : Fin 1024 → EReal :=
  hid (fun l => A.x (ix2 n l)) (fun l => A.ng (ix3 0 2 l)) (fun l => A.md (ix3 ⟨8 + b.val, by omega⟩ 0 ⟨1024 + l.val, by omega⟩)) (fun l => A.md (ix3 ⟨8 + b.val, by omega⟩ 0 ⟨l.val, by omega⟩))

/-- What a hidden column adds to output column `d`. -/
def colR (A : Args) (n : Fin 16384) (b : Fin 8) (d : Fin 1024) : Fin 3584 → EReal :=
  col (hidR A n b) (fun l j => A.wg (ix3 0 l j)) (fun l j => A.wu (ix3 0 l j)) (fun j d => A.wd (ix3 0 j d)) d

/-- The layer's row. -/
def outR (A : Args) (n : Fin 16384) (b : Fin 8) : Fin 1024 → EReal :=
  res (fun l => A.x (ix2 n l)) (fun l => A.md (ix3 ⟨8 + b.val, by omega⟩ 0 ⟨2048 + l.val, by omega⟩)) (fun l => A.ng (ix3 0 3 l)) (fun l => ∑ j, colR A n b l j)

end Cert.Ffn
end
-- ==== Proof.Ffn.RefVal.lean ====
/- The dense layer's reference, at an index, is the layer's row. -/
module

public import proofs.«01_k».proof.Proof.Ffn.Ref
public import proofs.«01_k».proof.Proof.Ffn.Row

@[expose] public section

set_option maxRecDepth 16384

noncomputable section

namespace Cert.Ffn.Ref
open Cert.FfnReferenceIdeal Cert.FfnReferenceIdeal.Gen Cert.Glu Idealize.ShloMosaic Idealize.ShloMosaic.Tactic

theorem rows_at (x : FVec Ideal S16384x1024 .f32) (b : Fin 8) (s : Fin 2048) (k : Fin 1024) :
    rows x (ix3 b s k) = x (ix2 (⟨b.val * 2048 + s.val, by omega⟩ : Fin 16384) k) := by
  pointwise [rows]
theorem mods_at (x : FVec Ideal S32x1x3072 .f32) (b : Fin 8) (k : Fin 3072) :
    mods x (ix3 b 0 k) = x (ix3 (⟨8 + b.val, by omega⟩ : Fin 32) 0 k) := by
  pointwise [mods]
theorem gain2_at (x : FVec Ideal S2x4x1024 .f32) (k : Fin 1024) :
    extractStridedSlice S1x1x1024 ![0, 2, 0] x slices_S2x4x1024_S1x1x1024_0_2_0 (ix3 0 0 k) = x (ix3 0 2 k) := by
  pointwise
theorem gain3_at (x : FVec Ideal S2x4x1024 .f32) (k : Fin 1024) :
    extractStridedSlice S1x1x1024 ![0, 3, 0] x slices_S2x4x1024_S1x1x1024_0_3_0 (ix3 0 0 k) = x (ix3 0 3 k) := by
  pointwise

/-- The reference's row. -/
theorem layer_at (A : Args) (b : Fin 8) (s : Fin 2048) (d : Fin 1024) :
    layer A.x A.md A.ng A.wg A.wu A.wd (ix2 (⟨b.val * 2048 + s.val, by omega⟩ : Fin 16384) d)
      = outR A ⟨b.val * 2048 + s.val, by omega⟩ b d := by
  unfold layer
  rw [out_at]
  simp only [swiglu_at, modul_at, rows_at, mods_at, gain2_at, gain3_at]
  rfl

end Cert.Ffn.Ref
end
-- ==== Proof.Ffn.Value.lean ====
/- The dense layer's kernel computes its reference: the scratch buffers after each grid point, the array after the
   run, and the value claim. -/
module

public import proofs.«01_k».proof.Proof.Ffn.Body
public import proofs.«01_k».proof.Proof.Ffn.Pay
public import proofs.«01_k».proof.Proof.Ffn.Inp
public import proofs.«01_k».proof.Proof.Ffn.RefVal
public import proofs.«01_k».proof.Defs

@[expose] public section

set_option maxRecDepth 16384

noncomputable section

namespace Cert.Ffn
open Cert.FfnKernelIdeal Cert.FfnKernelIdeal.Gen Cert.Glu Idealize.ShloMosaic Idealize.ShloMosaic.TcCoe Idealize.ShloMosaic.Tactic Idealize.SL.Sem

variable (m : (ℓ : Loc nD τ sig) → Buf (Elt Ideal) ℓ) (c : Dev nD)

/-- The arguments as launched. -/
def args : Args where
  x := m ((c : Thread nD τ).loc main_arg0)
  md := m ((c : Thread nD τ).loc main_arg1)
  ng := m ((c : Thread nD τ).loc main_arg2)
  wg := m ((c : Thread nD τ).loc main_arg3)
  wu := m ((c : Thread nD τ).loc main_arg4)
  wd := m ((c : Thread nD τ).loc main_arg5)

abbrev rowOf (i : ℕ) (hi : i < 16) (r : Fin 1024) : Fin 16384 := ⟨i * 1024 + r.val, by omega⟩
abbrev seqOf (i : ℕ) (hi : i < 16) : Fin 8 := ⟨i / 2, by omega⟩

/-- A point's normalised rows are its block's. -/
theorem hid_of (t : Fin cfg0.N) (i : ℕ) (hi : i < 16) (h : t.val / 7 = i) (r k : Fin 1024) :
    (k0_pay1 (iblk m c 0 t) (iblk m c 1 t) (iblk m c 2 t) : FVec Ideal S1024x1024 .bf16) (ix2 r k) = hidR (args m c) (rowOf i hi r) (seqOf i hi) k := by
  rw [pay1_at]
  simp only [blk0 m c t i hi h, blk1 m c t i hi h, blk2 m c t]
  rfl

/-- A block of hidden columns adds its own to the product. -/
theorem part_of (t : Fin cfg0.N) (i f : ℕ) (hi : i < 16) (hf : f < 7) (ht : t.val = 7 * i + f)
    (a : Vec Ideal S1024x1024 .f32) (h : Vec Ideal S1024x1024 .bf16) (r k : Fin 1024)
    (ha : a (ix2 r k) = psum (colR (args m c) (rowOf i hi r) (seqOf i hi) k) (f * 512))
    (hh : ∀ l : Fin 1024, h (ix2 r l) = hidR (args m c) (rowOf i hi r) (seqOf i hi) l) :
    (k0_pay3 a h (iblk m c 4 t) (iblk m c 5 t) (iblk m c 6 t) : FVec Ideal S1024x1024 .f32) (ix2 r k)
      = psum (colR (args m c) (rowOf i hi r) (seqOf i hi) k) ((f + 1) * 512) := by
  have h2 : t.val % 7 = f := by omega
  rw [pay3_at, ha, Nat.succ_mul, psum_add _ _ _ (by omega)]
  refine congrArg (_ + ·) (Finset.sum_congr rfl fun x _ => ?_)
  unfold colR col up dot
  simp only [hh, blk4 m c t f hf h2, blk5 m c t f hf h2, blk6 m c t f hf h2]
  rfl

/-- What the scratch buffers hold after block `f` of hidden columns, for block `i` of rows. -/
def St (i f : ℕ) (hi : i < 16) (h : Vec Ideal S1024x1024 .bf16) (a : Vec Ideal S1024x1024 .f32) : Prop :=
  ∀ r k : Fin 1024, h (ix2 r k) = hidR (args m c) (rowOf i hi r) (seqOf i hi) k
    ∧ a (ix2 r k) = psum (colR (args m c) (rowOf i hi r) (seqOf i hi) k) ((f + 1) * 512)

/-- The first point of a block of rows. -/
theorem st_first (t : Fin cfg0.N) (i : ℕ) (hi : i < 16) (ht : t.val = 7 * i) :
    St m c i 0 hi (outsAt0 m c t.val t.isLt).2.1 (outsAt0 m c t.val t.isLt).2.2 := by
  intro r k
  have h0 : t.val % 7 = 0 := by omega
  have h1 : ¬t.val % 7 = 6 := by omega
  rw [first_h m c t h0 h1, first_acc m c t h0 h1]
  refine ⟨hid_of m c t i hi (by omega) r k, ?_⟩
  exact part_of m c t i 0 hi (by omega) (by omega) _ _ r k (pay2_at r k) fun l => hid_of m c t i hi (by omega) r l

/-- A later point. -/
theorem st_next (t : Fin cfg0.N) (i f : ℕ) (hi : i < 16) (hf : f + 1 < 7) (ht : t.val = 7 * i + (f + 1))
    (ih : St m c i f hi (outsAt0 m c (t.val - 1) (by omega)).2.1 (outsAt0 m c (t.val - 1) (by omega)).2.2) :
    St m c i (f + 1) hi (outsAt0 m c t.val t.isLt).2.1 (outsAt0 m c t.val t.isLt).2.2 := by
  intro r k
  have h0 : ¬t.val % 7 = 0 := by omega
  have hp := part_of m c t i (f + 1) hi (by omega) ht _ _ r k (ih r k).2 fun l => (ih r l).1
  by_cases h1 : t.val % 7 = 6
  · rw [end_h m c t h0 h1, end_acc m c t h0 h1]
    exact ⟨(ih r k).1, hp⟩
  · rw [mid_h m c t h0 h1, mid_acc m c t h0 h1]
    exact ⟨(ih r k).1, hp⟩

/-- The scratch buffers after every point. -/
theorem state (n : ℕ) : ∀ (hn : n < cfg0.N) (i f : ℕ) (hi : i < 16) (hf : f < 7), n = 7 * i + f →
    St m c i f hi (outsAt0 m c n hn).2.1 (outsAt0 m c n hn).2.2 := by
  induction n with
  | zero =>
    intro hn i f hi hf h
    obtain rfl : i = 0 := by omega
    obtain rfl : f = 0 := by omega
    exact st_first m c ⟨0, hn⟩ 0 hi rfl
  | succ n ih =>
    intro hn i f hi hf h
    cases f with
    | zero => exact st_first m c ⟨n + 1, hn⟩ i hi (by dsimp only; omega)
    | succ f => exact st_next m c ⟨n + 1, hn⟩ i f hi hf h (ih (by omega) i f hi (by omega) (by omega))

/-- The last point of a block of rows writes the layer's rows. -/
theorem out_of (t : Fin cfg0.N) (i : ℕ) (hi : i < 16) (ht : t.val = 7 * i + 6) (r k : Fin 1024) :
    (outsAt0 m c t.val t.isLt).1 (ix2 r k) = outR (args m c) (rowOf i hi r) (seqOf i hi) k := by
  have h0 : ¬t.val % 7 = 0 := by omega
  have h1 : t.val % 7 = 6 := by omega
  have hs := state m c t.val t.isLt i 6 hi (by omega) (by omega)
  have hp : ∀ l : Fin 1024, (outsAt0 m c t.val t.isLt).2.2 (ix2 r l) = ∑ j, colR (args m c) (rowOf i hi r) (seqOf i hi) l j := fun l => (hs r l).2.trans (psum_all _)
  rw [end_out m c t h0 h1, ← end_acc m c t h0 h1, pay4_at]
  unfold outR
  simp only [blk0 m c t i hi (by omega), blk1 m c t i hi (by omega), blk3 m c t, hp]
  rfl

/-- The array after the run is the reference's. -/
theorem arr_eq : (dats (F := Ideal) m 0 c).arrAt 7 cfg0.N
    = Ref.layer (args m c).x (args m c).md (args m c).ng (args m c).wg (args m c).wu (args m c).wd := by
  refine (dats m 0 c).arrAt_eq_of_covers 7 _ (by decide +kernel) fun t hf y => ?_
  have ht : t.val = 7 * (t.val / 7) + 6 := (by decide +kernel : ∀ t : Fin grid0.N, (cfg0.win 7).flush t = true → t.val = 7 * (t.val / 7) + 6) t hf
  have hi : t.val / 7 < 16 := by have h' : t.val < 112 := t.isLt; omega
  blk_simp
  rw [after0_7]
  obtain ⟨r, k, rfl⟩ : ∃ (r : Fin 1024) (k : Fin 1024), y = ix2 r k := ⟨y 0, y 1, by funext a; match a with | ⟨0, _⟩ => rfl | ⟨1, _⟩ => rfl⟩
  have hr := r.isLt
  have hemb : (win0_7.blk t).view.emb (ix2 r k) = ix2 (⟨(seqOf (t.val / 7) hi).val * 2048 + (t.val / 7 % 2 * 1024 + r.val), by dsimp only; omega⟩ : Fin 16384) k := by
    have e : (t.val / 7 / 2) * 2048 + (t.val / 7 % 2 * 1024 + r.val) = t.val / 7 * 1024 + r.val := by omega
    blk_ext [idx7 t]
  rw [hemb]
  refine Eq.trans ?_ (Ref.layer_at (args m c) (seqOf (t.val / 7) hi) ⟨t.val / 7 % 2 * 1024 + r.val, by omega⟩ k).symm
  rw [out_of m c t (t.val / 7) hi ht r k]
  refine congrArg (fun n => outR (args m c) n _ k) (Fin.ext ?_)
  dsimp only
  omega

/-- The kernel computes the reference. -/
theorem algebraic : algebraic_FfnKernelIdeal_FfnReferenceIdeal := by
  intro m g m' g' _ hagree
  refine ⟨fun c => (dats (F := Ideal) m 0 c).arrAt 7 cfg0.N, Cert.FfnKernelIdeal.Value.run_blocks m g, ?_⟩
  refine (θ_run _ _ _).mono (fun r h c => ⟨(h c).1.trans ?_, (h c).2⟩) (Cert.FfnReferenceIdeal.Value.run m' g')
  refine (Ref.run m' c).trans ?_
  obtain ⟨h0, h1, h2, h3, h4, h5⟩ := hagree c
  rw [h0, h1, h2, h3, h4, h5]
  exact (arr_eq m c).symm

end Cert.Ffn
end
-- ==== Proof.In.Out.lean ====
/- What one grid point of the input projection's kernel leaves in its output windows. -/
module

public import proofs.«01_k».proof.Proof.Gen.InKernelIdeal.Frame
public import proofs.«01_k».proof.Proof.Glu.Math
public import Idealize.ShloMosaic.Lib.Pipeline.ValueKit

@[expose] public section

set_option maxRecDepth 16384

noncomputable section

namespace Cert.In
open Cert.InKernelIdeal Cert.InKernelIdeal.Gen Cert.Glu Idealize.ShloMosaic Idealize.ShloMosaic.TcCoe Idealize.ShloMosaic.Tactic Idealize.SL.Sem

/-- The normalised rows. -/
theorem pay6_at (x : Vec Ideal S512x1024 .f32) (md : Vec Ideal S1x1x3072 .f32) (g : Vec Ideal S1x1x1024 .f32) (r : Fin 512) (k : Fin 1024) :
    (k0_pay6 x md g : FVec Ideal S512x1024 .bf16) (ix2 r k)
      = hid (fun l => x (ix2 r l)) (fun l => g (ix3 0 0 l)) (fun l => md (ix3 0 0 ⟨1024 + l.val, by omega⟩)) (fun l => md (ix3 0 0 ⟨l.val, by omega⟩)) k := by
  pointwise [k0_pay6]
  rfl

theorem pay1_at (h : FVec Ideal S512x1024 .bf16) (w : Vec Ideal S1024x768 .bf16) (r : Fin 512) (k : Fin 768) :
    (k0_pay1 h w : FVec Ideal S512x768 .bf16) (ix2 r k) = dot (fun l => h (ix2 r l)) (fun l j => w (ix2 l j)) k := by
  pointwise [k0_pay1]
  rfl
theorem pay2_eq : k0_pay2 (F := Ideal) = k0_pay1 := rfl
theorem pay3_eq : k0_pay3 (F := Ideal) = k0_pay1 := rfl
theorem pay4_eq : k0_pay4 (F := Ideal) = k0_pay1 := rfl
theorem pay7_eq (x : Vec Ideal S512x1024 .f32) (md : Vec Ideal S1x1x3072 .f32) (g : Vec Ideal S1x1x1024 .f32) : k0_pay7 x md g = k0_pay1 (k0_pay6 x md g) := rfl
theorem pay8_eq (x : Vec Ideal S512x1024 .f32) (md : Vec Ideal S1x1x3072 .f32) (g : Vec Ideal S1x1x1024 .f32) : k0_pay8 x md g = k0_pay1 (k0_pay6 x md g) := rfl

theorem pay5_at (h : FVec Ideal S512x1024 .bf16) (w : Vec Ideal S1024x128 .bf16) (r : Fin 512) (k : Fin 128) :
    (k0_pay5 h w : FVec Ideal S512x128 .f32) (ix2 r k) = dot (fun l => h (ix2 r l)) (fun l j => w (ix2 l j)) k := by
  pointwise [k0_pay5]
  rfl

theorem pay9_eq (x0 : Vec Ideal S512x1024 .f32) (x1 : Vec Ideal S1x1x3072 .f32) (x2 : Vec Ideal S1x1x1024 .f32) (x3 : Vec Ideal S1024x4608 .bf16) (x4 : Vec Ideal S1024x128 .bf16) :
    k0_pay9 x0 x1 x2 x3 x4 = k0_pay6 x0 x1 x2 := by
  unfold k0_pay9
  rw [show View.ld x0 r0_0 = x0 from View.ld_unit_lit _ _ (by decide), show View.ld x1 r0_1 = x1 from View.ld_unit_lit _ _ (by decide), show View.ld x2 r0_2 = x2 from View.ld_unit_lit _ _ (by decide)]

/-- A strip of 768 columns of the product is the product with that strip of the weights. -/
theorem strip (h : FVec Ideal S512x1024 .bf16) (w : Vec Ideal S1024x4608 .bf16) (off : ℕ) (ho : off + 768 ≤ 4608)
    (inb : ∀ a, (![0, off] : Fin 2 → ℕ) a + S1024x768.size a ≤ S1024x4608.size a) (inb' : ∀ a, (![0, off] : Fin 2 → ℕ) a + S512x768.size a ≤ S512x4608.size a)
    (x : (Rect.unit (s := S512x4608) ![0, off] S512x768.size inb').shape.Idx) :
    (k0_pay1 h (View.ld w (Rect.unit (s := S1024x4608) ![0, off] S1024x768.size inb)) : FVec Ideal S512x768 .bf16) x
      = (fun y : S512x4608.Idx => dot (fun l => h (ix2 (y 0) l)) (fun l (j : Fin 4608) => w (ix2 l j)) (y 1)) ((Rect.unit (s := S512x4608) ![0, off] S512x768.size inb').emb x) := by
  obtain ⟨r, k, rfl⟩ : ∃ (r : Fin 512) (k : Fin 768), x = ix2 r k := ⟨x 0, x 1, by funext a; match a with | ⟨0, _⟩ => rfl | ⟨1, _⟩ => rfl⟩
  rw [pay1_at]
  have e : (Rect.unit (s := S512x4608) ![0, off] S512x768.size inb').emb (ix2 r k) = ix2 r (⟨off + k.val, by omega⟩ : Fin 4608) := by
    funext a
    refine Fin.ext ((Rect.idx_unit_val _ _ inb' _ a).trans ?_)
    match a with
    | ⟨0, _⟩ => exact Nat.zero_add _
    | ⟨1, _⟩ => rfl
  rw [e]
  refine Finset.sum_congr rfl fun l _ => congrArg (_ * ·) ?_
  refine View.ld_unit_apply_of _ _ _ _ _ _ fun a => ?_
  match a with
  | ⟨0, _⟩ => exact (Nat.zero_add _).symm
  | ⟨1, _⟩ => rfl

/-- The first window holds the products with the attention columns. -/
theorem out5_at (x0 : Vec Ideal S512x1024 .f32) (x1 : Vec Ideal S1x1x3072 .f32) (x2 : Vec Ideal S1x1x1024 .f32) (x3 : Vec Ideal S1024x4608 .bf16) (x4 : Vec Ideal S1024x128 .bf16) (r : Fin 512) (k : Fin 4608) :
    out0_5 x0 x1 x2 x3 x4 (ix2 r k) = dot (fun l => k0_pay6 x0 x1 x2 (ix2 r l)) (fun l j => x3 (ix2 l j)) k := by
  unfold_out out0_5
  rw [show View.ld x0 r0_0 = x0 from View.ld_unit_lit _ _ (by decide), show View.ld x1 r0_1 = x1 from View.ld_unit_lit _ _ (by decide), show View.ld x2 r0_2 = x2 from View.ld_unit_lit _ _ (by decide)]
  rw [pay2_eq, pay3_eq, pay4_eq, pay7_eq, pay8_eq]
  refine View.canon_apply_of_pieces (Val := Elt Ideal) (e := .bf16) (fun y : S512x4608.Idx => (dot (fun l => k0_pay6 x0 x1 x2 (ix2 (y 0) l)) (fun l (j : Fin 4608) => x3 (ix2 l j)) (y 1) : EReal)) _ (fun p hp j => ?_) (ix2 r k) (cover0_5 _ _ _ _ _ _ _)
  simp only [List.mem_cons, List.mem_nil_iff, or_false] at hp
  rcases hp with rfl | rfl | rfl | rfl | rfl | rfl
  · exact strip _ x3 3840 (by omega) inb_S1024x4608_S1024x768_0_3840 inb_S512x4608_S512x768_0_3840 j
  · exact strip _ x3 3072 (by omega) inb_S1024x4608_S1024x768_0_3072 inb_S512x4608_S512x768_0_3072 j
  · exact strip _ x3 2304 (by omega) inb_S1024x4608_S1024x768_0_2304 inb_S512x4608_S512x768_0_2304 j
  · exact strip _ x3 1536 (by omega) inb_S1024x4608_S1024x768_0_1536 inb_S512x4608_S512x768_0_1536 j
  · exact strip _ x3 768 (by omega) inb_S1024x4608_S1024x768_0_768 inb_S512x4608_S512x768_0_768 j
  · exact strip _ x3 0 (by omega) inb_S1024x4608_S1024x768_0_0 inb_S512x4608_S512x768_0_0 j

/-- The second window holds the products with the forget columns. -/
theorem out6_at (x0 : Vec Ideal S512x1024 .f32) (x1 : Vec Ideal S1x1x3072 .f32) (x2 : Vec Ideal S1x1x1024 .f32) (x3 : Vec Ideal S1024x4608 .bf16) (x4 : Vec Ideal S1024x128 .bf16) (r : Fin 512) (k : Fin 128) :
    out0_6 x0 x1 x2 x3 x4 (ix2 r k) = dot (fun l => k0_pay6 x0 x1 x2 (ix2 r l)) (fun l j => x4 (ix2 l j)) k := by
  have e : out0_6 x0 x1 x2 x3 x4 = k0_pay5 (k0_pay9 x0 x1 x2 x3 x4) x4 := by frame_out
  rw [e, pay9_eq, pay5_at]

end Cert.In
end
-- ==== Proof.In.Row.lean ====
/- A row of the input projection in plain numbers, from the layer's arguments. -/
module

public import proofs.«01_k».proof.Proof.Glu.Math

@[expose] public section

noncomputable section

namespace Cert.In
open Cert.Glu Idealize.ShloMosaic Idealize.ShloMosaic.Tactic

/-- The layer's arguments. -/
structure Args where
  x : FVec Ideal (⟨2, ![16384, 1024]⟩ : Shape) .f32
  md : FVec Ideal (⟨3, ![32, 1, 3072]⟩ : Shape) .f32
  ng : FVec Ideal (⟨3, ![2, 4, 1024]⟩ : Shape) .f32
  w : FVec Ideal (⟨3, ![2, 1024, 7688]⟩ : Shape) .f32

/-- Sequence `b`'s row `n`, normalised and modulated. -/
def hidR (A : Args) (n : Fin 16384) (b : Fin 8) : Fin 1024 → EReal :=
  hid (fun l => A.x (ix2 n l)) (fun l => A.ng (ix3 0 0 l)) (fun l => A.md (ix3 ⟨b.val, by omega⟩ 0 ⟨1024 + l.val, by omega⟩)) (fun l => A.md (ix3 ⟨b.val, by omega⟩ 0 ⟨l.val, by omega⟩))

/-- The row's projection on column `j` of all the columns. -/
def proj (A : Args) (n : Fin 16384) (b : Fin 8) (j : Fin 7688) : EReal := dot (hidR A n b) (fun l j => A.w (ix3 0 l j)) j

/-- The column an attention column is: the forget logits stand after the first 1536. -/
def src (j : Fin 4608) : Fin 7688 := if j.val < 1536 then ⟨j.val, by omega⟩ else ⟨j.val + 8, by omega⟩

theorem src_lo (j : Fin 4608) (h : j.val < 1536) : src j = ⟨j.val, by omega⟩ := if_pos h
theorem src_hi (j : Fin 4608) (h : ¬j.val < 1536) : src j = ⟨j.val + 8, by omega⟩ := if_neg h

/-- The forget logit of head `j`, and zero in the further lanes. -/
def forget (A : Args) (n : Fin 16384) (b : Fin 8) (j : Fin 128) : EReal :=
  if h : j.val < 8 then proj A n b ⟨1536 + j.val, by omega⟩ else 0

/-- The integer zero as a number. -/
theorem zero_int : (FloatOps.sitofp (F := Ideal) FTy.f32 0#32 : EReal) = 0 := by
  show (((0#32 : BitVec 32).toInt : ℝ) : EReal) = 0
  simp

end Cert.In
end
-- ==== Proof.In.Inp.lean ====
/- The blocks of the input projection's kernel, read off the layer's arguments. -/
module

public import proofs.«01_k».proof.Proof.Gen.InKernelIdeal.Value
public import proofs.«01_k».proof.Proof.In.Row
public import Idealize.ShloMosaic.Lib.Pipeline.ValueKit
public import Idealize.ShloMosaic.Lib.Pointwise

@[expose] public section

set_option maxRecDepth 16384

noncomputable section

namespace Cert.In
open Cert.InKernelIdeal Cert.InKernelIdeal.Gen Idealize.ShloMosaic Idealize.ShloMosaic.TcCoe Idealize.ShloMosaic.Tactic Idealize.SL.Sem

variable (m : (ℓ : Loc nD τ sig) → Buf (Elt Ideal) ℓ) (c : Dev nD) (t : Fin cfg0.N)

theorem idx0 : win0_0.index t = ![t.val, 0] := (by decide +kernel : ∀ t : Fin grid0.N, win0_0.index t = ![t.val, 0]) t
theorem idx1 : win0_1.index t = ![t.val / 4, 0, 0] := (by decide +kernel : ∀ t : Fin grid0.N, win0_1.index t = ![t.val / 4, 0, 0]) t
theorem idx2 : win0_2.index t = ![0, 0, 0] := (by decide +kernel : ∀ t : Fin grid0.N, win0_2.index t = ![0, 0, 0]) t
theorem idx3 : win0_3.index t = ![0, 0] := (by decide +kernel : ∀ t : Fin grid0.N, win0_3.index t = ![0, 0]) t
theorem idx4 : win0_4.index t = ![0, 0] := (by decide +kernel : ∀ t : Fin grid0.N, win0_4.index t = ![0, 0]) t
theorem idx5 : win0_5.index t = ![t.val, 0] := (by decide +kernel : ∀ t : Fin grid0.N, win0_5.index t = ![t.val, 0]) t
theorem idx6 : win0_6.index t = ![t.val, 0] := (by decide +kernel : ∀ t : Fin grid0.N, win0_6.index t = ![t.val, 0]) t

theorem blk0 (h : t.val < 32) (r : Fin 512) (k : Fin 1024) :
    iblk m c 0 t (ix2 r k) = m ((c : Thread nD τ).loc main_arg0) (ix2 (⟨t.val * 512 + r.val, by omega⟩ : Fin 16384) k) := by
  blk_ext [iblk, V, idx0 t]
theorem blk1 (h : t.val < 32) (k : Fin 3072) :
    iblk m c 1 t (ix3 0 0 k) = m ((c : Thread nD τ).loc main_arg1) (ix3 (⟨t.val / 4, by omega⟩ : Fin 32) 0 k) := by
  blk_ext [iblk, V, idx1 t]

theorem gain0 (G : FVec Ideal S2x4x1024 .f32) (k : Fin 1024) :
    broadcastInDim S1x1x1024 ![1, 2] bcast_S1x1024_S1x1x1024_1_2 (shapeCast S1x1024 (extractStridedSlice S1x1x1024 ![0, 0, 0] (shapeCast S8x1x1024 G shapeCasts_S2x4x1024_S8x1x1024) slices_S8x1x1024_S1x1x1024_0_0_0) shapeCasts_S1x1x1024_S1x1024) (ix3 (0 : Fin 1) (0 : Fin 1) k) = G (ix3 (0 : Fin 2) (0 : Fin 4) k) := by
  pointwise

/-- The gain, as the region finds it. -/
theorem V12 (k : Fin 1024) : V m c main_v12 (ix3 (0 : Fin 1) (0 : Fin 1) k) = m ((c : Thread nD τ).loc main_arg2) (ix3 (0 : Fin 2) (0 : Fin 4) k) := by
  have hv : V m c main_v12 = broadcastInDim S1x1x1024 ![1, 2] bcast_S1x1024_S1x1x1024_1_2 (shapeCast S1x1024 (extractStridedSlice S1x1x1024 ![0, 0, 0] (shapeCast S8x1x1024 (m ((c : Thread nD τ).loc main_arg2)) shapeCasts_S2x4x1024_S8x1x1024) slices_S8x1x1024_S1x1x1024_0_0_0) shapeCasts_S1x1x1024_S1x1024) := by
    unfold V
    simp only [hostOps0, hostOps0_1, hostOps0_2, List.flatten_cons, List.flatten_nil, List.append_nil, List.cons_append, List.nil_append, StableHlo.TRef.unary, StableHlo.TRef.binary]
    after_results_simp
    rfl
  exact (congrFun hv _).trans (gain0 _ k)

/-- The weights of the first layer. -/
def wl (W : FVec Ideal S2x1024x7688 .f32) : FVec Ideal S1024x7688 .f32 :=
  shapeCast S1024x7688 (extractStridedSlice S1x1024x7688 ![0, 0, 0] W slices_S2x1024x7688_S1x1024x7688_0_0_0) shapeCasts_S1x1024x7688_S1024x7688
/-- The attention columns of them. -/
def wa (W : FVec Ideal S2x1024x7688 .f32) : FVec Ideal S1024x4608 .bf16 :=
  truncf .bf16 (concatenate S1024x4608 1 [⟨S1024x1536, extractStridedSlice S1024x1536 ![0, 0] (wl W) slices_S1024x7688_S1024x1536_0_0⟩, ⟨S1024x3072, extractStridedSlice S1024x3072 ![0, 1544] (wl W) slices_S1024x7688_S1024x3072_0_1544⟩] concatenates_S1024x1536_S1024x3072_S1024x4608_d1 : FVec Ideal S1024x4608 .f32) bitsLt_bf16_f32
/-- The forget columns, filled up with zeros. -/
def wf (W : FVec Ideal S2x1024x7688 .f32) : FVec Ideal S1024x128 .bf16 :=
  truncf .bf16 (pad S1024x128 ![0, 0] ![0, 120] ![0, 0] (extractStridedSlice S1024x8 ![0, 1536] (wl W) slices_S1024x7688_S1024x8_0_1536) (sitofp .f32 (constantI S_ 32 0#32)) pads_S1024x8_S1024x128_000_01200 h_S_ : FVec Ideal S1024x128 .f32) bitsLt_bf16_f32

theorem wl_at (W : FVec Ideal S2x1024x7688 .f32) (k : Fin 1024) (j : Fin 7688) : wl W (ix2 k j) = W (ix3 0 k j) := by
  pointwise [wl]

theorem wa_at (W : FVec Ideal S2x1024x7688 .f32) (k : Fin 1024) (j : Fin 4608) : wa W (ix2 k j) = W (ix3 0 k (src j)) := by
  pointwise [wa]
  by_cases h : j.val < 1536
  · rw [src_lo j h, dif_pos h]
    exact wl_at W k _
  · rw [src_hi j h, dif_neg h]
    refine (wl_at W k _).trans ?_
    congr 2
    exact Fin.ext (show 1544 + (j.val - 1536) = j.val + 8 by omega)

theorem wf_at (W : FVec Ideal S2x1024x7688 .f32) (k : Fin 1024) (j : Fin 128) : wf W (ix2 k j) = if h : j.val < 8 then W (ix3 0 k ⟨1536 + j.val, by omega⟩) else 0 := by
  pointwise [wf]
  by_cases h : j.val < 8
  · rw [dif_pos h, dif_pos h]
    exact wl_at W k _
  · rw [dif_neg h, dif_neg h]
    exact zero_int

theorem V6 : V m c main_v6 = wa (m ((c : Thread nD τ).loc main_arg3)) := by
  unfold V
  simp only [hostOps0, hostOps0_1, hostOps0_2, List.flatten_cons, List.flatten_nil, List.append_nil, List.cons_append, List.nil_append, StableHlo.TRef.unary, StableHlo.TRef.binary]
  after_results_simp
  rfl
theorem V9 : V m c main_v9 = wf (m ((c : Thread nD τ).loc main_arg3)) := by
  unfold V
  simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]
  after_results_simp
  rfl

theorem blk2 (k : Fin 1024) : iblk m c 2 t (ix3 0 0 k) = m ((c : Thread nD τ).loc main_arg2) (ix3 (0 : Fin 2) (0 : Fin 4) k) := by
  refine Eq.trans ?_ (V12 m c k)
  blk_ext [iblk, idx2 t]
theorem blk3 (k : Fin 1024) (j : Fin 4608) : iblk m c 3 t (ix2 k j) = m ((c : Thread nD τ).loc main_arg3) (ix3 (0 : Fin 2) k (src j)) := by
  refine Eq.trans ?_ ((congrFun (V6 m c) (ix2 k j)).trans (wa_at _ k j))
  blk_ext [iblk, idx3 t]
theorem blk4 (k : Fin 1024) (j : Fin 128) : iblk m c 4 t (ix2 k j) = if h : j.val < 8 then m ((c : Thread nD τ).loc main_arg3) (ix3 (0 : Fin 2) k (⟨1536 + j.val, by omega⟩ : Fin 7688)) else (0 : EReal) := by
  refine Eq.trans ?_ ((congrFun (V9 m c) (ix2 k j)).trans (wf_at _ k j))
  blk_ext [iblk, idx4 t]

end Cert.In
end
-- ==== Proof.In.Ref.lean ====
/- The input projection's reference, by stages, and each stage read at an index. -/
module

public import proofs.«01_k».proof.Proof.Gen.InReferenceIdeal.Run
public import proofs.«01_k».proof.Proof.In.Row

@[expose] public section

set_option maxRecDepth 16384

noncomputable section

namespace Cert.In.Ref
open Cert.InReferenceIdeal Cert.InReferenceIdeal.Gen Cert.InReferenceIdeal.Value Cert.Glu Idealize.ShloMosaic Idealize.ShloMosaic.TcCoe Idealize.ShloMosaic.Tactic Idealize.SL.Sem Idealize.ShloMosaic.StableHlo

abbrev Rows := FVec Ideal S8x2048x1024 .f32
abbrev Cols := FVec Ideal S8x2048x7688 .f32

/-- The normalised rows at their gain. -/
def norm (X : Rows) (G : FVec Ideal S1x1x1024 .f32) : Rows :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast S1024 G shapeCasts_S1x1x1024_S1024)))
/-- The modulated rows. -/
def modul (X : Rows) (G : FVec Ideal S1x1x1024 .f32) (M : FVec Ideal S8x1x3072 .f32) : Rows :=
  addf (mulf (norm X G) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] M slices_S8x1x3072_S8x1x1024_0_0_1024)))) (broadcastInDim S8x2048x1024 ![0, 1, 2] bcast_S8x1x1024_S8x2048x1024_0_1_2 (extractStridedSlice S8x1x1024 ![0, 0, 0] M slices_S8x1x3072_S8x1x1024_0_0_0))
/-- The rows' products with every column. -/
def cols (H : Rows) (W : FVec Ideal S2x1024x7688 .f32) : Cols :=
  Host.dotGeneral dot_S8x2048x1024_S1024x7688_S8x2048x7688_2_0_01_1_n_n none H (shapeCast S1024x7688 (extractStridedSlice S1x1024x7688 ![0, 0, 0] W slices_S2x1024x7688_S1x1024x7688_0_0_0) shapeCasts_S1x1024x7688_S1024x7688)
/-- The products of the layer's rows. -/
def layer (x : FVec Ideal S16384x1024 .f32) (md : FVec Ideal S32x1x3072 .f32) (ng : FVec Ideal S2x4x1024 .f32) (w : FVec Ideal S2x1024x7688 .f32) : Cols :=
  cols (modul (shapeCast S8x2048x1024 x shapeCasts_S16384x1024_S8x2048x1024) (extractStridedSlice S1x1x1024 ![0, 0, 0] ng slices_S2x4x1024_S1x1x1024_0_0_0) (extractStridedSlice S8x1x3072 ![0, 0, 0] md slices_S32x1x3072_S8x1x3072_0_0_0)) w
/-- The attention columns. -/
def attn (P : Cols) : FVec Ideal S16384x4608 .bf16 :=
  truncf .bf16 (shapeCast S16384x4608 (concatenate S8x2048x4608 2 [⟨S8x2048x1536, (extractStridedSlice S8x2048x1536 ![0, 0, 0] P slices_S8x2048x7688_S8x2048x1536_0_0_0)⟩, ⟨S8x2048x3072, (extractStridedSlice S8x2048x3072 ![0, 0, 1544] P slices_S8x2048x7688_S8x2048x3072_0_0_1544)⟩] concatenates_S8x2048x1536_S8x2048x3072_S8x2048x4608_d2 : FVec Ideal S8x2048x4608 .f32) shapeCasts_S8x2048x4608_S16384x4608 : FVec Ideal S16384x4608 .f32) bitsLt_bf16_f32
/-- The forget logits. -/
def forg (P : Cols) : FVec Ideal S16384x128 .f32 :=
  pad S16384x128 ![0, 0] ![0, 120] ![0, 0] (shapeCast S16384x8 (extractStridedSlice S8x2048x8 ![0, 0, 1536] P slices_S8x2048x7688_S8x2048x8_0_0_1536) shapeCasts_S8x2048x8_S16384x8) (sitofp .f32 (constantI S_ 32 0#32)) pads_S16384x8_S16384x128_000_01200 h_S_

theorem norm_at (X : Rows) (G : FVec Ideal S1x1x1024 .f32) (b : Fin 8) (s : Fin 2048) (k : Fin 1024) :
    norm X G (ix3 b s k) = X (ix3 b s k) * rs (fun l => X (ix3 b s l)) * G (ix3 0 0 k) := by
  pointwise [norm]
  rfl

theorem modul_at (X : Rows) (G : FVec Ideal S1x1x1024 .f32) (M : FVec Ideal S8x1x3072 .f32) (b : Fin 8) (s : Fin 2048) (k : Fin 1024) :
    modul X G M (ix3 b s k) = hid (fun l => X (ix3 b s l)) (fun l => G (ix3 0 0 l)) (fun l => M (ix3 b 0 ⟨1024 + l.val, by omega⟩)) (fun l => M (ix3 b 0 ⟨l.val, by omega⟩)) k := by
  pointwise [modul]
  rw [norm_at]
  rfl

theorem cols_at (H : Rows) (W : FVec Ideal S2x1024x7688 .f32) (b : Fin 8) (s : Fin 2048) (j : Fin 7688) :
    cols H W (ix3 b s j) = dot (fun l => H (ix3 b s l)) (fun l j => W (ix3 0 l j)) j := by
  pointwise [cols]
  rfl

theorem rows_at (x : FVec Ideal S16384x1024 .f32) (b : Fin 8) (s : Fin 2048) (k : Fin 1024) :
    shapeCast S8x2048x1024 x shapeCasts_S16384x1024_S8x2048x1024 (ix3 b s k) = x (ix2 (⟨b.val * 2048 + s.val, by omega⟩ : Fin 16384) k) := by
  pointwise
theorem mods_at (x : FVec Ideal S32x1x3072 .f32) (b : Fin 8) (k : Fin 3072) :
    extractStridedSlice S8x1x3072 ![0, 0, 0] x slices_S32x1x3072_S8x1x3072_0_0_0 (ix3 b 0 k) = x (ix3 (⟨b.val, by omega⟩ : Fin 32) 0 k) := by
  pointwise
theorem gain_at (x : FVec Ideal S2x4x1024 .f32) (k : Fin 1024) :
    extractStridedSlice S1x1x1024 ![0, 0, 0] x slices_S2x4x1024_S1x1x1024_0_0_0 (ix3 0 0 k) = x (ix3 0 0 k) := by
  pointwise

/-- The products are the plain projections. -/
theorem layer_at (A : Args) (b : Fin 8) (s : Fin 2048) (j : Fin 7688) :
    layer A.x A.md A.ng A.w (ix3 b s j) = proj A ⟨b.val * 2048 + s.val, by omega⟩ b j := by
  unfold layer
  rw [cols_at]
  simp only [modul_at, rows_at, mods_at, gain_at]
  rfl

theorem attn_at (P : Cols) (b : Fin 8) (s : Fin 2048) (j : Fin 4608) :
    attn P (ix2 (⟨b.val * 2048 + s.val, by omega⟩ : Fin 16384) j) = P (ix3 b s (src j)) := by
  pointwise [attn]
  by_cases h : j.val < 1536
  · rw [src_lo j h, dif_pos h]
  · rw [src_hi j h, dif_neg h]
    congr 2
    exact Fin.ext (show 1544 + (j.val - 1536) = j.val + 8 by omega)

theorem forg_at (P : Cols) (b : Fin 8) (s : Fin 2048) (j : Fin 128) :
    forg P (ix2 (⟨b.val * 2048 + s.val, by omega⟩ : Fin 16384) j) = if h : j.val < 8 then P (ix3 b s ⟨1536 + j.val, by omega⟩) else 0 := by
  pointwise [forg]
  by_cases h : j.val < 8
  · rw [dif_pos ⟨by omega, h⟩, dif_pos h]
  · rw [dif_neg fun e => h e.2, dif_neg h]
    exact zero_int

/-- The program's first result is the stages composed. -/
theorem run0 (m : (ℓ : Loc nD τ sig) → Buf (Elt Ideal) ℓ) (c : Dev nD) :
    res_main_v34 (F := Ideal) m c
      = attn (layer (m ((c.tc : Thread nD τ).loc main_arg0)) (m ((c.tc : Thread nD τ).loc main_arg1)) (m ((c.tc : Thread nD τ).loc main_arg2)) (m ((c.tc : Thread nD τ).loc main_arg3))) := by
  unfold res_main_v34
  rfl

end Cert.In.Ref
end
-- ==== Proof.In.Value.lean ====
/- The input projection's kernel computes its reference: both arrays after the run, and the value claim. -/
module

public import proofs.«01_k».proof.Proof.In.Out
public import proofs.«01_k».proof.Proof.In.Inp
public import proofs.«01_k».proof.Proof.In.Ref
public import proofs.«01_k».proof.Defs

@[expose] public section

set_option maxRecDepth 16384

noncomputable section

namespace Cert.In
open Cert.InKernelIdeal Cert.InKernelIdeal.Gen Cert.Glu Idealize.ShloMosaic Idealize.ShloMosaic.TcCoe Idealize.ShloMosaic.Tactic Idealize.SL.Sem

variable (m : (ℓ : Loc nD τ sig) → Buf (Elt Ideal) ℓ) (c : Dev nD)

/-- The arguments as launched. -/
def args : Args where
  x := m ((c : Thread nD τ).loc main_arg0)
  md := m ((c : Thread nD τ).loc main_arg1)
  ng := m ((c : Thread nD τ).loc main_arg2)
  w := m ((c : Thread nD τ).loc main_arg3)

abbrev rowOf (i : ℕ) (hi : i < 32) (r : Fin 512) : Fin 16384 := ⟨i * 512 + r.val, by omega⟩
abbrev seqOf (i : ℕ) (hi : i < 32) : Fin 8 := ⟨i / 4, by omega⟩

theorem point_lt (t : Fin cfg0.N) : t.val < 32 := t.isLt

/-- A row by its sequence and its position there. -/
theorem row_eq (i : ℕ) (hi : i < 32) (r : Fin 512) :
    rowOf i hi r = ⟨(seqOf i hi).val * 2048 + (i % 4 * 512 + r.val), by dsimp only; omega⟩ := by
  refine Fin.ext ?_
  dsimp only
  omega

/-- A point's normalised rows are its block's. -/
theorem hid_of (t : Fin cfg0.N) (r : Fin 512) (k : Fin 1024) :
    (k0_pay6 (iblk m c 0 t) (iblk m c 1 t) (iblk m c 2 t) : FVec Ideal S512x1024 .bf16) (ix2 r k) = hidR (args m c) (rowOf t.val (point_lt t) r) (seqOf t.val (point_lt t)) k := by
  rw [pay6_at]
  simp only [blk0 m c t (point_lt t), blk1 m c t (point_lt t), blk2 m c t]
  rfl

/-- A point's first window: the attention columns of its rows. -/
theorem attn_of (t : Fin cfg0.N) (r : Fin 512) (k : Fin 4608) :
    out0_5 (iblk m c 0 t) (iblk m c 1 t) (iblk m c 2 t) (iblk m c 3 t) (iblk m c 4 t) (ix2 r k)
      = proj (args m c) (rowOf t.val (point_lt t) r) (seqOf t.val (point_lt t)) (src k) := by
  rw [out5_at]
  unfold dot proj dot
  simp only [hid_of m c t, blk3 m c t]
  rfl

/-- A point's second window: the forget logits of its rows. -/
theorem forg_of (t : Fin cfg0.N) (r : Fin 512) (k : Fin 128) :
    out0_6 (iblk m c 0 t) (iblk m c 1 t) (iblk m c 2 t) (iblk m c 3 t) (iblk m c 4 t) (ix2 r k)
      = forget (args m c) (rowOf t.val (point_lt t) r) (seqOf t.val (point_lt t)) k := by
  rw [out6_at]
  unfold dot forget proj dot
  simp only [hid_of m c t, blk4 m c t]
  by_cases h : k.val < 8
  · simp only [dif_pos h]
    rfl
  · simp only [dif_neg h, mul_zero, Finset.sum_const_zero]

/-- The first array after the run is the reference's first result. -/
theorem arr5_eq : (dats (F := Ideal) m 0 c).arrAt 5 cfg0.N = Ref.attn (Ref.layer (args m c).x (args m c).md (args m c).ng (args m c).w) := by
  refine (dats m 0 c).arrAt_eq_of_covers 5 _ (by decide +kernel) fun t hf y => ?_
  have hi := point_lt t
  blk_simp
  rw [after0_5]
  obtain ⟨r, k, rfl⟩ : ∃ (r : Fin 512) (k : Fin 4608), y = ix2 r k := ⟨y 0, y 1, by funext a; match a with | ⟨0, _⟩ => rfl | ⟨1, _⟩ => rfl⟩
  have hr := r.isLt
  have hemb : (win0_5.blk t).view.emb (ix2 r k) = ix2 (rowOf t.val hi r) k := by
    blk_ext [idx5 t]
  rw [hemb, attn_of m c t r k, row_eq t.val hi r]
  exact ((Ref.attn_at _ (seqOf t.val hi) ⟨t.val % 4 * 512 + r.val, by omega⟩ k).trans (Ref.layer_at (args m c) _ _ _)).symm

/-- The second array after the run is the reference's second result. -/
theorem arr6_eq : (dats (F := Ideal) m 0 c).arrAt 6 cfg0.N = Ref.forg (Ref.layer (args m c).x (args m c).md (args m c).ng (args m c).w) := by
  refine (dats m 0 c).arrAt_eq_of_covers 6 _ (by decide +kernel) fun t hf y => ?_
  have hi := point_lt t
  blk_simp
  rw [after0_6]
  obtain ⟨r, k, rfl⟩ : ∃ (r : Fin 512) (k : Fin 128), y = ix2 r k := ⟨y 0, y 1, by funext a; match a with | ⟨0, _⟩ => rfl | ⟨1, _⟩ => rfl⟩
  have hr := r.isLt
  have hemb : (win0_6.blk t).view.emb (ix2 r k) = ix2 (rowOf t.val hi r) k := by
    blk_ext [idx6 t]
  rw [hemb, forg_of m c t r k, row_eq t.val hi r]
  refine Eq.symm ((Ref.forg_at _ (seqOf t.val hi) ⟨t.val % 4 * 512 + r.val, by omega⟩ k).trans ?_)
  unfold forget
  by_cases h : k.val < 8
  · rw [dif_pos h, dif_pos h]
    exact Ref.layer_at (args m c) _ _ _
  · rw [dif_neg h, dif_neg h]

/-- The kernel computes the reference. -/
theorem algebraic : algebraic_InKernelIdeal_InReferenceIdeal := by
  intro m g m' g' _ hagree
  refine ⟨fun c => (dats (F := Ideal) m 0 c).arrAt 5 cfg0.N, fun c => (dats (F := Ideal) m 0 c).arrAt 6 cfg0.N, Cert.InKernelIdeal.Value.run_blocks m g, ?_⟩
  refine (θ_run _ _ _).mono (fun r h c => ⟨(h c).1.trans ?_, (h c).2.1.trans ?_, (h c).2.2⟩) (Cert.InReferenceIdeal.Value.run m' g')
  · refine (Ref.run0 m' c).trans ?_
    obtain ⟨h0, h1, h2, h3⟩ := hagree c
    rw [h0, h1, h2, h3]
    exact (arr5_eq m c).symm
  · obtain ⟨h0, h1, h2, h3⟩ := hagree c
    rw [h0, h1, h2, h3]
    exact (arr6_eq m c).symm

end Cert.In
end
-- ==== Proof.Merge.Run.lean ====
/- The merge's run: its output array after the grid, and its arguments as launched. -/
module

public import proofs.«01_k».proof.Proof.Gen.MergeKernelIdeal.Frame
public import Idealize.ShloMosaic.Lib.Pointwise

@[expose] public section

noncomputable section

namespace Cert.Merge
open Cert.MergeKernelIdeal Cert.MergeKernelIdeal.Gen Idealize.ShloMosaic Idealize.ShloMosaic.TcCoe Idealize.SL.Sem

variable (m : (ℓ : Loc nD τ sig) → Buf (Elt Ideal) ℓ) (g : Dev nD → PrngReg)

/-- The run, its result named. -/
theorem run_out : θ_run defs (onTc (τ := τ) (main (F := Ideal))) ⟨m, fun _ => 0, g⟩ fun r => ∀ c : Dev nD,
      r.2.mem ((c : Thread nD τ).loc main_v17) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (run_main m g)
  obtain ⟨ha, hr⟩ := h c
  exact ⟨ha 10, (ha 0).trans (((dats m 0 c).arrAt_in 0 rfl _).trans ((A_eq m c 0).trans (V_main_arg0 m c))), (ha 1).trans (((dats m 0 c).arrAt_in 1 rfl _).trans ((A_eq m c 1).trans (V_main_arg1 m c))), (ha 2).trans (((dats m 0 c).arrAt_in 2 rfl _).trans ((A_eq m c 2).trans (V_main_arg2 m c))),
    (ha 3).trans (((dats m 0 c).arrAt_in 3 rfl _).trans ((A_eq m c 3).trans (V_main_arg3 m c))), (ha 4).trans (((dats m 0 c).arrAt_in 4 rfl _).trans ((A_eq m c 4).trans (V_main_arg4 m c))),
    (hr main_arg5 (Pipeline.mem_restRefs_of main_arg5 (by decide) (by decide))).trans (V_main_arg5 m c),
    (hr main_arg6 (Pipeline.mem_restRefs_of main_arg6 (by decide) (by decide))).trans (V_main_arg6 m c),
    (hr main_arg7 (Pipeline.mem_restRefs_of main_arg7 (by decide) (by decide))).trans (V_main_arg7 m c),
    (hr main_arg8 (Pipeline.mem_restRefs_of main_arg8 (by decide) (by decide))).trans (V_main_arg8 m c)⟩

end Cert.Merge
end
-- ==== Proof.Merge.Row.lean ====
/- A row of the branches' merge in plain numbers, from the layer's arguments. -/
module

public import proofs.«01_k».proof.Proof.Glu.Math

@[expose] public section

noncomputable section

namespace Cert.Merge
open Cert.Glu Idealize.ShloMosaic Idealize.ShloMosaic.Tactic

/-- A branch's projection under its gate. -/
def gated (h : Fin 1024 → EReal) (w : Fin 1024 → Fin 1024 → EReal) (o : Fin 512 → EReal) (v : Fin 512 → Fin 1024 → EReal) (d : Fin 1024) : EReal :=
  Ideal.logistic (dot h w d) * ∑ e, o e * v e d

/-- The layer's arguments. -/
structure Args where
  x : FVec Ideal (⟨2, ![16384, 1024]⟩ : Shape) .f32
  o0 : FVec Ideal (⟨2, ![16384, 512]⟩ : Shape) .bf16
  o1 : FVec Ideal (⟨2, ![16384, 512]⟩ : Shape) .bf16
  o2 : FVec Ideal (⟨2, ![16384, 512]⟩ : Shape) .bf16
  md : FVec Ideal (⟨3, ![32, 1, 3072]⟩ : Shape) .f32
  ng : FVec Ideal (⟨3, ![2, 4, 1024]⟩ : Shape) .f32
  w : FVec Ideal (⟨3, ![2, 1024, 7688]⟩ : Shape) .f32
  wb : FVec Ideal (⟨4, ![2, 3, 512, 1024]⟩ : Shape) .f32
  wo : FVec Ideal (⟨3, ![2, 1024, 1024]⟩ : Shape) .f32

/-- Sequence `b`'s row `n`, normalised and modulated. -/
def hidR (A : Args) (n : Fin 16384) (b : Fin 8) : Fin 1024 → EReal :=
  hid (fun l => A.x (ix2 n l)) (fun l => A.ng (ix3 0 0 l)) (fun l => A.md (ix3 ⟨b.val, by omega⟩ 0 ⟨1024 + l.val, by omega⟩)) (fun l => A.md (ix3 ⟨b.val, by omega⟩ 0 ⟨l.val, by omega⟩))

/-- The gate columns of branch `i`. -/
def gcol (A : Args) (i : Fin 3) (l j : Fin 1024) : EReal := A.w (ix3 0 l ⟨4616 + (i.val * 1024 + j.val), by omega⟩)

/-- One branch's share of the row. -/
def share (A : Args) (n : Fin 16384) (b : Fin 8) (i : Fin 3) (o : FVec Ideal (⟨2, ![16384, 512]⟩ : Shape) .bf16) (d : Fin 1024) : EReal :=
  gated (hidR A n b) (gcol A i) (fun e => o (ix2 n e)) (fun e d => A.wb (ix4 0 i e d)) d

/-- The merged row. -/
def merged (A : Args) (n : Fin 16384) (b : Fin 8) (d : Fin 1024) : EReal :=
  share A n b 0 A.o0 d + share A n b 1 A.o1 d + share A n b 2 A.o2 d

/-- The row written out. -/
def outR (A : Args) (n : Fin 16384) (b : Fin 8) : Fin 1024 → EReal :=
  res (fun l => A.x (ix2 n l)) (fun l => A.md (ix3 ⟨b.val, by omega⟩ 0 ⟨2048 + l.val, by omega⟩)) (fun l => A.ng (ix3 0 1 l)) (dot (merged A n b) (fun l j => A.wo (ix3 0 l j)))

end Cert.Merge
end
-- ==== Proof.Merge.Pay.lean ====
/- What one grid point of the merge's kernel leaves in its output window. -/
module

public import proofs.«01_k».proof.Proof.Gen.MergeKernelIdeal.Frame
public import proofs.«01_k».proof.Proof.Merge.Row
public import Idealize.ShloMosaic.Lib.Pipeline.ValueKit

@[expose] public section

set_option maxRecDepth 16384

noncomputable section

namespace Cert.Merge
open Cert.MergeKernelIdeal Cert.MergeKernelIdeal.Gen Cert.Glu Idealize.ShloMosaic Idealize.ShloMosaic.TcCoe Idealize.ShloMosaic.Tactic Idealize.SL.Sem

/-- The normalised rows. -/
theorem pay3_at (x : Vec Ideal S256x1024 .f32) (md : Vec Ideal S1x1x3072 .f32) (g : Vec Ideal S1x1x1024 .f32) (r : Fin 256) (k : Fin 1024) :
    (k0_pay3 x md g : FVec Ideal S256x1024 .bf16) (ix2 r k)
      = hid (fun l => x (ix2 r l)) (fun l => g (ix3 0 0 l)) (fun l => md (ix3 0 0 ⟨1024 + l.val, by omega⟩)) (fun l => md (ix3 0 0 ⟨l.val, by omega⟩)) k := by
  pointwise [k0_pay3, k0_pay2]
  rfl

/-- The first branch under its gate. -/
theorem pay4_at (x : Vec Ideal S256x1024 .f32) (md : Vec Ideal S1x1x3072 .f32) (g : Vec Ideal S1x1x1024 .f32) (w : Vec Ideal S1024x1024 .bf16) (o : Vec Ideal S256x512 .bf16) (v : Vec Ideal S1x512x1024 .bf16) (r : Fin 256) (k : Fin 1024) :
    (k0_pay4 x md g w o v : FVec Ideal S256x1024 .f32) (ix2 r k)
      = gated (fun l => k0_pay3 x md g (ix2 r l)) (fun l j => w (ix2 l j)) (fun e => o (ix2 r e)) (fun e d => v (ix3 0 e d)) k := by
  pointwise [k0_pay4]
  rfl

/-- The output projection of the three branches. -/
theorem pay5_at (h : FVec Ideal S256x1024 .bf16) (a : FVec Ideal S256x1024 .f32) (w1 w2 wo : Vec Ideal S1024x1024 .bf16) (o1 o2 : Vec Ideal S256x512 .bf16) (v1 v2 : Vec Ideal S1x512x1024 .bf16) (r : Fin 256) (k : Fin 1024) :
    (k0_pay5 h a w1 o1 v1 w2 o2 v2 wo : FVec Ideal S256x1024 .f32) (ix2 r k)
      = dot (fun d => a (ix2 r d) + gated (fun l => h (ix2 r l)) (fun l j => w1 (ix2 l j)) (fun e => o1 (ix2 r e)) (fun e d => v1 (ix3 0 e d)) d
          + gated (fun l => h (ix2 r l)) (fun l j => w2 (ix2 l j)) (fun e => o2 (ix2 r e)) (fun e d => v2 (ix3 0 e d)) d) (fun l j => wo (ix2 l j)) k := by
  pointwise [k0_pay5]
  rfl

/-- The rows written out. -/
theorem pay1_at (x : Vec Ideal S256x1024 .f32) (md : Vec Ideal S1x1x3072 .f32) (g : Vec Ideal S1x1x1024 .f32) (h : FVec Ideal S256x1024 .bf16) (a : FVec Ideal S256x1024 .f32) (w1 w2 wo : Vec Ideal S1024x1024 .bf16) (o1 o2 : Vec Ideal S256x512 .bf16) (v1 v2 : Vec Ideal S1x512x1024 .bf16) (r : Fin 256) (k : Fin 1024) :
    (k0_pay1 x (k0_pay5 h a w1 o1 v1 w2 o2 v2 wo) (k0_pay6 g) (k0_pay7 (k0_pay2 md)) (k0_pay8 h a w1 o1 v1 w2 o2 v2 wo) : FVec Ideal S256x1024 .f32) (ix2 r k)
      = res (fun l => x (ix2 r l)) (fun l => md (ix3 0 0 ⟨2048 + l.val, by omega⟩)) (fun l => g (ix3 0 0 l)) (fun l => k0_pay5 h a w1 o1 v1 w2 o2 v2 wo (ix2 r l)) k := by
  pointwise [k0_pay1, k0_pay6, k0_pay7, k0_pay2, k0_pay8]
  rfl

/-- A strip of the gate columns. -/
theorem ld_gate (w : Vec Ideal S1024x3072 .bf16) (off : ℕ) (ho : off + 1024 ≤ 3072) (inb : ∀ a, (![0, off] : Fin 2 → ℕ) a + S1024x1024.size a ≤ S1024x3072.size a) (l j : Fin 1024) :
    View.ld w (Rect.unit (s := S1024x3072) ![0, off] S1024x1024.size inb) (ix2 l j) = w (ix2 l (⟨off + j.val, by omega⟩ : Fin 3072)) := by
  refine View.ld_unit_apply_of _ _ _ _ _ _ fun a => ?_
  match a with
  | ⟨0, _⟩ => exact (Nat.zero_add _).symm
  | ⟨1, _⟩ => rfl

/-- One branch's weights. -/
theorem ld_branch (w : Vec Ideal S3x512x1024 .bf16) (i : Fin 3) (inb : ∀ a, (![i.val, 0, 0] : Fin 3 → ℕ) a + S1x512x1024.size a ≤ S3x512x1024.size a) (e : Fin 512) (j : Fin 1024) :
    View.ld w (Rect.unit (s := S3x512x1024) ![i.val, 0, 0] S1x512x1024.size inb) (ix3 0 e j) = w (ix3 i e j) := by
  refine View.ld_unit_apply_of _ _ _ _ _ _ fun a => ?_
  match a with
  | ⟨0, _⟩ => rfl
  | ⟨1, _⟩ => exact (Nat.zero_add _).symm
  | ⟨2, _⟩ => exact (Nat.zero_add _).symm

/-- The output window's rows. -/
theorem out_at (x0 : Vec Ideal S256x1024 .f32) (x1 x2 x3 : Vec Ideal S256x512 .bf16) (x4 : Vec Ideal S1x1x3072 .f32) (x5 x6 : Vec Ideal S1x1x1024 .f32) (x7 : Vec Ideal S1024x3072 .bf16) (x8 : Vec Ideal S3x512x1024 .bf16) (x9 : Vec Ideal S1024x1024 .bf16) (r : Fin 256) (k : Fin 1024) :
    out0_10 x0 x1 x2 x3 x4 x5 x6 x7 x8 x9 (ix2 r k)
      = res (fun l => x0 (ix2 r l)) (fun l => x4 (ix3 0 0 ⟨2048 + l.val, by omega⟩)) (fun l => x6 (ix3 0 0 l))
          (dot (fun d => gated (fun l => k0_pay3 x0 x4 x5 (ix2 r l)) (fun l j => x7 (ix2 l (⟨0 + j.val, by omega⟩ : Fin 3072))) (fun e => x1 (ix2 r e)) (fun e d => x8 (ix3 0 e d)) d
            + gated (fun l => k0_pay3 x0 x4 x5 (ix2 r l)) (fun l j => x7 (ix2 l (⟨1024 + j.val, by omega⟩ : Fin 3072))) (fun e => x2 (ix2 r e)) (fun e d => x8 (ix3 1 e d)) d
            + gated (fun l => k0_pay3 x0 x4 x5 (ix2 r l)) (fun l j => x7 (ix2 l (⟨2048 + j.val, by omega⟩ : Fin 3072))) (fun e => x3 (ix2 r e)) (fun e d => x8 (ix3 2 e d)) d) (fun l j => x9 (ix2 l j))) k := by
  have e : out0_10 x0 x1 x2 x3 x4 x5 x6 x7 x8 x9
      = k0_pay1 x0 (k0_pay5 (k0_pay3 x0 x4 x5) (k0_pay4 x0 x4 x5 (View.ld x7 r0_3) x1 (View.ld x8 r0_5)) (View.ld x7 r0_6) x2 (View.ld x8 r0_7) (View.ld x7 r0_8) x3 (View.ld x8 r0_9) x9) (k0_pay6 x6) (k0_pay7 (k0_pay2 x4))
        (k0_pay8 (k0_pay3 x0 x4 x5) (k0_pay4 x0 x4 x5 (View.ld x7 r0_3) x1 (View.ld x8 r0_5)) (View.ld x7 r0_6) x2 (View.ld x8 r0_7) (View.ld x7 r0_8) x3 (View.ld x8 r0_9) x9) := by
    unfold_out out0_10
    frame_out
  rw [e, pay1_at]
  refine congrArg (fun Y => res _ _ _ Y k) (funext fun d => ?_)
  rw [pay5_at]
  refine congrArg (fun a => dot a _ d) (funext fun j => ?_)
  rw [pay4_at]
  simp only [ld_gate x7 0 (by omega), ld_gate x7 1024 (by omega), ld_gate x7 2048 (by omega)]
  have b0 : ∀ (e : Fin 512) (j : Fin 1024), View.ld x8 r0_5 (ix3 0 e j) = x8 (ix3 0 e j) := ld_branch x8 0 _
  have b1 : ∀ (e : Fin 512) (j : Fin 1024), View.ld x8 r0_7 (ix3 0 e j) = x8 (ix3 1 e j) := ld_branch x8 1 _
  have b2 : ∀ (e : Fin 512) (j : Fin 1024), View.ld x8 r0_9 (ix3 0 e j) = x8 (ix3 2 e j) := ld_branch x8 2 _
  simp only [b0, b1, b2]

end Cert.Merge
end
-- ==== Proof.Merge.Inp.lean ====
/- The blocks of the merge's kernel, read off the layer's arguments. -/
module

public import proofs.«01_k».proof.Proof.Gen.MergeKernelIdeal.Frame
public import Idealize.ShloMosaic.Lib.Pipeline.ValueKit
public import Idealize.ShloMosaic.Lib.Pointwise

@[expose] public section

set_option maxRecDepth 16384

noncomputable section

namespace Cert.Merge
open Cert.MergeKernelIdeal Cert.MergeKernelIdeal.Gen Idealize.ShloMosaic Idealize.ShloMosaic.TcCoe Idealize.ShloMosaic.Tactic Idealize.SL.Sem

variable (m : (ℓ : Loc nD τ sig) → Buf (Elt Ideal) ℓ) (c : Dev nD) (t : Fin cfg0.N)

theorem idx0 : win0_0.index t = ![t.val, 0] := (by decide +kernel : ∀ t : Fin grid0.N, win0_0.index t = ![t.val, 0]) t
theorem idx1 : win0_1.index t = ![t.val, 0] := (by decide +kernel : ∀ t : Fin grid0.N, win0_1.index t = ![t.val, 0]) t
theorem idx2 : win0_2.index t = ![t.val, 0] := (by decide +kernel : ∀ t : Fin grid0.N, win0_2.index t = ![t.val, 0]) t
theorem idx3 : win0_3.index t = ![t.val, 0] := (by decide +kernel : ∀ t : Fin grid0.N, win0_3.index t = ![t.val, 0]) t
theorem idx4 : win0_4.index t = ![t.val / 8, 0, 0] := (by decide +kernel : ∀ t : Fin grid0.N, win0_4.index t = ![t.val / 8, 0, 0]) t
theorem idx5 : win0_5.index t = ![0, 0, 0] := (by decide +kernel : ∀ t : Fin grid0.N, win0_5.index t = ![0, 0, 0]) t
theorem idx6 : win0_6.index t = ![0, 0, 0] := (by decide +kernel : ∀ t : Fin grid0.N, win0_6.index t = ![0, 0, 0]) t
theorem idx7 : win0_7.index t = ![0, 0] := (by decide +kernel : ∀ t : Fin grid0.N, win0_7.index t = ![0, 0]) t
theorem idx8 : win0_8.index t = ![0, 0, 0] := (by decide +kernel : ∀ t : Fin grid0.N, win0_8.index t = ![0, 0, 0]) t
theorem idx9 : win0_9.index t = ![0, 0] := (by decide +kernel : ∀ t : Fin grid0.N, win0_9.index t = ![0, 0]) t
theorem idx10 : win0_10.index t = ![t.val, 0] := (by decide +kernel : ∀ t : Fin grid0.N, win0_10.index t = ![t.val, 0]) t

theorem blk0 (h : t.val < 64) (r : Fin 256) (k : Fin 1024) :
    iblk m c 0 t (ix2 r k) = m ((c : Thread nD τ).loc main_arg0) (ix2 (⟨t.val * 256 + r.val, by omega⟩ : Fin 16384) k) := by
  blk_ext [iblk, V, idx0 t]
theorem blk1 (h : t.val < 64) (r : Fin 256) (k : Fin 512) :
    iblk m c 1 t (ix2 r k) = m ((c : Thread nD τ).loc main_arg1) (ix2 (⟨t.val * 256 + r.val, by omega⟩ : Fin 16384) k) := by
  blk_ext [iblk, V, idx1 t]
theorem blk2 (h : t.val < 64) (r : Fin 256) (k : Fin 512) :
    iblk m c 2 t (ix2 r k) = m ((c : Thread nD τ).loc main_arg2) (ix2 (⟨t.val * 256 + r.val, by omega⟩ : Fin 16384) k) := by
  blk_ext [iblk, V, idx2 t]
theorem blk3 (h : t.val < 64) (r : Fin 256) (k : Fin 512) :
    iblk m c 3 t (ix2 r k) = m ((c : Thread nD τ).loc main_arg3) (ix2 (⟨t.val * 256 + r.val, by omega⟩ : Fin 16384) k) := by
  blk_ext [iblk, V, idx3 t]
theorem blk4 (h : t.val < 64) (k : Fin 3072) :
    iblk m c 4 t (ix3 0 0 k) = m ((c : Thread nD τ).loc main_arg4) (ix3 (⟨t.val / 8, by omega⟩ : Fin 32) 0 k) := by
  blk_ext [iblk, V, idx4 t]

/-- The first two rows of the gains, as they are handed over. -/
def gn0 (G : FVec Ideal S2x4x1024 .f32) : FVec Ideal S1x1x1024 .f32 :=
  broadcastInDim S1x1x1024 ![1, 2] bcast_S1x1024_S1x1x1024_1_2 (shapeCast S1x1024 (extractStridedSlice S1x1x1024 ![0, 0, 0] (shapeCast S8x1x1024 G shapeCasts_S2x4x1024_S8x1x1024) slices_S8x1x1024_S1x1x1024_0_0_0) shapeCasts_S1x1x1024_S1x1024)
def gn1 (G : FVec Ideal S2x4x1024 .f32) : FVec Ideal S1x1x1024 .f32 :=
  broadcastInDim S1x1x1024 ![1, 2] bcast_S1x1024_S1x1x1024_1_2 (shapeCast S1x1024 (extractStridedSlice S1x1x1024 ![1, 0, 0] (shapeCast S8x1x1024 G shapeCasts_S2x4x1024_S8x1x1024) slices_S8x1x1024_S1x1x1024_1_0_0) shapeCasts_S1x1x1024_S1x1024)
/-- The gate columns. -/
def wg (W : FVec Ideal S2x1024x7688 .f32) : FVec Ideal S1024x3072 .bf16 :=
  truncf .bf16 (extractStridedSlice S1024x3072 ![0, 4616] (shapeCast S1024x7688 (extractStridedSlice S1x1024x7688 ![0, 0, 0] W slices_S2x1024x7688_S1x1024x7688_0_0_0) shapeCasts_S1x1024x7688_S1024x7688) slices_S1024x7688_S1024x3072_0_4616 : FVec Ideal S1024x3072 .f32) bitsLt_bf16_f32
/-- The branches' weights. -/
def wb (W : FVec Ideal S2x3x512x1024 .f32) : FVec Ideal S3x512x1024 .bf16 :=
  truncf .bf16 (shapeCast S3x512x1024 (extractStridedSlice S1x3x512x1024 ![0, 0, 0, 0] W slices_S2x3x512x1024_S1x3x512x1024_0_0_0_0) shapeCasts_S1x3x512x1024_S3x512x1024 : FVec Ideal S3x512x1024 .f32) bitsLt_bf16_f32
/-- The output weights. -/
def wo (W : FVec Ideal S2x1024x1024 .f32) : FVec Ideal S1024x1024 .bf16 :=
  truncf .bf16 (shapeCast S1024x1024 (extractStridedSlice S1x1024x1024 ![0, 0, 0] W slices_S2x1024x1024_S1x1024x1024_0_0_0) shapeCasts_S1x1024x1024_S1024x1024 : FVec Ideal S1024x1024 .f32) bitsLt_bf16_f32

theorem gn0_at (G : FVec Ideal S2x4x1024 .f32) (k : Fin 1024) : gn0 G (ix3 (0 : Fin 1) (0 : Fin 1) k) = G (ix3 (0 : Fin 2) (0 : Fin 4) k) := by
  pointwise [gn0]
theorem gn1_at (G : FVec Ideal S2x4x1024 .f32) (k : Fin 1024) : gn1 G (ix3 (0 : Fin 1) (0 : Fin 1) k) = G (ix3 (0 : Fin 2) (1 : Fin 4) k) := by
  pointwise [gn1]
theorem wg_at (W : FVec Ideal S2x1024x7688 .f32) (k : Fin 1024) (j : Fin 3072) : wg W (ix2 k j) = W (ix3 (0 : Fin 2) k (⟨4616 + j.val, by omega⟩ : Fin 7688)) := by
  pointwise [wg]
theorem wb_at (W : FVec Ideal S2x3x512x1024 .f32) (i : Fin 3) (k : Fin 512) (j : Fin 1024) : wb W (ix3 i k j) = W (ix4 (0 : Fin 2) i k j) := by
  pointwise [wb]
theorem wo_at (W : FVec Ideal S2x1024x1024 .f32) (k j : Fin 1024) : wo W (ix2 k j) = W (ix3 (0 : Fin 2) k j) := by
  pointwise [wo]

/-- The arrays the region finds that the arguments are handed over as. -/
theorem V7 : V m c main_v7 = gn0 (m ((c : Thread nD τ).loc main_arg5)) := by
  unfold V
  simp only [hostOps0]
  after_results_simp
  rfl
theorem V10 : V m c main_v10 = gn1 (m ((c : Thread nD τ).loc main_arg5)) := by
  unfold V
  simp only [hostOps0]
  after_results_simp
  rfl
theorem V4 : V m c main_v4 = wg (m ((c : Thread nD τ).loc main_arg6)) := by
  unfold V
  simp only [hostOps0]
  after_results_simp
  rfl
theorem V13 : V m c main_v13 = wb (m ((c : Thread nD τ).loc main_arg7)) := by
  unfold V
  simp only [hostOps0]
  after_results_simp
  rfl
theorem V16 : V m c main_v16 = wo (m ((c : Thread nD τ).loc main_arg8)) := by
  unfold V
  simp only [hostOps0]
  after_results_simp
  rfl

theorem blk5 (k : Fin 1024) : iblk m c 5 t (ix3 0 0 k) = m ((c : Thread nD τ).loc main_arg5) (ix3 (0 : Fin 2) (0 : Fin 4) k) := by
  refine Eq.trans ?_ ((congrFun (V7 m c) (ix3 0 0 k)).trans (gn0_at _ k))
  blk_ext [iblk, idx5 t]
theorem blk6 (k : Fin 1024) : iblk m c 6 t (ix3 0 0 k) = m ((c : Thread nD τ).loc main_arg5) (ix3 (0 : Fin 2) (1 : Fin 4) k) := by
  refine Eq.trans ?_ ((congrFun (V10 m c) (ix3 0 0 k)).trans (gn1_at _ k))
  blk_ext [iblk, idx6 t]
theorem blk7 (k : Fin 1024) (j : Fin 3072) : iblk m c 7 t (ix2 k j) = m ((c : Thread nD τ).loc main_arg6) (ix3 (0 : Fin 2) k (⟨4616 + j.val, by omega⟩ : Fin 7688)) := by
  refine Eq.trans ?_ ((congrFun (V4 m c) (ix2 k j)).trans (wg_at _ k j))
  blk_ext [iblk, idx7 t]
theorem blk8 (i : Fin 3) (k : Fin 512) (j : Fin 1024) : iblk m c 8 t (ix3 i k j) = m ((c : Thread nD τ).loc main_arg7) (ix4 (0 : Fin 2) i k j) := by
  refine Eq.trans ?_ ((congrFun (V13 m c) (ix3 i k j)).trans (wb_at _ i k j))
  blk_ext [iblk, idx8 t]
theorem blk9 (k j : Fin 1024) : iblk m c 9 t (ix2 k j) = m ((c : Thread nD τ).loc main_arg8) (ix3 (0 : Fin 2) k j) := by
  refine Eq.trans ?_ ((congrFun (V16 m c) (ix2 k j)).trans (wo_at _ k j))
  blk_ext [iblk, idx9 t]

end Cert.Merge
end
-- ==== Proof.Merge.Ref.lean ====
/- The merge's reference, by stages, and each stage read at an index. -/
module

public import proofs.«01_k».proof.Proof.Gen.MergeReferenceIdeal.Run
public import proofs.«01_k».proof.Proof.Merge.Row

@[expose] public section

set_option maxRecDepth 16384

noncomputable section

namespace Cert.Merge.Ref
open Cert.MergeReferenceIdeal Cert.MergeReferenceIdeal.Gen Cert.MergeReferenceIdeal.Value Cert.Glu Idealize.ShloMosaic Idealize.ShloMosaic.TcCoe Idealize.ShloMosaic.Tactic Idealize.SL.Sem Idealize.ShloMosaic.StableHlo

abbrev Rows := FVec Ideal S8x2048x1024 .f32
abbrev Three := FVec Ideal S8x2048x3x1024 .f32
abbrev Head := FVec Ideal S16384x512 .bf16

/-- The rows by sequence. -/
def rows (x : FVec Ideal S16384x1024 .f32) : Rows := shapeCast S8x2048x1024 x shapeCasts_S16384x1024_S8x2048x1024
/-- The modulation's rows. -/
def mods (x : FVec Ideal S32x1x3072 .f32) : FVec Ideal S8x1x3072 .f32 := extractStridedSlice S8x1x3072 ![0, 0, 0] x slices_S32x1x3072_S8x1x3072_0_0_0
/-- The normalised rows at their gain. -/
def norm (X : Rows) (G : FVec Ideal S1x1x1024 .f32) : Rows :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast S1024 G shapeCasts_S1x1x1024_S1024)))
/-- The modulated rows. -/
def modul (X : Rows) (G : FVec Ideal S1x1x1024 .f32) (M : FVec Ideal S8x1x3072 .f32) : Rows :=
  addf (mulf (norm X G) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] M slices_S8x1x3072_S8x1x1024_0_0_1024)))) (broadcastInDim S8x2048x1024 ![0, 1, 2] bcast_S8x1x1024_S8x2048x1024_0_1_2 (extractStridedSlice S8x1x1024 ![0, 0, 0] M slices_S8x1x3072_S8x1x1024_0_0_0))
/-- The gates of the three branches. -/
def gates (H : Rows) (W : FVec Ideal S2x1024x7688 .f32) : Three :=
  Host.divf (broadcastInDim S8x2048x3x1024 ![] bcast_S_S8x2048x3x1024 (constant S_ .f32 0x3F800000#32)) (addf (broadcastInDim S8x2048x3x1024 ![] bcast_S_S8x2048x3x1024 (constant S_ .f32 0x3F800000#32)) (Host.exp (Host.negf (shapeCast S8x2048x3x1024 (Host.dotGeneral dot_S8x2048x1024_S1024x3072_S8x2048x3072_2_0_01_1_n_n none H (shapeCast S1024x3072 (extractStridedSlice S1x1024x3072 ![0, 0, 4616] W slices_S2x1024x7688_S1x1024x3072_0_0_4616) shapeCasts_S1x1024x3072_S1024x3072)) shapeCasts_S8x2048x3072_S8x2048x3x1024))))
/-- A branch's rows by sequence. -/
def head (o : Head) : FVec Ideal S8x2048x1x512 .f32 :=
  broadcastInDim S8x2048x1x512 ![0, 1, 3] bcast_S8x2048x512_S8x2048x1x512_0_1_3 (extf .f32 (shapeCast S8x2048x512 o shapeCasts_S16384x512_S8x2048x512) bitsLt_bf16_f32)
/-- The three branches side by side. -/
def heads (o0 o1 o2 : Head) : FVec Ideal S8x2048x3x512 .f32 :=
  concatenate S8x2048x3x512 2 [⟨S8x2048x1x512, head o0⟩, ⟨S8x2048x1x512, head o1⟩, ⟨S8x2048x1x512, head o2⟩] concatenates_S8x2048x1x512_S8x2048x1x512_S8x2048x1x512_S8x2048x3x512_d2
/-- Their projections. -/
def projs (O : FVec Ideal S8x2048x3x512 .f32) (W : FVec Ideal S2x3x512x1024 .f32) : Three :=
  transpose S8x2048x3x1024 [2, 3, 0, 1] (Host.dotGeneral dot_S3x512x1024_S8x2048x3x512_S3x1024x8x2048_1_3_2_01_0_2 none (shapeCast S3x512x1024 (extractStridedSlice S1x3x512x1024 ![0, 0, 0, 0] W slices_S2x3x512x1024_S1x3x512x1024_0_0_0_0) shapeCasts_S1x3x512x1024_S3x512x1024) O) transposes_S3x1024x8x2048_S8x2048x3x1024_2_3_0_1
/-- Their gated sum. -/
def mergedV (T P : Three) : Rows :=
  Host.reduceAdd (mulf T P) (constant S_ .f32 0x00000000#32) reducesTo_S8x2048x3x1024_S8x2048x1024_d2 h_S_
/-- The output projection. -/
def outp (Y : Rows) (W : FVec Ideal S2x1024x1024 .f32) : Rows :=
  Host.dotGeneral dot_S8x2048x1024_S1024x1024_S8x2048x1024_2_0_01_1_n_n none Y (shapeCast S1024x1024 (extractStridedSlice S1x1024x1024 ![0, 0, 0] W slices_S2x1024x1024_S1x1024x1024_0_0_0) shapeCasts_S1x1024x1024_S1024x1024)
/-- The layer's rows. -/
def out (X Y : Rows) (G : FVec Ideal S1x1x1024 .f32) (M : FVec Ideal S8x1x3072 .f32) : FVec Ideal S16384x1024 .f32 :=
  shapeCast S16384x1024 (addf X (mulf (broadcastInDim S8x2048x1024 ![0, 1, 2] bcast_S8x1x1024_S8x2048x1024_0_1_2 (extractStridedSlice S8x1x1024 ![0, 0, 2048] M slices_S8x1x3072_S8x1x1024_0_0_2048)) (norm Y G))) shapeCasts_S8x2048x1024_S16384x1024

/-- The whole reference. -/
def layer (x : FVec Ideal S16384x1024 .f32) (o0 o1 o2 : Head) (md : FVec Ideal S32x1x3072 .f32) (ng : FVec Ideal S2x4x1024 .f32)
    (w : FVec Ideal S2x1024x7688 .f32) (wb : FVec Ideal S2x3x512x1024 .f32) (wo : FVec Ideal S2x1024x1024 .f32) : FVec Ideal S16384x1024 .f32 :=
  out (rows x) (outp (mergedV (gates (modul (rows x) (extractStridedSlice S1x1x1024 ![0, 0, 0] ng slices_S2x4x1024_S1x1x1024_0_0_0) (mods md)) w) (projs (heads o0 o1 o2) wb)) wo)
    (extractStridedSlice S1x1x1024 ![0, 1, 0] ng slices_S2x4x1024_S1x1x1024_0_1_0) (mods md)

theorem norm_at (X : Rows) (G : FVec Ideal S1x1x1024 .f32) (b : Fin 8) (s : Fin 2048) (k : Fin 1024) :
    norm X G (ix3 b s k) = X (ix3 b s k) * rs (fun l => X (ix3 b s l)) * G (ix3 0 0 k) := by
  pointwise [norm]
  rfl

theorem modul_at (X : Rows) (G : FVec Ideal S1x1x1024 .f32) (M : FVec Ideal S8x1x3072 .f32) (b : Fin 8) (s : Fin 2048) (k : Fin 1024) :
    modul X G M (ix3 b s k) = hid (fun l => X (ix3 b s l)) (fun l => G (ix3 0 0 l)) (fun l => M (ix3 b 0 ⟨1024 + l.val, by omega⟩)) (fun l => M (ix3 b 0 ⟨l.val, by omega⟩)) k := by
  pointwise [modul]
  rw [norm_at]
  rfl

theorem gates_at (H : Rows) (W : FVec Ideal S2x1024x7688 .f32) (b : Fin 8) (s : Fin 2048) (i : Fin 3) (d : Fin 1024) :
    gates H W (ix4 b s i d) = Ideal.logistic (dot (fun l => H (ix3 b s l)) (fun l j => W (ix3 0 l ⟨4616 + (i.val * 1024 + j.val), by omega⟩)) d) := by
  pointwise [gates]
  rfl

theorem head_at (o : Head) (b : Fin 8) (s : Fin 2048) (e : Fin 512) :
    head o (ix4 b s 0 e) = o (ix2 (⟨b.val * 2048 + s.val, by omega⟩ : Fin 16384) e) := by
  pointwise [head]

theorem heads_0 (o0 o1 o2 : Head) (b : Fin 8) (s : Fin 2048) (e : Fin 512) :
    heads o0 o1 o2 (ix4 b s 0 e) = head o0 (ix4 b s 0 e) := by
  pointwise [heads]
theorem heads_1 (o0 o1 o2 : Head) (b : Fin 8) (s : Fin 2048) (e : Fin 512) :
    heads o0 o1 o2 (ix4 b s 1 e) = head o1 (ix4 b s 0 e) := by
  pointwise [heads]
theorem heads_2 (o0 o1 o2 : Head) (b : Fin 8) (s : Fin 2048) (e : Fin 512) :
    heads o0 o1 o2 (ix4 b s 2 e) = head o2 (ix4 b s 0 e) := by
  pointwise [heads]

theorem projs_at (O : FVec Ideal S8x2048x3x512 .f32) (W : FVec Ideal S2x3x512x1024 .f32) (b : Fin 8) (s : Fin 2048) (i : Fin 3) (d : Fin 1024) :
    projs O W (ix4 b s i d) = ∑ e : Fin 512, O (ix4 b s i e) * W (ix4 0 i e d) := by
  pointwise [projs]
  exact Finset.sum_congr rfl fun e _ => mul_comm _ _

theorem merged_at (T P : Three) (b : Fin 8) (s : Fin 2048) (d : Fin 1024) :
    mergedV T P (ix3 b s d) = T (ix4 b s 0 d) * P (ix4 b s 0 d) + T (ix4 b s 1 d) * P (ix4 b s 1 d) + T (ix4 b s 2 d) * P (ix4 b s 2 d) := by
  pointwise [mergedV]
  exact Fin.sum_univ_three _

theorem outp_at (Y : Rows) (W : FVec Ideal S2x1024x1024 .f32) (b : Fin 8) (s : Fin 2048) (d : Fin 1024) :
    outp Y W (ix3 b s d) = dot (fun l => Y (ix3 b s l)) (fun l j => W (ix3 0 l j)) d := by
  pointwise [outp]
  rfl

theorem out_at (X Y : Rows) (G : FVec Ideal S1x1x1024 .f32) (M : FVec Ideal S8x1x3072 .f32) (b : Fin 8) (s : Fin 2048) (d : Fin 1024) :
    out X Y G M (ix2 (⟨b.val * 2048 + s.val, by omega⟩ : Fin 16384) d)
      = res (fun l => X (ix3 b s l)) (fun l => M (ix3 b 0 ⟨2048 + l.val, by omega⟩)) (fun l => G (ix3 0 0 l)) (fun l => Y (ix3 b s l)) d := by
  pointwise [out]
  rw [norm_at]
  rfl

theorem rows_at (x : FVec Ideal S16384x1024 .f32) (b : Fin 8) (s : Fin 2048) (k : Fin 1024) :
    rows x (ix3 b s k) = x (ix2 (⟨b.val * 2048 + s.val, by omega⟩ : Fin 16384) k) := by
  pointwise [rows]
theorem mods_at (x : FVec Ideal S32x1x3072 .f32) (b : Fin 8) (k : Fin 3072) :
    mods x (ix3 b 0 k) = x (ix3 (⟨b.val, by omega⟩ : Fin 32) 0 k) := by
  pointwise [mods]
theorem gain0_at (x : FVec Ideal S2x4x1024 .f32) (k : Fin 1024) :
    extractStridedSlice S1x1x1024 ![0, 0, 0] x slices_S2x4x1024_S1x1x1024_0_0_0 (ix3 0 0 k) = x (ix3 0 0 k) := by
  pointwise
theorem gain1_at (x : FVec Ideal S2x4x1024 .f32) (k : Fin 1024) :
    extractStridedSlice S1x1x1024 ![0, 1, 0] x slices_S2x4x1024_S1x1x1024_0_1_0 (ix3 0 0 k) = x (ix3 0 1 k) := by
  pointwise

/-- The reference's row. -/
theorem layer_at (A : Args) (b : Fin 8) (s : Fin 2048) (d : Fin 1024) :
    layer A.x A.o0 A.o1 A.o2 A.md A.ng A.w A.wb A.wo (ix2 (⟨b.val * 2048 + s.val, by omega⟩ : Fin 16384) d)
      = outR A ⟨b.val * 2048 + s.val, by omega⟩ b d := by
  unfold layer
  rw [out_at]
  simp only [outp_at, merged_at, gates_at, projs_at, heads_0, heads_1, heads_2, head_at, modul_at, rows_at, mods_at, gain0_at, gain1_at]
  rfl

/-- The program's result is the stages composed. -/
theorem run (m : (ℓ : Loc nD τ sig) → Buf (Elt Ideal) ℓ) (c : Dev nD) :
    res_main_v73 (F := Ideal) m c
      = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold res_main_v73
  rfl

end Cert.Merge.Ref
end
-- ==== Proof.Merge.Value.lean ====
/- The merge's kernel computes its reference: the array after the run, and the value claim. -/
module

public import proofs.«01_k».proof.Proof.Merge.Run
public import proofs.«01_k».proof.Proof.Merge.Pay
public import proofs.«01_k».proof.Proof.Merge.Inp
public import proofs.«01_k».proof.Proof.Merge.Ref
public import proofs.«01_k».proof.Defs

@[expose] public section

set_option maxRecDepth 16384

noncomputable section

namespace Cert.Merge
open Cert.MergeKernelIdeal Cert.MergeKernelIdeal.Gen Cert.Glu Idealize.ShloMosaic Idealize.ShloMosaic.TcCoe Idealize.ShloMosaic.Tactic Idealize.SL.Sem

variable (m : (ℓ : Loc nD τ sig) → Buf (Elt Ideal) ℓ) (c : Dev nD)

/-- The arguments as launched. -/
def args : Args where
  x := m ((c : Thread nD τ).loc main_arg0)
  o0 := m ((c : Thread nD τ).loc main_arg1)
  o1 := m ((c : Thread nD τ).loc main_arg2)
  o2 := m ((c : Thread nD τ).loc main_arg3)
  md := m ((c : Thread nD τ).loc main_arg4)
  ng := m ((c : Thread nD τ).loc main_arg5)
  w := m ((c : Thread nD τ).loc main_arg6)
  wb := m ((c : Thread nD τ).loc main_arg7)
  wo := m ((c : Thread nD τ).loc main_arg8)

abbrev rowOf (i : ℕ) (hi : i < 64) (r : Fin 256) : Fin 16384 := ⟨i * 256 + r.val, by omega⟩
abbrev seqOf (i : ℕ) (hi : i < 64) : Fin 8 := ⟨i / 8, by omega⟩

theorem point_lt (t : Fin cfg0.N) : t.val < 64 := t.isLt

/-- A row by its sequence and its position there. -/
theorem row_eq (i : ℕ) (hi : i < 64) (r : Fin 256) :
    rowOf i hi r = ⟨(seqOf i hi).val * 2048 + (i % 8 * 256 + r.val), by dsimp only; omega⟩ := by
  refine Fin.ext ?_
  dsimp only
  omega

/-- A point's normalised rows are its block's. -/
theorem hid_of (t : Fin cfg0.N) (r : Fin 256) (k : Fin 1024) :
    (k0_pay3 (iblk m c 0 t) (iblk m c 4 t) (iblk m c 5 t) : FVec Ideal S256x1024 .bf16) (ix2 r k) = hidR (args m c) (rowOf t.val (point_lt t) r) (seqOf t.val (point_lt t)) k := by
  rw [pay3_at]
  simp only [blk0 m c t (point_lt t), blk4 m c t (point_lt t), blk5 m c t]
  rfl

/-- A point's gate columns are their branch's. -/
theorem gate_of (t : Fin cfg0.N) (i : Fin 3) (off : ℕ) (h : off = i.val * 1024) (l j : Fin 1024) :
    iblk m c 7 t (ix2 l (⟨off + j.val, by omega⟩ : Fin 3072)) = gcol (args m c) i l j := by
  subst h
  exact blk7 m c t l _

/-- A point writes its rows of the layer. -/
theorem out_of (t : Fin cfg0.N) (r : Fin 256) (k : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r k)
      = outR (args m c) (rowOf t.val (point_lt t) r) (seqOf t.val (point_lt t)) k := by
  rw [out_at]
  simp only [hid_of m c t, gate_of m c t 0 0 rfl, gate_of m c t 1 1024 rfl, gate_of m c t 2 2048 rfl, blk0 m c t (point_lt t), blk1 m c t (point_lt t), blk2 m c t (point_lt t), blk3 m c t (point_lt t), blk4 m c t (point_lt t), blk6 m c t, blk8 m c t, blk9 m c t]
  rfl

/-- The array after the run is the reference's. -/
theorem arr_eq : (dats (F := Ideal) m 0 c).arrAt 10 cfg0.N
    = Ref.layer (args m c).x (args m c).o0 (args m c).o1 (args m c).o2 (args m c).md (args m c).ng (args m c).w (args m c).wb (args m c).wo := by
  refine (dats m 0 c).arrAt_eq_of_covers 10 _ (by decide +kernel) fun t hf y => ?_
  have hi := point_lt t
  blk_simp
  rw [after0_10]
  obtain ⟨r, k, rfl⟩ : ∃ (r : Fin 256) (k : Fin 1024), y = ix2 r k := ⟨y 0, y 1, by funext a; match a with | ⟨0, _⟩ => rfl | ⟨1, _⟩ => rfl⟩
  have hr := r.isLt
  have hemb : (win0_10.blk t).view.emb (ix2 r k) = ix2 (rowOf t.val hi r) k := by
    blk_ext [idx10 t]
  rw [hemb, out_of m c t r k, row_eq t.val hi r]
  exact (Ref.layer_at (args m c) (seqOf t.val hi) ⟨t.val % 8 * 256 + r.val, by omega⟩ k).symm

/-- The kernel computes the reference. -/
theorem algebraic : algebraic_MergeKernelIdeal_MergeReferenceIdeal := by
  intro m g m' g' _ hagree
  refine ⟨fun c => (dats (F := Ideal) m 0 c).arrAt 10 cfg0.N, run_out m g, ?_⟩
  refine (θ_run _ _ _).mono (fun r h c => ⟨(h c).1.trans ?_, (h c).2⟩) (Cert.MergeReferenceIdeal.Value.run m' g')
  refine (Ref.run m' c).trans ?_
  obtain ⟨h0, h1, h2, h3, h4, h5, h6, h7, h8⟩ := hagree c
  rw [h0, h1, h2, h3, h4, h5, h6, h7, h8]
  exact (arr_eq m c).symm

end Cert.Merge
end
-- ==== Proof.Fox.Run.lean ====
/- The run of the forgetting attention's body over whole staging buffers. -/
module

public import proofs.«01_k».proof.Proof.Gen.FoxKernelIdeal.Frame.Runs

@[expose] public section

set_option maxRecDepth 65536

noncomputable section

namespace Cert.Fox

open Cert.FoxKernelIdeal Cert.FoxKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The middle of the body does not depend on what the weights' buffer held before it was cleared. -/
theorem part4_eq (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x8x2x256 .f32) (harg6 : arg6.IsWhole) (arg7 : Memref sig .tc .vmem S128x128 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (v0 : BitVec 32) (v17 : BitVec 32) (v29 : FVec F S256x128 .bf16) (v34 : FVec F S256x128 .f32) (v35 : Vec F S256x128 .f32) :
    k0_part4 i arg3 harg3 arg4 harg4 arg5 harg5 arg6 harg6 arg7 harg7 arg8 harg8 arg9 harg9 arg10 harg10 v0 v17 v29 v34 v35 = k0_part4_skel i arg3 harg3 arg4 harg4 arg5 harg5 arg6 harg6 arg7 harg7 arg8 harg8 arg9 harg9 arg10 harg10 v0 v17 v29 v34 v34 := by
  rw [k0_part4_eq_skeleton]; rfl

set_option maxHeartbeats 2000000 in
/-- The pieces the body leaves in its output, with the proof that the body runs to them: the buffers of the queries, keys,
    values and gates stay as they were, the scratch buffers end at some contents. -/
noncomputable def run (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x8x2x256 .f32) (harg6 : arg6.IsWhole) (arg7 : Memref sig .tc .vmem S128x128 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
    (x0 : Vec F S128x128 .bf16) (x1 : Vec F S2048x128 .bf16) (x2 : Vec F S2048x128 .bf16) (x3 : Vec F S1x1x8x2x256 .f32) :
    { L4 : List (View.Piece (Elt F) S128x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_fox_attention i arg3 harg3 arg4 harg4 arg5 harg5 arg6 harg6 arg7 harg7 arg8 harg8 arg9 harg9 arg10 harg10) K } := by
  refine ⟨?_, fun E K => ?run⟩
  case run =>
    simp only [cc0_fox_attention_eq_skeleton]; unfold cc0_fox_attention_skel
    simp only [k0_part3_eq_skeleton, part4_eq, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Fox
end
-- ==== Proof.Fox.Frame.lean ====
/- The frame of the idealized forgetting attention: the program runs from any memory, its arguments end unchanged, and each
   grid point leaves its block of the result. -/
module

public import proofs.«01_k».proof.Proof.Fox.Run
public import Idealize.ShloMosaic.Lib.Claim
public import Idealize.ShloMosaic.Lib.Pipeline.Value

@[expose] public section

set_option maxRecDepth 65536

noncomputable section

namespace Cert.Fox

open Cert.FoxKernelIdeal Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The one store of the body covers the whole output block. -/
theorem cover (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x8x2x256 .f32) (harg6 : arg6.IsWhole) (arg7 : Memref sig .tc .vmem S128x128 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
    (x0 : Vec F S128x128 .bf16) (x1 : Vec F S2048x128 .bf16) (x2 : Vec F S2048x128 .bf16) (x3 : Vec F S1x1x8x2x256 .f32) (y : S128x128.Idx) :
    ∃ pc ∈ (run c i arg3 harg3 arg4 harg4 arg5 harg5 arg6 harg6 arg7 harg7 arg8 harg8 arg9 harg9 arg10 harg10 x0 x1 x2 x3).1, y ∈ pc.1.set :=
  View.cover_of_tiledL (run c i arg3 harg3 arg4 harg4 arg5 harg5 arg6 harg6 arg7 harg7 arg8 harg8 arg9 harg9 arg10 harg10 x0 x1 x2 x3).1 S128x128.size (by sl_kernel_rfl) y

/-- What the body leaves in the output block. -/
def blockOut (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x8x2x256 .f32) (harg6 : arg6.IsWhole) (arg7 : Memref sig .tc .vmem S128x128 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
    (x0 : Vec F S128x128 .bf16) (x1 : Vec F S2048x128 .bf16) (x2 : Vec F S2048x128 .bf16) (x3 : Vec F S1x1x8x2x256 .f32) : Vec F S128x128 .bf16 :=
  VO0_4.read (Elt F) (VO0_4.writes (Elt F) VO0_4.junk (run c i arg3 harg3 arg4 harg4 arg5 harg5 arg6 harg6 arg7 harg7 arg8 harg8 arg9 harg9 arg10 harg10 x0 x1 x2 x3).1)

/-- The output block after the grid point `t`. -/
def outsAt (c : Dev nD) (t : Fin cfg0.N) : Vec F S128x128 .bf16 :=
  blockOut c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t)

/-- The data of the pipeline: the arrays at their contents before it, the inputs left as they are, the output block written. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t)
  Φ _ := Pipeline.ΦA spec0 c
  q w := Pipeline.shareOf spec0 w
  owed _ := 0

/-- The arrays are those found before the pipeline. -/
theorem A_eq (c : Dev nD) (w : Fin cfg0.W) : (dat m 0 c).A w = V m c (Pipeline.arrRef spec0 w) := by
  dsimp only [dat]

/-- What each window holds after a point. -/
theorem after0_0 (c : Dev nD) (t : Fin cfg0.N) : (dat m 0 c).after 0 t = iblk m c 0 t := by dsimp only [dat]
theorem after0_1 (c : Dev nD) (t : Fin cfg0.N) : (dat m 0 c).after 1 t = iblk m c 1 t := by dsimp only [dat]
theorem after0_2 (c : Dev nD) (t : Fin cfg0.N) : (dat m 0 c).after 2 t = iblk m c 2 t := by dsimp only [dat]
theorem after0_3 (c : Dev nD) (t : Fin cfg0.N) : (dat m 0 c).after 3 t = iblk m c 3 t := by dsimp only [dat]
theorem after0_4 (c : Dev nD) (t : Fin cfg0.N) : (dat m 0 c).after 4 t = (outsAt m c t) := by dsimp only [dat]

/-- What each input window holds before a point: its block. -/
theorem before0_0 (c : Dev nD) (t : Fin cfg0.N) (d) : (dat m 0 c).before 0 t d = iblk m c 0 t :=
  before0_0_of m (dat m 0 c) (A_eq m c 0) (after0_0 m c) t d
theorem before0_1 (c : Dev nD) (t : Fin cfg0.N) (d) : (dat m 0 c).before 1 t d = iblk m c 1 t :=
  before0_1_of m (dat m 0 c) (A_eq m c 1) (after0_1 m c) t d
theorem before0_2 (c : Dev nD) (t : Fin cfg0.N) (d) : (dat m 0 c).before 2 t d = iblk m c 2 t :=
  before0_2_of m (dat m 0 c) (A_eq m c 2) (after0_2 m c) t d
theorem before0_3 (c : Dev nD) (t : Fin cfg0.N) (d) : (dat m 0 c).before 3 t d = iblk m c 3 t :=
  before0_3_of m (dat m 0 c) (A_eq m c 3) (after0_3 m c) t d

/-- What the body is given at a point. -/
def bodyPre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d)))

/-- What the body gives back. -/
def bodyPost (c : Dev nD) (t : Fin cfg0.N) : sProp 𝕄 :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t))

set_option maxHeartbeats 800000 in
/-- The body keeps its inputs and writes its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dat m 0 c).Φ t.succ = (dat m 0 c).Φ t.castSucc from rfl,
    show (dat m 0 c).owesAt () t.succ = (dat m 0 c).owesAt () t.castSucc from rfl,
    after0_0, after0_1, after0_2, after0_3, after0_4]
  rw [show (dat m 0 c).Φ t.castSucc = Pipeline.ΦA spec0 c from rfl, PhiA0_eq]
  unfold outsAt
  unfold blockOut
  iintro ⟨⟨⟨HS0, HS1, HS2⟩, Hg⟩, Ho, ⟨%d0, H0⟩, ⟨%d1, H1⟩, ⟨%d2, H2⟩, ⟨%d3, H3⟩, ⟨%d4, H4⟩⟩
  iapply ((run c (grid0.coords t) _ _ _ _ _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, ⟨%e4, H4⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _ _ _ _ _ _ _)

/-- The body at a point, by its name. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dat (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to the end: its arrays as the data says, every counter at zero. -/
theorem run_main_quiescent : θ_run defs (onTc (τ := τ) (main (F := F))) (s₀ m ρ) (fun r => (Pipeline.FramePost cfgs (dat m) 0 (V m)) r ∧ r.2.sem = fun _ => 0) :=
  Pipeline.θ_run_frame_shared (Q' := _) cfgs (dat m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dat m) 0 (V m)) :=
  (θ_run defs _ _).mono (fun _ h => h.1) (run_main_quiescent m ρ)

/-- The arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dat m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-- The block written back at a point. -/
theorem flushed (c : Dev nD) (t : Fin cfg0.N) : (dat m 0 c).flushed 4 t = (cfg0.win 4).cut (grid0.coords t) (outsAt m c t) := by
  show (cfg0.win 4).cut (grid0.coords t) ((dat m 0 c).after 4 t) = _
  rw [after0_4]

/-- The run with its result array named. -/
theorem run_out : θ_run defs (onTc (τ := τ) (main (F := F))) ⟨m, fun _ => 0, ρ⟩ fun r => ∀ c : Dev nD,
      r.2.mem ((c : Thread nD τ).loc main_v2) = (dat m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 4,
      ((h c).1 2).trans (((dat m 0 c).arrAt_in 2 rfl _).trans ((A_eq m c 2).trans (V_main_arg0 m c))),
      ((h c).2 main_arg1 (Pipeline.mem_restRefs_of main_arg1 (by decide) (by decide))).trans (V_main_arg1 m c)⟩)
    (run_main m ρ)

end Cert.Fox

end
-- ==== Proof.Fox.Body.lean ====
/- One grid point of the forgetting attention kernel: what its body leaves in the output block, as a recursion over the key
   blocks. The three scratch buffers (the running maximum, the running sum of the weights and the accumulated output) are
   carried from one key block to the next; the recursion `st` below carries them as values. -/
module

public import proofs.«01_k».proof.Proof.Fox.Frame
public import Idealize.ShloMosaic.Lib.Pointwise
public import Idealize.ShloMosaic.Lib.VecWindow

@[expose] public section

set_option maxRecDepth 16384

noncomputable section

namespace Cert.Fox
open Cert.FoxKernelIdeal Cert.FoxKernelIdeal.Gen Idealize.ShloMosaic Idealize.ShloMosaic.TcCoe Idealize.ShloMosaic.Tactic Idealize.SL.Sem

abbrev RB := FVec Ideal S256x128 .f32
abbrev Kv := Vec Ideal S2048x128 .bf16
abbrev Gt := Vec Ideal S1x1x8x2x256 .f32

/-- The three scratch buffers' contents: the maximum, the sum, the output. -/
abbrev Scr := RB × RB × RB

/-- The key or value block the `k`th trip reads. -/
def blkAt (i : grid0.Coords) (x : Kv) (k : Fin (k0_t1_loop i).trips) : Vec Ideal S256x128 .bf16 :=
  View.ld x (Rect.unit (s := S2048x128) (k0_off1 i k) S256x128.size (k0_off1_inb i k))

/-- The gates the `k`th trip reads. -/
def gateAt (i : grid0.Coords) (x : Gt) (k : Fin (k0_t1_loop i).trips) : Vec Ideal S1x1x1x2x256 .f32 :=
  View.ld x (Rect.unit (s := S1x1x8x2x256) (k0_off2 i k) S1x1x1x2x256.size (k0_off2_inb i k))

/-- The key or value block on the diagonal. -/
def blkDiag (i : grid0.Coords) (x : Kv) : Vec Ideal S256x128 .bf16 :=
  View.ld x (Rect.unit (s := S2048x128) (k0_off5 i) S256x128.size (k0_off5_inb i))

/-- The gates of the block on the diagonal. -/
def gateDiag (i : grid0.Coords) (x : Gt) : Vec Ideal S1x1x1x2x256 .f32 :=
  View.ld x (Rect.unit (s := S1x1x8x2x256) (k0_off6 i) S1x1x1x2x256.size (k0_off6_inb i))

/-- A block before the diagonal, taken into the scratch contents. -/
def stepS (q : FVec Ideal S256x128 .bf16) (kb : Vec Ideal S256x128 .bf16) (fb : Vec Ideal S1x1x1x2x256 .f32) (vb : Vec Ideal S256x128 .bf16) (s : Scr) : Scr :=
  (k0_pay22 (k0_pay3 q kb fb s.1), k0_pay6 q kb fb s.1 s.2.1, k0_pay21 vb (k0_pay7 q kb fb s.1 s.2.2) (k0_pay8 q kb fb s.1))

/-- The scratch contents before trip `k`, from those before the loop. -/
def st (i : grid0.Coords) (q : FVec Ideal S256x128 .bf16) (x1 x2 : Kv) (x3 : Gt) (s0 : Scr) : ℕ → Scr
  | 0 => s0
  | k + 1 =>
    if h : k < (k0_t1_loop i).trips then
      stepS q (blkAt i x1 ⟨k, h⟩) (gateAt i x3 ⟨k, h⟩) (blkAt i x2 ⟨k, h⟩) (st i q x1 x2 x3 s0 k)
    else st i q x1 x2 x3 s0 k

/-- The scratch contents at the start. -/
def st0 : Scr := (k0_pay17 (F := Ideal), k0_pay19 (F := Ideal) (k0_pay18 (F := Ideal)), k0_pay20 (F := Ideal))

/-- What stands where the mask is not set. -/
def low : Ideal .f32 := Named.named (F := Ideal) κ "mask" 0xF149F2CA#32

/-- The block on the diagonal, taken into the scratch contents. -/
def lastS (i : grid0.Coords) (q : FVec Ideal S256x128 .bf16) (x1 x2 : Kv) (x3 : Gt) (s : Scr) : RB × RB :=
  (k0_pay31 (k0_pay25 q (blkDiag i x1) (gateDiag i x3)) (k0_pay26 (run.sl.v0 i) (run.sl.v17 i)) low s.1 s.2.1,
   k0_pay32 (k0_pay25 q (blkDiag i x1) (gateDiag i x3)) (k0_pay26 (run.sl.v0 i) (run.sl.v17 i)) low (blkDiag i x2) s.1 s.2.2)

section
variable (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x8x2x256 .f32) (harg6 : arg6.IsWhole) (arg7 : Memref sig .tc .vmem S128x128 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)

theorem trip_s (q : FVec Ideal S256x128 .bf16) (x1 : Kv) (x3 : Gt) (k : Fin (k0_t1_loop i).trips) :
    trip_k0_t1.sl.v132 (F := Ideal) i arg4 arg6 q (harg4.unread x1) (harg6.unread x3) k = k0_pay2 q (blkAt i x1 k) (gateAt i x3 k) := by
  unfold trip_k0_t1.sl.v132
  try unfold trip_k0_t1.sl.v131
  try unfold trip_k0_t1.sl.v130
  try unfold trip_k0_t1.sl.v129
  try unfold trip_k0_t1.sl.v128
  try unfold trip_k0_t1.sl.v125
  try unfold trip_k0_t1.sl.v124
  simp only [View.readAt_eq_ld, harg4.read_unread, harg6.read_unread]
  rfl

theorem trip_m (q : FVec Ideal S256x128 .bf16) (x1 : Kv) (x3 : Gt) (k : Fin (k0_t1_loop i).trips) (G8 : BufTy.Contents (Elt Ideal) arg8.view.ty) :
    trip_k0_t1.sl.v141 (F := Ideal) i arg4 arg6 arg8 q (harg4.unread x1) (harg6.unread x3) k G8 = k0_pay3 q (blkAt i x1 k) (gateAt i x3 k) (arg8.view.read (Elt Ideal) G8) := by
  have hz : (![0,0] : Fin 2 → Nat) = fun _ => 0 := by funext a; fin_cases a <;> rfl
  unfold trip_k0_t1.sl.v141 trip_k0_t1.sl.v140 trip_k0_t1.sl.v139 trip_k0_t1.sl.v138
  rw [trip_s i arg4 harg4 arg6 harg6 q x1 x3 k]
  simp only [View.readAt_eq_ld, View.ld_unit_zero (S := S256x128) hz]
  rfl

theorem trip_c (q : FVec Ideal S256x128 .bf16) (x1 : Kv) (x3 : Gt) (k : Fin (k0_t1_loop i).trips) (G8 : BufTy.Contents (Elt Ideal) arg8.view.ty) :
    trip_k0_t1.sl.v143 (F := Ideal) i arg4 arg6 arg8 q (harg4.unread x1) (harg6.unread x3) k G8 = k0_pay4 q (blkAt i x1 k) (gateAt i x3 k) (arg8.view.read (Elt Ideal) G8) := by
  have hz : (![0,0] : Fin 2 → Nat) = fun _ => 0 := by funext a; fin_cases a <;> rfl
  unfold trip_k0_t1.sl.v143 trip_k0_t1.sl.v142
  rw [trip_m i arg4 harg4 arg6 harg6 arg8 q x1 x3 k G8]
  simp only [View.readAt_eq_ld, View.ld_unit_zero (S := S256x128) hz]
  rfl

theorem trip_e (q : FVec Ideal S256x128 .bf16) (x1 : Kv) (x3 : Gt) (k : Fin (k0_t1_loop i).trips) (G8 : BufTy.Contents (Elt Ideal) arg8.view.ty) :
    trip_k0_t1.sl.v146 (F := Ideal) i arg4 arg6 arg8 q (harg4.unread x1) (harg6.unread x3) k G8 = k0_pay5 q (blkAt i x1 k) (gateAt i x3 k) (arg8.view.read (Elt Ideal) G8) := by
  unfold trip_k0_t1.sl.v146 trip_k0_t1.sl.v145 trip_k0_t1.sl.v144
  rw [trip_m i arg4 harg4 arg6 harg6 arg8 q x1 x3 k G8, trip_s i arg4 harg4 arg6 harg6 q x1 x3 k]
  rfl

theorem trip_l (q : FVec Ideal S256x128 .bf16) (x1 : Kv) (x3 : Gt) (k : Fin (k0_t1_loop i).trips) (G8 : BufTy.Contents (Elt Ideal) arg8.view.ty) (G9 : BufTy.Contents (Elt Ideal) arg9.view.ty) :
    trip_k0_t1.sl.v155 (F := Ideal) i arg4 arg6 arg8 arg9 q (harg4.unread x1) (harg6.unread x3) k G8 G9 = k0_pay6 q (blkAt i x1 k) (gateAt i x3 k) (arg8.view.read (Elt Ideal) G8) (arg9.view.read (Elt Ideal) G9) := by
  have hz : (![0,0] : Fin 2 → Nat) = fun _ => 0 := by funext a; fin_cases a <;> rfl
  unfold trip_k0_t1.sl.v155 trip_k0_t1.sl.v152 trip_k0_t1.sl.v151 trip_k0_t1.sl.v150 trip_k0_t1.sl.v149 trip_k0_t1.sl.v148
  rw [trip_c i arg4 harg4 arg6 harg6 arg8 q x1 x3 k G8, trip_e i arg4 harg4 arg6 harg6 arg8 q x1 x3 k G8]
  simp only [View.readAt_eq_ld, View.ld_unit_zero (S := S256x128) hz]
  rfl

theorem trip_a (q : FVec Ideal S256x128 .bf16) (x1 : Kv) (x3 : Gt) (k : Fin (k0_t1_loop i).trips) (G8 : BufTy.Contents (Elt Ideal) arg8.view.ty) (G10 : BufTy.Contents (Elt Ideal) arg10.view.ty) :
    trip_k0_t1.sl.v157 (F := Ideal) i arg4 arg6 arg8 arg10 q (harg4.unread x1) (harg6.unread x3) k G8 G10 = k0_pay7 q (blkAt i x1 k) (gateAt i x3 k) (arg8.view.read (Elt Ideal) G8) (arg10.view.read (Elt Ideal) G10) := by
  have hz : (![0,0] : Fin 2 → Nat) = fun _ => 0 := by funext a; fin_cases a <;> rfl
  unfold trip_k0_t1.sl.v157
  rw [trip_c i arg4 harg4 arg6 harg6 arg8 q x1 x3 k G8]
  simp only [View.readAt_eq_ld, View.ld_unit_zero (S := S256x128) hz]
  rfl

theorem trip_p (q : FVec Ideal S256x128 .bf16) (x1 : Kv) (x3 : Gt) (k : Fin (k0_t1_loop i).trips) (G8 : BufTy.Contents (Elt Ideal) arg8.view.ty) :
    trip_k0_t1.sl.v158 (F := Ideal) i arg4 arg6 arg8 q (harg4.unread x1) (harg6.unread x3) k G8 = k0_pay8 q (blkAt i x1 k) (gateAt i x3 k) (arg8.view.read (Elt Ideal) G8) := by
  unfold trip_k0_t1.sl.v158
  rw [trip_e i arg4 harg4 arg6 harg6 arg8 q x1 x3 k G8]
  rfl

theorem trip_v (x2 : Kv) (k : Fin (k0_t1_loop i).trips)  :
    trip_k0_t1.sl.r (F := Ideal) i arg5 (harg5.unread x2) k = blkAt i x2 k := by
  have hz : (![0,0] : Fin 2 → Nat) = fun _ => 0 := by funext a; fin_cases a <;> rfl
  unfold trip_k0_t1.sl.r
  simp only [View.readAt_eq_ld, harg5.read_unread, View.ld_unit_zero (S := S256x128) hz]
  rfl

/-- The scratch contents after `k` trips are the recursion's. -/
theorem loop_st (𝒱 : Variants) (v0 v17 : BitVec 32) (q : FVec Ideal S256x128 .bf16) (v34 v35 : RB)
    (x1 x2 : Kv) (x3 : Gt) (G8 : BufTy.Contents (Elt Ideal) arg8.view.ty) (G9 : BufTy.Contents (Elt Ideal) arg9.view.ty) (G10 : BufTy.Contents (Elt Ideal) arg10.view.ty)
    (k : ℕ) (hk : k ≤ (k0_t1_loop i).trips) :
    (arg8.view.read (Elt Ideal) (arg8.view.writes (Elt Ideal) G8 (pb_k0_t1 (F := Ideal) 𝒱 c none i arg3 harg3 arg4 harg4 arg5 harg5 arg6 harg6 arg7 harg7 arg8 harg8 arg9 harg9 arg10 harg10 v0 v17 q v34 v35 (harg4.unread x1) (harg5.unread x2) (harg6.unread x3) G8 G9 G10 k).1),
     arg9.view.read (Elt Ideal) (arg9.view.writes (Elt Ideal) G9 (pb_k0_t1 (F := Ideal) 𝒱 c none i arg3 harg3 arg4 harg4 arg5 harg5 arg6 harg6 arg7 harg7 arg8 harg8 arg9 harg9 arg10 harg10 v0 v17 q v34 v35 (harg4.unread x1) (harg5.unread x2) (harg6.unread x3) G8 G9 G10 k).2.1),
     arg10.view.read (Elt Ideal) (arg10.view.writes (Elt Ideal) G10 (pb_k0_t1 (F := Ideal) 𝒱 c none i arg3 harg3 arg4 harg4 arg5 harg5 arg6 harg6 arg7 harg7 arg8 harg8 arg9 harg9 arg10 harg10 v0 v17 q v34 v35 (harg4.unread x1) (harg5.unread x2) (harg6.unread x3) G8 G9 G10 k).2.2))
      = st i q x1 x2 x3 (arg8.view.read (Elt Ideal) G8, arg9.view.read (Elt Ideal) G9, arg10.view.read (Elt Ideal) G10) k := by
  induction k with
  | zero => rfl
  | succ k ih =>
    have hk' : k < (k0_t1_loop i).trips := hk
    have ih := ih (le_of_lt hk')
    rw [pb_k0_t1_succ (F := Ideal) 𝒱 c none i arg3 harg3 arg4 harg4 arg5 harg5 arg6 harg6 arg7 harg7 arg8 harg8 arg9 harg9 arg10 harg10 v0 v17 q v34 v35 (harg4.unread x1) (harg5.unread x2) (harg6.unread x3) G8 G9 G10 ⟨k, hk'⟩]
    dsimp only [tripL_k0_t1]
    unfold trip_k0_t1
    dsimp only [List.cons_append, List.nil_append]
    rw [View.read_writes_full, View.read_writes_full, View.read_writes_full]
    simp only [st, dif_pos hk', ← ih]
    rw [trip_m (q := q) (x1 := x1) (x3 := x3) (k := ⟨k, hk'⟩), trip_l (q := q) (x1 := x1) (x3 := x3) (k := ⟨k, hk'⟩), trip_a (q := q) (x1 := x1) (x3 := x3) (k := ⟨k, hk'⟩),
      trip_p (q := q) (x1 := x1) (x3 := x3) (k := ⟨k, hk'⟩), trip_v (x2 := x2) (k := ⟨k, hk'⟩)]
    rfl

/-- The scratch contents before the block on the diagonal. -/
abbrev stN (i : grid0.Coords) (x0 : Vec Ideal S128x128 .bf16) (x1 x2 : Kv) (x3 : Gt) : Scr := st i (k0_pay16 (F := Ideal) x0) x1 x2 x3 st0 (k0_t1_loop i).trips

/-- What the loop leaves in the three buffers. -/
theorem loop_all (x0 : Vec Ideal S128x128 .bf16) (x1 x2 : Kv) (x3 : Gt) (h2 : (k0_t2_loop i).trips = 0) :
    run.sl.v79 (F := Ideal) c i arg3 harg3 arg4 harg4 arg5 harg5 arg6 harg6 arg7 harg7 arg8 harg8 arg9 harg9 arg10 harg10 x0 x1 x2 x3 = (stN i x0 x1 x2 x3).1
    ∧ run.sl.v89 (F := Ideal) c i arg3 harg3 arg4 harg4 arg5 harg5 arg6 harg6 arg7 harg7 arg8 harg8 arg9 harg9 arg10 harg10 x0 x1 x2 x3 = (stN i x0 x1 x2 x3).2.1
    ∧ run.sl.v98 (F := Ideal) c i arg3 harg3 arg4 harg4 arg5 harg5 arg6 harg6 arg7 harg7 arg8 harg8 arg9 harg9 arg10 harg10 x0 x1 x2 x3 = (stN i x0 x1 x2 x3).2.2 := by
  have hz : (![0,0] : Fin 2 → Nat) = fun _ => 0 := by funext a; fin_cases a <;> rfl
  have hl := loop_st c i arg3 harg3 arg4 harg4 arg5 harg5 arg6 harg6 arg7 harg7 arg8 harg8 arg9 harg9 arg10 harg10 Variants.none (run.sl.v0 i) (run.sl.v17 i) (run.sl.r (F := Ideal) c arg3 harg3 x0) k0_pay18 k0_pay18 x1 x2 x3
    (arg8.view.writes (Elt Ideal) arg8.view.junk run.sl.HS0_1) (arg9.view.writes (Elt Ideal) arg9.view.junk run.sl.HS1_1) (arg10.view.writes (Elt Ideal) arg10.view.junk run.sl.HS2_1) _ le_rfl
  have eq : run.sl.r (F := Ideal) c arg3 harg3 x0 = k0_pay16 x0 := by
    unfold run.sl.r
    simp only [View.readAt_eq_ld, View.ld_unit_zero (S := S128x128) hz, harg3.read_unread]
  have e0 : (arg8.view.read (Elt Ideal) (arg8.view.writes (Elt Ideal) arg8.view.junk (run.sl.HS0_1 (F := Ideal))), arg9.view.read (Elt Ideal) (arg9.view.writes (Elt Ideal) arg9.view.junk (run.sl.HS1_1 (F := Ideal))),
      arg10.view.read (Elt Ideal) (arg10.view.writes (Elt Ideal) arg10.view.junk (run.sl.HS2_1 (F := Ideal)))) = st0 := by
    unfold run.sl.HS0_1 run.sl.HS1_1 run.sl.HS2_1
    rw [View.read_writes_full, View.read_writes_full, View.read_writes_full]
    rfl
  rw [e0, eq] at hl
  have e2 : Scf.trips (k0_t2_loop i).lb (k0_t2_loop i).ub (k0_t2_loop i).st = 0 := h2
  unfold run.sl.v79 run.sl.v89 run.sl.v98 View.readCov
  rw [View.readAt_full, View.readAt_full, View.readAt_full, e2, eq]
  unfold pb_k0_t2
  dsimp only [List.nil_append]
  rw [View.writes_append, View.writes_append, View.writes_append]
  exact ⟨congrArg Prod.fst hl, congrArg (fun s => s.2.1) hl, congrArg (fun s => s.2.2) hl⟩

/-- What the body leaves in the output block: the last accumulator over the last sum, each lane's head picked. -/
theorem out_eq (x0 : Vec Ideal S128x128 .bf16) (x1 x2 : Kv) (x3 : Gt) (h2 : (k0_t2_loop i).trips = 0) :
    blockOut (F := Ideal) c i arg3 harg3 arg4 harg4 arg5 harg5 arg6 harg6 arg7 harg7 arg8 harg8 arg9 harg9 arg10 harg10 x0 x1 x2 x3
      = k0_pay1 (F := Ideal) (lastS i (k0_pay16 (F := Ideal) x0) x1 x2 x3 (st i (k0_pay16 (F := Ideal) x0) x1 x2 x3 st0 (k0_t1_loop i).trips)).2
          (lastS i (k0_pay16 (F := Ideal) x0) x1 x2 x3 (st i (k0_pay16 (F := Ideal) x0) x1 x2 x3 st0 (k0_t1_loop i).trips)).1 := by
  have hz : (![0,0] : Fin 2 → Nat) = fun _ => 0 := by funext a; fin_cases a <;> rfl
  unfold blockOut
  rw [View.read_writes_eq_canon _ _ _ (cover c i arg3 harg3 arg4 harg4 arg5 harg5 arg6 harg6 arg7 harg7 arg8 harg8 arg9 harg9 arg10 harg10 x0 x1 x2 x3)]
  unfold run
  dsimp only
  rw [View.canon_unit_zero hz]
  obtain ⟨e79, e89, e98⟩ := loop_all c i arg3 harg3 arg4 harg4 arg5 harg5 arg6 harg6 arg7 harg7 arg8 harg8 arg9 harg9 arg10 harg10 x0 x1 x2 x3 h2
  have eq : run.sl.r (F := Ideal) c arg3 harg3 x0 = k0_pay16 x0 := by
    unfold run.sl.r
    simp only [View.readAt_eq_ld, View.ld_unit_zero (S := S128x128) hz, harg3.read_unread]
  have e109 : run.sl.v109 (F := Ideal) c i arg3 harg3 arg4 harg4 arg5 harg5 arg6 harg6 arg7 harg7 arg8 harg8 arg9 harg9 arg10 harg10 x0 x1 x2 x3 = (lastS i (k0_pay16 (F := Ideal) x0) x1 x2 x3 (stN i x0 x1 x2 x3)).2 := by
    unfold run.sl.v109 run.sl.HS2_1_1
    rw [View.readCov_full, e79, e98]
    unfold run.sl.r_2 run.sl.r_3 run.sl.cst_31
    simp only [eq, View.readAt_eq_ld, harg4.read_unread, harg5.read_unread, harg6.read_unread]
    rfl
  have e110 : run.sl.v110 (F := Ideal) c i arg3 harg3 arg4 harg4 arg5 harg5 arg6 harg6 arg7 harg7 arg8 harg8 arg9 harg9 arg10 harg10 x0 x1 x2 x3 = (lastS i (k0_pay16 (F := Ideal) x0) x1 x2 x3 (stN i x0 x1 x2 x3)).1 := by
    unfold run.sl.v110 run.sl.HS1_1_1
    rw [View.readCov_full, e79, e89]
    unfold run.sl.r_2 run.sl.r_3 run.sl.cst_31
    simp only [eq, View.readAt_eq_ld, harg4.read_unread, harg5.read_unread, harg6.read_unread]
    rfl
  rw [e109, e110]

end
end Cert.Fox
end
-- ==== Proof.Fox.Math.lean ====
/- A softmax taken block by block: the running maximum, the running sum of the weights and the running weighted sum, and the
   two ways of writing the result. -/
module

public import Idealize.ShloMosaic.Lib.Pointwise
public import Idealize.ShloMosaic.Lib.WordCmp

@[expose] public section

noncomputable section

namespace Cert.Fox
open Idealize.ShloMosaic

/-- The largest of the first `n` scores. -/
def mx (ζ : ℕ → EReal) (n : ℕ) : EReal := (Finset.range n).sup ζ

/-- A score's weight against a maximum. -/
def ew (ζ : ℕ → EReal) (μ : EReal) (s : ℕ) : EReal := Ideal.exp (ζ s - μ)

/-- The weights of the first `n` scores, summed. -/
def ln (ζ : ℕ → EReal) (n : ℕ) : EReal := ∑ s ∈ Finset.range n, ew ζ (mx ζ n) s

/-- The weighted sum of the first `n` values. -/
def an (ζ v : ℕ → EReal) (n : ℕ) : EReal := ∑ s ∈ Finset.range n, ew ζ (mx ζ n) s * v s

/-- The attention over all keys: each weight divided by their sum, times the value. -/
def att (ζ v : ℕ → EReal) : EReal := ∑ s ∈ Finset.range 2048, Ideal.div (ew ζ (mx ζ 2048) s) (ln ζ 2048) * v s

/-- A row's scores under the causal mask. -/
def ze (z : ℕ → ℝ) (t s : ℕ) : EReal := if s ≤ t then (z s : EReal) else ⊥

theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

theorem exp_bot : Ideal.exp (⊥ : EReal) = 0 := rfl

theorem exp_real (r : ℝ) : Ideal.exp (r : EReal) = ((Real.exp r : ℝ) : EReal) := rfl

/-- Rescaling a weight from one maximum to a later one. -/
theorem exp_rescale (a μ μ' : EReal) (h1 : a ≤ μ) (h2 : μ ≤ μ') (h3 : μ' ≠ ⊤) :
    Ideal.exp (μ - μ') * Ideal.exp (a - μ) = Ideal.exp (a - μ') := by
  induction a with
  | bot => rw [EReal.bot_sub, EReal.bot_sub, exp_bot, mul_zero]
  | top => exact absurd (top_le_iff.mp (h1.trans h2)) h3
  | coe a =>
    induction μ with
    | bot => exact absurd h1 (by simp)
    | top => exact absurd (top_le_iff.mp h2) h3
    | coe μ =>
      induction μ' with
      | bot => exact absurd h2 (by simp)
      | top => exact absurd rfl h3
      | coe μ' =>
        rw [← EReal.coe_sub, ← EReal.coe_sub, ← EReal.coe_sub, exp_real, exp_real, exp_real, ← EReal.coe_mul, ← Real.exp_add]
        congr 2
        ring

/-- The factor between two maxima is a number, and not negative. -/
theorem exp_factor (μ μ' : EReal) (h2 : μ ≤ μ') (h3 : μ' ≠ ⊤) : 0 ≤ Ideal.exp (μ - μ') ∧ Ideal.exp (μ - μ') ≠ ⊤ := by
  induction μ with
  | bot => rw [EReal.bot_sub, exp_bot]; exact ⟨le_rfl, by simp⟩
  | top => exact absurd (top_le_iff.mp h2) h3
  | coe μ =>
    induction μ' with
    | bot => exact absurd h2 (by simp)
    | top => exact absurd rfl h3
    | coe μ' =>
      rw [← EReal.coe_sub, exp_real]
      exact ⟨by exact_mod_cast (Real.exp_pos _).le, EReal.coe_ne_top _⟩

/-- A number that is not negative goes through a sum. -/
theorem mul_sum_nonneg {ι : Type} (S : Finset ι) (a : EReal) (h0 : 0 ≤ a) (h1 : a ≠ ⊤) (f : ι → EReal) :
    a * ∑ i ∈ S, f i = ∑ i ∈ S, a * f i := by
  classical
  induction S using Finset.induction_on with
  | empty => simp
  | insert x S h ih => rw [Finset.sum_insert h, Finset.sum_insert h, EReal.left_distrib_of_nonneg_of_ne_top h0 h1, ih]

/-- The next block's scores and the maximum so far. -/
theorem mx_step (ζ : ℕ → EReal) (n : ℕ) (f : Fin 256 → EReal) (hf : ∀ x, f x = ζ (n + x.val)) :
    max (mx ζ n) (Finset.fold max (Ideal.ofBits .f32 4286578688#32) f Finset.univ) = mx ζ (n + 256) := by
  have hb : Ideal.ofBits .f32 4286578688#32 = (⊥ : EReal) := by simp [Ideal.ofBits, Ideal.ieee]
  rw [hb]
  have hs : Finset.fold max (⊥ : EReal) f Finset.univ = Finset.univ.sup f := rfl
  rw [hs]
  unfold mx
  refine le_antisymm (max_le (Finset.sup_mono (Finset.range_mono (by omega))) (Finset.sup_le fun x _ => ?_)) (Finset.sup_le fun s hs => ?_)
  · rw [hf]
    exact Finset.le_sup (f := ζ) (Finset.mem_range.mpr (by have := x.isLt; omega))
  · rw [Finset.mem_range] at hs
    rcases Nat.lt_or_ge s n with h | h
    · exact le_max_of_le_left (Finset.le_sup (f := ζ) (Finset.mem_range.mpr h))
    · refine le_max_of_le_right ?_
      have e := hf ⟨s - n, by omega⟩
      rw [show n + (s - n) = s by omega] at e
      rw [← e]
      exact Finset.le_sup (f := f) (Finset.mem_univ _)

theorem mx_mono (ζ : ℕ → EReal) (n k : ℕ) : mx ζ n ≤ mx ζ (n + k) := Finset.sup_mono (Finset.range_mono (by omega))

theorem le_mx (ζ : ℕ → EReal) (n s : ℕ) (h : s < n) : ζ s ≤ mx ζ n := Finset.le_sup (f := ζ) (Finset.mem_range.mpr h)

theorem mx_ne_top (ζ : ℕ → EReal) (hζ : ∀ s, ζ s ≠ ⊤) (n : ℕ) : mx ζ n ≠ ⊤ :=
  ne_of_lt ((Finset.sup_lt_iff (by simp)).mpr fun s _ => lt_top_iff_ne_top.mpr (hζ s))

/-- A sum over a block more. -/
theorem sum_more (g : ℕ → EReal) (n : ℕ) : ∑ s ∈ Finset.range (n + 256), g s = ∑ s ∈ Finset.range n, g s + ∑ x : Fin 256, g (n + x.val) := by
  rw [Finset.sum_range_add, Finset.sum_range (fun x => g (n + x))]

theorem ln_step (ζ : ℕ → EReal) (hζ : ∀ s, ζ s ≠ ⊤) (n : ℕ) :
    Ideal.exp (mx ζ n - mx ζ (n + 256)) * ln ζ n + ∑ x : Fin 256, Ideal.exp (ζ (n + x.val) - mx ζ (n + 256)) = ln ζ (n + 256) := by
  have h := exp_factor _ _ (mx_mono ζ n 256) (mx_ne_top ζ hζ _)
  unfold ln
  rw [sum_more, mul_sum_nonneg _ _ h.1 h.2]
  congr 1
  exact Finset.sum_congr rfl fun s hs => exp_rescale _ _ _ (le_mx ζ n s (Finset.mem_range.mp hs)) (mx_mono ζ n 256) (mx_ne_top ζ hζ _)

theorem an_step (ζ v : ℕ → EReal) (hζ : ∀ s, ζ s ≠ ⊤) (n : ℕ) :
    Ideal.exp (mx ζ n - mx ζ (n + 256)) * an ζ v n + ∑ x : Fin 256, Ideal.exp (ζ (n + x.val) - mx ζ (n + 256)) * v (n + x.val) = an ζ v (n + 256) := by
  have h := exp_factor _ _ (mx_mono ζ n 256) (mx_ne_top ζ hζ _)
  unfold an
  rw [sum_more, mul_sum_nonneg _ _ h.1 h.2]
  congr 1
  refine Finset.sum_congr rfl fun s hs => ?_
  rw [← mul_assoc]
  congr 1
  exact exp_rescale _ _ _ (le_mx ζ n s (Finset.mem_range.mp hs)) (mx_mono ζ n 256) (mx_ne_top ζ hζ _)

/-- Keys whose scores are all at the bottom change nothing. -/
theorem mx_ext (ζ : ℕ → EReal) (n : ℕ) (hn : n ≤ 2048) (hb : ∀ s, n ≤ s → ζ s = ⊥) : mx ζ 2048 = mx ζ n := by
  refine le_antisymm (Finset.sup_le fun s _ => ?_) (Finset.sup_mono (Finset.range_mono hn))
  rcases Nat.lt_or_ge s n with h | h
  · exact le_mx ζ n s h
  · rw [hb s h]; exact bot_le

theorem ew_bot (ζ : ℕ → EReal) (μ : EReal) (s : ℕ) (h : ζ s = ⊥) : ew ζ μ s = 0 := by
  unfold ew; rw [h, EReal.bot_sub, exp_bot]

theorem sum_ext (g : ℕ → EReal) (n : ℕ) (hn : n ≤ 2048) (hb : ∀ s, n ≤ s → g s = 0) : ∑ s ∈ Finset.range 2048, g s = ∑ s ∈ Finset.range n, g s := by
  refine (Finset.sum_subset (Finset.range_mono hn) fun s _ hs => hb s ?_).symm
  rw [Finset.mem_range] at hs; omega

theorem ln_ext (ζ : ℕ → EReal) (n : ℕ) (hn : n ≤ 2048) (hb : ∀ s, n ≤ s → ζ s = ⊥) : ln ζ 2048 = ln ζ n := by
  unfold ln
  rw [mx_ext ζ n hn hb]
  exact sum_ext _ n hn fun s h => ew_bot _ _ _ (hb s h)

theorem an_ext (ζ v : ℕ → EReal) (n : ℕ) (hn : n ≤ 2048) (hb : ∀ s, n ≤ s → ζ s = ⊥) : an ζ v 2048 = an ζ v n := by
  unfold an
  rw [mx_ext ζ n hn hb]
  exact sum_ext _ n hn fun s h => by rw [ew_bot _ _ _ (hb s h), zero_mul]

theorem ze_ne_top (z : ℕ → ℝ) (t s : ℕ) : ze z t s ≠ ⊤ := by
  unfold ze
  split
  · exact EReal.coe_ne_top _
  · simp

theorem ze_bot (z : ℕ → ℝ) (t s : ℕ) (h : t < s) : ze z t s = ⊥ := if_neg (by omega)

/-- A row's maximum is a number. -/
theorem mx_ze (z : ℕ → ℝ) (t : ℕ) : ∃ μ : ℝ, mx (ze z t) 2048 = (μ : EReal) := by
  have h1 := mx_ne_top (ze z t) (ze_ne_top z t) 2048
  have h2 : (z 0 : EReal) ≤ mx (ze z t) 2048 := by
    have h := le_mx (ze z t) 2048 0 (by omega)
    rwa [ze, if_pos (Nat.zero_le _)] at h
  refine ⟨(mx (ze z t) 2048).toReal, (EReal.coe_toReal h1 fun e => ?_).symm⟩
  rw [e] at h2
  simp at h2

/-- A row's weights sum to a number above zero. -/
theorem ln_ze (z : ℕ → ℝ) (t : ℕ) : ∃ r : ℝ, 0 < r ∧ ln (ze z t) 2048 = (r : EReal) := by
  obtain ⟨μ, hμ⟩ := mx_ze z t
  have hw : ∀ s, ew (ze z t) (μ : EReal) s = ((if s ≤ t then Real.exp (z s - μ) else 0 : ℝ) : EReal) := by
    intro s
    by_cases h : s ≤ t
    · rw [if_pos h]; unfold ew ze; rw [if_pos h, ← EReal.coe_sub, exp_real]
    · rw [if_neg h, ew_bot _ _ _ (ze_bot z t s (by omega)), EReal.coe_zero]
  refine ⟨∑ s ∈ Finset.range 2048, if s ≤ t then Real.exp (z s - μ) else 0, ?_, ?_⟩
  · refine Finset.sum_pos' (fun s _ => ?_) ⟨0, Finset.mem_range.mpr (by omega), ?_⟩
    · split
      · exact (Real.exp_pos _).le
      · exact le_rfl
    · rw [if_pos (Nat.zero_le _)]; exact Real.exp_pos _
  · unfold ln
    rw [hμ, coe_sum]
    exact Finset.sum_congr rfl fun s _ => hw s

/-- The weighted sum over the sum of the weights is the attention. -/
theorem an_div (z : ℕ → ℝ) (v : ℕ → EReal) (t n : ℕ) (hn : n ≤ 2048) (ht : t < n) :
    Ideal.div (an (ze z t) v n) (ln (ze z t) n) = att (ze z t) v := by
  have hb : ∀ s, n ≤ s → ze z t s = ⊥ := fun s h => ze_bot z t s (by omega)
  rw [← ln_ext _ n hn hb, ← an_ext _ v n hn hb]
  obtain ⟨r, hr, e⟩ := ln_ze z t
  unfold att
  rw [e]
  have h0 : (r : EReal) ≠ 0 := by
    rw [← EReal.coe_zero]
    exact fun h => hr.ne' (EReal.coe_eq_coe_iff.mp h)
  have hd : ∀ x : EReal, Ideal.div x (r : EReal) = ((r⁻¹ : ℝ) : EReal) * x := by
    intro x
    unfold Ideal.div
    rw [if_neg h0, mul_comm, EReal.coe_inv]
  rw [hd]
  unfold an
  rw [mul_sum_nonneg _ _ (by exact_mod_cast (inv_pos.mpr hr).le) (EReal.coe_ne_top _)]
  exact Finset.sum_congr rfl fun s _ => by rw [hd, mul_assoc]

/-- Scores moved by a number. -/
theorem shift_sub (a μ : EReal) (f : ℝ) (ha : a ≠ ⊤) (hμ : μ ≠ ⊤) (h : μ ≠ ⊥) : (a + f) - (μ + f) = a - μ := by
  induction μ with
  | bot => exact absurd rfl h
  | top => exact absurd rfl hμ
  | coe μ =>
    induction a with
    | bot => rw [EReal.bot_add, EReal.bot_sub, EReal.bot_sub]
    | top => exact absurd rfl ha
    | coe a =>
      rw [← EReal.coe_add, ← EReal.coe_add, ← EReal.coe_sub, ← EReal.coe_sub]
      congr 1
      ring

theorem mx_shift (ζ ζ' : ℕ → EReal) (f : ℝ) (h : ∀ s, ζ' s = ζ s + f) (n : ℕ) : mx ζ' n = mx ζ n + f := by
  unfold mx
  rw [show ζ' = (fun x : EReal => x + (f : EReal)) ∘ ζ from funext h]
  exact (Finset.comp_sup_eq_sup_comp_of_is_total (fun x : EReal => x + (f : EReal)) (fun a b hab => add_le_add hab le_rfl) (EReal.bot_add _)).symm

/-- The attention does not see a number added to all scores of a row. -/
theorem att_shift (z : ℕ → ℝ) (ζ' v : ℕ → EReal) (t : ℕ) (f : ℝ) (h : ∀ s, ζ' s = ze z t s + f) : att ζ' v = att (ze z t) v := by
  obtain ⟨μ, hμ⟩ := mx_ze z t
  have hw : ∀ s, ew ζ' (mx ζ' 2048) s = ew (ze z t) (mx (ze z t) 2048) s := by
    intro s
    unfold ew
    rw [mx_shift _ _ f h, h, shift_sub _ _ _ (ze_ne_top z t s) (by rw [hμ]; exact EReal.coe_ne_top _) (by rw [hμ]; exact EReal.coe_ne_bot _)]
  unfold att ln
  simp only [hw]

/-- A choice by a decided bit. -/
theorem sel_bool {α : Type} (p : Prop) [Decidable p] (a b : α) : Scalar.select (BitVec.ofBool (decide p)) a b = if p then a else b := by
  unfold Scalar.select
  by_cases h : p <;> simp [h]

theorem sel_lt {α : Type} (s t : ℕ) (hs : s < 2 ^ 31) (ht : t < 2 ^ 31) (a b : α) :
    Scalar.select (IntOp.cmpi .slt (BitVec.ofNat 32 s) (BitVec.ofNat 32 t)) a b = if s < t then a else b := by
  rw [WordCmp.cmpi_slt_ofNat hs ht, sel_bool]

theorem sel_le {α : Type} (s t : ℕ) (hs : s < 2 ^ 31) (ht : t < 2 ^ 31) (a b : α) :
    Scalar.select (IntOp.cmpi .sle (BitVec.ofNat 32 s) (BitVec.ofNat 32 t)) a b = if s ≤ t then a else b := by
  rw [WordCmp.cmpi_sle_ofNat hs ht, sel_bool]

theorem sel_ge {α : Type} (s t : ℕ) (hs : s < 2 ^ 31) (ht : t < 2 ^ 31) (a b : α) :
    Scalar.select (IntOp.cmpi .sge (BitVec.ofNat 32 s) (BitVec.ofNat 32 t)) a b = if t ≤ s then a else b := by
  rw [WordCmp.cmpi_sge_ofNat hs ht, sel_bool]

end Cert.Fox
end
-- ==== Proof.Fox.Row.lean ====
/- One key block of the forgetting attention at one row: the maximum, the sum of the weights and the accumulator after it,
   from those before it. -/
module

public import proofs.«01_k».proof.Proof.Fox.Body
public import proofs.«01_k».proof.Proof.Fox.Math

@[expose] public section

set_option maxRecDepth 16384

noncomputable section

namespace Cert.Fox
open Cert.FoxKernelIdeal Cert.FoxKernelIdeal.Gen Idealize.ShloMosaic Idealize.ShloMosaic.TcCoe Idealize.ShloMosaic.Tactic Idealize.SL.Sem

section
variable (q : FVec Ideal S256x128 .bf16) (kb vb : Vec Ideal S256x128 .bf16) (fb : Vec Ideal S1x1x1x2x256 .f32) (s : Scr) (ζ v : ℕ → EReal) (n : ℕ) (R : Fin 256)
  (hζ : ∀ u, ζ u ≠ ⊤)
  (hz : ∀ c : Fin 256, k0_pay2 (F := Ideal) q kb fb (ix2 R c) = ζ (n + c.val))

theorem score_at (c : Fin 256) :
    k0_pay2 (F := Ideal) q kb fb (ix2 R c) = ∑ x : Fin 128, q (ix2 R x) * kb (ix2 c x) - fb (ix5 0 0 0 ⟨R.val / 128, by omega⟩ c) := by
  pointwise [k0_pay2]

theorem score_diag_at (c : Fin 256) :
    k0_pay25 (F := Ideal) q kb fb (ix2 R c) = ∑ x : Fin 128, q (ix2 R x) * kb (ix2 c x) - fb (ix5 0 0 0 ⟨R.val / 128, by omega⟩ c) := by
  pointwise [k0_pay25]

include hz in
/-- The maximum after a block. -/
theorem step_mx (hm : ∀ l : Fin 128, s.1 (ix2 R l) = mx ζ n) (l : Fin 128) : k0_pay3 (F := Ideal) q kb fb s.1 (ix2 R l) = mx ζ (n + 256) := by
  pointwise [k0_pay3]
  rw [hm]
  exact mx_step ζ n _ hz

include hz in
/-- The weights of a block. -/
theorem step_p (hm : ∀ l : Fin 128, s.1 (ix2 R l) = mx ζ n) (c : Fin 256) :
    k0_pay5 (F := Ideal) q kb fb s.1 (ix2 R c) = Ideal.exp (ζ (n + c.val) - mx ζ (n + 256)) := by
  pointwise [k0_pay5]
  rw [hz]
  split <;> rw [step_mx q kb fb s ζ n R hz hm]

include hz in
/-- The factor of what was there before. -/
theorem step_alpha (hm : ∀ l : Fin 128, s.1 (ix2 R l) = mx ζ n) (l : Fin 128) :
    k0_pay4 (F := Ideal) q kb fb s.1 (ix2 R l) = Ideal.exp (mx ζ n - mx ζ (n + 256)) := by
  pointwise [k0_pay4]
  rw [step_mx q kb fb s ζ n R hz hm, hm]

include hζ hz in
/-- The scratch contents after a block before the diagonal. -/
theorem step_val (hm : ∀ l : Fin 128, s.1 (ix2 R l) = mx ζ n) (hl : ∀ l : Fin 128, s.2.1 (ix2 R l) = ln ζ n) (l : Fin 128)
    (ha : s.2.2 (ix2 R l) = an ζ v n) (hv : ∀ c : Fin 256, vb (ix2 c l) = v (n + c.val)) :
    (stepS q kb fb vb s).1 (ix2 R l) = mx ζ (n + 256) ∧ (stepS q kb fb vb s).2.1 (ix2 R l) = ln ζ (n + 256)
    ∧ (stepS q kb fb vb s).2.2 (ix2 R l) = an ζ v (n + 256) := by
  unfold stepS
  refine ⟨?_, ?_, ?_⟩
  · pointwise [k0_pay22]
    exact step_mx q kb fb s ζ n R hz hm l
  · pointwise [k0_pay6]
    rw [step_alpha q kb fb s ζ n R hz hm, hl, ← ln_step ζ hζ n]
    simp only [step_p q kb fb s ζ n R hz hm]
  · pointwise [k0_pay21, k0_pay7, k0_pay8]
    rw [step_alpha q kb fb s ζ n R hz hm, ha, ← an_step ζ v hζ n]
    simp only [step_p q kb fb s ζ n R hz hm, hv]

end

section
variable (S : FVec Ideal S256x256 .f32) (w : IVec S256x256 1) (x : Ideal .f32) (vb : Vec Ideal S256x128 .bf16) (m : RB) (ζ v : ℕ → EReal) (n : ℕ) (R : Fin 256)
  (hζ : ∀ u, ζ u ≠ ⊤)
  (hz : ∀ c : Fin 256, k0_pay27 (F := Ideal) S w x (ix2 R c) = ζ (n + c.val))
  (hm : ∀ l : Fin 128, m (ix2 R l) = mx ζ n)

include hz hm in
theorem last_mx (l : Fin 128) : k0_pay28 (F := Ideal) S w x m (ix2 R l) = mx ζ (n + 256) := by
  pointwise [k0_pay28]
  rw [hm]
  exact mx_step ζ n _ hz

include hz hm in
theorem last_p (c : Fin 256) : k0_pay30 (F := Ideal) S w x m (ix2 R c) = Ideal.exp (ζ (n + c.val) - mx ζ (n + 256)) := by
  pointwise [k0_pay30]
  rw [hz]
  split <;> rw [last_mx S w x m ζ n R hz hm]

include hz hm in
theorem last_alpha (l : Fin 128) : k0_pay29 (F := Ideal) S w x m (ix2 R l) = Ideal.exp (mx ζ n - mx ζ (n + 256)) := by
  pointwise [k0_pay29]
  rw [last_mx S w x m ζ n R hz hm, hm]

include hζ hz hm in
/-- The sum of the weights after the block on the diagonal. -/
theorem last_ln (L : RB) (l : Fin 128) (hl : L (ix2 R l) = ln ζ n) : k0_pay31 (F := Ideal) S w x m L (ix2 R l) = ln ζ (n + 256) := by
  pointwise [k0_pay31]
  rw [last_alpha S w x m ζ n R hz hm, hl, ← ln_step ζ hζ n]
  simp only [last_p S w x m ζ n R hz hm]

include hζ hz hm in
/-- The accumulator after the block on the diagonal. -/
theorem last_an (A : RB) (l : Fin 128) (ha : A (ix2 R l) = an ζ v n) (hv : ∀ c : Fin 256, vb (ix2 c l) = v (n + c.val)) :
    k0_pay32 (F := Ideal) S w x vb m A (ix2 R l) = an ζ v (n + 256) := by
  pointwise [k0_pay32]
  rw [last_alpha S w x m ζ n R hz hm, ha, ← an_step ζ v hζ n]
  simp only [last_p S w x m ζ n R hz hm, hv]

end

end Cert.Fox
end
-- ==== Proof.Fox.Inp.lean ====
/- The projected queries, keys and values and the gates' sums as numbers, and a row's scores. -/
module

public import proofs.«01_k».proof.Proof.Fox.Math

@[expose] public section

set_option maxRecDepth 16384

noncomputable section

namespace Cert.Fox
open Idealize.ShloMosaic Idealize.ShloMosaic.Tactic

abbrev Inp := FVec Ideal (⟨2, ![16384, 4608]⟩ : Shape) .bf16
abbrev Gates := FVec Ideal (⟨3, ![8, 8, 2048]⟩ : Shape) .f32

/-- The entry at a row and a column. -/
def Xe (X : Inp) (r c : ℕ) : EReal := if h : r < 16384 ∧ c < 4608 then X (ix2 (⟨r, h.1⟩ : Fin 16384) (⟨c, h.2⟩ : Fin 4608)) else 0

/-- The same as a real number, where it is one. -/
def Xr (X : Inp) (r c : ℕ) : ℝ := (Xe X r c).toReal

/-- The gates' sum of a sequence and a head up to a key. -/
def Fe (f : Gates) (b h s : ℕ) : EReal := if q : b < 8 ∧ h < 8 ∧ s < 2048 then f (ix3 (⟨b, q.1⟩ : Fin 8) (⟨h, q.2.1⟩ : Fin 8) (⟨s, q.2.2⟩ : Fin 2048)) else 0

/-- The same as a real number, where it is one. -/
def Fr (f : Gates) (b h s : ℕ) : ℝ := (Fe f b h s).toReal

/-- The queries, the keys and the gates' sums are real numbers. -/
structure Fine (X : Inp) (f : Gates) : Prop where
  keys : ∀ r c : ℕ, c < 1024 → Xe X r c = ((Xr X r c : ℝ) : EReal)
  gates : ∀ b h s : ℕ, Fe f b h s = ((Fr f b h s : ℝ) : EReal)

theorem Xe_eq (X : Inp) (r : Fin 16384) (c : Fin 4608) : X (ix2 r c) = Xe X r.val c.val := by
  unfold Xe
  rw [dif_pos ⟨r.isLt, c.isLt⟩]

theorem Fe_eq (f : Gates) (b h : Fin 8) (s : Fin 2048) : f (ix3 b h s) = Fe f b.val h.val s.val := by
  unfold Fe
  rw [dif_pos ⟨b.isLt, h.isLt, s.isLt⟩]

/-- A value whose size is below infinity is a real number. -/
theorem coe_of (x : EReal) (h : max x (-x) < (⊤ : EReal)) : x = ((x.toReal : ℝ) : EReal) := by
  refine (EReal.coe_toReal ?_ ?_).symm
  · intro e
    rw [e] at h
    simp at h
  · intro e
    rw [e] at h
    simp at h

theorem fine_of (X : Inp) (f : Gates) (h1 : ∀ (r : Fin 16384) (c : Fin 4608), c.val < 1024 → max (X (ix2 r c)) (-(X (ix2 r c))) < (⊤ : EReal))
    (h2 : ∀ (b h : Fin 8) (s : Fin 2048), max (f (ix3 b h s)) (-(f (ix3 b h s))) < (⊤ : EReal)) : Fine X f := by
  constructor
  · intro r c hc
    by_cases hr : r < 16384
    · have hlt := h1 ⟨r, hr⟩ ⟨c, by omega⟩ hc
      rw [Xe_eq X] at hlt
      exact coe_of _ hlt
    · have h0 : Xe X r c = 0 := dif_neg fun h => hr h.1
      unfold Xr
      rw [h0]
      simp
  · intro b h s
    by_cases q : b < 8 ∧ h < 8 ∧ s < 2048
    · have hlt := h2 ⟨b, q.1⟩ ⟨h, q.2.1⟩ ⟨s, q.2.2⟩
      rw [Fe_eq f] at hlt
      exact coe_of _ hlt
    · have h0 : Fe f b h s = 0 := dif_neg q
      unfold Fr
      rw [h0]
      simp

/-- Row `t`'s scaled products in sequence `b`, head `h`. -/
def pX (X : Inp) (b h t s : ℕ) : ℝ :=
  (∑ x : Fin 64, Xr X (b * 2048 + t) (h * 64 + x.val) * Xr X (b * 2048 + s) (512 + (h * 64 + x.val))) * (1 / 8)

/-- Row `t`'s scores: without the gates' sum up to `t` itself, which is the same for all keys. -/
def zX (X : Inp) (f : Gates) (b h t s : ℕ) : ℝ := pX X b h t s - Fr f b h s

/-- A lane of the values in sequence `b`. -/
def vX (X : Inp) (b l s : ℕ) : EReal := Xe X (b * 2048 + s) (1024 + l)

theorem eighth_bf16 : Ideal.ofBits .bf16 15872#16 = ((1 / 8 : ℝ) : EReal) := by
  simp [Ideal.ofBits, Ideal.ieee]
  rw [← EReal.coe_mul]
  norm_num

theorem eighth_f32 : Ideal.ofBits .f32 1040187392#32 = ((1 / 8 : ℝ) : EReal) := by
  simp [Ideal.ofBits, Ideal.ieee]
  rw [← EReal.coe_mul]
  norm_num

end Cert.Fox
end
-- ==== Proof.Fox.KerVal.lean ====
/- The forgetting attention's kernel at one index of its output block: the recursion over the key blocks summed up. -/
module

public import proofs.«01_k».proof.Proof.Fox.Row
public import proofs.«01_k».proof.Proof.Fox.Inp

@[expose] public section

set_option maxRecDepth 16384

noncomputable section

namespace Cert.Fox
open Cert.FoxKernelIdeal Cert.FoxKernelIdeal.Gen Idealize.ShloMosaic Idealize.ShloMosaic.TcCoe Idealize.ShloMosaic.Tactic Idealize.SL.Sem

theorem v0_eq (i : grid0.Coords) : run.sl.v0 i = BitVec.ofNat 32 (128 * (i 2).val) := by
  unfold run.sl.v0
  generalize i 2 = x
  revert x
  decide +kernel

theorem v17_eq (i : grid0.Coords) : run.sl.v17 i = BitVec.ofNat 32 ((i 2).val / 2) := by
  unfold run.sl.v17
  sl_unfold_words
  generalize i 2 = x
  revert x
  decide +kernel

theorem t1_trips (i : grid0.Coords) : (k0_t1_loop i).trips = (i 2).val / 2 := by
  unfold k0_t1_loop
  generalize i 2 = x
  revert x
  decide +kernel

theorem t2_trips (i : grid0.Coords) : (k0_t2_loop i).trips = 0 := by
  unfold k0_t2_loop
  generalize i 2 = x
  revert x
  decide +kernel

theorem off5_eq (i : grid0.Coords) : k0_off5 i = ![(i 2).val / 2 * 256, 0] := by
  unfold k0_off5
  generalize i 2 = x
  revert x
  decide +kernel

theorem off6_eq (i : grid0.Coords) : k0_off6 i = ![0, 0, (i 2).val / 2, 0, 0] := by
  unfold k0_off6
  generalize i 2 = x
  revert x
  decide +kernel

theorem off1_eq (i : grid0.Coords) (k : Fin (k0_t1_loop i).trips) : k0_off1 i k = ![k.val * 256, 0] := by
  have h16 : (i 2).val < 16 := (i 2).isLt
  have hk : k.val < (i 2).val / 2 := lt_of_lt_of_eq k.isLt (t1_trips i)
  have h8 : k.val < 8 := by omega
  unfold k0_off1
  generalize k.val = n at *
  lift n to Fin 8 using h8
  clear h16
  generalize i 2 = x at *
  revert hk
  clear k
  revert n x
  decide +kernel

theorem off2_eq (i : grid0.Coords) (k : Fin (k0_t1_loop i).trips) : k0_off2 i k = ![0, 0, k.val, 0, 0] := by
  have h16 : (i 2).val < 16 := (i 2).isLt
  have hk : k.val < (i 2).val / 2 := lt_of_lt_of_eq k.isLt (t1_trips i)
  have h8 : k.val < 8 := by omega
  unfold k0_off2
  generalize k.val = n at *
  lift n to Fin 8 using h8
  clear h16
  generalize i 2 = x at *
  revert hk
  clear k
  revert n x
  decide +kernel

/-- The mask at a row and a column of the diagonal block. -/
theorem mask_at (i : grid0.Coords) (R c : Fin 256) :
    k0_pay26 (run.sl.v0 i) (run.sl.v17 i) (ix2 R c)
      = BitVec.ofBool (decide ((i 2).val / 2 * 256 + c.val ≤ (i 2).val * 128 + R.val % 128)) := by
  rw [v0_eq, v17_eq]
  pointwise [k0_pay26]
  have h16 : (i 2).val < 16 := (i 2).isLt
  have hR : ∀ R : Fin 256, Scalar.select (IntOp.cmpi .sge (BitVec.ofNat 32 R.val) 128#32) (IntOp.subi (BitVec.ofNat 32 R.val) 128#32) (BitVec.ofNat 32 R.val)
      = BitVec.ofNat 32 (R.val % 128) := by decide +kernel
  have hm : IntOp.addi (Scalar.muli (BitVec.ofNat 32 ((i 2).val / 2)) 256#32) (BitVec.ofNat 32 c.val) = BitVec.ofNat 32 ((i 2).val / 2 * 256 + c.val) := by
    rw [BitVec.ofNat_add, BitVec.ofNat_mul]; rfl
  have ha : IntOp.addi (BitVec.ofNat 32 (128 * (i 2).val)) (BitVec.ofNat 32 (R.val % 128)) = BitVec.ofNat 32 ((i 2).val * 128 + R.val % 128) := by
    rw [BitVec.ofNat_add, mul_comm]; rfl
  rw [hR, hm, ha, WordCmp.cmpi_sle_ofNat (by omega) (by omega)]

/-- A row of the scaled queries: its own head's lanes, the other head's zero. -/
theorem pay16_at (x0 : FVec Ideal S128x128 .bf16) (R : Fin 256) (c : Fin 128) :
    k0_pay16 (F := Ideal) x0 (ix2 R c) = if R.val / 128 = c.val / 64 then x0 (ix2 ⟨R.val % 128, Nat.mod_lt _ (by omega)⟩ c) * ((1 / 8 : ℝ) : EReal) else 0 := by
  pointwise [k0_pay16]
  simp only [eighth_bf16]
  have h64 : (64#32 : BitVec 32) = BitVec.ofNat 32 64 := rfl
  rw [h64]
  by_cases hR : R.val < 128
  · rw [dif_pos hR, sel_lt _ _ (by omega) (by omega)]
    by_cases hc : c.val < 64
    · rw [if_pos hc, if_pos (by omega)]
      congr 3
      exact Fin.ext (by dsimp only; omega)
    · rw [if_neg hc, if_neg (by omega)]
  · rw [dif_neg hR, sel_ge _ _ (by omega) (by omega)]
    by_cases hc : 64 ≤ c.val
    · refine (if_pos hc).trans (Eq.trans ?_ (if_pos (by omega)).symm)
      exact congrArg (fun r => x0 (ix2 r c) * ((1 / 8 : ℝ) : EReal)) (Fin.ext (by dsimp only; omega))
    · exact (if_neg hc).trans (if_neg (by omega)).symm

/-- The output block: each lane from its head's row. -/
theorem pick_at (a l : FVec Ideal S256x128 .f32) (R c : Fin 128) :
    k0_pay1 (F := Ideal) a l (ix2 R c) = Ideal.div (a (ix2 ⟨c.val / 64 * 128 + R.val, by omega⟩ c)) (l (ix2 ⟨c.val / 64 * 128 + R.val, by omega⟩ c)) := by
  pointwise [k0_pay1]
  rw [show (64#32 : BitVec 32) = BitVec.ofNat 32 64 from rfl, sel_lt _ _ (by omega) (by omega)]
  by_cases hc : c.val < 64
  · rw [if_pos hc]
    have e : R.val = c.val / 64 * 128 + R.val := by omega
    exact congrArg (fun r : Fin 256 => Ideal.div (a (ix2 r c)) (l (ix2 r c))) (Fin.ext e)
  · rw [if_neg hc]
    have e : 128 + R.val = c.val / 64 * 128 + R.val := by omega
    exact congrArg (fun r : Fin 256 => Ideal.div (a (ix2 r c)) (l (ix2 r c))) (Fin.ext e)

/-- A key block, at an index. -/
theorem blkAt_at (i : grid0.Coords) (x : Vec Ideal S2048x128 .bf16) (k : Fin (k0_t1_loop i).trips) (c : Fin 256) (l : Fin 128) :
    blkAt i x k (ix2 c l) = x (ix2 ⟨k.val * 256 + c.val, by have : (i 2).val < 16 := (i 2).isLt; have := lt_of_lt_of_eq k.isLt (t1_trips i); omega⟩ l) := by
  unfold blkAt
  refine congrArg x (funext fun a => Fin.ext ?_)
  have h0 := congrFun (off1_eq i k) a
  match a, h0 with
  | ⟨0, _⟩, h0 =>
    have h0 : k0_off1 i k 0 = k.val * 256 := h0
    show k0_off1 i k 0 + 1 * c.val = k.val * 256 + c.val
    rw [h0, one_mul]
  | ⟨1, _⟩, h0 =>
    have h0 : k0_off1 i k 1 = 0 := h0
    show k0_off1 i k 1 + 1 * l.val = l.val
    rw [h0]; omega

theorem blkDiag_at (i : grid0.Coords) (x : Vec Ideal S2048x128 .bf16) (c : Fin 256) (l : Fin 128) :
    blkDiag i x (ix2 c l) = x (ix2 ⟨(i 2).val / 2 * 256 + c.val, by have : (i 2).val < 16 := (i 2).isLt; omega⟩ l) := by
  unfold blkDiag
  refine congrArg x (funext fun a => Fin.ext ?_)
  have h0 := congrFun (off5_eq i) a
  match a, h0 with
  | ⟨0, _⟩, h0 =>
    have h0 : k0_off5 i 0 = (i 2).val / 2 * 256 := h0
    show k0_off5 i 0 + 1 * c.val = (i 2).val / 2 * 256 + c.val
    rw [h0, one_mul]
  | ⟨1, _⟩, h0 =>
    have h0 : k0_off5 i 1 = 0 := h0
    show k0_off5 i 1 + 1 * l.val = l.val
    rw [h0]; omega

/-- The gates' sums of a block, at an index. -/
theorem gateAt_at (i : grid0.Coords) (x : Vec Ideal S1x1x8x2x256 .f32) (k : Fin (k0_t1_loop i).trips) (e : Fin 2) (c : Fin 256) :
    gateAt i x k (ix5 0 0 0 e c) = x (ix5 0 0 ⟨k.val, by have : (i 2).val < 16 := (i 2).isLt; have := lt_of_lt_of_eq k.isLt (t1_trips i); omega⟩ e c) := by
  unfold gateAt
  refine congrArg x (funext fun a => Fin.ext ?_)
  have h0 := congrFun (off2_eq i k) a
  match a, h0 with
  | ⟨0, _⟩, h0 =>
    have h0 : k0_off2 i k 0 = 0 := h0
    show k0_off2 i k 0 + 1 * 0 = 0
    rw [h0]
  | ⟨1, _⟩, h0 =>
    have h0 : k0_off2 i k 1 = 0 := h0
    show k0_off2 i k 1 + 1 * 0 = 0
    rw [h0]
  | ⟨2, _⟩, h0 =>
    have h0 : k0_off2 i k 2 = k.val := h0
    show k0_off2 i k 2 + 1 * 0 = k.val
    rw [h0]; omega
  | ⟨3, _⟩, h0 =>
    have h0 : k0_off2 i k 3 = 0 := h0
    show k0_off2 i k 3 + 1 * e.val = e.val
    rw [h0]; omega
  | ⟨4, _⟩, h0 =>
    have h0 : k0_off2 i k 4 = 0 := h0
    show k0_off2 i k 4 + 1 * c.val = c.val
    rw [h0]; omega

theorem gateDiag_at (i : grid0.Coords) (x : Vec Ideal S1x1x8x2x256 .f32) (e : Fin 2) (c : Fin 256) :
    gateDiag i x (ix5 0 0 0 e c) = x (ix5 0 0 ⟨(i 2).val / 2, by have : (i 2).val < 16 := (i 2).isLt; omega⟩ e c) := by
  unfold gateDiag
  refine congrArg x (funext fun a => Fin.ext ?_)
  have h0 := congrFun (off6_eq i) a
  match a, h0 with
  | ⟨0, _⟩, h0 =>
    have h0 : k0_off6 i 0 = 0 := h0
    show k0_off6 i 0 + 1 * 0 = 0
    rw [h0]
  | ⟨1, _⟩, h0 =>
    have h0 : k0_off6 i 1 = 0 := h0
    show k0_off6 i 1 + 1 * 0 = 0
    rw [h0]
  | ⟨2, _⟩, h0 =>
    have h0 : k0_off6 i 2 = (i 2).val / 2 := h0
    show k0_off6 i 2 + 1 * 0 = (i 2).val / 2
    rw [h0]; omega
  | ⟨3, _⟩, h0 =>
    have h0 : k0_off6 i 3 = 0 := h0
    show k0_off6 i 3 + 1 * e.val = e.val
    rw [h0]; omega
  | ⟨4, _⟩, h0 =>
    have h0 : k0_off6 i 4 = 0 := h0
    show k0_off6 i 4 + 1 * c.val = c.val
    rw [h0]; omega

/-- What stands where the mask is not set is the bottom. -/
theorem low_eq : low = (⊥ : EReal) := rfl

section
variable (X : Inp) (f : Gates) (hX : Fine X f) (i : grid0.Coords) (b p : ℕ) (hp : p < 4) (x0 : Vec Ideal S128x128 .bf16) (x1 x2 : Vec Ideal S2048x128 .bf16) (x3 : Vec Ideal S1x1x8x2x256 .f32)
  (h0 : ∀ R l : Fin 128, x0 (ix2 R l) = Xe X (b * 2048 + ((i 2).val * 128 + R.val)) (p * 128 + l.val))
  (h1 : ∀ (s : Fin 2048) (l : Fin 128), x1 (ix2 s l) = Xe X (b * 2048 + s.val) (512 + (p * 128 + l.val)))
  (h2 : ∀ (s : Fin 2048) (l : Fin 128), x2 (ix2 s l) = Xe X (b * 2048 + s.val) (1024 + (p * 128 + l.val)))
  (h3 : ∀ (j : Fin 8) (e : Fin 2) (c : Fin 256), x3 (ix5 0 0 j e c) = Fe f b (2 * p + e.val) (j.val * 256 + c.val))

include hX hp h0 h1 in
/-- The kernel's scaled products: those over all lanes are those over the head's own. -/
theorem logit (R : Fin 256) (s : Fin 2048) :
    (∑ x : Fin 128, k0_pay16 (F := Ideal) x0 (ix2 R x) * x1 (ix2 s x))
      = ((pX X b (2 * p + R.val / 128) ((i 2).val * 128 + R.val % 128) s.val : ℝ) : EReal) := by
  have hR := R.isLt
  rw [Fin.sum_univ_two_halves 64 64 rfl]
  unfold pX
  rw [Finset.sum_mul, coe_sum]
  have hterm : ∀ x : Fin 128, R.val / 128 = x.val / 64 → k0_pay16 (F := Ideal) x0 (ix2 R x) * x1 (ix2 s x)
      = ((Xr X (b * 2048 + ((i 2).val * 128 + R.val % 128)) (p * 128 + x.val) * Xr X (b * 2048 + s.val) (512 + (p * 128 + x.val)) * (1 / 8) : ℝ) : EReal) := by
    intro x hx
    have hx' := x.isLt
    rw [pay16_at, if_pos hx, h0, h1, hX.keys _ _ (by omega), hX.keys _ _ (by omega), ← EReal.coe_mul, ← EReal.coe_mul, EReal.coe_eq_coe_iff]
    ring
  have hzero : ∀ x : Fin 128, R.val / 128 ≠ x.val / 64 → k0_pay16 (F := Ideal) x0 (ix2 R x) * x1 (ix2 s x) = 0 := by
    intro x hx
    rw [pay16_at, if_neg hx, zero_mul]
  rcases Nat.lt_or_ge R.val 128 with h | h
  · rw [Finset.sum_eq_zero (f := fun k : Fin 64 => k0_pay16 (F := Ideal) x0 (ix2 R ⟨64 + k.val, _⟩) * x1 (ix2 s ⟨64 + k.val, _⟩)) (fun k _ => hzero _ (by dsimp only; omega)), add_zero]
    refine Finset.sum_congr rfl fun k _ => ?_
    rw [hterm ⟨k.val, by omega⟩ (by dsimp only; omega), show R.val / 128 = 0 by omega]
    rw [show (2 * p + 0) * 64 + k.val = p * 128 + k.val by omega]
  · rw [Finset.sum_eq_zero (f := fun k : Fin 64 => k0_pay16 (F := Ideal) x0 (ix2 R ⟨k.val, _⟩) * x1 (ix2 s ⟨k.val, _⟩)) (fun k _ => hzero _ (by dsimp only; omega)), zero_add]
    refine Finset.sum_congr rfl fun k _ => ?_
    rw [hterm ⟨64 + k.val, by omega⟩ (by dsimp only; omega), show R.val / 128 = 1 by omega]
    rw [show (2 * p + 1) * 64 + k.val = p * 128 + (64 + k.val) by omega]

/-- The scores of a row of the block, under the mask. -/
abbrev rowS (R : Fin 256) : ℕ → EReal := ze (zX X f b (2 * p + R.val / 128) ((i 2).val * 128 + R.val % 128)) ((i 2).val * 128 + R.val % 128)

include hX hp h0 h1 h3 in
/-- The kernel's scores, less the gates' sums. -/
theorem score (R : Fin 256) (j : Fin 8) (c : Fin 256) (s : Fin 2048) (hs : s.val = j.val * 256 + c.val) :
    (∑ x : Fin 128, k0_pay16 (F := Ideal) x0 (ix2 R x) * x1 (ix2 s x)) - x3 (ix5 0 0 j ⟨R.val / 128, by omega⟩ c)
      = ((zX X f b (2 * p + R.val / 128) ((i 2).val * 128 + R.val % 128) s.val : ℝ) : EReal) := by
  rw [logit X f hX i b p hp x0 x1 h0 h1 R s, h3, hX.gates, ← EReal.coe_sub, hs]
  rfl

include hX hp h0 h1 h2 h3 in
/-- The scratch contents before trip `k`: the first `k` key blocks taken in. -/
theorem st_val (R : Fin 256) (k : ℕ) (hk : k ≤ (i 2).val / 2) (l : Fin 128) :
    (st i (k0_pay16 (F := Ideal) x0) x1 x2 x3 st0 k).1 (ix2 R l) = mx (rowS X f i b p R) (k * 256)
    ∧ (st i (k0_pay16 (F := Ideal) x0) x1 x2 x3 st0 k).2.1 (ix2 R l) = ln (rowS X f i b p R) (k * 256)
    ∧ (st i (k0_pay16 (F := Ideal) x0) x1 x2 x3 st0 k).2.2 (ix2 R l) = an (rowS X f i b p R) (vX X b (p * 128 + l.val)) (k * 256) := by
  have h16 : (i 2).val < 16 := (i 2).isLt
  have hR := R.isLt
  induction k generalizing l with
  | zero =>
    refine ⟨?_, ?_, ?_⟩
    · show k0_pay17 (F := Ideal) (ix2 R l) = _
      pointwise [k0_pay17]
      refine Eq.trans low_eq ?_
      simp [mx]
    · show k0_pay19 (F := Ideal) (k0_pay18 (F := Ideal)) (ix2 R l) = _
      pointwise [k0_pay19, k0_pay18]
      simp [ln]
    · show k0_pay20 (F := Ideal) (ix2 R l) = _
      pointwise [k0_pay20]
      simp [an]
  | succ k ih =>
    have hk' : k < (k0_t1_loop i).trips := by rw [t1_trips]; omega
    have ih := ih (by omega)
    have hz : ∀ c : Fin 256, k0_pay2 (F := Ideal) (k0_pay16 (F := Ideal) x0) (blkAt i x1 ⟨k, hk'⟩) (gateAt i x3 ⟨k, hk'⟩) (ix2 R c) = rowS X f i b p R (k * 256 + c.val) := by
      intro c
      rw [score_at]
      simp only [fun x => blkAt_at i x1 ⟨k, hk'⟩ c x, gateAt_at]
      rw [score X f hX i b p hp x0 x1 x3 h0 h1 h3 R _ c _ rfl]
      exact (if_pos (by have := c.isLt; omega)).symm
    have hv : ∀ c : Fin 256, blkAt i x2 ⟨k, hk'⟩ (ix2 c l) = vX X b (p * 128 + l.val) (k * 256 + c.val) := by
      intro c
      rw [blkAt_at i x2 ⟨k, hk'⟩ c l, h2]
      rfl
    simp only [st, dif_pos hk']
    rw [show (k + 1) * 256 = k * 256 + 256 by omega]
    exact step_val _ _ _ _ _ _ _ _ R (ze_ne_top _ _) hz (fun l => (ih l).1) (fun l => (ih l).2.1) l (ih l).2.2 hv

include hX hp h0 h1 h2 h3 in
/-- The output block at an index. -/
theorem block_val (R c : Fin 128) :
    k0_pay1 (F := Ideal) (lastS i (k0_pay16 (F := Ideal) x0) x1 x2 x3 (st i (k0_pay16 (F := Ideal) x0) x1 x2 x3 st0 (k0_t1_loop i).trips)).2
        (lastS i (k0_pay16 (F := Ideal) x0) x1 x2 x3 (st i (k0_pay16 (F := Ideal) x0) x1 x2 x3 st0 (k0_t1_loop i).trips)).1 (ix2 R c)
      = att (ze (zX X f b (2 * p + c.val / 64) ((i 2).val * 128 + R.val)) ((i 2).val * 128 + R.val)) (vX X b (p * 128 + c.val)) := by
  have h16 : (i 2).val < 16 := (i 2).isLt
  have hR := R.isLt
  have hc := c.isLt
  rw [pick_at, t1_trips]
  obtain ⟨Q, hQ⟩ : ∃ Q : Fin 256, Q = ⟨c.val / 64 * 128 + R.val, by omega⟩ := ⟨_, rfl⟩
  rw [← hQ]
  have q1 : Q.val / 128 = c.val / 64 := by rw [hQ]; dsimp only; omega
  have q2 : Q.val % 128 = R.val := by rw [hQ]; dsimp only; omega
  have hst := fun l => st_val X f hX i b p hp x0 x1 x2 x3 h0 h1 h2 h3 Q _ le_rfl l
  have hz : ∀ u : Fin 256, k0_pay27 (F := Ideal) (k0_pay25 (F := Ideal) (k0_pay16 (F := Ideal) x0) (blkDiag i x1) (gateDiag i x3)) (k0_pay26 (run.sl.v0 i) (run.sl.v17 i)) low (ix2 Q u)
      = rowS X f i b p Q ((i 2).val / 2 * 256 + u.val) := by
    intro u
    pointwise [k0_pay27]
    rw [mask_at, sel_bool, score_diag_at, low_eq]
    simp only [fun x => blkDiag_at i x1 u x, gateDiag_at]
    rw [score X f hX i b p hp x0 x1 x3 h0 h1 h3 Q _ u _ rfl]
    rfl
  have hv : ∀ u : Fin 256, blkDiag i x2 (ix2 u c) = vX X b (p * 128 + c.val) ((i 2).val / 2 * 256 + u.val) := by
    intro u
    rw [blkDiag_at, h2]
    rfl
  unfold lastS
  dsimp only
  rw [last_an _ _ _ _ _ _ _ _ Q (ze_ne_top _ _) hz (fun l => (hst l).1) _ c (hst c).2.2 hv,
    last_ln _ _ _ _ _ _ Q (ze_ne_top _ _) hz (fun l => (hst l).1) _ c (hst c).2.1,
    an_div _ _ _ _ (by omega) (by omega), q1, q2]

end
end Cert.Fox
end
-- ==== Proof.Fox.Rmax.lean ====
/- The largest of each row of the reference's logits. -/
module

public import proofs.«01_k».proof.Proof.Gen.FoxReferenceIdeal.Run
public import proofs.«01_k».proof.Proof.Fox.Math

@[expose] public section

set_option maxRecDepth 16384

noncomputable section

namespace Cert.Fox.Ref
open Cert.FoxReferenceIdeal Cert.FoxReferenceIdeal.Gen Cert.FoxReferenceIdeal.Value Idealize.ShloMosaic Idealize.ShloMosaic.TcCoe Idealize.ShloMosaic.Tactic Idealize.SL.Sem

abbrev Sq := FVec Ideal S8x8x2048x2048 .f32

/-- Each row's largest. -/
def rmax (z : Sq) : FVec Ideal S8x8x2048 .f32 :=
  maximumf (broadcastInDim S8x8x2048 ![] bcast_S_S8x8x2048 (constant (F := Ideal) S_ .f32 0xFF800000#32)) (Host.reduce FloatOps.maximumf z (constant (F := Ideal) S_ .f32 0xFF800000#32) reducesTo_S8x8x2048x2048_S8x8x2048_d3 h_S_)

theorem fold_max {n : ℕ} (f : Fin n → EReal) : Finset.fold max (⊥ : EReal) f Finset.univ = Finset.univ.sup f := rfl

/-- The program's largest of the last axis, at an index. -/
theorem redmax {n0 n1 n2 n3 : ℕ} (z : FVec Ideal (⟨4, ![n0, n1, n2, n3]⟩ : Shape) .f32) (i : FVec Ideal S_ .f32)
    (hr : (⟨4, ![n0, n1, n2, n3]⟩ : Shape).ReducesTo [3] (⟨3, ![n0, n1, n2]⟩ : Shape)) (hu : 0 < S_.numel) (b : Fin n0) (h : Fin n1) (t : Fin n2)
    (β : EReal) (hi : i (Shape.Idx.first hu) = β) :
    Host.reduce FloatOps.maximumf z i hr hu (ix3 b h t) = Finset.fold max β (fun s : Fin n3 => z (ix4 b h t s)) Finset.univ := by
  subst hi
  simp only [pointwise]

theorem neg_inf : Ideal.ofBits .f32 4286578688#32 = (⊥ : EReal) := by simp [Ideal.ofBits, Ideal.ieee]

theorem max_at (x : FVec Ideal S8x8x2048 .f32) (b h : Fin 8) (t : Fin 2048) :
    maximumf (broadcastInDim S8x8x2048 ![] bcast_S_S8x8x2048 (constant (F := Ideal) S_ .f32 0xFF800000#32)) x (ix3 b h t) = x (ix3 b h t) := by
  pointwise
  rw [neg_inf]
  exact max_eq_right bot_le

theorem const_at : constant (F := Ideal) S_ .f32 0xFF800000#32 (Shape.Idx.first h_S_) = (⊥ : EReal) := neg_inf

theorem rmax_at (z : Sq) (b h : Fin 8) (t : Fin 2048) : rmax z (ix3 b h t) = Finset.univ.sup fun s : Fin 2048 => z (ix4 b h t s) := by
  unfold rmax
  rw [max_at]
  have e := redmax z (constant (F := Ideal) S_ .f32 0xFF800000#32) reducesTo_S8x8x2048x2048_S8x8x2048_d3 h_S_ b h t ⊥ const_at
  rw [fold_max] at e
  exact e

end Cert.Fox.Ref
end
-- ==== Proof.Fox.Ref.lean ====
/- The forgetting attention's reference, by stages, and each stage read at an index. -/
module

public import proofs.«01_k».proof.Proof.Gen.FoxReferenceIdeal.Run
public import proofs.«01_k».proof.Proof.Fox.Math
public import proofs.«01_k».proof.Proof.Fox.Rmax

@[expose] public section

set_option maxRecDepth 16384

noncomputable section

namespace Cert.Fox.Ref
open Cert.FoxReferenceIdeal Cert.FoxReferenceIdeal.Gen Cert.FoxReferenceIdeal.Value Idealize.ShloMosaic Idealize.ShloMosaic.TcCoe Idealize.ShloMosaic.Tactic Idealize.SL.Sem

/-- The queries, by sequence and head. -/
def heads0 (X : FVec Ideal S16384x4608 .bf16) : FVec Ideal S8x8x2048x64 .f32 :=
  transpose S8x8x2048x64 [0, 2, 1, 3] (shapeCast S8x2048x8x64 (extractStridedSlice S16384x512 ![0, 0] (extf .f32 X bitsLt_bf16_f32) slices_S16384x4608_S16384x512_0_0) shapeCasts_S16384x512_S8x2048x8x64) transposes_S8x2048x8x64_S8x8x2048x64_0_2_1_3
/-- The keys, by sequence and head. -/
def heads512 (X : FVec Ideal S16384x4608 .bf16) : FVec Ideal S8x8x2048x64 .f32 :=
  transpose S8x8x2048x64 [0, 2, 1, 3] (shapeCast S8x2048x8x64 (extractStridedSlice S16384x512 ![0, 512] (extf .f32 X bitsLt_bf16_f32) slices_S16384x4608_S16384x512_0_512) shapeCasts_S16384x512_S8x2048x8x64) transposes_S8x2048x8x64_S8x8x2048x64_0_2_1_3
/-- The values, by sequence and head. -/
def heads1024 (X : FVec Ideal S16384x4608 .bf16) : FVec Ideal S8x8x2048x64 .f32 :=
  transpose S8x8x2048x64 [0, 2, 1, 3] (shapeCast S8x2048x8x64 (extractStridedSlice S16384x512 ![0, 1024] (extf .f32 X bitsLt_bf16_f32) slices_S16384x4608_S16384x512_0_1024) shapeCasts_S16384x512_S8x2048x8x64) transposes_S8x2048x8x64_S8x8x2048x64_0_2_1_3

/-- The logits with the gates' sums. -/
def zz (q k : FVec Ideal S8x8x2048x64 .f32) (f : FVec Ideal S8x8x2048 .f32) : Sq :=
  subf (addf (mulf (Host.dotGeneral dot_S8x8x2048x64_S8x8x2048x64_S8x8x2048x2048_3_3_2_2_01_01 none q k) (broadcastInDim S8x8x2048x2048 ![] bcast_S_S8x8x2048x2048 (constant (F := Ideal) S_ .f32 0x3E000000#32)))
    (broadcastInDim S8x8x2048x2048 ![0, 1, 2, 3] bcast_S8x8x2048x1_S8x8x2048x2048_0_1_2_3 (broadcastInDim S8x8x2048x1 ![0, 1, 2] bcast_S8x8x2048_S8x8x2048x1_0_1_2 f)))
    (broadcastInDim S8x8x2048x2048 ![0, 1, 2, 3] bcast_S8x8x1x2048_S8x8x2048x2048_0_1_2_3 (broadcastInDim S8x8x1x2048 ![0, 1, 3] bcast_S8x8x2048_S8x8x1x2048_0_1_3 f))

def mask : IVec S8x8x2048x2048 1 :=
  broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The logits under the mask. -/
def msk (z : Sq) : Sq := select mask z (broadcastInDim S8x8x2048x2048 ![] bcast_S_S8x8x2048x2048 (id (constant (F := Ideal) S_ .f32 0xFF800000#32)))

/-- The weights before they are divided by their sum. -/
def ex (z : Sq) : Sq :=
  Host.exp (subf z (broadcastInDim S8x8x2048x2048 ![0, 1, 2, 3] bcast_S8x8x2048x1_S8x8x2048x2048_0_1_2_3 (broadcastInDim S8x8x2048x1 ![0, 1, 2] bcast_S8x8x2048_S8x8x2048x1_0_1_2 (rmax z))))

/-- The weights. -/
def wts (e : Sq) : Sq :=
  Host.divf e (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd e (constant (F := Ideal) S_ .f32 0x00000000#32) reducesTo_S8x8x2048x2048_S8x8x2048_d3 h_S_)))

def out (a : Sq) (v : FVec Ideal S8x8x2048x64 .f32) : FVec Ideal S16384x512 .bf16 :=
  truncf .bf16 (shapeCast S16384x512 (transpose S8x2048x8x64 [0, 2, 1, 3] (Host.dotGeneral dot_S8x8x2048x2048_S8x8x2048x64_S8x8x2048x64_3_2_2_3_01_01 none a v) transposes_S8x8x2048x64_S8x2048x8x64_0_2_1_3) shapeCasts_S8x2048x8x64_S16384x512) bitsLt_bf16_f32

/-- The program's result is the stages composed. -/
theorem res_eq (m : (ℓ : Loc nD τ sig) → Buf (Elt Ideal) ℓ) (c : Dev nD) :
    res_out0 (F := Ideal) m c
      = out (wts (ex (msk (zz (heads0 (m ((c.tc : Thread nD τ).loc main_arg0))) (heads512 (m ((c.tc : Thread nD τ).loc main_arg0))) (m ((c.tc : Thread nD τ).loc main_arg1)))))) (heads1024 (m ((c.tc : Thread nD τ).loc main_arg0))) := by
  unfold res_out0 res_main_v41
  rfl

theorem out_at (a : Sq) (v : FVec Ideal S8x8x2048x64 .f32) (b : Fin 8) (t : Fin 2048) (h : Fin 8) (l : Fin 64) :
    out a v (ix2 ⟨b.val * 2048 + t.val, by omega⟩ ⟨h.val * 64 + l.val, by omega⟩) = ∑ x : Fin 2048, a (ix4 b h t x) * v (ix4 b h x l) := by
  pointwise [out]

theorem zz_at (q k : FVec Ideal S8x8x2048x64 .f32) (f : FVec Ideal S8x8x2048 .f32) (b h : Fin 8) (t s : Fin 2048) :
    zz q k f (ix4 b h t s) = (∑ x : Fin 64, q (ix4 b h t x) * k (ix4 b h s x)) * Ideal.ofBits .f32 1040187392#32 + f (ix3 b h t) - f (ix3 b h s) := by
  pointwise [zz]

theorem msk_at (z : Sq) (b h : Fin 8) (t s : Fin 2048) : msk z (ix4 b h t s) = if s.val ≤ t.val then z (ix4 b h t s) else ⊥ := by
  pointwise [msk, mask, id]
  rw [sel_le _ _ (by omega) (by omega), show Ideal.ofBits .f32 4286578688#32 = (⊥ : EReal) by simp [Ideal.ofBits, Ideal.ieee]]

theorem ex_at (z : Sq) (b h : Fin 8) (t s : Fin 2048) : ex z (ix4 b h t s) = Ideal.exp (z (ix4 b h t s) - rmax z (ix3 b h t)) := by
  pointwise [ex]

theorem wts_at (e : Sq) (b h : Fin 8) (t s : Fin 2048) : wts e (ix4 b h t s) = Ideal.div (e (ix4 b h t s)) (∑ u : Fin 2048, e (ix4 b h t u)) := by
  pointwise [wts]

theorem heads0_at (X : FVec Ideal S16384x4608 .bf16) (b h : Fin 8) (t : Fin 2048) (l : Fin 64) :
    heads0 X (ix4 b h t l) = X (ix2 ⟨b.val * 2048 + t.val, by omega⟩ ⟨h.val * 64 + l.val, by omega⟩) := by
  pointwise [heads0]
theorem heads512_at (X : FVec Ideal S16384x4608 .bf16) (b h : Fin 8) (t : Fin 2048) (l : Fin 64) :
    heads512 X (ix4 b h t l) = X (ix2 ⟨b.val * 2048 + t.val, by omega⟩ ⟨512 + (h.val * 64 + l.val), by omega⟩) := by
  pointwise [heads512]
theorem heads1024_at (X : FVec Ideal S16384x4608 .bf16) (b h : Fin 8) (t : Fin 2048) (l : Fin 64) :
    heads1024 X (ix4 b h t l) = X (ix2 ⟨b.val * 2048 + t.val, by omega⟩ ⟨1024 + (h.val * 64 + l.val), by omega⟩) := by
  pointwise [heads1024]

end Cert.Fox.Ref
end
-- ==== Proof.Fox.RefVal.lean ====
/- The forgetting attention's reference at one index of its result. -/
module

public import proofs.«01_k».proof.Proof.Fox.Ref
public import proofs.«01_k».proof.Proof.Fox.Inp

@[expose] public section

set_option maxRecDepth 16384

noncomputable section

namespace Cert.Fox.Ref
open Cert.FoxReferenceIdeal Idealize.ShloMosaic Idealize.ShloMosaic.Tactic

variable (X : Inp) (f : Gates) (hX : Fine X f)

include hX in
theorem zz_coe (b h : Fin 8) (t s : Fin 2048) :
    zz (heads0 X) (heads512 X) f (ix4 b h t s) = ((zX X f b.val h.val t.val s.val + Fr f b.val h.val t.val : ℝ) : EReal) := by
  have hp : (∑ x : Fin 64, heads0 X (ix4 b h t x) * heads512 X (ix4 b h s x)) * ((1 / 8 : ℝ) : EReal) = ((pX X b.val h.val t.val s.val : ℝ) : EReal) := by
    unfold pX
    rw [EReal.coe_mul, coe_sum]
    congr 1
    refine Finset.sum_congr rfl fun x _ => ?_
    rw [heads0_at, heads512_at, Xe_eq X, Xe_eq X, EReal.coe_mul]
    rw [hX.keys _ _ (by dsimp only; omega), hX.keys _ _ (by dsimp only; omega)]
  rw [zz_at, eighth_f32, hp, Fe_eq f, Fe_eq f, hX.gates, hX.gates, ← EReal.coe_add, ← EReal.coe_sub, EReal.coe_eq_coe_iff]
  unfold zX
  ring

/-- The reference's scores of a row. -/
def sc (b h t s : ℕ) : EReal := ze (zX X f b h t) t s + ((Fr f b h t : ℝ) : EReal)

include hX in
theorem msk_coe (b h : Fin 8) (t s : Fin 2048) :
    msk (zz (heads0 X) (heads512 X) f) (ix4 b h t s) = sc X f b.val h.val t.val s.val := by
  rw [msk_at, zz_coe X f hX]
  unfold sc ze
  by_cases hs : s.val ≤ t.val
  · rw [if_pos hs, if_pos hs, EReal.coe_add]
  · rw [if_neg hs, if_neg hs, EReal.bot_add]

theorem sup_mx (ζ : ℕ → EReal) : (Finset.univ.sup fun s : Fin 2048 => ζ s.val) = mx ζ 2048 := by
  refine le_antisymm (Finset.sup_le fun s _ => le_mx ζ 2048 s.val s.isLt) (Finset.sup_le fun s hs => ?_)
  exact Finset.le_sup (f := fun s : Fin 2048 => ζ s.val) (Finset.mem_univ (⟨s, Finset.mem_range.mp hs⟩ : Fin 2048))

include hX in
theorem ex_coe (b h : Fin 8) (t s : Fin 2048) :
    ex (msk (zz (heads0 X) (heads512 X) f)) (ix4 b h t s) = ew (sc X f b.val h.val t.val) (mx (sc X f b.val h.val t.val) 2048) s.val := by
  rw [ex_at, rmax_at]
  simp only [msk_coe X f hX]
  rw [sup_mx (sc X f b.val h.val t.val)]
  rfl

include hX in
/-- The reference's result, at a sequence, row, head and lane. -/
theorem ref_val (b h : Fin 8) (t : Fin 2048) (l : Fin 64) :
    out (wts (ex (msk (zz (heads0 X) (heads512 X) f)))) (heads1024 X) (ix2 ⟨b.val * 2048 + t.val, by omega⟩ ⟨h.val * 64 + l.val, by omega⟩)
      = att (ze (zX X f b.val h.val t.val) t.val) (vX X b.val (h.val * 64 + l.val)) := by
  rw [out_at, ← att_shift (zX X f b.val h.val t.val) (sc X f b.val h.val t.val) _ t.val (Fr f b.val h.val t.val) (fun _ => rfl)]
  unfold att ln
  rw [Finset.sum_range, Finset.sum_range]
  refine Finset.sum_congr rfl fun s _ => ?_
  rw [wts_at, heads1024_at, Xe_eq X]
  simp only [ex_coe X f hX]
  rfl

end Cert.Fox.Ref
end
-- ==== Proof.Fox.Value.lean ====
/- The forgetting attention: the kernel's result array is the reference's. -/
module

public import proofs.«01_k».proof.Proof.Fox.KerVal
public import proofs.«01_k».proof.Proof.Fox.RefVal
public import proofs.«01_k».proof.Proof.Fox.Frame
public import proofs.«01_k».proof.Proof.Gen.Pre_fox_finite
public import proofs.«01_k».proof.Defs
public import Idealize.ShloMosaic.Lib.Pipeline.ValueKit

@[expose] public section

set_option maxRecDepth 16384

noncomputable section

namespace Cert.Fox
open Cert.FoxKernelIdeal Cert.FoxKernelIdeal.Gen Idealize.ShloMosaic Idealize.ShloMosaic.TcCoe Idealize.ShloMosaic.Tactic Idealize.SL.Sem

/-- Where each window's block stands at a point. -/
theorem idx (t : Fin grid0.N) :
    win0_0.index t = ![(grid0.coords t 0).val * 16 + (grid0.coords t 2).val, (grid0.coords t 1).val]
    ∧ win0_1.index t = ![(grid0.coords t 0).val, 4 + (grid0.coords t 1).val]
    ∧ win0_2.index t = ![(grid0.coords t 0).val, 8 + (grid0.coords t 1).val]
    ∧ win0_3.index t = ![(grid0.coords t 0).val, (grid0.coords t 1).val, 0, 0, 0]
    ∧ win0_4.index t = ![(grid0.coords t 0).val * 16 + (grid0.coords t 2).val, (grid0.coords t 1).val] :=
  (by decide +kernel : ∀ t : Fin grid0.N, win0_0.index t = ![(grid0.coords t 0).val * 16 + (grid0.coords t 2).val, (grid0.coords t 1).val]
    ∧ win0_1.index t = ![(grid0.coords t 0).val, 4 + (grid0.coords t 1).val]
    ∧ win0_2.index t = ![(grid0.coords t 0).val, 8 + (grid0.coords t 1).val]
    ∧ win0_3.index t = ![(grid0.coords t 0).val, (grid0.coords t 1).val, 0, 0, 0]
    ∧ win0_4.index t = ![(grid0.coords t 0).val * 16 + (grid0.coords t 2).val, (grid0.coords t 1).val]) t

variable (m : (ℓ : Loc nD τ sig) → Buf (Elt Ideal) ℓ) (c : Dev nD)

theorem in0 (t : Fin cfg0.N) (R l : Fin 128) :
    iblk (F := Ideal) m c 0 t (ix2 R l) = Xe (m ((c.tc : Thread nD τ).loc main_arg0)) ((grid0.coords t 0).val * 2048 + ((grid0.coords t 2).val * 128 + R.val)) ((grid0.coords t 1).val * 128 + l.val) := by
  have h0 : (grid0.coords t 0).val < 8 := (grid0.coords t 0).isLt
  have h1 : (grid0.coords t 1).val < 4 := (grid0.coords t 1).isLt
  have h2 : (grid0.coords t 2).val < 16 := (grid0.coords t 2).isLt
  unfold Xe
  rw [dif_pos ⟨by omega, by omega⟩, ← V_main_arg0 m c]
  blk_ext [iblk, idx t]

theorem in1 (t : Fin cfg0.N) (s : Fin 2048) (l : Fin 128) :
    iblk (F := Ideal) m c 1 t (ix2 s l) = Xe (m ((c.tc : Thread nD τ).loc main_arg0)) ((grid0.coords t 0).val * 2048 + s.val) (512 + ((grid0.coords t 1).val * 128 + l.val)) := by
  have h0 : (grid0.coords t 0).val < 8 := (grid0.coords t 0).isLt
  have h1 : (grid0.coords t 1).val < 4 := (grid0.coords t 1).isLt
  unfold Xe
  rw [dif_pos ⟨by omega, by omega⟩, ← V_main_arg0 m c]
  blk_ext [iblk, idx t]

theorem in2 (t : Fin cfg0.N) (s : Fin 2048) (l : Fin 128) :
    iblk (F := Ideal) m c 2 t (ix2 s l) = Xe (m ((c.tc : Thread nD τ).loc main_arg0)) ((grid0.coords t 0).val * 2048 + s.val) (1024 + ((grid0.coords t 1).val * 128 + l.val)) := by
  have h0 : (grid0.coords t 0).val < 8 := (grid0.coords t 0).isLt
  have h1 : (grid0.coords t 1).val < 4 := (grid0.coords t 1).isLt
  unfold Xe
  rw [dif_pos ⟨by omega, by omega⟩, ← V_main_arg0 m c]
  blk_ext [iblk, idx t]

/-- The gates' sums by pair of heads and key block. -/
def byBlock (f : Gates) : FVec Ideal S8x4x8x2x256 .f32 :=
  transpose S8x4x8x2x256 [0, 1, 3, 2, 4] (shapeCast S8x4x2x8x256 f shapeCasts_S8x8x2048_S8x4x2x8x256) transposes_S8x4x2x8x256_S8x4x8x2x256_0_1_3_2_4

theorem byBlock_at (f : Gates) (b : Fin 8) (p : Fin 4) (j : Fin 8) (e : Fin 2) (u : Fin 256) :
    byBlock f (ix5 b p j e u) = Fe f b.val (2 * p.val + e.val) (j.val * 256 + u.val) := by
  unfold Fe
  rw [dif_pos ⟨b.isLt, by omega, by omega⟩]
  pointwise [byBlock]
  exact congrArg (fun g => f (ix3 b g ⟨j.val * 256 + u.val, by omega⟩)) (Fin.ext (by dsimp only; omega))

theorem V1 : V m c main_v1 = byBlock (m ((c.tc : Thread nD τ).loc main_arg1)) := by
  unfold V
  simp only [hostOps0, List.flatten_cons, List.flatten_nil, List.append_nil, List.cons_append, List.nil_append]
  after_results_simp
  rfl

theorem in3 (t : Fin cfg0.N) (j : Fin 8) (e : Fin 2) (u : Fin 256) :
    iblk (F := Ideal) m c 3 t (ix5 0 0 j e u) = Fe (m ((c.tc : Thread nD τ).loc main_arg1)) (grid0.coords t 0).val (2 * (grid0.coords t 1).val + e.val) (j.val * 256 + u.val) := by
  have h0 : (grid0.coords t 0).val < 8 := (grid0.coords t 0).isLt
  have h1 : (grid0.coords t 1).val < 4 := (grid0.coords t 1).isLt
  refine Eq.trans ?_ ((congrFun (V1 m c) (ix5 ⟨(grid0.coords t 0).val, h0⟩ ⟨(grid0.coords t 1).val, h1⟩ j e u)).trans (byBlock_at _ _ _ j e u))
  blk_ext [iblk, idx t]

/-- A set bit says that the test it holds came out true. -/
theorem of_bit {p : Prop} [Decidable p] (h : BitVec.ofBool (decide p) = 1#1) : p := by
  by_contra hn
  rw [decide_eq_false hn] at h
  exact absurd h (by decide)

/-- The precondition, read: the queries, the keys and the gates' sums are real numbers. -/
theorem fine (h : Pre_FoxKernelIdeal_fox_finite m) : Fine (m ((c.tc : Thread nD τ).loc main_arg0)) (m ((c.tc : Thread nD τ).loc main_arg1)) := by
  have ht : Ideal.ofBits .f32 2139095040#32 = (⊤ : EReal) := by simp [Ideal.ofBits, Ideal.ieee]
  refine fine_of _ _ (fun r k hk => ?_) (fun b g s => ?_)
  · have e := congrFun (h c).1 (ix2 r ⟨k.val, hk⟩)
    unfold Cert.Pre_fox_finite.fn at e
    pointwise at e
    rw [ht] at e
    exact of_bit e
  · have e := congrFun (h c).2 (ix3 b g s)
    unfold Cert.Pre_fox_finite.fn at e
    pointwise at e
    rw [ht] at e
    exact of_bit e

/-- The array after the run is the reference's. -/
theorem arr_eq (h : Pre_FoxKernelIdeal_fox_finite m) :
    (dat (F := Ideal) m 0 c).arrAt 4 cfg0.N
      = Ref.out (Ref.wts (Ref.ex (Ref.msk (Ref.zz (Ref.heads0 (m ((c.tc : Thread nD τ).loc main_arg0))) (Ref.heads512 (m ((c.tc : Thread nD τ).loc main_arg0))) (m ((c.tc : Thread nD τ).loc main_arg1)))))) (Ref.heads1024 (m ((c.tc : Thread nD τ).loc main_arg0))) := by
  refine (dat m 0 c).arrAt_eq_of_covers 4 _ (by decide +kernel) fun t hf y => ?_
  blk_simp
  rw [after0_4]
  have hX := fine m c h
  have h0 : (grid0.coords t 0).val < 8 := (grid0.coords t 0).isLt
  have h1 : (grid0.coords t 1).val < 4 := (grid0.coords t 1).isLt
  have h2 : (grid0.coords t 2).val < 16 := (grid0.coords t 2).isLt
  obtain ⟨R, l, rfl⟩ : ∃ (R : Fin 128) (l : Fin 128), y = ix2 R l := ⟨y 0, y 1, by funext a; match a with | ⟨0, _⟩ => rfl | ⟨1, _⟩ => rfl⟩
  have hR := R.isLt
  have hl := l.isLt
  have hemb : (win0_4.blk t).view.emb (ix2 R l) = ix2 (⟨(grid0.coords t 0).val * 2048 + ((grid0.coords t 2).val * 128 + R.val), by omega⟩ : Fin 16384)
      (⟨(2 * (grid0.coords t 1).val + l.val / 64) * 64 + l.val % 64, by omega⟩ : Fin 512) := by
    blk_ext [idx t]
  rw [hemb]
  refine Eq.trans ?_ (Ref.ref_val _ _ hX ⟨(grid0.coords t 0).val, h0⟩ ⟨2 * (grid0.coords t 1).val + l.val / 64, by omega⟩ ⟨(grid0.coords t 2).val * 128 + R.val, by omega⟩ ⟨l.val % 64, by omega⟩).symm
  unfold outsAt
  rw [out_eq _ _ _ _ _ _ _ _ _ _ _ _ _ _ _ _ _ _ _ _ _ _ (t2_trips _)]
  refine (block_val _ _ hX (grid0.coords t) (grid0.coords t 0).val (grid0.coords t 1).val h1 _ _ _ _ (in0 m c t) (in1 m c t) (in2 m c t) (in3 m c t) R l).trans ?_
  dsimp only
  rw [show (2 * (grid0.coords t 1).val + l.val / 64) * 64 + l.val % 64 = (grid0.coords t 1).val * 128 + l.val by omega]

/-- The kernel computes the reference. -/
theorem algebraic : algebraic_FoxKernelIdeal_FoxReferenceIdeal_pre_fox_finite := by
  intro m g m' g' hpre hagree
  refine ⟨fun c => (dat (F := Ideal) m 0 c).arrAt 4 cfg0.N, run_out m g, ?_⟩
  refine (θ_run _ _ _).mono (fun r h c => ⟨(h c).1.trans ?_, (h c).2⟩) (Cert.FoxReferenceIdeal.Value.run m' g')
  refine (Ref.res_eq m' c).trans ?_
  rw [(hagree c).1, (hagree c).2]
  exact (arr_eq m c hpre).symm

end Cert.Fox
end
-- ==== Proof.Diff.Run.lean ====
/- The run of the differential attention's body over whole staging buffers. -/
module

public import proofs.«01_k».proof.Proof.Gen.DiffKernelIdeal.Frame.Runs

@[expose] public section

set_option maxRecDepth 65536

noncomputable section

namespace Cert.Diff

open Cert.DiffKernelIdeal Cert.DiffKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The middle of the body does not depend on what the weights' buffer held before it was cleared. -/
theorem part4_eq (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x128 .f32) (harg6 : arg6.IsWhole) (arg7 : Memref sig .tc .vmem S1x4x64 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (v0 : BitVec 32) (v17 : BitVec 32) (v29 : FVec F S256x128 .bf16) (v34 : FVec F S256x128 .f32) (v35 : Vec F S256x128 .f32) :
    k0_part4 i arg3 harg3 arg4 harg4 arg5 harg5 arg6 harg6 arg7 harg7 arg8 harg8 arg9 harg9 arg10 harg10 arg11 harg11 arg12 harg12 v0 v17 v29 v34 v35 = k0_part4_skel i arg3 harg3 arg4 harg4 arg5 harg5 arg6 harg6 arg7 harg7 arg8 harg8 arg9 harg9 arg10 harg10 arg11 harg11 arg12 harg12 v0 v17 v29 v34 v34 := by
  rw [k0_part4_eq_skeleton]; rfl

set_option maxHeartbeats 2000000 in
/-- The pieces the body leaves in its output, with the proof that the body runs to them: the buffers of the queries, keys,
    values, slopes, factors and gains stay as they were, the scratch buffers end at some contents. -/
noncomputable def run (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x128 .f32) (harg6 : arg6.IsWhole) (arg7 : Memref sig .tc .vmem S1x4x64 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole)
    (x0 : Vec F S128x128 .bf16) (x1 : Vec F S2048x128 .bf16) (x2 : Vec F S2048x128 .bf16) (x3 : Vec F S1x1x128 .f32) (x4 : Vec F S1x4x64 .f32) (x5 : Vec F S1x128 .f32) :
    { L6 : List (View.Piece (Elt F) S128x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_diff_attention i arg3 harg3 arg4 harg4 arg5 harg5 arg6 harg6 arg7 harg7 arg8 harg8 arg9 harg9 arg10 harg10 arg11 harg11 arg12 harg12) K } := by
  refine ⟨?_, fun E K => ?run⟩
  case run =>
    simp only [cc0_diff_attention_eq_skeleton]; unfold cc0_diff_attention_skel
    simp only [k0_part3_eq_skeleton, part4_eq, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Diff

end
-- ==== Proof.Diff.Frame.lean ====
/- The frame of the idealized differential attention: the program runs from any memory, its arguments end unchanged, and each
   grid point leaves its block of the result. -/
module

public import proofs.«01_k».proof.Proof.Diff.Run
public import Idealize.ShloMosaic.Lib.Claim
public import Idealize.ShloMosaic.Lib.Pipeline.Value

@[expose] public section

set_option maxRecDepth 65536

noncomputable section

namespace Cert.Diff

open Cert.DiffKernelIdeal Cert.DiffKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The one store of the body covers the whole output block. -/
theorem cover (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x128 .f32) (harg6 : arg6.IsWhole) (arg7 : Memref sig .tc .vmem S1x4x64 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole)
    (x0 : Vec F S128x128 .bf16) (x1 : Vec F S2048x128 .bf16) (x2 : Vec F S2048x128 .bf16) (x3 : Vec F S1x1x128 .f32) (x4 : Vec F S1x4x64 .f32) (x5 : Vec F S1x128 .f32) (y : S128x128.Idx) :
    ∃ pc ∈ (run c i arg3 harg3 arg4 harg4 arg5 harg5 arg6 harg6 arg7 harg7 arg8 harg8 arg9 harg9 arg10 harg10 arg11 harg11 arg12 harg12 x0 x1 x2 x3 x4 x5).1, y ∈ pc.1.set :=
  View.cover_of_tiledL (run c i arg3 harg3 arg4 harg4 arg5 harg5 arg6 harg6 arg7 harg7 arg8 harg8 arg9 harg9 arg10 harg10 arg11 harg11 arg12 harg12 x0 x1 x2 x3 x4 x5).1 S128x128.size (by sl_kernel_rfl) y

/-- What the body leaves in the output block. -/
def blockOut (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x128 .f32) (harg6 : arg6.IsWhole) (arg7 : Memref sig .tc .vmem S1x4x64 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole)
    (x0 : Vec F S128x128 .bf16) (x1 : Vec F S2048x128 .bf16) (x2 : Vec F S2048x128 .bf16) (x3 : Vec F S1x1x128 .f32) (x4 : Vec F S1x4x64 .f32) (x5 : Vec F S1x128 .f32) : Vec F S128x128 .bf16 :=
  VO0_6.read (Elt F) (VO0_6.writes (Elt F) VO0_6.junk (run c i arg3 harg3 arg4 harg4 arg5 harg5 arg6 harg6 arg7 harg7 arg8 harg8 arg9 harg9 arg10 harg10 arg11 harg11 arg12 harg12 x0 x1 x2 x3 x4 x5).1)

/-- The output block after the grid point `t`. -/
def outsAt (c : Dev nD) (t : Fin cfg0.N) : Vec F S128x128 .bf16 :=
  blockOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)

/-- The data of the pipeline: the arrays at their contents before it, the inputs left as they are, the output block written. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t)
  Φ _ := Pipeline.ΦA spec0 c
  q w := Pipeline.shareOf spec0 w
  owed _ := 0

/-- The arrays are those found before the pipeline. -/
theorem A_eq (c : Dev nD) (w : Fin cfg0.W) : (dat m 0 c).A w = V m c (Pipeline.arrRef spec0 w) := by
  dsimp only [dat]

/-- What each window holds after a point. -/
theorem after0_0 (c : Dev nD) (t : Fin cfg0.N) : (dat m 0 c).after 0 t = iblk m c 0 t := by dsimp only [dat]
theorem after0_1 (c : Dev nD) (t : Fin cfg0.N) : (dat m 0 c).after 1 t = iblk m c 1 t := by dsimp only [dat]
theorem after0_2 (c : Dev nD) (t : Fin cfg0.N) : (dat m 0 c).after 2 t = iblk m c 2 t := by dsimp only [dat]
theorem after0_3 (c : Dev nD) (t : Fin cfg0.N) : (dat m 0 c).after 3 t = iblk m c 3 t := by dsimp only [dat]
theorem after0_4 (c : Dev nD) (t : Fin cfg0.N) : (dat m 0 c).after 4 t = iblk m c 4 t := by dsimp only [dat]
theorem after0_5 (c : Dev nD) (t : Fin cfg0.N) : (dat m 0 c).after 5 t = iblk m c 5 t := by dsimp only [dat]
theorem after0_6 (c : Dev nD) (t : Fin cfg0.N) : (dat m 0 c).after 6 t = (outsAt m c t) := by dsimp only [dat]

/-- What each input window holds before a point: its block. -/
theorem before0_0 (c : Dev nD) (t : Fin cfg0.N) (d) : (dat m 0 c).before 0 t d = iblk m c 0 t :=
  before0_0_of m (dat m 0 c) (A_eq m c 0) (after0_0 m c) t d
theorem before0_1 (c : Dev nD) (t : Fin cfg0.N) (d) : (dat m 0 c).before 1 t d = iblk m c 1 t :=
  before0_1_of m (dat m 0 c) (A_eq m c 1) (after0_1 m c) t d
theorem before0_2 (c : Dev nD) (t : Fin cfg0.N) (d) : (dat m 0 c).before 2 t d = iblk m c 2 t :=
  before0_2_of m (dat m 0 c) (A_eq m c 2) (after0_2 m c) t d
theorem before0_3 (c : Dev nD) (t : Fin cfg0.N) (d) : (dat m 0 c).before 3 t d = iblk m c 3 t :=
  before0_3_of m (dat m 0 c) (A_eq m c 3) (after0_3 m c) t d
theorem before0_4 (c : Dev nD) (t : Fin cfg0.N) (d) : (dat m 0 c).before 4 t d = iblk m c 4 t :=
  before0_4_of m (dat m 0 c) (A_eq m c 4) (after0_4 m c) t d
theorem before0_5 (c : Dev nD) (t : Fin cfg0.N) (d) : (dat m 0 c).before 5 t d = iblk m c 5 t :=
  before0_5_of m (dat m 0 c) (A_eq m c 5) (after0_5 m c) t d

/-- What the body is given at a point. -/
def bodyPre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d)))

/-- What the body gives back. -/
def bodyPost (c : Dev nD) (t : Fin cfg0.N) : sProp 𝕄 :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t)
    ∗ owns (c : Thread nD τ) (ms0_5 t) fullShare ((dat m 0 c).after 5 t)
    ∗ owns (c : Thread nD τ) (ms0_6 t) fullShare ((dat m 0 c).after 6 t))

set_option maxHeartbeats 800000 in
/-- The body keeps its inputs and writes its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dat m 0 c).Φ t.succ = (dat m 0 c).Φ t.castSucc from rfl,
    show (dat m 0 c).owesAt () t.succ = (dat m 0 c).owesAt () t.castSucc from rfl,
    after0_0, after0_1, after0_2, after0_3, after0_4, after0_5, after0_6]
  rw [show (dat m 0 c).Φ t.castSucc = Pipeline.ΦA spec0 c from rfl, PhiA0_eq]
  unfold outsAt
  unfold blockOut
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((run c (grid0.coords t) _ _ _ _ _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, ⟨%e6, H6⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover c _ _ _ _ _ _ _ _ _ _ _ _ _ _ _ _ _ _ _ _ _ _ _ _ _ _ _)

/-- The body at a point, by its name. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dat (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to the end: its arrays as the data says, every counter at zero. -/
theorem run_main_quiescent : θ_run defs (onTc (τ := τ) (main (F := F))) (s₀ m ρ) (fun r => (Pipeline.FramePost cfgs (dat m) 0 (V m)) r ∧ r.2.sem = fun _ => 0) :=
  Pipeline.θ_run_frame_shared (Q' := _) cfgs (dat m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dat m) 0 (V m)) :=
  (θ_run defs _ _).mono (fun _ h => h.1) (run_main_quiescent m ρ)

/-- The arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dat m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The block written back at a point. -/
theorem flushed (c : Dev nD) (t : Fin cfg0.N) : (dat m 0 c).flushed 6 t = (cfg0.win 6).cut (grid0.coords t) (outsAt m c t) := by
  show (cfg0.win 6).cut (grid0.coords t) ((dat m 0 c).after 6 t) = _
  rw [after0_6]

/-- The run with its result array named. -/
theorem run_out : θ_run defs (onTc (τ := τ) (main (F := F))) ⟨m, fun _ => 0, ρ⟩ fun r => ∀ c : Dev nD,
      r.2.mem ((c : Thread nD τ).loc main_v14) = (dat m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 6,
      ((h c).1 2).trans (((dat m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Diff

end
-- ==== Proof.Diff.Body.lean ====
/- One grid point of the differential attention kernel: what its body leaves in the output block, as a recursion over the key
   blocks. The three scratch buffers (the running maximum, the running sum of the weights and the accumulated output) are
   carried from one key block to the next; the recursion `st` below carries them as values. -/
module

public import proofs.«01_k».proof.Proof.Diff.Frame
public import Idealize.ShloMosaic.Lib.Pointwise
public import Idealize.ShloMosaic.Lib.VecWindow

@[expose] public section

set_option maxRecDepth 16384

noncomputable section

namespace Cert.Diff
open Cert.DiffKernelIdeal Cert.DiffKernelIdeal.Gen Idealize.ShloMosaic Idealize.ShloMosaic.TcCoe Idealize.ShloMosaic.Tactic Idealize.SL.Sem

abbrev RB := FVec Ideal S256x128 .f32
abbrev Kv := Vec Ideal S2048x128 .bf16
abbrev Sl := Vec Ideal S1x1x128 .f32

/-- The three scratch buffers' contents: the maximum, the sum, the output. -/
abbrev Scr := RB × RB × RB

/-- The key or value block the `k`th trip reads. -/
def blkAt (i : grid0.Coords) (x : Kv) (k : Fin (k0_t1_loop i).trips) : Vec Ideal S256x128 .bf16 :=
  View.ld x (Rect.unit (s := S2048x128) (k0_off1 i k) S256x128.size (k0_off1_inb i k))

/-- The key or value block on the diagonal. -/
def blkDiag (i : grid0.Coords) (x : Kv) : Vec Ideal S256x128 .bf16 :=
  View.ld x (Rect.unit (s := S2048x128) (k0_off3 i) S256x128.size (k0_off3_inb i))

/-- A block before the diagonal, taken into the scratch contents. -/
def stepS (i : grid0.Coords) (v0 : BitVec 32) (q : FVec Ideal S256x128 .bf16) (w : Sl) (k : Fin (k0_t1_loop i).trips) (kb vb : Vec Ideal S256x128 .bf16) (s : Scr) : Scr :=
  (k0_pay22 (k0_pay2 i v0 q (k0_pay20 w) 0#32 1#32 k kb s.1), k0_pay5 i v0 q (k0_pay20 w) 0#32 1#32 k kb s.1 s.2.1,
   k0_pay21 vb (k0_pay6 i v0 q (k0_pay20 w) 0#32 1#32 k kb s.1 s.2.2) (k0_pay7 i v0 q (k0_pay20 w) 0#32 1#32 k kb s.1) (constant S256x128 .f32 0x00000000#32))

/-- The scratch contents before trip `k`, from those before the loop. -/
def st (i : grid0.Coords) (v0 : BitVec 32) (q : FVec Ideal S256x128 .bf16) (w : Sl) (x1 x2 : Kv) (s0 : Scr) : ℕ → Scr
  | 0 => s0
  | k + 1 =>
    if h : k < (k0_t1_loop i).trips then
      stepS i v0 q w ⟨k, h⟩ (blkAt i x1 ⟨k, h⟩) (blkAt i x2 ⟨k, h⟩) (st i v0 q w x1 x2 s0 k)
    else st i v0 q w x1 x2 s0 k

/-- The scratch contents at the start. -/
def st0 : Scr := (k0_pay16 (F := Ideal), k0_pay18 (F := Ideal) (k0_pay17 (F := Ideal)), k0_pay19 (F := Ideal))

/-- The scores of the block on the diagonal. -/
def diagS (i : grid0.Coords) (q : FVec Ideal S256x128 .bf16) (w : Sl) (x1 : Kv) : FVec Ideal S256x256 .f32 :=
  k0_pay25 (run.sl.v0 i) (run.sl.v17 i) q w (blkDiag i x1)

/-- The block on the diagonal, taken into the scratch contents. -/
def lastS (i : grid0.Coords) (q : FVec Ideal S256x128 .bf16) (w : Sl) (x1 x2 : Kv) (s : Scr) : RB × RB :=
  (k0_pay31 (diagS i q w x1) (run.sl.v64 i) (run.sl.r_3 i) run.sl.v73 s.1 s.2.1,
   k0_pay32 (diagS i q w x1) (run.sl.v64 i) (run.sl.r_3 i) run.sl.v73 (blkDiag i x2) s.1 s.2.2)

section
variable (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x128 .f32) (harg6 : arg6.IsWhole) (arg7 : Memref sig .tc .vmem S1x4x64 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole)

theorem trip_s (v0 : BitVec 32) (q : FVec Ideal S256x128 .bf16) (w : Sl) (x1 : Kv) (k : Fin (k0_t1_loop i).trips) :
    trip_k0_t1.sl.v170 (F := Ideal) i arg4 v0 q w (harg4.unread x1) k = k0_pay1 i v0 q (k0_pay20 w) 0#32 1#32 k (blkAt i x1 k) := by
  unfold trip_k0_t1.sl.v170 trip_k0_t1.sl.v169 trip_k0_t1.sl.v168 trip_k0_t1.sl.v167 trip_k0_t1.sl.v160
  simp only [View.readAt_eq_ld, harg4.read_unread]
  rfl

theorem trip_m (v0 : BitVec 32) (q : FVec Ideal S256x128 .bf16) (w : Sl) (x1 : Kv) (k : Fin (k0_t1_loop i).trips) (G10 : BufTy.Contents (Elt Ideal) arg10.view.ty) :
    trip_k0_t1.sl.v179 (F := Ideal) i arg4 arg10 v0 q w (harg4.unread x1) k G10 = k0_pay2 i v0 q (k0_pay20 w) 0#32 1#32 k (blkAt i x1 k) (arg10.view.read (Elt Ideal) G10) := by
  have hz : (![0,0] : Fin 2 → Nat) = fun _ => 0 := by funext a; fin_cases a <;> rfl
  unfold trip_k0_t1.sl.v179 trip_k0_t1.sl.v178 trip_k0_t1.sl.v177 trip_k0_t1.sl.v176
  rw [trip_s i arg4 harg4 v0 q w x1 k]
  simp only [View.readAt_eq_ld, View.ld_unit_zero (S := S256x128) hz]
  rfl

theorem trip_c (v0 : BitVec 32) (q : FVec Ideal S256x128 .bf16) (w : Sl) (x1 : Kv) (k : Fin (k0_t1_loop i).trips) (G10 : BufTy.Contents (Elt Ideal) arg10.view.ty) :
    trip_k0_t1.sl.v181 (F := Ideal) i arg4 arg10 v0 q w (harg4.unread x1) k G10 = k0_pay3 i v0 q (k0_pay20 w) 0#32 1#32 k (blkAt i x1 k) (arg10.view.read (Elt Ideal) G10) := by
  have hz : (![0,0] : Fin 2 → Nat) = fun _ => 0 := by funext a; fin_cases a <;> rfl
  unfold trip_k0_t1.sl.v181 trip_k0_t1.sl.v180
  rw [trip_m i arg4 harg4 arg10 v0 q w x1 k G10]
  simp only [View.readAt_eq_ld, View.ld_unit_zero (S := S256x128) hz]
  rfl

theorem trip_e (v0 : BitVec 32) (q : FVec Ideal S256x128 .bf16) (w : Sl) (x1 : Kv) (k : Fin (k0_t1_loop i).trips) (G10 : BufTy.Contents (Elt Ideal) arg10.view.ty) :
    trip_k0_t1.sl.v184 (F := Ideal) i arg4 arg10 v0 q w (harg4.unread x1) k G10 = k0_pay4 i v0 q (k0_pay20 w) 0#32 1#32 k (blkAt i x1 k) (arg10.view.read (Elt Ideal) G10) := by
  unfold trip_k0_t1.sl.v184 trip_k0_t1.sl.v183 trip_k0_t1.sl.v182
  rw [trip_m i arg4 harg4 arg10 v0 q w x1 k G10, trip_s i arg4 harg4 v0 q w x1 k]
  rfl

theorem trip_l (v0 : BitVec 32) (q : FVec Ideal S256x128 .bf16) (w : Sl) (x1 : Kv) (k : Fin (k0_t1_loop i).trips) (G10 : BufTy.Contents (Elt Ideal) arg10.view.ty) (G11 : BufTy.Contents (Elt Ideal) arg11.view.ty) :
    trip_k0_t1.sl.v193 (F := Ideal) i arg4 arg10 arg11 v0 q w (harg4.unread x1) k G10 G11 = k0_pay5 i v0 q (k0_pay20 w) 0#32 1#32 k (blkAt i x1 k) (arg10.view.read (Elt Ideal) G10) (arg11.view.read (Elt Ideal) G11) := by
  have hz : (![0,0] : Fin 2 → Nat) = fun _ => 0 := by funext a; fin_cases a <;> rfl
  unfold trip_k0_t1.sl.v193 trip_k0_t1.sl.v190 trip_k0_t1.sl.v189 trip_k0_t1.sl.v188 trip_k0_t1.sl.v187 trip_k0_t1.sl.v186
  rw [trip_c i arg4 harg4 arg10 v0 q w x1 k G10, trip_e i arg4 harg4 arg10 v0 q w x1 k G10]
  simp only [View.readAt_eq_ld, View.ld_unit_zero (S := S256x128) hz]
  rfl

theorem trip_a (v0 : BitVec 32) (q : FVec Ideal S256x128 .bf16) (w : Sl) (x1 : Kv) (k : Fin (k0_t1_loop i).trips) (G10 : BufTy.Contents (Elt Ideal) arg10.view.ty) (G12 : BufTy.Contents (Elt Ideal) arg12.view.ty) :
    trip_k0_t1.sl.v195 (F := Ideal) i arg4 arg10 arg12 v0 q w (harg4.unread x1) k G10 G12 = k0_pay6 i v0 q (k0_pay20 w) 0#32 1#32 k (blkAt i x1 k) (arg10.view.read (Elt Ideal) G10) (arg12.view.read (Elt Ideal) G12) := by
  have hz : (![0,0] : Fin 2 → Nat) = fun _ => 0 := by funext a; fin_cases a <;> rfl
  unfold trip_k0_t1.sl.v195
  rw [trip_c i arg4 harg4 arg10 v0 q w x1 k G10]
  simp only [View.readAt_eq_ld, View.ld_unit_zero (S := S256x128) hz]
  rfl

theorem trip_p (v0 : BitVec 32) (q : FVec Ideal S256x128 .bf16) (w : Sl) (x1 : Kv) (k : Fin (k0_t1_loop i).trips) (G10 : BufTy.Contents (Elt Ideal) arg10.view.ty) :
    trip_k0_t1.sl.v196 (F := Ideal) i arg4 arg10 v0 q w (harg4.unread x1) k G10 = k0_pay7 i v0 q (k0_pay20 w) 0#32 1#32 k (blkAt i x1 k) (arg10.view.read (Elt Ideal) G10) := by
  unfold trip_k0_t1.sl.v196
  rw [trip_e i arg4 harg4 arg10 v0 q w x1 k G10]
  rfl

theorem trip_v (x2 : Kv) (k : Fin (k0_t1_loop i).trips) :
    trip_k0_t1.sl.r (F := Ideal) i arg5 (harg5.unread x2) k = blkAt i x2 k := by
  unfold trip_k0_t1.sl.r
  simp only [View.readAt_eq_ld, harg5.read_unread]
  rfl

/-- The scratch contents after `k` trips are the recursion's. -/
theorem loop_st (𝒱 : Variants) (v0 v17 : BitVec 32) (q : FVec Ideal S256x128 .bf16) (v34 v35 : RB) (w : Sl)
    (x1 x2 : Kv) (G10 : BufTy.Contents (Elt Ideal) arg10.view.ty) (G11 : BufTy.Contents (Elt Ideal) arg11.view.ty) (G12 : BufTy.Contents (Elt Ideal) arg12.view.ty)
    (k : ℕ) (hk : k ≤ (k0_t1_loop i).trips) :
    (arg10.view.read (Elt Ideal) (arg10.view.writes (Elt Ideal) G10 (pb_k0_t1 (F := Ideal) 𝒱 c none i arg3 harg3 arg4 harg4 arg5 harg5 arg6 harg6 arg7 harg7 arg8 harg8 arg9 harg9 arg10 harg10 arg11 harg11 arg12 harg12 v0 v17 q v34 v35 w (harg4.unread x1) (harg5.unread x2) G10 G11 G12 k).1),
     arg11.view.read (Elt Ideal) (arg11.view.writes (Elt Ideal) G11 (pb_k0_t1 (F := Ideal) 𝒱 c none i arg3 harg3 arg4 harg4 arg5 harg5 arg6 harg6 arg7 harg7 arg8 harg8 arg9 harg9 arg10 harg10 arg11 harg11 arg12 harg12 v0 v17 q v34 v35 w (harg4.unread x1) (harg5.unread x2) G10 G11 G12 k).2.1),
     arg12.view.read (Elt Ideal) (arg12.view.writes (Elt Ideal) G12 (pb_k0_t1 (F := Ideal) 𝒱 c none i arg3 harg3 arg4 harg4 arg5 harg5 arg6 harg6 arg7 harg7 arg8 harg8 arg9 harg9 arg10 harg10 arg11 harg11 arg12 harg12 v0 v17 q v34 v35 w (harg4.unread x1) (harg5.unread x2) G10 G11 G12 k).2.2))
      = st i v0 q w x1 x2 (arg10.view.read (Elt Ideal) G10, arg11.view.read (Elt Ideal) G11, arg12.view.read (Elt Ideal) G12) k := by
  induction k with
  | zero => rfl
  | succ k ih =>
    have hk' : k < (k0_t1_loop i).trips := hk
    have ih := ih (le_of_lt hk')
    rw [pb_k0_t1_succ (F := Ideal) 𝒱 c none i arg3 harg3 arg4 harg4 arg5 harg5 arg6 harg6 arg7 harg7 arg8 harg8 arg9 harg9 arg10 harg10 arg11 harg11 arg12 harg12 v0 v17 q v34 v35 w (harg4.unread x1) (harg5.unread x2) G10 G11 G12 ⟨k, hk'⟩]
    dsimp only [tripL_k0_t1]
    unfold trip_k0_t1
    dsimp only [List.cons_append, List.nil_append]
    rw [View.read_writes_full, View.read_writes_full, View.read_writes_full]
    simp only [st, dif_pos hk', ← ih]
    rw [trip_m (q := q) (w := w) (x1 := x1) (k := ⟨k, hk'⟩), trip_l (q := q) (w := w) (x1 := x1) (k := ⟨k, hk'⟩), trip_a (q := q) (w := w) (x1 := x1) (k := ⟨k, hk'⟩),
      trip_p (q := q) (w := w) (x1 := x1) (k := ⟨k, hk'⟩), trip_v (x2 := x2) (k := ⟨k, hk'⟩)]
    rfl

/-- The scratch contents before the block on the diagonal. -/
abbrev stN (i : grid0.Coords) (x0 : Vec Ideal S128x128 .bf16) (x1 x2 : Kv) (x3 : Sl) : Scr := st i (run.sl.v0 i) (k0_pay15 (F := Ideal) x0) x3 x1 x2 st0 (k0_t1_loop i).trips

theorem slope_read (x3 : Sl) : View.readAt (Elt Ideal) arg6.view (Rect.unit (s := S1x1x128) ![0, 0, 0] S1x1x128.size inb_S1x1x128_S1x1x128_0_0_0).toLoadRect (harg6.unread x3) = x3 := by
  have hz : (![0,0,0] : Fin 3 → Nat) = fun _ => 0 := by funext a; fin_cases a <;> rfl
  simp only [View.readAt_eq_ld, View.ld_unit_zero (S := S1x1x128) hz, harg6.read_unread]

/-- What the loop leaves in the three buffers. -/
theorem loop_all (x0 : Vec Ideal S128x128 .bf16) (x1 x2 : Kv) (x3 : Sl) (h2 : (k0_t2_loop i).trips = 0) :
    run.sl.v83 (F := Ideal) c i arg3 harg3 arg4 harg4 arg5 harg5 arg6 harg6 arg7 harg7 arg8 harg8 arg9 harg9 arg10 harg10 arg11 harg11 arg12 harg12 x0 x1 x2 x3 = (stN i x0 x1 x2 x3).1
    ∧ run.sl.v93 (F := Ideal) c i arg3 harg3 arg4 harg4 arg5 harg5 arg6 harg6 arg7 harg7 arg8 harg8 arg9 harg9 arg10 harg10 arg11 harg11 arg12 harg12 x0 x1 x2 x3 = (stN i x0 x1 x2 x3).2.1
    ∧ run.sl.v102 (F := Ideal) c i arg3 harg3 arg4 harg4 arg5 harg5 arg6 harg6 arg7 harg7 arg8 harg8 arg9 harg9 arg10 harg10 arg11 harg11 arg12 harg12 x0 x1 x2 x3 = (stN i x0 x1 x2 x3).2.2 := by
  have hz : (![0,0] : Fin 2 → Nat) = fun _ => 0 := by funext a; fin_cases a <;> rfl
  have hl := loop_st c i arg3 harg3 arg4 harg4 arg5 harg5 arg6 harg6 arg7 harg7 arg8 harg8 arg9 harg9 arg10 harg10 arg11 harg11 arg12 harg12 Variants.none (run.sl.v0 i) (run.sl.v17 i) (run.sl.r (F := Ideal) c arg3 harg3 x0) k0_pay17 k0_pay17 x3 x1 x2
    (arg10.view.writes (Elt Ideal) arg10.view.junk run.sl.HS0_1) (arg11.view.writes (Elt Ideal) arg11.view.junk run.sl.HS1_1) (arg12.view.writes (Elt Ideal) arg12.view.junk run.sl.HS2_1) _ le_rfl
  have eq : run.sl.r (F := Ideal) c arg3 harg3 x0 = k0_pay15 x0 := by
    unfold run.sl.r
    simp only [View.readAt_eq_ld, View.ld_unit_zero (S := S128x128) hz, harg3.read_unread]
  have e0 : (arg10.view.read (Elt Ideal) (arg10.view.writes (Elt Ideal) arg10.view.junk (run.sl.HS0_1 (F := Ideal))), arg11.view.read (Elt Ideal) (arg11.view.writes (Elt Ideal) arg11.view.junk (run.sl.HS1_1 (F := Ideal))),
      arg12.view.read (Elt Ideal) (arg12.view.writes (Elt Ideal) arg12.view.junk (run.sl.HS2_1 (F := Ideal)))) = st0 := by
    unfold run.sl.HS0_1 run.sl.HS1_1 run.sl.HS2_1
    rw [View.read_writes_full, View.read_writes_full, View.read_writes_full]
    rfl
  rw [e0, eq] at hl
  have e2 : Scf.trips (k0_t2_loop i).lb (k0_t2_loop i).ub (k0_t2_loop i).st = 0 := h2
  unfold run.sl.v83 run.sl.v93 run.sl.v102 View.readCov
  rw [slope_read arg6 harg6 x3, View.readAt_full, View.readAt_full, View.readAt_full, e2, eq]
  unfold pb_k0_t2
  dsimp only [List.nil_append]
  rw [View.writes_append, View.writes_append, View.writes_append]
  exact ⟨congrArg Prod.fst hl, congrArg (fun s => s.2.1) hl, congrArg (fun s => s.2.2) hl⟩

/-- What the body leaves in the output block: the two halves of the last accumulator over the last sum, one less the other
    times the factor, normalised. -/
theorem out_eq (x0 : Vec Ideal S128x128 .bf16) (x1 x2 : Kv) (x3 : Sl) (x4 : Vec Ideal S1x4x64 .f32) (x5 : Vec Ideal S1x128 .f32) (h2 : (k0_t2_loop i).trips = 0) :
    blockOut (F := Ideal) c i arg3 harg3 arg4 harg4 arg5 harg5 arg6 harg6 arg7 harg7 arg8 harg8 arg9 harg9 arg10 harg10 arg11 harg11 arg12 harg12 x0 x1 x2 x3 x4 x5
      = k0_pay34 (F := Ideal) x4 (lastS i (k0_pay15 (F := Ideal) x0) x3 x1 x2 (stN i x0 x1 x2 x3)).2
          (lastS i (k0_pay15 (F := Ideal) x0) x3 x1 x2 (stN i x0 x1 x2 x3)).1 x5 := by
  have hz : (![0,0] : Fin 2 → Nat) = fun _ => 0 := by funext a; fin_cases a <;> rfl
  have hz3 : (![0,0,0] : Fin 3 → Nat) = fun _ => 0 := by funext a; fin_cases a <;> rfl
  unfold blockOut
  rw [View.read_writes_eq_canon _ _ _ (cover c i arg3 harg3 arg4 harg4 arg5 harg5 arg6 harg6 arg7 harg7 arg8 harg8 arg9 harg9 arg10 harg10 arg11 harg11 arg12 harg12 x0 x1 x2 x3 x4 x5)]
  unfold run
  dsimp only
  rw [View.canon_unit_zero hz]
  obtain ⟨e83, e93, e102⟩ := loop_all c i arg3 harg3 arg4 harg4 arg5 harg5 arg6 harg6 arg7 harg7 arg8 harg8 arg9 harg9 arg10 harg10 arg11 harg11 arg12 harg12 x0 x1 x2 x3 h2
  have eq : run.sl.r (F := Ideal) c arg3 harg3 x0 = k0_pay15 x0 := by
    unfold run.sl.r
    simp only [View.readAt_eq_ld, View.ld_unit_zero (S := S128x128) hz, harg3.read_unread]
  have er : run.sl.r_2 (F := Ideal) c i arg3 harg3 arg4 harg4 arg6 harg6 x0 x1 x3 = diagS i (k0_pay15 (F := Ideal) x0) x3 x1 := by
    unfold run.sl.r_2
    rw [slope_read arg6 harg6 x3]
    simp only [eq, View.readAt_eq_ld, harg4.read_unread]
    rfl
  have e130 : run.sl.v130 (F := Ideal) c i arg3 harg3 arg4 harg4 arg5 harg5 arg6 harg6 arg7 harg7 arg8 harg8 arg9 harg9 arg10 harg10 arg11 harg11 arg12 harg12 x0 x1 x2 x3 = (lastS i (k0_pay15 (F := Ideal) x0) x3 x1 x2 (stN i x0 x1 x2 x3)).2 := by
    unfold run.sl.v130 run.sl.HS2_1_1
    rw [View.readCov_full, e83, e102, er]
    simp only [View.readAt_eq_ld, harg5.read_unread]
    rfl
  have e131 : run.sl.v131 (F := Ideal) c i arg3 harg3 arg4 harg4 arg5 harg5 arg6 harg6 arg7 harg7 arg8 harg8 arg9 harg9 arg10 harg10 arg11 harg11 arg12 harg12 x0 x1 x2 x3 = (lastS i (k0_pay15 (F := Ideal) x0) x3 x1 x2 (stN i x0 x1 x2 x3)).1 := by
    unfold run.sl.v131 run.sl.HS1_1_1
    rw [View.readCov_full, e83, e93, er]
    rfl
  unfold run.sl.r_4
  rw [e130, e131]
  simp only [View.readAt_eq_ld, View.ld_unit_zero (S := S1x4x64) hz3, View.ld_unit_zero (S := S1x128) hz, harg7.read_unread, harg8.read_unread]

end
end Cert.Diff
end
-- ==== Proof.Diff.Inp.lean ====
/- The differential attention's projected queries, keys and values as numbers, a head's slope, a row's scores, the weights,
   the factor of the second attention, and the two ways of taking the difference. -/
module

public import proofs.«01_k».proof.Proof.Fox.Inp

@[expose] public section

set_option maxRecDepth 16384

noncomputable section

namespace Cert.Diff
open Cert.Fox Idealize.ShloMosaic Idealize.ShloMosaic.Tactic

/-- A row's scores under the causal mask. -/
def zm (z : ℕ → EReal) (t s : ℕ) : EReal := if s ≤ t then z s else ⊥

theorem zm_bot (z : ℕ → EReal) (t s : ℕ) (h : t < s) : zm z t s = ⊥ := if_neg (by omega)

/-- A key's weight: its exponential over their sum. -/
def wt (ζ : ℕ → EReal) (s : ℕ) : EReal := Ideal.div (ew ζ (mx ζ 2048) s) (ln ζ 2048)

/-- The weighted sum of the values over the sum of the weights. -/
def quo (ζ v : ℕ → EReal) (n : ℕ) : EReal := Ideal.div (an ζ v n) (ln ζ n)

/-- Against an infinite maximum every weight is zero. -/
theorem exp_sub_top (a : EReal) : Ideal.exp (a - ⊤) = 0 := by
  rw [EReal.sub_top, exp_bot]

/-- A block more, for the sum of the weights, also where a score is infinite. -/
theorem ln_next (ζ : ℕ → EReal) (n : ℕ) :
    Ideal.exp (mx ζ n - mx ζ (n + 256)) * ln ζ n + ∑ x : Fin 256, Ideal.exp (ζ (n + x.val) - mx ζ (n + 256)) = ln ζ (n + 256) := by
  by_cases ht : mx ζ (n + 256) = ⊤
  · simp [ln, ew, ht, exp_sub_top]
  have h := exp_factor _ _ (mx_mono ζ n 256) ht
  unfold ln
  rw [sum_more, mul_sum_nonneg _ _ h.1 h.2]
  congr 1
  exact Finset.sum_congr rfl fun s hs => exp_rescale _ _ _ (le_mx ζ n s (Finset.mem_range.mp hs)) (mx_mono ζ n 256) ht

/-- A block more, for the weighted sum of the values. -/
theorem an_next (ζ v : ℕ → EReal) (n : ℕ) :
    Ideal.exp (mx ζ n - mx ζ (n + 256)) * an ζ v n + ∑ x : Fin 256, Ideal.exp (ζ (n + x.val) - mx ζ (n + 256)) * v (n + x.val) = an ζ v (n + 256) := by
  by_cases ht : mx ζ (n + 256) = ⊤
  · simp [an, ew, ht, exp_sub_top]
  have h := exp_factor _ _ (mx_mono ζ n 256) ht
  unfold an
  rw [sum_more, mul_sum_nonneg _ _ h.1 h.2]
  congr 1
  refine Finset.sum_congr rfl fun s hs => ?_
  rw [← mul_assoc]
  congr 1
  exact exp_rescale _ _ _ (le_mx ζ n s (Finset.mem_range.mp hs)) (mx_mono ζ n 256) ht

/-- A number added to a score and to the maximum. -/
theorem sub_moved (a μ : EReal) (f : ℝ) : (a + f) - (μ + f) = a - μ := by
  induction μ with
  | bot =>
    induction a with
    | bot => simp
    | top => simp
    | coe a => rw [EReal.bot_add, ← EReal.coe_add]; simp
  | top => rw [EReal.top_add_coe, EReal.sub_top, EReal.sub_top]
  | coe μ =>
    induction a with
    | bot => rw [EReal.bot_add, EReal.bot_sub, EReal.bot_sub]
    | top => rw [EReal.top_add_coe, ← EReal.coe_add, EReal.top_sub_coe, EReal.top_sub_coe]
    | coe a =>
      rw [← EReal.coe_add, ← EReal.coe_add, ← EReal.coe_sub, ← EReal.coe_sub]
      congr 1
      ring

/-- The exponentials do not see a number added to all scores of a row. -/
theorem ew_moved (ζ ζ' : ℕ → EReal) (f : ℝ) (h : ∀ s, ζ' s = ζ s + f) (n s : ℕ) : ew ζ' (mx ζ' n) s = ew ζ (mx ζ n) s := by
  unfold ew
  rw [mx_shift ζ ζ' f h, h, sub_moved]

theorem wt_moved (ζ ζ' : ℕ → EReal) (f : ℝ) (h : ∀ s, ζ' s = ζ s + f) (s : ℕ) : wt ζ' s = wt ζ s := by
  unfold wt ln
  simp only [ew_moved ζ ζ' f h]

theorem quo_moved (ζ ζ' v : ℕ → EReal) (f : ℝ) (h : ∀ s, ζ' s = ζ s + f) (n : ℕ) : quo ζ' v n = quo ζ v n := by
  unfold quo ln an
  simp only [ew_moved ζ ζ' f h]

/-- The keys after the row change nothing. -/
theorem quo_ext (ζ v : ℕ → EReal) (n : ℕ) (hn : n ≤ 2048) (hb : ∀ s, n ≤ s → ζ s = ⊥) : quo ζ v n = quo ζ v 2048 := by
  unfold quo
  rw [ln_ext ζ n hn hb, an_ext ζ v n hn hb]

/-- A row whose largest score is a number. -/
def Good (ζ : ℕ → EReal) : Prop := ∃ μ : ℝ, mx ζ 2048 = (μ : EReal)

/-- In such a row the exponentials are numbers, and their sum is one above zero. -/
theorem good_ew (ζ : ℕ → EReal) (h : Good ζ) :
    ∃ (w : ℕ → ℝ) (r : ℝ), 0 < r ∧ ln ζ 2048 = (r : EReal) ∧ ∀ s, s < 2048 → ew ζ (mx ζ 2048) s = ((w s : ℝ) : EReal) := by
  obtain ⟨μ, hμ⟩ := h
  have hw : ∀ s, s < 2048 → ∃ q : ℝ, 0 ≤ q ∧ ew ζ (mx ζ 2048) s = (q : EReal) := by
    intro s hs
    have hle := le_mx ζ 2048 s hs
    rw [hμ] at hle ⊢
    unfold ew
    generalize ζ s = a at hle ⊢
    induction a with
    | bot => exact ⟨0, le_rfl, by rw [EReal.bot_sub, exp_bot, EReal.coe_zero]⟩
    | top => exact absurd (top_le_iff.mp hle) (EReal.coe_ne_top _)
    | coe a => exact ⟨Real.exp (a - μ), (Real.exp_pos _).le, by rw [← EReal.coe_sub, exp_real]⟩
  have hw' : ∀ s, s < 2048 → 0 ≤ (ew ζ (mx ζ 2048) s).toReal ∧ ew ζ (mx ζ 2048) s = (((ew ζ (mx ζ 2048) s).toReal : ℝ) : EReal) := by
    intro s hs
    obtain ⟨q, h0, e⟩ := hw s hs
    rw [e, EReal.toReal_coe]
    exact ⟨h0, rfl⟩
  refine ⟨fun s => (ew ζ (mx ζ 2048) s).toReal, ∑ s ∈ Finset.range 2048, (ew ζ (mx ζ 2048) s).toReal, ?_, ?_, fun s hs => (hw' s hs).2⟩
  · obtain ⟨s, hs, e⟩ := Finset.exists_mem_eq_sup (Finset.range 2048) ⟨0, Finset.mem_range.mpr (by omega)⟩ ζ
    refine Finset.sum_pos' (fun s hs => (hw' s (Finset.mem_range.mp hs)).1) ⟨s, hs, ?_⟩
    have e : mx ζ 2048 = ζ s := e
    have : ew ζ (mx ζ 2048) s = ((Real.exp 0 : ℝ) : EReal) := by
      unfold ew
      rw [← e, hμ, ← EReal.coe_sub, sub_self, exp_real]
    rw [this, EReal.toReal_coe]
    exact Real.exp_pos _
  · unfold ln
    rw [coe_sum]
    exact Finset.sum_congr rfl fun s hs => (hw' s (Finset.mem_range.mp hs)).2

/-- In any other row all exponentials are zero. -/
theorem bad_ew (ζ : ℕ → EReal) (h : ¬ Good ζ) (s : ℕ) (hs : s < 2048) : ew ζ (mx ζ 2048) s = 0 := by
  have hle := le_mx ζ 2048 s hs
  unfold Good at h
  unfold ew
  generalize mx ζ 2048 = μ at h hle ⊢
  induction μ with
  | bot => rw [le_bot_iff.mp hle, EReal.bot_sub, exp_bot]
  | top => exact exp_sub_top _
  | coe μ => exact absurd ⟨μ, rfl⟩ h

theorem div_zero_zero : Ideal.div 0 0 = ⊥ := by
  unfold Ideal.div
  rw [if_pos rfl, if_neg (lt_irrefl _)]

theorem bad_ln (ζ : ℕ → EReal) (h : ¬ Good ζ) : ln ζ 2048 = 0 :=
  Finset.sum_eq_zero fun s hs => bad_ew ζ h s (Finset.mem_range.mp hs)

/-- There the weights are zero over zero, and so is the kernel's quotient. -/
theorem bad_wt (ζ : ℕ → EReal) (h : ¬ Good ζ) (s : ℕ) (hs : s < 2048) : wt ζ s = ⊥ := by
  unfold wt
  rw [bad_ew ζ h s hs, bad_ln ζ h, div_zero_zero]

theorem bad_quo (ζ v : ℕ → EReal) (h : ¬ Good ζ) : quo ζ v 2048 = ⊥ := by
  have e : an ζ v 2048 = 0 := Finset.sum_eq_zero fun s hs => by rw [bad_ew ζ h s (Finset.mem_range.mp hs), zero_mul]
  unfold quo
  rw [e, bad_ln ζ h, div_zero_zero]

/-- With numbers for values, a good row's weights are numbers and the quotient is the sum with them. -/
theorem good_wt (ζ : ℕ → EReal) (h : Good ζ) :
    ∃ w : ℕ → ℝ, (∀ s, s < 2048 → wt ζ s = ((w s : ℝ) : EReal)) ∧ ∀ (v : ℕ → EReal) (v' : ℕ → ℝ), (∀ s, v s = ((v' s : ℝ) : EReal)) →
      quo ζ v 2048 = ((∑ s ∈ Finset.range 2048, w s * v' s : ℝ) : EReal) := by
  obtain ⟨w, r, hr, e, hw⟩ := good_ew ζ h
  have h0 : (r : EReal) ≠ 0 := by
    rw [← EReal.coe_zero]
    exact fun h => hr.ne' (EReal.coe_eq_coe_iff.mp h)
  refine ⟨fun s => w s * r⁻¹, fun s hs => ?_, fun v v' hv => ?_⟩
  · unfold wt Ideal.div
    rw [e, hw s hs, if_neg h0, EReal.coe_mul, EReal.coe_inv]
  · have ea : an ζ v 2048 = ((∑ s ∈ Finset.range 2048, w s * v' s : ℝ) : EReal) := by
      unfold an
      rw [coe_sum]
      exact Finset.sum_congr rfl fun s hs => by rw [hw s (Finset.mem_range.mp hs), hv, EReal.coe_mul]
    unfold quo Ideal.div
    rw [ea, e, if_neg h0, ← EReal.coe_inv, ← EReal.coe_mul, EReal.coe_eq_coe_iff, Finset.sum_mul]
    exact Finset.sum_congr rfl fun s _ => by ring

/-- The factor of the second attention; `k` is the constant a layer adds. -/
def lamE (k : BitVec 32) (d : Fin 4 → Fin 64 → EReal) : EReal :=
  Ideal.exp (∑ x : Fin 64, d 0 x * d 1 x) - Ideal.exp (∑ x : Fin 64, d 2 x * d 3 x) + Ideal.ofBits .f32 k

theorem lam_real (k : BitVec 32) (hk : ∃ r : ℝ, Ideal.ofBits .f32 k = (r : EReal)) (d : Fin 4 → Fin 64 → EReal) (hd : ∀ a x, ∃ r : ℝ, d a x = (r : EReal)) : ∃ r : ℝ, lamE k d = (r : EReal) := by
  choose r hr using hd
  obtain ⟨q, hk⟩ := hk
  refine ⟨Real.exp (∑ x, r 0 x * r 1 x) - Real.exp (∑ x, r 2 x * r 3 x) + q, ?_⟩
  unfold lamE
  rw [EReal.coe_add, EReal.coe_sub, ← exp_real, ← exp_real, coe_sum, coe_sum, hk]
  simp only [hr, EReal.coe_mul]

theorem one_f32 : Ideal.ofBits .f32 0x3F800000#32 = 1 := by
  simp [Ideal.ofBits, Ideal.ieee]
  rw [← EReal.coe_mul]
  norm_num

/-- A head's slope. -/
def sg (h : ℕ) : EReal :=
  Ideal.exp (Ideal.ofBits .f32 0x3F317218#32 * Ideal.div (Ideal.ofBits .f32 0xC1000000#32 * (Ideal.ofBits .f32 0x3F800000#32 + (((BitVec.ofNat 32 h).toInt : ℝ) : EReal))) (Ideal.ofBits .f32 0x40800000#32))

/-- The same as a real number. -/
def sgR (h : ℕ) : ℝ := (sg h).toReal

theorem sg_eq (h : ℕ) : sg h = ((sgR h : ℝ) : EReal) := by
  have e1 : ∃ r : ℝ, Ideal.ofBits .f32 0x3F317218#32 = (r : EReal) := by
    simp [Ideal.ofBits, Ideal.ieee]
    exact ⟨_, (EReal.coe_mul _ _).symm⟩
  have e2 : ∃ r : ℝ, Ideal.ofBits .f32 0xC1000000#32 = (r : EReal) := by
    refine ⟨-8, ?_⟩
    simp [Ideal.ofBits, Ideal.ieee]
    rw [← EReal.coe_mul]
    norm_num
  have e3 : ∃ r : ℝ, Ideal.ofBits .f32 0x3F800000#32 = (r : EReal) := by
    exact ⟨1, one_f32⟩
  have e4 : Ideal.ofBits .f32 0x40800000#32 = ((4 : ℝ) : EReal) := by
    simp [Ideal.ofBits, Ideal.ieee]
    rw [← EReal.coe_mul]
    norm_num
  obtain ⟨r1, e1⟩ := e1
  obtain ⟨r2, e2⟩ := e2
  obtain ⟨r3, e3⟩ := e3
  have h0 : ((4 : ℝ) : EReal) ≠ 0 := by
    rw [← EReal.coe_zero]
    exact fun h => by norm_num at h
  unfold sgR
  rw [sg, e1, e2, e3, e4]
  unfold Ideal.div
  rw [if_neg h0, ← EReal.coe_inv, ← EReal.coe_add, ← EReal.coe_mul, ← EReal.coe_mul, ← EReal.coe_mul, exp_real, EReal.toReal_coe]

/-- The values are real numbers. -/
def Fine (X : Inp) : Prop := ∀ r c : ℕ, 4096 ≤ c → Xe X r c = ((Xr X r c : ℝ) : EReal)

theorem fine_of (X : Inp) (h1 : ∀ (r : Fin 16384) (c : Fin 4608), 4096 ≤ c.val → max (X (ix2 r c)) (-(X (ix2 r c))) < (⊤ : EReal)) : Fine X := by
  intro r c hc
  by_cases hr : r < 16384 ∧ c < 4608
  · have hlt := h1 ⟨r, hr.1⟩ ⟨c, hr.2⟩ hc
    rw [Xe_eq X] at hlt
    exact coe_of _ hlt
  · have h0 : Xe X r c = 0 := dif_neg hr
    unfold Xr
    rw [h0]
    simp

/-- Row `t`'s scaled products in sequence `b`, head `p`, half `e`. -/
def pD (X : Inp) (b p e t s : ℕ) : EReal :=
  (∑ x : Fin 64, Xe X (b * 2048 + t) (3072 + (p * 128 + e * 64 + x.val)) * Xe X (b * 2048 + s) (3584 + (p * 128 + e * 64 + x.val))) * ((1 / 8 : ℝ) : EReal)

/-- Row `t`'s scores: with the slope by the key's place. -/
def zD (X : Inp) (b p e t s : ℕ) : EReal := pD X b p e t s + ((sgR p * s : ℝ) : EReal)

/-- The same under the mask. -/
def sD (X : Inp) (b p e t : ℕ) : ℕ → EReal := zm (zD X b p e t) t

/-- A lane of the values in sequence `b`. -/
def vD (X : Inp) (b l s : ℕ) : EReal := Xe X (b * 2048 + s) (4096 + l)

/-- A row's difference of the two attentions, at a lane of the head: each weighted sum over its weights' sum. -/
def dA (X : Inp) (L : EReal) (b p t : ℕ) (l : Fin 128) : EReal :=
  quo (sD X b p 0 t) (vD X b (p * 128 + l.val)) 2048 - L * quo (sD X b p 1 t) (vD X b (p * 128 + l.val)) 2048

/-- The attention with the difference of the weights. -/
def dR (X : Inp) (L : EReal) (b p t : ℕ) (l : Fin 128) : EReal :=
  ∑ s ∈ Finset.range 2048, (wt (sD X b p 0 t) s - L * wt (sD X b p 1 t) s) * vD X b (p * 128 + l.val) s

/-- A row over its root mean square, times the gain and the scale `w`. -/
def nrm (w : BitVec 32) (d : Fin 128 → EReal) (g : EReal) (l : Fin 128) : EReal :=
  d l * Ideal.rsqrt (Ideal.div (∑ x : Fin 128, d x * d x) (Ideal.ofBits .f32 0x43000000#32) + Ideal.ofBits .f32 0x358637BD#32) * g * Ideal.ofBits .f32 w

/-- Zero or an infinity. -/
def Ext (a : EReal) : Prop := a = 0 ∨ a = ⊤ ∨ a = ⊥

theorem ext_add (a b : EReal) (ha : Ext a) (hb : Ext b) : Ext (a + b) := by
  unfold Ext at *
  rcases ha with rfl | rfl | rfl <;> rcases hb with rfl | rfl | rfl <;> simp

theorem ext_sum (S : Finset ℕ) (f : ℕ → EReal) (h : ∀ s ∈ S, Ext (f s)) : Ext (∑ s ∈ S, f s) := by
  classical
  induction S using Finset.induction_on with
  | empty => exact Or.inl rfl
  | insert a S ha ih =>
    rw [Finset.sum_insert ha]
    exact ext_add _ _ (h a (Finset.mem_insert_self _ _)) (ih fun s hs => h s (Finset.mem_insert_of_mem hs))

/-- An infinity times a number. -/
theorem inf_mul (e : EReal) (he : e = ⊤ ∨ e = ⊥) (v : ℝ) : Ext (e * v) := by
  unfold Ext
  rcases lt_trichotomy v 0 with h | rfl | h
  · rcases he with rfl | rfl
    · exact Or.inr (Or.inr (EReal.top_mul_coe_of_neg h))
    · exact Or.inr (Or.inl (EReal.bot_mul_coe_of_neg h))
  · exact Or.inl (by rw [EReal.coe_zero, mul_zero])
  · rcases he with rfl | rfl
    · exact Or.inr (Or.inl (EReal.top_mul_coe_of_pos h))
    · exact Or.inr (Or.inr (EReal.bot_mul_coe_of_pos h))

theorem n128 : Ideal.ofBits .f32 0x43000000#32 = ((128 : ℝ) : EReal) := by
  simp [Ideal.ofBits, Ideal.ieee]
  rw [← EReal.coe_mul]
  norm_num

theorem eps_real : ∃ r : ℝ, Ideal.ofBits .f32 0x358637BD#32 = (r : EReal) := by
  simp [Ideal.ofBits, Ideal.ieee]
  exact ⟨_, (EReal.coe_mul _ _).symm⟩

/-- A row of zeros and infinities is zero after it is normalised. -/
theorem nrm_ext (w : BitVec 32) (d : Fin 128 → EReal) (g : EReal) (l : Fin 128) (h : ∀ x, Ext (d x)) : nrm w d g l = 0 := by
  unfold nrm
  by_cases h0 : d l = 0
  · rw [h0, zero_mul, zero_mul, zero_mul]
  have hl : d l * d l = ⊤ := by
    rcases h l with e | e | e
    · exact absurd e h0
    · rw [e, EReal.top_mul_top]
    · rw [e, EReal.bot_mul_bot]
  have hn : ∀ x, 0 ≤ d x * d x := by
    intro x
    rcases h x with e | e | e <;> rw [e] <;> simp
  have hs : ∑ x : Fin 128, d x * d x = ⊤ :=
    top_le_iff.mp (hl ▸ Finset.single_le_sum (f := fun x => d x * d x) (fun x _ => hn x) (Finset.mem_univ l))
  obtain ⟨r, hr⟩ := eps_real
  have h1 : ((128 : ℝ) : EReal) ≠ 0 := by
    rw [← EReal.coe_zero]
    exact fun h => by norm_num at h
  have hq : Ideal.div ⊤ ((128 : ℝ) : EReal) = ⊤ := by
    unfold Ideal.div
    rw [if_neg h1, ← EReal.coe_inv]
    exact EReal.top_mul_coe_of_pos (by norm_num)
  rw [hs, n128, hq, hr, EReal.top_add_coe, show Ideal.rsqrt ⊤ = 0 from rfl, mul_zero, zero_mul, zero_mul]

/-- A number less a number times an infinity, the factor not zero. -/
theorem sub_inf (L : ℝ) (hL : L ≠ 0) : ∃ e : EReal, (e = ⊤ ∨ e = ⊥) ∧ ∀ a : ℝ, (a : EReal) - (L : EReal) * ⊥ = e := by
  rcases lt_or_gt_of_ne hL with h | h
  · exact ⟨⊥, Or.inr rfl, fun a => by rw [EReal.coe_mul_bot_of_neg h, EReal.sub_top]⟩
  · exact ⟨⊤, Or.inl rfl, fun a => by rw [EReal.coe_mul_bot_of_pos h, EReal.coe_sub_bot]⟩

/-- The difference of the quotients and the sum with the difference of the weights are the same after they are normalised: in
    rows of numbers because they are equal, and otherwise because all lanes are zeros and infinities. -/
theorem row_eq (X : Inp) (hX : Fine X) (L : EReal) (hL : ∃ r : ℝ, L = (r : EReal)) (b p t : ℕ) (w : BitVec 32) (g : EReal) (l : Fin 128) :
    nrm w (dA X L b p t) g l = nrm w (dR X L b p t) g l := by
  obtain ⟨L', rfl⟩ := hL
  have hv : ∀ (x : Fin 128) (s : ℕ), vD X b (p * 128 + x.val) s = ((Xr X (b * 2048 + s) (4096 + (p * 128 + x.val)) : ℝ) : EReal) := fun x s => hX _ _ (by omega)
  have far : ∀ e : EReal, (e = ⊤ ∨ e = ⊥) → (∀ x, dA X L' b p t x = e) → (∀ s, s < 2048 → wt (sD X b p 0 t) s - L' * wt (sD X b p 1 t) s = e) →
      nrm w (dA X L' b p t) g l = nrm w (dR X L' b p t) g l := by
    intro e he h1 h2
    rw [nrm_ext w (dA X L' b p t) g l (fun x => by rw [h1]; exact Or.inr he), nrm_ext w (dR X L' b p t) g l fun x => ?_]
    refine ext_sum _ _ fun s hs => ?_
    rw [h2 s (Finset.mem_range.mp hs), hv]
    exact inf_mul e he _
  by_cases g1 : Good (sD X b p 0 t)
  · obtain ⟨w1, h1, q1⟩ := good_wt _ g1
    by_cases g2 : Good (sD X b p 1 t)
    · obtain ⟨w2, h2, q2⟩ := good_wt _ g2
      congr 1
      funext x
      unfold dA dR
      rw [q1 _ _ (hv x), q2 _ _ (hv x), ← EReal.coe_mul, ← EReal.coe_sub, Finset.mul_sum, ← Finset.sum_sub_distrib, coe_sum]
      refine Finset.sum_congr rfl fun s hs => ?_
      rw [h1 s (Finset.mem_range.mp hs), h2 s (Finset.mem_range.mp hs), hv, ← EReal.coe_mul, ← EReal.coe_sub, ← EReal.coe_mul, EReal.coe_eq_coe_iff]
      ring
    · by_cases h0 : L' = 0
      · subst h0
        congr 1
        funext x
        unfold dA dR
        rw [q1 _ _ (hv x), EReal.coe_zero, zero_mul, sub_zero, coe_sum]
        refine Finset.sum_congr rfl fun s hs => ?_
        rw [h1 s (Finset.mem_range.mp hs), hv, zero_mul, sub_zero, EReal.coe_mul]
      · obtain ⟨e, he, hs⟩ := sub_inf L' h0
        refine far e he (fun x => ?_) (fun s h => ?_)
        · unfold dA
          rw [q1 _ _ (hv x), bad_quo _ _ g2]
          exact hs _
        · rw [h1 s h, bad_wt _ g2 s h]
          exact hs _
  · refine far ⊥ (Or.inr rfl) (fun x => ?_) (fun s h => ?_)
    · unfold dA
      rw [bad_quo _ _ g1, EReal.bot_sub]
    · rw [bad_wt _ g1 s h, EReal.bot_sub]

end Cert.Diff
end
-- ==== Proof.Diff.Row.lean ====
/- One key block of the differential attention at one row: the maximum, the sum of the weights and the accumulator after it,
   from those before it. -/
module

public import proofs.«01_k».proof.Proof.Diff.Body
public import proofs.«01_k».proof.Proof.Diff.Inp

@[expose] public section

set_option maxRecDepth 16384

noncomputable section

namespace Cert.Diff
open Cert.Fox Cert.DiffKernelIdeal Cert.DiffKernelIdeal.Gen Idealize.ShloMosaic Idealize.ShloMosaic.TcCoe Idealize.ShloMosaic.Tactic Idealize.SL.Sem

section
variable (i : grid0.Coords) (v0 : BitVec 32) (q : FVec Ideal S256x128 .bf16) (w : Sl) (k : Fin (k0_t1_loop i).trips) (kb vb : Vec Ideal S256x128 .bf16) (s : Scr) (ζ v : ℕ → EReal) (n : ℕ) (R : Fin 256)
  (hz : ∀ c : Fin 256, k0_pay1 (F := Ideal) i v0 q (k0_pay20 w) 0#32 1#32 k kb (ix2 R c) = ζ (n + c.val))

/-- A key's score before the mask: the product, and the slope by the distance from the block's first row. -/
theorem score_at (c : Fin 256) (σ : EReal) (hw : ∀ l : Fin 128, w (ix3 0 0 l) = σ) (R : Fin 256) (n : ℤ)
    (hn : (IntOp.addi (Scalar.subi (Scalar.muli (Scf.iv 0#32 1#32 k.val) 256#32) v0) (BitVec.ofNat 32 c.val)).toInt = n) :
    k0_pay1 (F := Ideal) i v0 q (k0_pay20 w) 0#32 1#32 k kb (ix2 R c) = ∑ x : Fin 128, q (ix2 R x) * kb (ix2 c x) + σ * ((n : ℝ) : EReal) := by
  pointwise [k0_pay1, k0_pay20]
  simp only [hw]
  rw [← hn]
  split <;> rfl

theorem score_diag_at (v17 : BitVec 32) (c : Fin 256) (σ : EReal) (hw : ∀ l : Fin 128, w (ix3 0 0 l) = σ) (R : Fin 256) (n : ℤ)
    (hn : (IntOp.addi (Scalar.subi (Scalar.muli v17 256#32) v0) (BitVec.ofNat 32 c.val)).toInt = n) :
    k0_pay25 (F := Ideal) v0 v17 q w kb (ix2 R c) = ∑ x : Fin 128, q (ix2 R x) * kb (ix2 c x) + σ * ((n : ℝ) : EReal) := by
  pointwise [k0_pay25, k0_pay20]
  simp only [hw]
  rw [← hn]
  split <;> rfl

include hz in
/-- The maximum after a block. -/
theorem step_mx (hm : ∀ l : Fin 128, s.1 (ix2 R l) = mx ζ n) (l : Fin 128) : k0_pay2 (F := Ideal) i v0 q (k0_pay20 w) 0#32 1#32 k kb s.1 (ix2 R l) = mx ζ (n + 256) := by
  pointwise [k0_pay2]
  rw [hm]
  exact mx_step ζ n _ hz

include hz in
/-- The weights of a block. -/
theorem step_p (hm : ∀ l : Fin 128, s.1 (ix2 R l) = mx ζ n) (c : Fin 256) :
    k0_pay4 (F := Ideal) i v0 q (k0_pay20 w) 0#32 1#32 k kb s.1 (ix2 R c) = Ideal.exp (ζ (n + c.val) - mx ζ (n + 256)) := by
  pointwise [k0_pay4]
  rw [hz]
  split <;> rw [step_mx i v0 q w k kb s ζ n R hz hm]

include hz in
/-- The factor of what was there before. -/
theorem step_alpha (hm : ∀ l : Fin 128, s.1 (ix2 R l) = mx ζ n) (l : Fin 128) :
    k0_pay3 (F := Ideal) i v0 q (k0_pay20 w) 0#32 1#32 k kb s.1 (ix2 R l) = Ideal.exp (mx ζ n - mx ζ (n + 256)) := by
  pointwise [k0_pay3]
  rw [step_mx i v0 q w k kb s ζ n R hz hm, hm]

include hz in
/-- The scratch contents after a block before the diagonal. -/
theorem step_val (hm : ∀ l : Fin 128, s.1 (ix2 R l) = mx ζ n) (hl : ∀ l : Fin 128, s.2.1 (ix2 R l) = ln ζ n) (l : Fin 128)
    (ha : s.2.2 (ix2 R l) = an ζ v n) (hv : ∀ c : Fin 256, vb (ix2 c l) = v (n + c.val)) :
    (stepS i v0 q w k kb vb s).1 (ix2 R l) = mx ζ (n + 256) ∧ (stepS i v0 q w k kb vb s).2.1 (ix2 R l) = ln ζ (n + 256)
    ∧ (stepS i v0 q w k kb vb s).2.2 (ix2 R l) = an ζ v (n + 256) := by
  unfold stepS
  refine ⟨?_, ?_, ?_⟩
  · pointwise [k0_pay22]
    exact step_mx i v0 q w k kb s ζ n R hz hm l
  · pointwise [k0_pay5]
    rw [step_alpha i v0 q w k kb s ζ n R hz hm, hl, ← ln_next ζ n]
    simp only [step_p i v0 q w k kb s ζ n R hz hm]
  · pointwise [k0_pay21, k0_pay6, k0_pay7]
    rw [step_alpha i v0 q w k kb s ζ n R hz hm, ha, ← an_next ζ v n]
    simp only [step_p i v0 q w k kb s ζ n R hz hm, hv]

end

section
variable (S : FVec Ideal S256x256 .f32) (w : BitVec 32) (x y : IVec S256x256 32) (vb : Vec Ideal S256x128 .bf16) (m : RB) (ζ v : ℕ → EReal) (n : ℕ) (R : Fin 256)
  (hz : ∀ c : Fin 256, k0_pay27 (F := Ideal) S w x y (ix2 R c) = ζ (n + c.val))
  (hm : ∀ l : Fin 128, m (ix2 R l) = mx ζ n)

include hz hm in
theorem last_mx (l : Fin 128) : k0_pay28 (F := Ideal) S w x y m (ix2 R l) = mx ζ (n + 256) := by
  pointwise [k0_pay28]
  rw [hm]
  exact mx_step ζ n _ hz

include hz hm in
theorem last_p (c : Fin 256) : k0_pay30 (F := Ideal) S w x y m (ix2 R c) = Ideal.exp (ζ (n + c.val) - mx ζ (n + 256)) := by
  pointwise [k0_pay30]
  rw [hz]
  split <;> rw [last_mx S w x y m ζ n R hz hm]

include hz hm in
theorem last_alpha (l : Fin 128) : k0_pay29 (F := Ideal) S w x y m (ix2 R l) = Ideal.exp (mx ζ n - mx ζ (n + 256)) := by
  pointwise [k0_pay29]
  rw [last_mx S w x y m ζ n R hz hm, hm]

include hz hm in
/-- The sum of the weights after the block on the diagonal. -/
theorem last_ln (L : RB) (l : Fin 128) (hl : L (ix2 R l) = ln ζ n) : k0_pay31 (F := Ideal) S w x y m L (ix2 R l) = ln ζ (n + 256) := by
  pointwise [k0_pay31]
  rw [last_alpha S w x y m ζ n R hz hm, hl, ← ln_next ζ n]
  simp only [last_p S w x y m ζ n R hz hm]

include hz hm in
/-- The accumulator after the block on the diagonal. -/
theorem last_an (A : RB) (l : Fin 128) (ha : A (ix2 R l) = an ζ v n) (hv : ∀ c : Fin 256, vb (ix2 c l) = v (n + c.val)) :
    k0_pay32 (F := Ideal) S w x y vb m A (ix2 R l) = an ζ v (n + 256) := by
  pointwise [k0_pay32]
  rw [last_alpha S w x y m ζ n R hz hm, ha, ← an_next ζ v n]
  simp only [last_p S w x y m ζ n R hz hm, hv]

end

end Cert.Diff
end
-- ==== Proof.Diff.KerVal.lean ====
/- The differential attention's kernel at one index of its output block: the recursion over the key blocks summed up. -/
module

public import proofs.«01_k».proof.Proof.Diff.Row
public import proofs.«01_k».proof.Proof.Diff.Inp

@[expose] public section

set_option maxRecDepth 16384

noncomputable section

namespace Cert.Diff
open Cert.Fox Cert.DiffKernelIdeal Cert.DiffKernelIdeal.Gen Idealize.ShloMosaic Idealize.ShloMosaic.TcCoe Idealize.ShloMosaic.Tactic Idealize.SL.Sem

theorem v0_eq (i : grid0.Coords) : run.sl.v0 i = BitVec.ofNat 32 (128 * (i 2).val) := by
  unfold run.sl.v0
  generalize i 2 = x
  revert x
  decide +kernel

theorem v17_eq (i : grid0.Coords) : run.sl.v17 i = BitVec.ofNat 32 ((i 2).val / 2) := by
  unfold run.sl.v17
  sl_unfold_words
  generalize i 2 = x
  revert x
  decide +kernel

theorem t1_trips (i : grid0.Coords) : (k0_t1_loop i).trips = (i 2).val / 2 := by
  unfold k0_t1_loop
  generalize i 2 = x
  revert x
  decide +kernel

theorem t2_trips (i : grid0.Coords) : (k0_t2_loop i).trips = 0 := by
  unfold k0_t2_loop
  generalize i 2 = x
  revert x
  decide +kernel

theorem off3_eq (i : grid0.Coords) : k0_off3 i = ![(i 2).val / 2 * 256, 0] := by
  unfold k0_off3
  generalize i 2 = x
  revert x
  decide +kernel

theorem off1_eq (i : grid0.Coords) (k : Fin (k0_t1_loop i).trips) : k0_off1 i k = ![k.val * 256, 0] := by
  have h16 : (i 2).val < 16 := (i 2).isLt
  have hk : k.val < (i 2).val / 2 := lt_of_lt_of_eq k.isLt (t1_trips i)
  have h8 : k.val < 8 := by omega
  unfold k0_off1
  generalize k.val = n at *
  lift n to Fin 8 using h8
  clear h16
  generalize i 2 = x at *
  revert hk
  clear k
  revert n x
  decide +kernel

/-- A row of the scaled queries: its own head's lanes, the other head's zero. -/
theorem pay15_at (x0 : FVec Ideal S128x128 .bf16) (R : Fin 256) (c : Fin 128) :
    k0_pay15 (F := Ideal) x0 (ix2 R c) = if R.val / 128 = c.val / 64 then x0 (ix2 ⟨R.val % 128, Nat.mod_lt _ (by omega)⟩ c) * ((1 / 8 : ℝ) : EReal) else 0 := by
  pointwise [k0_pay15]
  simp only [eighth_bf16]
  have h64 : (64#32 : BitVec 32) = BitVec.ofNat 32 64 := rfl
  rw [h64]
  by_cases hR : R.val < 128
  · rw [dif_pos hR, sel_lt _ _ (by omega) (by omega)]
    by_cases hc : c.val < 64
    · rw [if_pos hc, if_pos (by omega)]
      congr 3
      exact Fin.ext (by dsimp only; omega)
    · rw [if_neg hc, if_neg (by omega)]
  · rw [dif_neg hR, sel_ge _ _ (by omega) (by omega)]
    by_cases hc : 64 ≤ c.val
    · refine (if_pos hc).trans (Eq.trans ?_ (if_pos (by omega)).symm)
      exact congrArg (fun r => x0 (ix2 r c) * ((1 / 8 : ℝ) : EReal)) (Fin.ext (by dsimp only; omega))
    · exact (if_neg hc).trans (if_neg (by omega)).symm

/-- A key block, at an index. -/
theorem blkAt_at (i : grid0.Coords) (x : Vec Ideal S2048x128 .bf16) (k : Fin (k0_t1_loop i).trips) (c : Fin 256) (l : Fin 128) :
    blkAt i x k (ix2 c l) = x (ix2 ⟨k.val * 256 + c.val, by have : (i 2).val < 16 := (i 2).isLt; have := lt_of_lt_of_eq k.isLt (t1_trips i); omega⟩ l) := by
  unfold blkAt
  refine congrArg x (funext fun a => Fin.ext ?_)
  have h0 := congrFun (off1_eq i k) a
  match a, h0 with
  | ⟨0, _⟩, h0 =>
    have h0 : k0_off1 i k 0 = k.val * 256 := h0
    show k0_off1 i k 0 + 1 * c.val = k.val * 256 + c.val
    rw [h0, one_mul]
  | ⟨1, _⟩, h0 =>
    have h0 : k0_off1 i k 1 = 0 := h0
    show k0_off1 i k 1 + 1 * l.val = l.val
    rw [h0]; omega

theorem blkDiag_at (i : grid0.Coords) (x : Vec Ideal S2048x128 .bf16) (c : Fin 256) (l : Fin 128) :
    blkDiag i x (ix2 c l) = x (ix2 ⟨(i 2).val / 2 * 256 + c.val, by have : (i 2).val < 16 := (i 2).isLt; omega⟩ l) := by
  unfold blkDiag
  refine congrArg x (funext fun a => Fin.ext ?_)
  have h0 := congrFun (off3_eq i) a
  match a, h0 with
  | ⟨0, _⟩, h0 =>
    have h0 : k0_off3 i 0 = (i 2).val / 2 * 256 := h0
    show k0_off3 i 0 + 1 * c.val = (i 2).val / 2 * 256 + c.val
    rw [h0, one_mul]
  | ⟨1, _⟩, h0 =>
    have h0 : k0_off3 i 1 = 0 := h0
    show k0_off3 i 1 + 1 * l.val = l.val
    rw [h0]; omega

/-- A block's first key, less the rows' first. -/
theorem rel_int (n k c : ℕ) (hn : n < 16) (hk : k < 8) (hc : c < 256) :
    (IntOp.addi (Scalar.subi (Scalar.muli (BitVec.ofNat 32 k) 256#32) (BitVec.ofNat 32 (128 * n))) (BitVec.ofNat 32 c)).toInt = ((k * 256 + c : ℕ) : ℤ) - ((n * 128 : ℕ) : ℤ) := by
  have e : IntOp.addi (Scalar.subi (Scalar.muli (BitVec.ofNat 32 k) 256#32) (BitVec.ofNat 32 (128 * n))) (BitVec.ofNat 32 c) = BitVec.ofNat 32 (k * 256 + c) - BitVec.ofNat 32 (n * 128) := by
    show BitVec.ofNat 32 k * BitVec.ofNat 32 256 - BitVec.ofNat 32 (128 * n) + BitVec.ofNat 32 c = _
    rw [← BitVec.ofNat_mul, BitVec.ofNat_add, mul_comm 128 n]
    generalize BitVec.ofNat 32 (k * 256) = x
    generalize BitVec.ofNat 32 (n * 128) = y
    generalize BitVec.ofNat 32 c = z
    bv_omega
  rw [e, BitVec.toInt_sub, BitVec.toInt_ofNat', BitVec.toInt_ofNat']
  simp only [Int.bmod]
  omega

theorem iv_eq (k : ℕ) (hk : k < 8) : Scf.iv 0#32 1#32 k = BitVec.ofNat 32 k := by
  lift k to Fin 8 using hk
  revert k
  decide +kernel

/-- The block on the diagonal, under the mask. -/
theorem mask_at (i : grid0.Coords) (S : FVec Ideal S256x256 .f32) (R c : Fin 256) :
    k0_pay27 (F := Ideal) S (run.sl.v64 i) (run.sl.r_3 i) run.sl.v73 (ix2 R c)
      = if (i 2).val / 2 * 256 + c.val ≤ (i 2).val * 128 + R.val % 128 then S (ix2 R c) else ⊥ := by
  have h16 : (i 2).val < 16 := (i 2).isLt
  unfold run.sl.v64 run.sl.r_3 run.sl.v73
  rw [v0_eq, v17_eq]
  pointwise [k0_pay27, k0_pay26]
  have hR : ∀ R : Fin 256, Scalar.select (IntOp.cmpi .sge (BitVec.ofNat 32 R.val) 128#32) (IntOp.subi (BitVec.ofNat 32 R.val) 128#32) (BitVec.ofNat 32 R.val)
      = BitVec.ofNat 32 (R.val % 128) := by decide +kernel
  have hm : IntOp.addi (Scalar.muli (BitVec.ofNat 32 ((i 2).val / 2)) 256#32) (BitVec.ofNat 32 c.val) = BitVec.ofNat 32 ((i 2).val / 2 * 256 + c.val) := by
    rw [BitVec.ofNat_add, BitVec.ofNat_mul]; rfl
  have ha : IntOp.addi (BitVec.ofNat 32 (128 * (i 2).val)) (BitVec.ofNat 32 (R.val % 128)) = BitVec.ofNat 32 ((i 2).val * 128 + R.val % 128) := by
    rw [BitVec.ofNat_add, mul_comm]; rfl
  rw [hR, hm, ha, WordCmp.cmpi_sle_ofNat (by omega) (by omega), sel_bool]
  rfl

/-- The output block: the two halves' difference, normalised. -/
theorem fin_at (x4 : Vec Ideal S1x4x64 .f32) (a l : FVec Ideal S256x128 .f32) (x5 : Vec Ideal S1x128 .f32) (R c : Fin 128) :
    k0_pay34 (F := Ideal) x4 a l x5 (ix2 R c)
      = nrm 0x3F4CCCCD#32 (fun x => Ideal.div (a (ix2 ⟨R.val, by omega⟩ x)) (l (ix2 ⟨R.val, by omega⟩ x))
          - (lamE 0x3E4CCCCD#32 fun e y => x4 (ix3 0 e y)) * Ideal.div (a (ix2 ⟨128 + R.val, by omega⟩ x)) (l (ix2 ⟨128 + R.val, by omega⟩ x))) (x5 (ix2 0 c)) c := by
  pointwise [k0_pay34]
  rfl

section
variable (X : Inp) (i : grid0.Coords) (b p : ℕ) (hp : p < 4) (x0 : Vec Ideal S128x128 .bf16) (x1 x2 : Vec Ideal S2048x128 .bf16) (x3 : Sl)
  (h0 : ∀ R l : Fin 128, x0 (ix2 R l) = Xe X (b * 2048 + ((i 2).val * 128 + R.val)) (3072 + (p * 128 + l.val)))
  (h1 : ∀ (s : Fin 2048) (l : Fin 128), x1 (ix2 s l) = Xe X (b * 2048 + s.val) (3584 + (p * 128 + l.val)))
  (h2 : ∀ (s : Fin 2048) (l : Fin 128), x2 (ix2 s l) = Xe X (b * 2048 + s.val) (4096 + (p * 128 + l.val)))
  (h3 : ∀ l : Fin 128, x3 (ix3 0 0 l) = sg p)

include h0 h1 in
/-- The kernel's scaled products: those over all lanes are those over the half's own. -/
theorem logit (R : Fin 256) (s : Fin 2048) :
    (∑ x : Fin 128, k0_pay15 (F := Ideal) x0 (ix2 R x) * x1 (ix2 s x))
      = pD X b p (R.val / 128) ((i 2).val * 128 + R.val % 128) s.val := by
  have hR := R.isLt
  rw [Fin.sum_univ_two_halves 64 64 rfl]
  unfold pD
  rw [mul_comm (∑ x : Fin 64, _), mul_sum_nonneg _ _ (by exact_mod_cast (by norm_num : (0 : ℝ) ≤ 1 / 8)) (EReal.coe_ne_top _)]
  have hterm : ∀ x : Fin 128, R.val / 128 = x.val / 64 → k0_pay15 (F := Ideal) x0 (ix2 R x) * x1 (ix2 s x)
      = ((1 / 8 : ℝ) : EReal) * (Xe X (b * 2048 + ((i 2).val * 128 + R.val % 128)) (3072 + (p * 128 + x.val)) * Xe X (b * 2048 + s.val) (3584 + (p * 128 + x.val))) := by
    intro x hx
    rw [pay15_at, if_pos hx, h0, h1, mul_right_comm, mul_comm]
  have hzero : ∀ x : Fin 128, R.val / 128 ≠ x.val / 64 → k0_pay15 (F := Ideal) x0 (ix2 R x) * x1 (ix2 s x) = 0 := by
    intro x hx
    rw [pay15_at, if_neg hx, zero_mul]
  rcases Nat.lt_or_ge R.val 128 with h | h
  · rw [Finset.sum_eq_zero (f := fun k : Fin 64 => k0_pay15 (F := Ideal) x0 (ix2 R ⟨64 + k.val, _⟩) * x1 (ix2 s ⟨64 + k.val, _⟩)) (fun k _ => hzero _ (by dsimp only; omega)), add_zero]
    refine Finset.sum_congr rfl fun k _ => ?_
    rw [hterm ⟨k.val, by omega⟩ (by dsimp only; omega), show R.val / 128 = 0 by omega]
    rw [show p * 128 + 0 * 64 + k.val = p * 128 + k.val by omega]
  · rw [Finset.sum_eq_zero (f := fun k : Fin 64 => k0_pay15 (F := Ideal) x0 (ix2 R ⟨k.val, _⟩) * x1 (ix2 s ⟨k.val, _⟩)) (fun k _ => hzero _ (by dsimp only; omega)), zero_add]
    refine Finset.sum_congr rfl fun k _ => ?_
    rw [hterm ⟨64 + k.val, by omega⟩ (by dsimp only; omega), show R.val / 128 = 1 by omega]
    rw [show p * 128 + 1 * 64 + k.val = p * 128 + (64 + k.val) by omega]

/-- The kernel's score of a key: the slope by the distance from the block's first row. -/
def zK (R : Fin 256) (s : ℕ) : EReal := pD X b p (R.val / 128) ((i 2).val * 128 + R.val % 128) s + ((sgR p * ((s : ℝ) - (((i 2).val * 128 : ℕ) : ℝ)) : ℝ) : EReal)

/-- The scores of a row of the block, under the mask. -/
abbrev rowS (R : Fin 256) : ℕ → EReal := zm (zK X i b p R) ((i 2).val * 128 + R.val % 128)

/-- They are the row's scores and a number added to all. -/
theorem rowS_eq (R : Fin 256) (s : ℕ) :
    rowS X i b p R s = sD X b p (R.val / 128) ((i 2).val * 128 + R.val % 128) s + ((-(sgR p * (((i 2).val * 128 : ℕ) : ℝ)) : ℝ) : EReal) := by
  unfold rowS sD zm zK zD
  by_cases hs : s ≤ (i 2).val * 128 + R.val % 128
  · rw [if_pos hs, if_pos hs, add_assoc, ← EReal.coe_add]
    congr 2
    ring
  · rw [if_neg hs, if_neg hs, EReal.bot_add]

include h0 h1 in
/-- The kernel's scores. -/
theorem score (R : Fin 256) (s : Fin 2048) :
    (∑ x : Fin 128, k0_pay15 (F := Ideal) x0 (ix2 R x) * x1 (ix2 s x)) + sg p * ((((s.val : ℤ) - (((i 2).val * 128 : ℕ) : ℤ) : ℤ) : ℝ) : EReal)
      = zK X i b p R s.val := by
  rw [logit X i b p x0 x1 h0 h1 R s, sg_eq, ← EReal.coe_mul]
  unfold zK
  push_cast
  rfl

include h0 h1 h2 h3 in
/-- The scratch contents before trip `k`: the first `k` key blocks taken in. -/
theorem st_val (R : Fin 256) (k : ℕ) (hk : k ≤ (i 2).val / 2) (l : Fin 128) :
    (st i (run.sl.v0 i) (k0_pay15 (F := Ideal) x0) x3 x1 x2 st0 k).1 (ix2 R l) = mx (rowS X i b p R) (k * 256)
    ∧ (st i (run.sl.v0 i) (k0_pay15 (F := Ideal) x0) x3 x1 x2 st0 k).2.1 (ix2 R l) = ln (rowS X i b p R) (k * 256)
    ∧ (st i (run.sl.v0 i) (k0_pay15 (F := Ideal) x0) x3 x1 x2 st0 k).2.2 (ix2 R l) = an (rowS X i b p R) (vD X b (p * 128 + l.val)) (k * 256) := by
  have h16 : (i 2).val < 16 := (i 2).isLt
  have hR := R.isLt
  induction k generalizing l with
  | zero =>
    refine ⟨?_, ?_, ?_⟩
    · show k0_pay16 (F := Ideal) (ix2 R l) = _
      pointwise [k0_pay16]
      refine Eq.trans (show _ = (⊥ : EReal) from rfl) ?_
      simp [mx]
    · show k0_pay18 (F := Ideal) (k0_pay17 (F := Ideal)) (ix2 R l) = _
      pointwise [k0_pay18, k0_pay17]
      simp [ln]
    · show k0_pay19 (F := Ideal) (ix2 R l) = _
      pointwise [k0_pay19]
      simp [an]
  | succ k ih =>
    have hk' : k < (k0_t1_loop i).trips := by rw [t1_trips]; omega
    have ih := ih (by omega)
    have hk8 : k < 8 := by omega
    have hz : ∀ c : Fin 256, k0_pay1 (F := Ideal) i (run.sl.v0 i) (k0_pay15 (F := Ideal) x0) (k0_pay20 x3) 0#32 1#32 ⟨k, hk'⟩ (blkAt i x1 ⟨k, hk'⟩) (ix2 R c) = rowS X i b p R (k * 256 + c.val) := by
      intro c
      rw [score_at i (run.sl.v0 i) _ x3 ⟨k, hk'⟩ _ c (sg p) h3 R (((k * 256 + c.val : ℕ) : ℤ) - (((i 2).val * 128 : ℕ) : ℤ)) (by rw [v0_eq, iv_eq k hk8]; exact rel_int _ k _ h16 hk8 c.isLt)]
      simp only [fun x => blkAt_at i x1 ⟨k, hk'⟩ c x]
      refine (score X i b p x0 x1 h0 h1 R ⟨k * 256 + c.val, _⟩).trans ?_
      exact (if_pos (by have := c.isLt; omega)).symm
    have hv : ∀ c : Fin 256, blkAt i x2 ⟨k, hk'⟩ (ix2 c l) = vD X b (p * 128 + l.val) (k * 256 + c.val) := by
      intro c
      rw [blkAt_at i x2 ⟨k, hk'⟩ c l, h2]
      rfl
    simp only [st, dif_pos hk']
    rw [show (k + 1) * 256 = k * 256 + 256 by omega]
    exact step_val _ _ _ _ _ _ _ _ _ _ _ R hz (fun l => (ih l).1) (fun l => (ih l).2.1) l (ih l).2.2 hv

include h0 h1 h2 h3 in
/-- A half's row after the block on the diagonal: the weighted sum over the weights' sum. -/
theorem half_val (R : Fin 256) (c : Fin 128) :
    Ideal.div ((lastS i (k0_pay15 (F := Ideal) x0) x3 x1 x2 (stN i x0 x1 x2 x3)).2 (ix2 R c)) ((lastS i (k0_pay15 (F := Ideal) x0) x3 x1 x2 (stN i x0 x1 x2 x3)).1 (ix2 R c))
      = quo (sD X b p (R.val / 128) ((i 2).val * 128 + R.val % 128)) (vD X b (p * 128 + c.val)) 2048 := by
  have h16 : (i 2).val < 16 := (i 2).isLt
  have hR := R.isLt
  have hst := fun l => st_val X i b p x0 x1 x2 x3 h0 h1 h2 h3 R _ le_rfl l
  have hz : ∀ u : Fin 256, k0_pay27 (F := Ideal) (diagS i (k0_pay15 (F := Ideal) x0) x3 x1) (run.sl.v64 i) (run.sl.r_3 i) run.sl.v73 (ix2 R u)
      = rowS X i b p R ((i 2).val / 2 * 256 + u.val) := by
    intro u
    rw [mask_at]
    unfold diagS
    rw [score_diag_at (run.sl.v0 i) _ x3 _ (run.sl.v17 i) u (sg p) h3 R (((((i 2).val / 2 * 256 + u.val : ℕ)) : ℤ) - (((i 2).val * 128 : ℕ) : ℤ)) (by rw [v0_eq, v17_eq]; exact rel_int _ _ _ h16 (by omega) u.isLt)]
    simp only [fun x => blkDiag_at i x1 u x]
    have e := score X i b p x0 x1 h0 h1 R ⟨(i 2).val / 2 * 256 + u.val, by have := u.isLt; omega⟩
    dsimp only at e
    rw [e]
    rfl
  have hv : ∀ u : Fin 256, blkDiag i x2 (ix2 u c) = vD X b (p * 128 + c.val) ((i 2).val / 2 * 256 + u.val) := by
    intro u
    rw [blkDiag_at, h2]
    rfl
  unfold lastS stN
  rw [t1_trips]
  dsimp only
  rw [last_an _ _ _ _ _ _ _ _ _ R hz (fun l => (hst l).1) _ c (hst c).2.2 hv,
    last_ln _ _ _ _ _ _ _ R hz (fun l => (hst l).1) _ c (hst c).2.1]
  refine Eq.trans (quo_ext _ _ _ (by omega) fun s hs => zm_bot _ _ _ (by omega)) ?_
  exact quo_moved _ _ _ _ (rowS_eq X i b p R) _

include h0 h1 h2 h3 in
/-- The output block at an index. -/
theorem block_val (x4 : Vec Ideal S1x4x64 .f32) (x5 : Vec Ideal S1x128 .f32) (R c : Fin 128) :
    k0_pay34 (F := Ideal) x4 (lastS i (k0_pay15 (F := Ideal) x0) x3 x1 x2 (stN i x0 x1 x2 x3)).2 (lastS i (k0_pay15 (F := Ideal) x0) x3 x1 x2 (stN i x0 x1 x2 x3)).1 x5 (ix2 R c)
      = nrm 0x3F4CCCCD#32 (dA X (lamE 0x3E4CCCCD#32 fun e y => x4 (ix3 0 e y)) b p ((i 2).val * 128 + R.val)) (x5 (ix2 0 c)) c := by
  have hR := R.isLt
  rw [fin_at]
  refine congrArg (fun d => nrm 0x3F4CCCCD#32 d (x5 (ix2 0 c)) c) (funext fun x => ?_)
  unfold dA
  have e0 := half_val X i b p x0 x1 x2 x3 h0 h1 h2 h3 ⟨R.val, by omega⟩ x
  have e1 := half_val X i b p x0 x1 x2 x3 h0 h1 h2 h3 ⟨128 + R.val, by omega⟩ x
  rw [e0, e1]
  dsimp only
  rw [show R.val / 128 = 0 by omega, show R.val % 128 = R.val by omega, show (128 + R.val) / 128 = 1 by omega, show (128 + R.val) % 128 = R.val by omega]

end
end Cert.Diff
end
-- ==== Proof.Diff.Rmax.lean ====
/- The largest of each row of the differential attention's reference's logits. -/
module

public import proofs.«01_k».proof.Proof.Gen.DiffReferenceIdeal.Run
public import proofs.«01_k».proof.Proof.Fox.Math

@[expose] public section

set_option maxRecDepth 16384

noncomputable section

namespace Cert.Diff.Ref
open Cert.DiffReferenceIdeal Cert.DiffReferenceIdeal.Gen Cert.DiffReferenceIdeal.Value Idealize.ShloMosaic Idealize.ShloMosaic.TcCoe Idealize.ShloMosaic.Tactic Idealize.SL.Sem

abbrev Sq := FVec Ideal S8x4x2048x2048 .f32

/-- Each row's largest. -/
def rmax (z : Sq) : FVec Ideal S8x4x2048 .f32 :=
  maximumf (broadcastInDim S8x4x2048 ![] bcast_S_S8x4x2048 (constant (F := Ideal) S_ .f32 0xFF800000#32)) (Host.reduce FloatOps.maximumf z (constant (F := Ideal) S_ .f32 0xFF800000#32) reducesTo_S8x4x2048x2048_S8x4x2048_d3 h_S_)

theorem fold_max {n : ℕ} (f : Fin n → EReal) : Finset.fold max (⊥ : EReal) f Finset.univ = Finset.univ.sup f := rfl

/-- The program's largest of the last axis, at an index. -/
theorem redmax {n0 n1 n2 n3 : ℕ} (z : FVec Ideal (⟨4, ![n0, n1, n2, n3]⟩ : Shape) .f32) (i : FVec Ideal S_ .f32)
    (hr : (⟨4, ![n0, n1, n2, n3]⟩ : Shape).ReducesTo [3] (⟨3, ![n0, n1, n2]⟩ : Shape)) (hu : 0 < S_.numel) (b : Fin n0) (h : Fin n1) (t : Fin n2)
    (β : EReal) (hi : i (Shape.Idx.first hu) = β) :
    Host.reduce FloatOps.maximumf z i hr hu (ix3 b h t) = Finset.fold max β (fun s : Fin n3 => z (ix4 b h t s)) Finset.univ := by
  subst hi
  simp only [pointwise]

theorem neg_inf : Ideal.ofBits .f32 4286578688#32 = (⊥ : EReal) := by simp [Ideal.ofBits, Ideal.ieee]

theorem max_at (x : FVec Ideal S8x4x2048 .f32) (b : Fin 8) (h : Fin 4) (t : Fin 2048) :
    maximumf (broadcastInDim S8x4x2048 ![] bcast_S_S8x4x2048 (constant (F := Ideal) S_ .f32 0xFF800000#32)) x (ix3 b h t) = x (ix3 b h t) := by
  pointwise
  rw [neg_inf]
  exact max_eq_right bot_le

theorem const_at : constant (F := Ideal) S_ .f32 0xFF800000#32 (Shape.Idx.first h_S_) = (⊥ : EReal) := neg_inf

theorem rmax_at (z : Sq) (b : Fin 8) (h : Fin 4) (t : Fin 2048) : rmax z (ix3 b h t) = Finset.univ.sup fun s : Fin 2048 => z (ix4 b h t s) := by
  unfold rmax
  rw [max_at]
  have e := redmax z (constant (F := Ideal) S_ .f32 0xFF800000#32) reducesTo_S8x4x2048x2048_S8x4x2048_d3 h_S_ b h t ⊥ const_at
  rw [fold_max] at e
  exact e

end Cert.Diff.Ref
end
-- ==== Proof.Diff.Ref.lean ====
/- The differential attention's reference, by stages, and each stage read at an index. -/
module

public import proofs.«01_k».proof.Proof.Gen.DiffReferenceIdeal.Run
public import proofs.«01_k».proof.Proof.Diff.Inp
public import proofs.«01_k».proof.Proof.Diff.Rmax

@[expose] public section

set_option maxRecDepth 16384

noncomputable section

namespace Cert.Diff.Ref
open Cert.Fox Cert.DiffReferenceIdeal Cert.DiffReferenceIdeal.Gen Cert.DiffReferenceIdeal.Value Idealize.ShloMosaic Idealize.ShloMosaic.TcCoe Idealize.ShloMosaic.Tactic Idealize.SL.Sem

abbrev Hd := FVec Ideal S8x4x2048x128 .f32
abbrev Hf := FVec Ideal S8x4x2048x64 .f32

/-- The queries, by sequence and head. -/
def heads3072 (X : FVec Ideal S16384x4608 .bf16) : Hd :=
  transpose S8x4x2048x128 [0, 2, 1, 3] (shapeCast S8x2048x4x128 (extractStridedSlice S16384x512 ![0, 3072] (extf .f32 X bitsLt_bf16_f32) slices_S16384x4608_S16384x512_0_3072) shapeCasts_S16384x512_S8x2048x4x128) transposes_S8x2048x4x128_S8x4x2048x128_0_2_1_3
/-- The keys, by sequence and head. -/
def heads3584 (X : FVec Ideal S16384x4608 .bf16) : Hd :=
  transpose S8x4x2048x128 [0, 2, 1, 3] (shapeCast S8x2048x4x128 (extractStridedSlice S16384x512 ![0, 3584] (extf .f32 X bitsLt_bf16_f32) slices_S16384x4608_S16384x512_0_3584) shapeCasts_S16384x512_S8x2048x4x128) transposes_S8x2048x4x128_S8x4x2048x128_0_2_1_3
/-- The values, by sequence and head. -/
def heads4096 (X : FVec Ideal S16384x4608 .bf16) : Hd :=
  transpose S8x4x2048x128 [0, 2, 1, 3] (shapeCast S8x2048x4x128 (extractStridedSlice S16384x512 ![0, 4096] (extf .f32 X bitsLt_bf16_f32) slices_S16384x4608_S16384x512_0_4096) shapeCasts_S16384x512_S8x2048x4x128) transposes_S8x2048x4x128_S8x4x2048x128_0_2_1_3

/-- The first half of a head's lanes. -/
def lo (q : Hd) : Hf := extractStridedSlice S8x4x2048x64 ![0, 0, 0, 0] q slices_S8x4x2048x128_S8x4x2048x64_0_0_0_0
/-- The second half. -/
def hi (q : Hd) : Hf := extractStridedSlice S8x4x2048x64 ![0, 0, 0, 64] q slices_S8x4x2048x128_S8x4x2048x64_0_0_0_64

/-- The heads' slopes. -/
def slopes : FVec Ideal S4 .f32 :=
  Host.exp (mulf (broadcastInDim S4 ![] bcast_S_S4 (constant (F := Ideal) S_ .f32 0x3F317218#32)) (Host.divf (mulf (broadcastInDim S4 ![] bcast_S_S4 (constant (F := Ideal) S_ .f32 0xC1000000#32)) (addf (broadcastInDim S4 ![] bcast_S_S4 (constant (F := Ideal) S_ .f32 0x3F800000#32)) (sitofp .f32 (iotaInDim S4 32 0)))) (broadcastInDim S4 ![] bcast_S_S4 (constant (F := Ideal) S_ .f32 0x40800000#32))))

/-- The distance of a key from a row, in numbers. -/
def dist : FVec Ideal S2048x2048 .f32 :=
  sitofp .f32 (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))

/-- What a key loses by its distance. -/
def bias (w : FVec Ideal S4 .f32) (d : FVec Ideal S2048x2048 .f32) : Sq :=
  broadcastInDim S8x4x2048x2048 ![0, 1, 2, 3] bcast_S1x4x2048x2048_S8x4x2048x2048_0_1_2_3 (broadcastInDim S1x4x2048x2048 ![1, 2, 3] bcast_S4x2048x2048_S1x4x2048x2048_1_2_3 (mulf (broadcastInDim S4x2048x2048 ![0, 1, 2] bcast_S4x1x1_S4x2048x2048_0_1_2 (Host.negf (broadcastInDim S4x1x1 ![0] bcast_S4_S4x1x1_0 w)))
    (broadcastInDim S4x2048x2048 ![0, 1, 2] bcast_S1x2048x2048_S4x2048x2048_0_1_2 (broadcastInDim S1x2048x2048 ![1, 2] bcast_S2048x2048_S1x2048x2048_1_2 d))))

/-- The logits. -/
def zz (q k : Hf) (w : FVec Ideal S4 .f32) (d : FVec Ideal S2048x2048 .f32) : Sq :=
  addf (mulf (Host.dotGeneral dot_S8x4x2048x64_S8x4x2048x64_S8x4x2048x2048_3_3_2_2_01_01 none q k) (broadcastInDim S8x4x2048x2048 ![] bcast_S_S8x4x2048x2048 (constant (F := Ideal) S_ .f32 0x3E000000#32))) (bias w d)

def mask : IVec S8x4x2048x2048 1 :=
  broadcastInDim S8x4x2048x2048 ![2, 3] bcast_S2048x2048_S8x4x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The logits under the mask. -/
def msk (z : Sq) : Sq := select mask z (broadcastInDim S8x4x2048x2048 ![] bcast_S_S8x4x2048x2048 (id (constant (F := Ideal) S_ .f32 0xFF800000#32)))

/-- The weights before they are divided by their sum. -/
def ex (z : Sq) : Sq :=
  Host.exp (subf z (broadcastInDim S8x4x2048x2048 ![0, 1, 2, 3] bcast_S8x4x2048x1_S8x4x2048x2048_0_1_2_3 (broadcastInDim S8x4x2048x1 ![0, 1, 2] bcast_S8x4x2048_S8x4x2048x1_0_1_2 (rmax z))))

/-- The weights. -/
def wts (e : Sq) : Sq :=
  Host.divf e (broadcastInDim S8x4x2048x2048 ![0, 1, 2, 3] bcast_S8x4x2048x1_S8x4x2048x2048_0_1_2_3 (broadcastInDim S8x4x2048x1 ![0, 1, 2] bcast_S8x4x2048_S8x4x2048x1_0_1_2 (Host.reduceAdd e (constant (F := Ideal) S_ .f32 0x00000000#32) reducesTo_S8x4x2048x2048_S8x4x2048_d3 h_S_)))

/-- The factor of the second attention's weights. -/
def lam (d : FVec Ideal S4x64 .f32) : FVec Ideal S_ .f32 :=
  addf (subf (Host.exp (Host.reduceAdd (mulf (shapeCast S64 (extractStridedSlice S1x64 ![0, 0] d slices_S4x64_S1x64_0_0) shapeCasts_S1x64_S64) (shapeCast S64 (extractStridedSlice S1x64 ![1, 0] d slices_S4x64_S1x64_1_0) shapeCasts_S1x64_S64)) (constant (F := Ideal) S_ .f32 0x00000000#32) reducesTo_S64_S_d0 h_S_))
    (Host.exp (Host.reduceAdd (mulf (shapeCast S64 (extractStridedSlice S1x64 ![2, 0] d slices_S4x64_S1x64_2_0) shapeCasts_S1x64_S64) (shapeCast S64 (extractStridedSlice S1x64 ![3, 0] d slices_S4x64_S1x64_3_0) shapeCasts_S1x64_S64)) (constant (F := Ideal) S_ .f32 0x00000000#32) reducesTo_S64_S_d0 h_S_)))
    (constant (F := Ideal) S_ .f32 0x3E4CCCCD#32)

/-- The difference of the weights, by the values. -/
def mix (a e : Sq) (L : FVec Ideal S_ .f32) (v : Hd) : Hd :=
  Host.dotGeneral dot_S8x4x2048x2048_S8x4x2048x128_S8x4x2048x128_3_2_2_3_01_01 none (subf a (mulf (broadcastInDim S8x4x2048x2048 ![] bcast_S_S8x4x2048x2048 L) e)) v

/-- The rows normalised, with the gain and the scale. -/
def out (o : Hd) (g : FVec Ideal S128 .f32) : FVec Ideal S16384x512 .bf16 :=
  truncf .bf16 (shapeCast S16384x512 (transpose S8x2048x4x128 [0, 2, 1, 3] (mulf (mulf (mulf o (broadcastInDim S8x4x2048x128 ![0, 1, 2, 3] bcast_S8x4x2048x1_S8x4x2048x128_0_1_2_3 (Host.rsqrt (addf (Host.divf (broadcastInDim S8x4x2048x1 ![0, 1, 2] bcast_S8x4x2048_S8x4x2048x1_0_1_2 (Host.reduceAdd (mulf o o) (constant (F := Ideal) S_ .f32 0x00000000#32) reducesTo_S8x4x2048x128_S8x4x2048_d3 h_S_)) (broadcastInDim S8x4x2048x1 ![] bcast_S_S8x4x2048x1 (constant (F := Ideal) S_ .f32 0x43000000#32))) (broadcastInDim S8x4x2048x1 ![] bcast_S_S8x4x2048x1 (constant (F := Ideal) S_ .f32 0x358637BD#32))))))
    (broadcastInDim S8x4x2048x128 ![0, 1, 2, 3] bcast_S1x1x1x128_S8x4x2048x128_0_1_2_3 (broadcastInDim S1x1x1x128 ![3] bcast_S128_S1x1x1x128_3 g))) (broadcastInDim S8x4x2048x128 ![] bcast_S_S8x4x2048x128 (constant (F := Ideal) S_ .f32 0x3F4CCCCD#32))) transposes_S8x4x2048x128_S8x2048x4x128_0_2_1_3) shapeCasts_S8x2048x4x128_S16384x512) bitsLt_bf16_f32

/-- The whole, from the arguments. -/
def all (X : FVec Ideal S16384x4608 .bf16) (d : FVec Ideal S4x64 .f32) (g : FVec Ideal S128 .f32) : FVec Ideal S16384x512 .bf16 :=
  out (mix (wts (ex (msk (zz (lo (heads3072 X)) (lo (heads3584 X)) slopes dist)))) (wts (ex (msk (zz (hi (heads3072 X)) (hi (heads3584 X)) slopes dist)))) (lam d) (heads4096 X)) g

/-- The program's result is the stages composed. -/
theorem res_eq (m : (ℓ : Loc nD τ sig) → Buf (Elt Ideal) ℓ) (c : Dev nD) :
    res_out0 (F := Ideal) m c
      = all (m ((c.tc : Thread nD τ).loc main_arg0)) (m ((c.tc : Thread nD τ).loc main_arg1)) (m ((c.tc : Thread nD τ).loc main_arg2)) := by
  unfold res_out0 res_main_v117
  rfl

theorem out_at (o : Hd) (g : FVec Ideal S128 .f32) (b : Fin 8) (t : Fin 2048) (h : Fin 4) (l : Fin 128) :
    out o g (ix2 ⟨b.val * 2048 + t.val, by omega⟩ ⟨h.val * 128 + l.val, by omega⟩) = nrm 0x3F4CCCCD#32 (fun x => o (ix4 b h t x)) (g (ix1 l)) l := by
  pointwise [out]
  rfl

theorem mix_at (a e : Sq) (L : FVec Ideal S_ .f32) (v : Hd) (b : Fin 8) (h : Fin 4) (t : Fin 2048) (l : Fin 128) :
    mix a e L v (ix4 b h t l) = ∑ s : Fin 2048, (a (ix4 b h t s) - L ix0 * e (ix4 b h t s)) * v (ix4 b h s l) := by
  pointwise [mix]

theorem lam_at (d : FVec Ideal S4x64 .f32) : lam d ix0 = lamE 0x3E4CCCCD#32 fun a x => d (ix2 a x) := by
  pointwise [lam]
  rfl

theorem slopes_at (h : Fin 4) : slopes (ix1 h) = sg h.val := by
  pointwise [slopes]
  unfold sg
  rw [one_f32]
  rfl

theorem dist_at (t s : Fin 2048) : dist (ix2 t s) = (((t.val : ℝ) - (s.val : ℝ) : ℝ) : EReal) := by
  have e : (IntOp.subi (BitVec.ofNat 32 t.val) (BitVec.ofNat 32 s.val)).toInt = (t.val : ℤ) - (s.val : ℤ) := by
    have ht := t.isLt
    have hs := s.isLt
    show (BitVec.ofNat 32 t.val - BitVec.ofNat 32 s.val).toInt = _
    rw [BitVec.toInt_sub, BitVec.toInt_ofNat', BitVec.toInt_ofNat']
    simp only [Int.bmod]
    omega
  pointwise [dist]
  show (((IntOp.subi (BitVec.ofNat 32 t.val) (BitVec.ofNat 32 s.val)).toInt : ℝ) : EReal) = _
  rw [e]
  push_cast
  rfl

theorem zz_at (q k : Hf) (w : FVec Ideal S4 .f32) (d : FVec Ideal S2048x2048 .f32) (b : Fin 8) (h : Fin 4) (t s : Fin 2048) :
    zz q k w d (ix4 b h t s) = (∑ x : Fin 64, q (ix4 b h t x) * k (ix4 b h s x)) * Ideal.ofBits .f32 1040187392#32 + -(w (ix1 h)) * d (ix2 t s) := by
  pointwise [zz, bias]

theorem msk_at (z : Sq) (b : Fin 8) (h : Fin 4) (t s : Fin 2048) : msk z (ix4 b h t s) = if s.val ≤ t.val then z (ix4 b h t s) else ⊥ := by
  pointwise [msk, mask, id]
  rw [sel_le _ _ (by omega) (by omega), show Ideal.ofBits .f32 4286578688#32 = (⊥ : EReal) by simp [Ideal.ofBits, Ideal.ieee]]

theorem ex_at (z : Sq) (b : Fin 8) (h : Fin 4) (t s : Fin 2048) : ex z (ix4 b h t s) = Ideal.exp (z (ix4 b h t s) - rmax z (ix3 b h t)) := by
  pointwise [ex]

theorem wts_at (e : Sq) (b : Fin 8) (h : Fin 4) (t s : Fin 2048) : wts e (ix4 b h t s) = Ideal.div (e (ix4 b h t s)) (∑ u : Fin 2048, e (ix4 b h t u)) := by
  pointwise [wts]

theorem lo_at (q : Hd) (b : Fin 8) (h : Fin 4) (t : Fin 2048) (l : Fin 64) : lo q (ix4 b h t l) = q (ix4 b h t ⟨l.val, by omega⟩) := by
  pointwise [lo]

theorem hi_at (q : Hd) (b : Fin 8) (h : Fin 4) (t : Fin 2048) (l : Fin 64) : hi q (ix4 b h t l) = q (ix4 b h t ⟨64 + l.val, by omega⟩) := by
  pointwise [hi]

theorem heads3072_at (X : FVec Ideal S16384x4608 .bf16) (b : Fin 8) (h : Fin 4) (t : Fin 2048) (l : Fin 128) :
    heads3072 X (ix4 b h t l) = X (ix2 ⟨b.val * 2048 + t.val, by omega⟩ ⟨3072 + (h.val * 128 + l.val), by omega⟩) := by
  pointwise [heads3072]
theorem heads3584_at (X : FVec Ideal S16384x4608 .bf16) (b : Fin 8) (h : Fin 4) (t : Fin 2048) (l : Fin 128) :
    heads3584 X (ix4 b h t l) = X (ix2 ⟨b.val * 2048 + t.val, by omega⟩ ⟨3584 + (h.val * 128 + l.val), by omega⟩) := by
  pointwise [heads3584]
theorem heads4096_at (X : FVec Ideal S16384x4608 .bf16) (b : Fin 8) (h : Fin 4) (t : Fin 2048) (l : Fin 128) :
    heads4096 X (ix4 b h t l) = X (ix2 ⟨b.val * 2048 + t.val, by omega⟩ ⟨4096 + (h.val * 128 + l.val), by omega⟩) := by
  pointwise [heads4096]

end Cert.Diff.Ref
end
-- ==== Proof.Diff.RefVal.lean ====
/- The differential attention's reference at one index of its result. -/
module

public import proofs.«01_k».proof.Proof.Diff.Ref

@[expose] public section

set_option maxRecDepth 16384

noncomputable section

namespace Cert.Diff.Ref
open Cert.Fox Cert.DiffReferenceIdeal Idealize.ShloMosaic Idealize.ShloMosaic.Tactic

/-- The constant the layer adds is a number. -/
theorem lam_const : ∃ r : ℝ, Ideal.ofBits .f32 0x3E4CCCCD#32 = (r : EReal) := by
  simp [Ideal.ofBits, Ideal.ieee]
  exact ⟨_, (EReal.coe_mul _ _).symm⟩

theorem sup_mx (ζ : ℕ → EReal) : (Finset.univ.sup fun s : Fin 2048 => ζ s.val) = mx ζ 2048 := by
  refine le_antisymm (Finset.sup_le fun s _ => le_mx ζ 2048 s.val s.isLt) (Finset.sup_le fun s hs => ?_)
  exact Finset.le_sup (f := fun s : Fin 2048 => ζ s.val) (Finset.mem_univ (⟨s, Finset.mem_range.mp hs⟩ : Fin 2048))

variable (X : Inp)

/-- The reference's scores of a row. -/
def sc (b p e t s : ℕ) : EReal := sD X b p e t s + ((-(sgR p * t) : ℝ) : EReal)

section
variable (q k : Hf) (e : ℕ) (he : e < 2)
  (hq : ∀ (b : Fin 8) (h : Fin 4) (t : Fin 2048) (x : Fin 64), q (ix4 b h t x) = Xe X (b.val * 2048 + t.val) (3072 + (h.val * 128 + e * 64 + x.val)))
  (hk : ∀ (b : Fin 8) (h : Fin 4) (t : Fin 2048) (x : Fin 64), k (ix4 b h t x) = Xe X (b.val * 2048 + t.val) (3584 + (h.val * 128 + e * 64 + x.val)))

include hq hk in
theorem zz_coe (b : Fin 8) (h : Fin 4) (t s : Fin 2048) :
    zz q k slopes dist (ix4 b h t s) = zD X b.val h.val e t.val s.val + ((-(sgR h.val * t.val) : ℝ) : EReal) := by
  have hp : (∑ x : Fin 64, q (ix4 b h t x) * k (ix4 b h s x)) * ((1 / 8 : ℝ) : EReal) = pD X b.val h.val e t.val s.val := by
    unfold pD
    congr 1
    refine Finset.sum_congr rfl fun x _ => ?_
    rw [hq, hk]
  rw [zz_at, eighth_f32, hp, slopes_at, sg_eq, dist_at, ← EReal.coe_neg, ← EReal.coe_mul]
  unfold zD
  rw [add_assoc, ← EReal.coe_add]
  congr 2
  ring

include hq hk in
theorem msk_coe (b : Fin 8) (h : Fin 4) (t s : Fin 2048) :
    msk (zz q k slopes dist) (ix4 b h t s) = sc X b.val h.val e t.val s.val := by
  rw [msk_at, zz_coe X q k e hq hk]
  unfold sc sD zm
  by_cases hs : s.val ≤ t.val
  · rw [if_pos hs, if_pos hs]
  · rw [if_neg hs, if_neg hs, EReal.bot_add]

include hq hk in
/-- The reference's weights. -/
theorem wts_coe (b : Fin 8) (h : Fin 4) (t s : Fin 2048) :
    wts (ex (msk (zz q k slopes dist))) (ix4 b h t s) = wt (sD X b.val h.val e t.val) s.val := by
  have hex : ∀ s : Fin 2048, ex (msk (zz q k slopes dist)) (ix4 b h t s) = ew (sc X b.val h.val e t.val) (mx (sc X b.val h.val e t.val) 2048) s.val := by
    intro s
    rw [ex_at, rmax_at]
    simp only [msk_coe X q k e hq hk]
    rw [sup_mx (sc X b.val h.val e t.val)]
    rfl
  rw [← wt_moved (sD X b.val h.val e t.val) (sc X b.val h.val e t.val) (-(sgR h.val * t.val)) (fun _ => rfl), wts_at]
  unfold wt ln
  rw [Finset.sum_range]
  simp only [hex]

end

/-- The reference's result, at a sequence, row, head and lane. -/
theorem ref_val (d : FVec Ideal S4x64 .f32) (g : FVec Ideal S128 .f32) (b : Fin 8) (h : Fin 4) (t : Fin 2048) (l : Fin 128) :
    all X d g (ix2 ⟨b.val * 2048 + t.val, by omega⟩ ⟨h.val * 128 + l.val, by omega⟩)
      = nrm 0x3F4CCCCD#32 (dR X (lamE 0x3E4CCCCD#32 fun a x => d (ix2 a x)) b.val h.val t.val) (g (ix1 l)) l := by
  unfold all
  rw [out_at]
  congr 1
  funext x
  rw [mix_at, lam_at]
  unfold dR
  rw [Finset.sum_range]
  refine Finset.sum_congr rfl fun s _ => ?_
  rw [wts_coe X _ _ 0 (fun b h t x => ?_) (fun b h t x => ?_), wts_coe X _ _ 1 (fun b h t x => ?_) (fun b h t x => ?_), heads4096_at, Xe_eq X]
  · rfl
  · rw [hi_at, heads3072_at, Xe_eq X]; dsimp only; congr 1; omega
  · rw [hi_at, heads3584_at, Xe_eq X]; dsimp only; congr 1; omega
  · rw [lo_at, heads3072_at, Xe_eq X]; dsimp only; congr 1
  · rw [lo_at, heads3584_at, Xe_eq X]; dsimp only; congr 1

end Cert.Diff.Ref
end
-- ==== Proof.Diff.Value.lean ====
/- The differential attention: the kernel's result array is the reference's. -/
module

public import proofs.«01_k».proof.Proof.Diff.KerVal
public import proofs.«01_k».proof.Proof.Diff.RefVal
public import proofs.«01_k».proof.Proof.Diff.Frame
public import proofs.«01_k».proof.Proof.Gen.Pre_diff_finite
public import proofs.«01_k».proof.Defs
public import Idealize.ShloMosaic.Lib.Pipeline.ValueKit

@[expose] public section

set_option maxRecDepth 16384

noncomputable section

namespace Cert.Diff
open Cert.Fox Cert.DiffKernelIdeal Cert.DiffKernelIdeal.Gen Idealize.ShloMosaic Idealize.ShloMosaic.TcCoe Idealize.ShloMosaic.Tactic Idealize.SL.Sem

/-- Where each window's block stands at a point. -/
theorem idx (t : Fin grid0.N) :
    win0_0.index t = ![(grid0.coords t 0).val * 16 + (grid0.coords t 2).val, 24 + (grid0.coords t 1).val]
    ∧ win0_1.index t = ![(grid0.coords t 0).val, 28 + (grid0.coords t 1).val]
    ∧ win0_2.index t = ![(grid0.coords t 0).val, 32 + (grid0.coords t 1).val]
    ∧ win0_3.index t = ![(grid0.coords t 1).val, 0, 0]
    ∧ win0_4.index t = ![0, 0, 0]
    ∧ win0_5.index t = ![0, 0]
    ∧ win0_6.index t = ![(grid0.coords t 0).val * 16 + (grid0.coords t 2).val, (grid0.coords t 1).val] :=
  (by decide +kernel : ∀ t : Fin grid0.N, win0_0.index t = ![(grid0.coords t 0).val * 16 + (grid0.coords t 2).val, 24 + (grid0.coords t 1).val]
    ∧ win0_1.index t = ![(grid0.coords t 0).val, 28 + (grid0.coords t 1).val]
    ∧ win0_2.index t = ![(grid0.coords t 0).val, 32 + (grid0.coords t 1).val]
    ∧ win0_3.index t = ![(grid0.coords t 1).val, 0, 0]
    ∧ win0_4.index t = ![0, 0, 0]
    ∧ win0_5.index t = ![0, 0]
    ∧ win0_6.index t = ![(grid0.coords t 0).val * 16 + (grid0.coords t 2).val, (grid0.coords t 1).val]) t

variable (m : (ℓ : Loc nD τ sig) → Buf (Elt Ideal) ℓ) (c : Dev nD)

theorem in0 (t : Fin cfg0.N) (R l : Fin 128) :
    iblk (F := Ideal) m c 0 t (ix2 R l) = Xe (m ((c.tc : Thread nD τ).loc main_arg0)) ((grid0.coords t 0).val * 2048 + ((grid0.coords t 2).val * 128 + R.val)) (3072 + ((grid0.coords t 1).val * 128 + l.val)) := by
  have h0 : (grid0.coords t 0).val < 8 := (grid0.coords t 0).isLt
  have h1 : (grid0.coords t 1).val < 4 := (grid0.coords t 1).isLt
  have h2 : (grid0.coords t 2).val < 16 := (grid0.coords t 2).isLt
  unfold Xe
  rw [dif_pos ⟨by omega, by omega⟩, ← V_main_arg0 m c]
  blk_ext [iblk, idx t]

theorem in1 (t : Fin cfg0.N) (s : Fin 2048) (l : Fin 128) :
    iblk (F := Ideal) m c 1 t (ix2 s l) = Xe (m ((c.tc : Thread nD τ).loc main_arg0)) ((grid0.coords t 0).val * 2048 + s.val) (3584 + ((grid0.coords t 1).val * 128 + l.val)) := by
  have h0 : (grid0.coords t 0).val < 8 := (grid0.coords t 0).isLt
  have h1 : (grid0.coords t 1).val < 4 := (grid0.coords t 1).isLt
  unfold Xe
  rw [dif_pos ⟨by omega, by omega⟩, ← V_main_arg0 m c]
  blk_ext [iblk, idx t]

theorem in2 (t : Fin cfg0.N) (s : Fin 2048) (l : Fin 128) :
    iblk (F := Ideal) m c 2 t (ix2 s l) = Xe (m ((c.tc : Thread nD τ).loc main_arg0)) ((grid0.coords t 0).val * 2048 + s.val) (4096 + ((grid0.coords t 1).val * 128 + l.val)) := by
  have h0 : (grid0.coords t 0).val < 8 := (grid0.coords t 0).isLt
  have h1 : (grid0.coords t 1).val < 4 := (grid0.coords t 1).isLt
  unfold Xe
  rw [dif_pos ⟨by omega, by omega⟩, ← V_main_arg0 m c]
  blk_ext [iblk, idx t]

/-- The slopes, each over a row of lanes. -/
def slopesL : FVec Ideal S4x1x128 .f32 :=
  broadcastInDim S4x1x128 ![0, 1, 2] bcast_S4x1x1_S4x1x128_0_1_2 (broadcastInDim S4x1x1 ![0] bcast_S4_S4x1x1_0
    (Host.exp (mulf (broadcastInDim S4 ![] bcast_S_S4 (constant (F := Ideal) S_ .f32 0x3F317218#32)) (Host.divf (mulf (broadcastInDim S4 ![] bcast_S_S4 (constant (F := Ideal) S_ .f32 0xC1000000#32)) (addf (broadcastInDim S4 ![] bcast_S_S4 (constant (F := Ideal) S_ .f32 0x3F800000#32)) (sitofp .f32 (iotaInDim S4 32 0)))) (broadcastInDim S4 ![] bcast_S_S4 (constant (F := Ideal) S_ .f32 0x40800000#32))))))

theorem slopesL_at (h : Fin 4) (l : Fin 128) : slopesL (ix3 h 0 l) = sg h.val := by
  pointwise [slopesL]
  unfold sg
  rw [one_f32]
  rfl

theorem V11 : V m c main_v11 = slopesL := by
  unfold V
  simp only [hostOps0, List.flatten_cons, List.flatten_nil, List.append_nil, List.cons_append, List.nil_append]
  after_results_simp
  rfl

theorem V12 : V m c main_v12 = broadcastInDim S1x4x64 ![1, 2] bcast_S4x64_S1x4x64_1_2 (m ((c.tc : Thread nD τ).loc main_arg1)) := by
  unfold V
  simp only [hostOps0, List.flatten_cons, List.flatten_nil, List.append_nil, List.cons_append, List.nil_append]
  after_results_simp

theorem V13 : V m c main_v13 = broadcastInDim S1x128 ![1] bcast_S128_S1x128_1 (m ((c.tc : Thread nD τ).loc main_arg2)) := by
  unfold V
  simp only [hostOps0, List.flatten_cons, List.flatten_nil, List.append_nil, List.cons_append, List.nil_append]
  after_results_simp

theorem in3 (t : Fin cfg0.N) (l : Fin 128) : iblk (F := Ideal) m c 3 t (ix3 0 0 l) = sg (grid0.coords t 1).val := by
  have h1 : (grid0.coords t 1).val < 4 := (grid0.coords t 1).isLt
  refine Eq.trans ?_ ((congrFun (V11 m c) (ix3 ⟨(grid0.coords t 1).val, h1⟩ 0 l)).trans (slopesL_at _ _))
  blk_ext [iblk, idx t]

theorem lamV_at (d : FVec Ideal S4x64 .f32) (e : Fin 4) (y : Fin 64) : broadcastInDim S1x4x64 ![1, 2] bcast_S4x64_S1x4x64_1_2 d (ix3 0 e y) = d (ix2 e y) := by
  pointwise

theorem gainV_at (d : FVec Ideal S128 .f32) (y : Fin 128) : broadcastInDim S1x128 ![1] bcast_S128_S1x128_1 d (ix2 0 y) = d (ix1 y) := by
  pointwise

theorem in4 (t : Fin cfg0.N) (e : Fin 4) (y : Fin 64) : iblk (F := Ideal) m c 4 t (ix3 0 e y) = m ((c.tc : Thread nD τ).loc main_arg1) (ix2 e y) := by
  refine Eq.trans ?_ ((congrFun (V12 m c) (ix3 0 e y)).trans (lamV_at _ _ _))
  blk_ext [iblk, idx t]

theorem in5 (t : Fin cfg0.N) (y : Fin 128) : iblk (F := Ideal) m c 5 t (ix2 0 y) = m ((c.tc : Thread nD τ).loc main_arg2) (ix1 y) := by
  refine Eq.trans ?_ ((congrFun (V13 m c) (ix2 0 y)).trans (gainV_at _ _))
  blk_ext [iblk, idx t]

/-- A set bit says that the test it holds came out true. -/
theorem of_bit {p : Prop} [Decidable p] (h : BitVec.ofBool (decide p) = 1#1) : p := by
  by_contra hn
  rw [decide_eq_false hn] at h
  exact absurd h (by decide)

/-- The precondition, read: the values are real numbers. -/
theorem fine (h : Pre_DiffKernelIdeal_diff_finite m) : Fine (m ((c.tc : Thread nD τ).loc main_arg0)) := by
  have ht : Ideal.ofBits .f32 2139095040#32 = (⊤ : EReal) := by simp [Ideal.ofBits, Ideal.ieee]
  refine fine_of _ fun r k hk => ?_
  have hk' := k.isLt
  have e := congrFun (h c).1 (ix2 r ⟨k.val - 4096, by omega⟩)
  unfold Cert.Pre_diff_finite.fn at e
  pointwise at e
  rw [ht] at e
  have e := of_bit e
  have hk3 : (⟨4096 + (k.val - 4096), by omega⟩ : Fin 4608) = k := Fin.ext (by dsimp only; omega)
  rw [hk3] at e
  exact e

/-- The factor's arguments are real numbers. -/
theorem fineL (h : Pre_DiffKernelIdeal_diff_finite m) (a : Fin 4) (x : Fin 64) : ∃ r : ℝ, m ((c.tc : Thread nD τ).loc main_arg1) (ix2 a x) = ((r : ℝ) : EReal) := by
  have ht : Ideal.ofBits .f32 2139095040#32 = (⊤ : EReal) := by simp [Ideal.ofBits, Ideal.ieee]
  have e := congrFun (h c).2 (ix2 a x)
  unfold Cert.Pre_diff_finite.fn at e
  pointwise at e
  rw [ht] at e
  exact ⟨_, coe_of _ (of_bit e)⟩

/-- The array after the run is the reference's. -/
theorem arr_eq (h : Pre_DiffKernelIdeal_diff_finite m) :
    (dat (F := Ideal) m 0 c).arrAt 6 cfg0.N
      = Ref.all (m ((c.tc : Thread nD τ).loc main_arg0)) (m ((c.tc : Thread nD τ).loc main_arg1)) (m ((c.tc : Thread nD τ).loc main_arg2)) := by
  refine (dat m 0 c).arrAt_eq_of_covers 6 _ (by decide +kernel) fun t hf y => ?_
  blk_simp
  rw [after0_6]
  have hX := fine m c h
  have h0 : (grid0.coords t 0).val < 8 := (grid0.coords t 0).isLt
  have h1 : (grid0.coords t 1).val < 4 := (grid0.coords t 1).isLt
  have h2 : (grid0.coords t 2).val < 16 := (grid0.coords t 2).isLt
  obtain ⟨R, l, rfl⟩ : ∃ (R : Fin 128) (l : Fin 128), y = ix2 R l := ⟨y 0, y 1, by funext a; match a with | ⟨0, _⟩ => rfl | ⟨1, _⟩ => rfl⟩
  have hR := R.isLt
  have hl := l.isLt
  have hemb : (win0_6.blk t).view.emb (ix2 R l) = ix2 (⟨(grid0.coords t 0).val * 2048 + ((grid0.coords t 2).val * 128 + R.val), by omega⟩ : Fin 16384)
      (⟨(grid0.coords t 1).val * 128 + l.val, by omega⟩ : Fin 512) := by
    blk_ext [idx t]
  rw [hemb]
  refine Eq.trans ?_ (Ref.ref_val _ _ _ ⟨(grid0.coords t 0).val, h0⟩ ⟨(grid0.coords t 1).val, h1⟩ ⟨(grid0.coords t 2).val * 128 + R.val, by omega⟩ l).symm
  unfold outsAt
  rw [out_eq _ _ _ _ _ _ _ _ _ _ _ _ _ _ _ _ _ _ _ _ _ _ _ _ _ _ _ _ (t2_trips _)]
  refine (block_val _ (grid0.coords t) (grid0.coords t 0).val (grid0.coords t 1).val _ _ _ _ (in0 m c t) (in1 m c t) (in2 m c t) (in3 m c t) _ _ R l).trans ?_
  simp only [in4 m c t]
  rw [in5 m c t]
  exact row_eq _ hX _ (lam_real 0x3E4CCCCD#32 Ref.lam_const _ (fineL m c h)) _ _ _ _ _ _

/-- The kernel computes the reference. -/
theorem algebraic : algebraic_DiffKernelIdeal_DiffReferenceIdeal_pre_diff_finite := by
  intro m g m' g' hpre hagree
  refine ⟨fun c => (dat (F := Ideal) m 0 c).arrAt 6 cfg0.N, run_out m g, ?_⟩
  refine (θ_run _ _ _).mono (fun r h c => ⟨(h c).1.trans ?_, (h c).2⟩) (Cert.DiffReferenceIdeal.Value.run m' g')
  refine (Ref.res_eq m' c).trans ?_
  rw [(hagree c).1, (hagree c).2.1, (hagree c).2.2]
  exact (arr_eq m c hpre).symm

end Cert.Diff
end
-- ==== Proof.Diff2.Run.lean ====
/- The run of the second layer's differential attention's body over whole staging buffers. -/
module

public import proofs.«01_k».proof.Proof.Gen.Diff2KernelIdeal.Frame.Runs

@[expose] public section

set_option maxRecDepth 65536

noncomputable section

namespace Cert.Diff2

open Cert.Diff2KernelIdeal Cert.Diff2KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The middle of the body does not depend on what the weights' buffer held before it was cleared. -/
theorem part4_eq (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x128 .f32) (harg6 : arg6.IsWhole) (arg7 : Memref sig .tc .vmem S1x4x64 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (v0 : BitVec 32) (v17 : BitVec 32) (v29 : FVec F S256x128 .bf16) (v34 : FVec F S256x128 .f32) (v35 : Vec F S256x128 .f32) :
    k0_part4 i arg3 harg3 arg4 harg4 arg5 harg5 arg6 harg6 arg7 harg7 arg8 harg8 arg9 harg9 arg10 harg10 arg11 harg11 arg12 harg12 v0 v17 v29 v34 v35 = k0_part4_skel i arg3 harg3 arg4 harg4 arg5 harg5 arg6 harg6 arg7 harg7 arg8 harg8 arg9 harg9 arg10 harg10 arg11 harg11 arg12 harg12 v0 v17 v29 v34 v34 := by
  rw [k0_part4_eq_skeleton]; rfl

set_option maxHeartbeats 2000000 in
/-- The pieces the body leaves in its output, with the proof that the body runs to them: the buffers of the queries, keys,
    values, slopes, factors and gains stay as they were, the scratch buffers end at some contents. -/
noncomputable def run (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x128 .f32) (harg6 : arg6.IsWhole) (arg7 : Memref sig .tc .vmem S1x4x64 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole)
    (x0 : Vec F S128x128 .bf16) (x1 : Vec F S2048x128 .bf16) (x2 : Vec F S2048x128 .bf16) (x3 : Vec F S1x1x128 .f32) (x4 : Vec F S1x4x64 .f32) (x5 : Vec F S1x128 .f32) :
    { L6 : List (View.Piece (Elt F) S128x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_diff_attention i arg3 harg3 arg4 harg4 arg5 harg5 arg6 harg6 arg7 harg7 arg8 harg8 arg9 harg9 arg10 harg10 arg11 harg11 arg12 harg12) K } := by
  refine ⟨?_, fun E K => ?run⟩
  case run =>
    simp only [cc0_diff_attention_eq_skeleton]; unfold cc0_diff_attention_skel
    simp only [k0_part3_eq_skeleton, part4_eq, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Diff2

end
-- ==== Proof.Diff2.Frame.lean ====
/- The frame of the idealized second layer's differential attention: the program runs from any memory, its arguments end unchanged, and each
   grid point leaves its block of the result. -/
module

public import proofs.«01_k».proof.Proof.Diff2.Run
public import Idealize.ShloMosaic.Lib.Claim
public import Idealize.ShloMosaic.Lib.Pipeline.Value

@[expose] public section

set_option maxRecDepth 65536

noncomputable section

namespace Cert.Diff2

open Cert.Diff2KernelIdeal Cert.Diff2KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The one store of the body covers the whole output block. -/
theorem cover (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x128 .f32) (harg6 : arg6.IsWhole) (arg7 : Memref sig .tc .vmem S1x4x64 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole)
    (x0 : Vec F S128x128 .bf16) (x1 : Vec F S2048x128 .bf16) (x2 : Vec F S2048x128 .bf16) (x3 : Vec F S1x1x128 .f32) (x4 : Vec F S1x4x64 .f32) (x5 : Vec F S1x128 .f32) (y : S128x128.Idx) :
    ∃ pc ∈ (run c i arg3 harg3 arg4 harg4 arg5 harg5 arg6 harg6 arg7 harg7 arg8 harg8 arg9 harg9 arg10 harg10 arg11 harg11 arg12 harg12 x0 x1 x2 x3 x4 x5).1, y ∈ pc.1.set :=
  View.cover_of_tiledL (run c i arg3 harg3 arg4 harg4 arg5 harg5 arg6 harg6 arg7 harg7 arg8 harg8 arg9 harg9 arg10 harg10 arg11 harg11 arg12 harg12 x0 x1 x2 x3 x4 x5).1 S128x128.size (by sl_kernel_rfl) y

/-- What the body leaves in the output block. -/
def blockOut (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x128 .f32) (harg6 : arg6.IsWhole) (arg7 : Memref sig .tc .vmem S1x4x64 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole)
    (x0 : Vec F S128x128 .bf16) (x1 : Vec F S2048x128 .bf16) (x2 : Vec F S2048x128 .bf16) (x3 : Vec F S1x1x128 .f32) (x4 : Vec F S1x4x64 .f32) (x5 : Vec F S1x128 .f32) : Vec F S128x128 .bf16 :=
  VO0_6.read (Elt F) (VO0_6.writes (Elt F) VO0_6.junk (run c i arg3 harg3 arg4 harg4 arg5 harg5 arg6 harg6 arg7 harg7 arg8 harg8 arg9 harg9 arg10 harg10 arg11 harg11 arg12 harg12 x0 x1 x2 x3 x4 x5).1)

/-- The output block after the grid point `t`. -/
def outsAt (c : Dev nD) (t : Fin cfg0.N) : Vec F S128x128 .bf16 :=
  blockOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)

/-- The data of the pipeline: the arrays at their contents before it, the inputs left as they are, the output block written. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t)
  Φ _ := Pipeline.ΦA spec0 c
  q w := Pipeline.shareOf spec0 w
  owed _ := 0

/-- The arrays are those found before the pipeline. -/
theorem A_eq (c : Dev nD) (w : Fin cfg0.W) : (dat m 0 c).A w = V m c (Pipeline.arrRef spec0 w) := by
  dsimp only [dat]

/-- What each window holds after a point. -/
theorem after0_0 (c : Dev nD) (t : Fin cfg0.N) : (dat m 0 c).after 0 t = iblk m c 0 t := by dsimp only [dat]
theorem after0_1 (c : Dev nD) (t : Fin cfg0.N) : (dat m 0 c).after 1 t = iblk m c 1 t := by dsimp only [dat]
theorem after0_2 (c : Dev nD) (t : Fin cfg0.N) : (dat m 0 c).after 2 t = iblk m c 2 t := by dsimp only [dat]
theorem after0_3 (c : Dev nD) (t : Fin cfg0.N) : (dat m 0 c).after 3 t = iblk m c 3 t := by dsimp only [dat]
theorem after0_4 (c : Dev nD) (t : Fin cfg0.N) : (dat m 0 c).after 4 t = iblk m c 4 t := by dsimp only [dat]
theorem after0_5 (c : Dev nD) (t : Fin cfg0.N) : (dat m 0 c).after 5 t = iblk m c 5 t := by dsimp only [dat]
theorem after0_6 (c : Dev nD) (t : Fin cfg0.N) : (dat m 0 c).after 6 t = (outsAt m c t) := by dsimp only [dat]

/-- What each input window holds before a point: its block. -/
theorem before0_0 (c : Dev nD) (t : Fin cfg0.N) (d) : (dat m 0 c).before 0 t d = iblk m c 0 t :=
  before0_0_of m (dat m 0 c) (A_eq m c 0) (after0_0 m c) t d
theorem before0_1 (c : Dev nD) (t : Fin cfg0.N) (d) : (dat m 0 c).before 1 t d = iblk m c 1 t :=
  before0_1_of m (dat m 0 c) (A_eq m c 1) (after0_1 m c) t d
theorem before0_2 (c : Dev nD) (t : Fin cfg0.N) (d) : (dat m 0 c).before 2 t d = iblk m c 2 t :=
  before0_2_of m (dat m 0 c) (A_eq m c 2) (after0_2 m c) t d
theorem before0_3 (c : Dev nD) (t : Fin cfg0.N) (d) : (dat m 0 c).before 3 t d = iblk m c 3 t :=
  before0_3_of m (dat m 0 c) (A_eq m c 3) (after0_3 m c) t d
theorem before0_4 (c : Dev nD) (t : Fin cfg0.N) (d) : (dat m 0 c).before 4 t d = iblk m c 4 t :=
  before0_4_of m (dat m 0 c) (A_eq m c 4) (after0_4 m c) t d
theorem before0_5 (c : Dev nD) (t : Fin cfg0.N) (d) : (dat m 0 c).before 5 t d = iblk m c 5 t :=
  before0_5_of m (dat m 0 c) (A_eq m c 5) (after0_5 m c) t d

/-- What the body is given at a point. -/
def bodyPre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d)))

/-- What the body gives back. -/
def bodyPost (c : Dev nD) (t : Fin cfg0.N) : sProp 𝕄 :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t)
    ∗ owns (c : Thread nD τ) (ms0_5 t) fullShare ((dat m 0 c).after 5 t)
    ∗ owns (c : Thread nD τ) (ms0_6 t) fullShare ((dat m 0 c).after 6 t))

set_option maxHeartbeats 800000 in
/-- The body keeps its inputs and writes its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dat m 0 c).Φ t.succ = (dat m 0 c).Φ t.castSucc from rfl,
    show (dat m 0 c).owesAt () t.succ = (dat m 0 c).owesAt () t.castSucc from rfl,
    after0_0, after0_1, after0_2, after0_3, after0_4, after0_5, after0_6]
  rw [show (dat m 0 c).Φ t.castSucc = Pipeline.ΦA spec0 c from rfl, PhiA0_eq]
  unfold outsAt
  unfold blockOut
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((run c (grid0.coords t) _ _ _ _ _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, ⟨%e6, H6⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover c _ _ _ _ _ _ _ _ _ _ _ _ _ _ _ _ _ _ _ _ _ _ _ _ _ _ _)

/-- The body at a point, by its name. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dat (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to the end: its arrays as the data says, every counter at zero. -/
theorem run_main_quiescent : θ_run defs (onTc (τ := τ) (main (F := F))) (s₀ m ρ) (fun r => (Pipeline.FramePost cfgs (dat m) 0 (V m)) r ∧ r.2.sem = fun _ => 0) :=
  Pipeline.θ_run_frame_shared (Q' := _) cfgs (dat m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dat m) 0 (V m)) :=
  (θ_run defs _ _).mono (fun _ h => h.1) (run_main_quiescent m ρ)

/-- The arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dat m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The block written back at a point. -/
theorem flushed (c : Dev nD) (t : Fin cfg0.N) : (dat m 0 c).flushed 6 t = (cfg0.win 6).cut (grid0.coords t) (outsAt m c t) := by
  show (cfg0.win 6).cut (grid0.coords t) ((dat m 0 c).after 6 t) = _
  rw [after0_6]

/-- The run with its result array named. -/
theorem run_out : θ_run defs (onTc (τ := τ) (main (F := F))) ⟨m, fun _ => 0, ρ⟩ fun r => ∀ c : Dev nD,
      r.2.mem ((c : Thread nD τ).loc main_v14) = (dat m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 6,
      ((h c).1 2).trans (((dat m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Diff2

end
-- ==== Proof.Diff2.Body.lean ====
/- One grid point of the second layer's differential attention kernel: what its body leaves in the output block, as a recursion over the key
   blocks. The three scratch buffers (the running maximum, the running sum of the weights and the accumulated output) are
   carried from one key block to the next; the recursion `st` below carries them as values. -/
module

public import proofs.«01_k».proof.Proof.Diff2.Frame
public import Idealize.ShloMosaic.Lib.Pointwise
public import Idealize.ShloMosaic.Lib.VecWindow

@[expose] public section

set_option maxRecDepth 16384

noncomputable section

namespace Cert.Diff2
open Cert.Diff2KernelIdeal Cert.Diff2KernelIdeal.Gen Idealize.ShloMosaic Idealize.ShloMosaic.TcCoe Idealize.ShloMosaic.Tactic Idealize.SL.Sem

abbrev RB := FVec Ideal S256x128 .f32
abbrev Kv := Vec Ideal S2048x128 .bf16
abbrev Sl := Vec Ideal S1x1x128 .f32

/-- The three scratch buffers' contents: the maximum, the sum, the output. -/
abbrev Scr := RB × RB × RB

/-- The key or value block the `k`th trip reads. -/
def blkAt (i : grid0.Coords) (x : Kv) (k : Fin (k0_t1_loop i).trips) : Vec Ideal S256x128 .bf16 :=
  View.ld x (Rect.unit (s := S2048x128) (k0_off1 i k) S256x128.size (k0_off1_inb i k))

/-- The key or value block on the diagonal. -/
def blkDiag (i : grid0.Coords) (x : Kv) : Vec Ideal S256x128 .bf16 :=
  View.ld x (Rect.unit (s := S2048x128) (k0_off3 i) S256x128.size (k0_off3_inb i))

/-- A block before the diagonal, taken into the scratch contents. -/
def stepS (i : grid0.Coords) (v0 : BitVec 32) (q : FVec Ideal S256x128 .bf16) (w : Sl) (k : Fin (k0_t1_loop i).trips) (kb vb : Vec Ideal S256x128 .bf16) (s : Scr) : Scr :=
  (k0_pay22 (k0_pay2 i v0 q (k0_pay20 w) 0#32 1#32 k kb s.1), k0_pay5 i v0 q (k0_pay20 w) 0#32 1#32 k kb s.1 s.2.1,
   k0_pay21 vb (k0_pay6 i v0 q (k0_pay20 w) 0#32 1#32 k kb s.1 s.2.2) (k0_pay7 i v0 q (k0_pay20 w) 0#32 1#32 k kb s.1) (constant S256x128 .f32 0x00000000#32))

/-- The scratch contents before trip `k`, from those before the loop. -/
def st (i : grid0.Coords) (v0 : BitVec 32) (q : FVec Ideal S256x128 .bf16) (w : Sl) (x1 x2 : Kv) (s0 : Scr) : ℕ → Scr
  | 0 => s0
  | k + 1 =>
    if h : k < (k0_t1_loop i).trips then
      stepS i v0 q w ⟨k, h⟩ (blkAt i x1 ⟨k, h⟩) (blkAt i x2 ⟨k, h⟩) (st i v0 q w x1 x2 s0 k)
    else st i v0 q w x1 x2 s0 k

/-- The scratch contents at the start. -/
def st0 : Scr := (k0_pay16 (F := Ideal), k0_pay18 (F := Ideal) (k0_pay17 (F := Ideal)), k0_pay19 (F := Ideal))

/-- The scores of the block on the diagonal. -/
def diagS (i : grid0.Coords) (q : FVec Ideal S256x128 .bf16) (w : Sl) (x1 : Kv) : FVec Ideal S256x256 .f32 :=
  k0_pay25 (run.sl.v0 i) (run.sl.v17 i) q w (blkDiag i x1)

/-- The block on the diagonal, taken into the scratch contents. -/
def lastS (i : grid0.Coords) (q : FVec Ideal S256x128 .bf16) (w : Sl) (x1 x2 : Kv) (s : Scr) : RB × RB :=
  (k0_pay31 (diagS i q w x1) (run.sl.v64 i) (run.sl.r_3 i) run.sl.v73 s.1 s.2.1,
   k0_pay32 (diagS i q w x1) (run.sl.v64 i) (run.sl.r_3 i) run.sl.v73 (blkDiag i x2) s.1 s.2.2)

section
variable (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x128 .f32) (harg6 : arg6.IsWhole) (arg7 : Memref sig .tc .vmem S1x4x64 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole)

theorem trip_s (v0 : BitVec 32) (q : FVec Ideal S256x128 .bf16) (w : Sl) (x1 : Kv) (k : Fin (k0_t1_loop i).trips) :
    trip_k0_t1.sl.v170 (F := Ideal) i arg4 v0 q w (harg4.unread x1) k = k0_pay1 i v0 q (k0_pay20 w) 0#32 1#32 k (blkAt i x1 k) := by
  unfold trip_k0_t1.sl.v170 trip_k0_t1.sl.v169 trip_k0_t1.sl.v168 trip_k0_t1.sl.v167 trip_k0_t1.sl.v160
  simp only [View.readAt_eq_ld, harg4.read_unread]
  rfl

theorem trip_m (v0 : BitVec 32) (q : FVec Ideal S256x128 .bf16) (w : Sl) (x1 : Kv) (k : Fin (k0_t1_loop i).trips) (G10 : BufTy.Contents (Elt Ideal) arg10.view.ty) :
    trip_k0_t1.sl.v179 (F := Ideal) i arg4 arg10 v0 q w (harg4.unread x1) k G10 = k0_pay2 i v0 q (k0_pay20 w) 0#32 1#32 k (blkAt i x1 k) (arg10.view.read (Elt Ideal) G10) := by
  have hz : (![0,0] : Fin 2 → Nat) = fun _ => 0 := by funext a; fin_cases a <;> rfl
  unfold trip_k0_t1.sl.v179 trip_k0_t1.sl.v178 trip_k0_t1.sl.v177 trip_k0_t1.sl.v176
  rw [trip_s i arg4 harg4 v0 q w x1 k]
  simp only [View.readAt_eq_ld, View.ld_unit_zero (S := S256x128) hz]
  rfl

theorem trip_c (v0 : BitVec 32) (q : FVec Ideal S256x128 .bf16) (w : Sl) (x1 : Kv) (k : Fin (k0_t1_loop i).trips) (G10 : BufTy.Contents (Elt Ideal) arg10.view.ty) :
    trip_k0_t1.sl.v181 (F := Ideal) i arg4 arg10 v0 q w (harg4.unread x1) k G10 = k0_pay3 i v0 q (k0_pay20 w) 0#32 1#32 k (blkAt i x1 k) (arg10.view.read (Elt Ideal) G10) := by
  have hz : (![0,0] : Fin 2 → Nat) = fun _ => 0 := by funext a; fin_cases a <;> rfl
  unfold trip_k0_t1.sl.v181 trip_k0_t1.sl.v180
  rw [trip_m i arg4 harg4 arg10 v0 q w x1 k G10]
  simp only [View.readAt_eq_ld, View.ld_unit_zero (S := S256x128) hz]
  rfl

theorem trip_e (v0 : BitVec 32) (q : FVec Ideal S256x128 .bf16) (w : Sl) (x1 : Kv) (k : Fin (k0_t1_loop i).trips) (G10 : BufTy.Contents (Elt Ideal) arg10.view.ty) :
    trip_k0_t1.sl.v184 (F := Ideal) i arg4 arg10 v0 q w (harg4.unread x1) k G10 = k0_pay4 i v0 q (k0_pay20 w) 0#32 1#32 k (blkAt i x1 k) (arg10.view.read (Elt Ideal) G10) := by
  unfold trip_k0_t1.sl.v184 trip_k0_t1.sl.v183 trip_k0_t1.sl.v182
  rw [trip_m i arg4 harg4 arg10 v0 q w x1 k G10, trip_s i arg4 harg4 v0 q w x1 k]
  rfl

theorem trip_l (v0 : BitVec 32) (q : FVec Ideal S256x128 .bf16) (w : Sl) (x1 : Kv) (k : Fin (k0_t1_loop i).trips) (G10 : BufTy.Contents (Elt Ideal) arg10.view.ty) (G11 : BufTy.Contents (Elt Ideal) arg11.view.ty) :
    trip_k0_t1.sl.v193 (F := Ideal) i arg4 arg10 arg11 v0 q w (harg4.unread x1) k G10 G11 = k0_pay5 i v0 q (k0_pay20 w) 0#32 1#32 k (blkAt i x1 k) (arg10.view.read (Elt Ideal) G10) (arg11.view.read (Elt Ideal) G11) := by
  have hz : (![0,0] : Fin 2 → Nat) = fun _ => 0 := by funext a; fin_cases a <;> rfl
  unfold trip_k0_t1.sl.v193 trip_k0_t1.sl.v190 trip_k0_t1.sl.v189 trip_k0_t1.sl.v188 trip_k0_t1.sl.v187 trip_k0_t1.sl.v186
  rw [trip_c i arg4 harg4 arg10 v0 q w x1 k G10, trip_e i arg4 harg4 arg10 v0 q w x1 k G10]
  simp only [View.readAt_eq_ld, View.ld_unit_zero (S := S256x128) hz]
  rfl

theorem trip_a (v0 : BitVec 32) (q : FVec Ideal S256x128 .bf16) (w : Sl) (x1 : Kv) (k : Fin (k0_t1_loop i).trips) (G10 : BufTy.Contents (Elt Ideal) arg10.view.ty) (G12 : BufTy.Contents (Elt Ideal) arg12.view.ty) :
    trip_k0_t1.sl.v195 (F := Ideal) i arg4 arg10 arg12 v0 q w (harg4.unread x1) k G10 G12 = k0_pay6 i v0 q (k0_pay20 w) 0#32 1#32 k (blkAt i x1 k) (arg10.view.read (Elt Ideal) G10) (arg12.view.read (Elt Ideal) G12) := by
  have hz : (![0,0] : Fin 2 → Nat) = fun _ => 0 := by funext a; fin_cases a <;> rfl
  unfold trip_k0_t1.sl.v195
  rw [trip_c i arg4 harg4 arg10 v0 q w x1 k G10]
  simp only [View.readAt_eq_ld, View.ld_unit_zero (S := S256x128) hz]
  rfl

theorem trip_p (v0 : BitVec 32) (q : FVec Ideal S256x128 .bf16) (w : Sl) (x1 : Kv) (k : Fin (k0_t1_loop i).trips) (G10 : BufTy.Contents (Elt Ideal) arg10.view.ty) :
    trip_k0_t1.sl.v196 (F := Ideal) i arg4 arg10 v0 q w (harg4.unread x1) k G10 = k0_pay7 i v0 q (k0_pay20 w) 0#32 1#32 k (blkAt i x1 k) (arg10.view.read (Elt Ideal) G10) := by
  unfold trip_k0_t1.sl.v196
  rw [trip_e i arg4 harg4 arg10 v0 q w x1 k G10]
  rfl

theorem trip_v (x2 : Kv) (k : Fin (k0_t1_loop i).trips) :
    trip_k0_t1.sl.r (F := Ideal) i arg5 (harg5.unread x2) k = blkAt i x2 k := by
  unfold trip_k0_t1.sl.r
  simp only [View.readAt_eq_ld, harg5.read_unread]
  rfl

/-- The scratch contents after `k` trips are the recursion's. -/
theorem loop_st (𝒱 : Variants) (v0 v17 : BitVec 32) (q : FVec Ideal S256x128 .bf16) (v34 v35 : RB) (w : Sl)
    (x1 x2 : Kv) (G10 : BufTy.Contents (Elt Ideal) arg10.view.ty) (G11 : BufTy.Contents (Elt Ideal) arg11.view.ty) (G12 : BufTy.Contents (Elt Ideal) arg12.view.ty)
    (k : ℕ) (hk : k ≤ (k0_t1_loop i).trips) :
    (arg10.view.read (Elt Ideal) (arg10.view.writes (Elt Ideal) G10 (pb_k0_t1 (F := Ideal) 𝒱 c none i arg3 harg3 arg4 harg4 arg5 harg5 arg6 harg6 arg7 harg7 arg8 harg8 arg9 harg9 arg10 harg10 arg11 harg11 arg12 harg12 v0 v17 q v34 v35 w (harg4.unread x1) (harg5.unread x2) G10 G11 G12 k).1),
     arg11.view.read (Elt Ideal) (arg11.view.writes (Elt Ideal) G11 (pb_k0_t1 (F := Ideal) 𝒱 c none i arg3 harg3 arg4 harg4 arg5 harg5 arg6 harg6 arg7 harg7 arg8 harg8 arg9 harg9 arg10 harg10 arg11 harg11 arg12 harg12 v0 v17 q v34 v35 w (harg4.unread x1) (harg5.unread x2) G10 G11 G12 k).2.1),
     arg12.view.read (Elt Ideal) (arg12.view.writes (Elt Ideal) G12 (pb_k0_t1 (F := Ideal) 𝒱 c none i arg3 harg3 arg4 harg4 arg5 harg5 arg6 harg6 arg7 harg7 arg8 harg8 arg9 harg9 arg10 harg10 arg11 harg11 arg12 harg12 v0 v17 q v34 v35 w (harg4.unread x1) (harg5.unread x2) G10 G11 G12 k).2.2))
      = st i v0 q w x1 x2 (arg10.view.read (Elt Ideal) G10, arg11.view.read (Elt Ideal) G11, arg12.view.read (Elt Ideal) G12) k := by
  induction k with
  | zero => rfl
  | succ k ih =>
    have hk' : k < (k0_t1_loop i).trips := hk
    have ih := ih (le_of_lt hk')
    rw [pb_k0_t1_succ (F := Ideal) 𝒱 c none i arg3 harg3 arg4 harg4 arg5 harg5 arg6 harg6 arg7 harg7 arg8 harg8 arg9 harg9 arg10 harg10 arg11 harg11 arg12 harg12 v0 v17 q v34 v35 w (harg4.unread x1) (harg5.unread x2) G10 G11 G12 ⟨k, hk'⟩]
    dsimp only [tripL_k0_t1]
    unfold trip_k0_t1
    dsimp only [List.cons_append, List.nil_append]
    rw [View.read_writes_full, View.read_writes_full, View.read_writes_full]
    simp only [st, dif_pos hk', ← ih]
    rw [trip_m (q := q) (w := w) (x1 := x1) (k := ⟨k, hk'⟩), trip_l (q := q) (w := w) (x1 := x1) (k := ⟨k, hk'⟩), trip_a (q := q) (w := w) (x1 := x1) (k := ⟨k, hk'⟩),
      trip_p (q := q) (w := w) (x1 := x1) (k := ⟨k, hk'⟩), trip_v (x2 := x2) (k := ⟨k, hk'⟩)]
    rfl

/-- The scratch contents before the block on the diagonal. -/
abbrev stN (i : grid0.Coords) (x0 : Vec Ideal S128x128 .bf16) (x1 x2 : Kv) (x3 : Sl) : Scr := st i (run.sl.v0 i) (k0_pay15 (F := Ideal) x0) x3 x1 x2 st0 (k0_t1_loop i).trips

theorem slope_read (x3 : Sl) : View.readAt (Elt Ideal) arg6.view (Rect.unit (s := S1x1x128) ![0, 0, 0] S1x1x128.size inb_S1x1x128_S1x1x128_0_0_0).toLoadRect (harg6.unread x3) = x3 := by
  have hz : (![0,0,0] : Fin 3 → Nat) = fun _ => 0 := by funext a; fin_cases a <;> rfl
  simp only [View.readAt_eq_ld, View.ld_unit_zero (S := S1x1x128) hz, harg6.read_unread]

/-- What the loop leaves in the three buffers. -/
theorem loop_all (x0 : Vec Ideal S128x128 .bf16) (x1 x2 : Kv) (x3 : Sl) (h2 : (k0_t2_loop i).trips = 0) :
    run.sl.v83 (F := Ideal) c i arg3 harg3 arg4 harg4 arg5 harg5 arg6 harg6 arg7 harg7 arg8 harg8 arg9 harg9 arg10 harg10 arg11 harg11 arg12 harg12 x0 x1 x2 x3 = (stN i x0 x1 x2 x3).1
    ∧ run.sl.v93 (F := Ideal) c i arg3 harg3 arg4 harg4 arg5 harg5 arg6 harg6 arg7 harg7 arg8 harg8 arg9 harg9 arg10 harg10 arg11 harg11 arg12 harg12 x0 x1 x2 x3 = (stN i x0 x1 x2 x3).2.1
    ∧ run.sl.v102 (F := Ideal) c i arg3 harg3 arg4 harg4 arg5 harg5 arg6 harg6 arg7 harg7 arg8 harg8 arg9 harg9 arg10 harg10 arg11 harg11 arg12 harg12 x0 x1 x2 x3 = (stN i x0 x1 x2 x3).2.2 := by
  have hz : (![0,0] : Fin 2 → Nat) = fun _ => 0 := by funext a; fin_cases a <;> rfl
  have hl := loop_st c i arg3 harg3 arg4 harg4 arg5 harg5 arg6 harg6 arg7 harg7 arg8 harg8 arg9 harg9 arg10 harg10 arg11 harg11 arg12 harg12 Variants.none (run.sl.v0 i) (run.sl.v17 i) (run.sl.r (F := Ideal) c arg3 harg3 x0) k0_pay17 k0_pay17 x3 x1 x2
    (arg10.view.writes (Elt Ideal) arg10.view.junk run.sl.HS0_1) (arg11.view.writes (Elt Ideal) arg11.view.junk run.sl.HS1_1) (arg12.view.writes (Elt Ideal) arg12.view.junk run.sl.HS2_1) _ le_rfl
  have eq : run.sl.r (F := Ideal) c arg3 harg3 x0 = k0_pay15 x0 := by
    unfold run.sl.r
    simp only [View.readAt_eq_ld, View.ld_unit_zero (S := S128x128) hz, harg3.read_unread]
  have e0 : (arg10.view.read (Elt Ideal) (arg10.view.writes (Elt Ideal) arg10.view.junk (run.sl.HS0_1 (F := Ideal))), arg11.view.read (Elt Ideal) (arg11.view.writes (Elt Ideal) arg11.view.junk (run.sl.HS1_1 (F := Ideal))),
      arg12.view.read (Elt Ideal) (arg12.view.writes (Elt Ideal) arg12.view.junk (run.sl.HS2_1 (F := Ideal)))) = st0 := by
    unfold run.sl.HS0_1 run.sl.HS1_1 run.sl.HS2_1
    rw [View.read_writes_full, View.read_writes_full, View.read_writes_full]
    rfl
  rw [e0, eq] at hl
  have e2 : Scf.trips (k0_t2_loop i).lb (k0_t2_loop i).ub (k0_t2_loop i).st = 0 := h2
  unfold run.sl.v83 run.sl.v93 run.sl.v102 View.readCov
  rw [slope_read arg6 harg6 x3, View.readAt_full, View.readAt_full, View.readAt_full, e2, eq]
  unfold pb_k0_t2
  dsimp only [List.nil_append]
  rw [View.writes_append, View.writes_append, View.writes_append]
  exact ⟨congrArg Prod.fst hl, congrArg (fun s => s.2.1) hl, congrArg (fun s => s.2.2) hl⟩

/-- What the body leaves in the output block: the two halves of the last accumulator over the last sum, one less the other
    times the factor, normalised. -/
theorem out_eq (x0 : Vec Ideal S128x128 .bf16) (x1 x2 : Kv) (x3 : Sl) (x4 : Vec Ideal S1x4x64 .f32) (x5 : Vec Ideal S1x128 .f32) (h2 : (k0_t2_loop i).trips = 0) :
    blockOut (F := Ideal) c i arg3 harg3 arg4 harg4 arg5 harg5 arg6 harg6 arg7 harg7 arg8 harg8 arg9 harg9 arg10 harg10 arg11 harg11 arg12 harg12 x0 x1 x2 x3 x4 x5
      = k0_pay34 (F := Ideal) x4 (lastS i (k0_pay15 (F := Ideal) x0) x3 x1 x2 (stN i x0 x1 x2 x3)).2
          (lastS i (k0_pay15 (F := Ideal) x0) x3 x1 x2 (stN i x0 x1 x2 x3)).1 x5 := by
  have hz : (![0,0] : Fin 2 → Nat) = fun _ => 0 := by funext a; fin_cases a <;> rfl
  have hz3 : (![0,0,0] : Fin 3 → Nat) = fun _ => 0 := by funext a; fin_cases a <;> rfl
  unfold blockOut
  rw [View.read_writes_eq_canon _ _ _ (cover c i arg3 harg3 arg4 harg4 arg5 harg5 arg6 harg6 arg7 harg7 arg8 harg8 arg9 harg9 arg10 harg10 arg11 harg11 arg12 harg12 x0 x1 x2 x3 x4 x5)]
  unfold run
  dsimp only
  rw [View.canon_unit_zero hz]
  obtain ⟨e83, e93, e102⟩ := loop_all c i arg3 harg3 arg4 harg4 arg5 harg5 arg6 harg6 arg7 harg7 arg8 harg8 arg9 harg9 arg10 harg10 arg11 harg11 arg12 harg12 x0 x1 x2 x3 h2
  have eq : run.sl.r (F := Ideal) c arg3 harg3 x0 = k0_pay15 x0 := by
    unfold run.sl.r
    simp only [View.readAt_eq_ld, View.ld_unit_zero (S := S128x128) hz, harg3.read_unread]
  have er : run.sl.r_2 (F := Ideal) c i arg3 harg3 arg4 harg4 arg6 harg6 x0 x1 x3 = diagS i (k0_pay15 (F := Ideal) x0) x3 x1 := by
    unfold run.sl.r_2
    rw [slope_read arg6 harg6 x3]
    simp only [eq, View.readAt_eq_ld, harg4.read_unread]
    rfl
  have e130 : run.sl.v130 (F := Ideal) c i arg3 harg3 arg4 harg4 arg5 harg5 arg6 harg6 arg7 harg7 arg8 harg8 arg9 harg9 arg10 harg10 arg11 harg11 arg12 harg12 x0 x1 x2 x3 = (lastS i (k0_pay15 (F := Ideal) x0) x3 x1 x2 (stN i x0 x1 x2 x3)).2 := by
    unfold run.sl.v130 run.sl.HS2_1_1
    rw [View.readCov_full, e83, e102, er]
    simp only [View.readAt_eq_ld, harg5.read_unread]
    rfl
  have e131 : run.sl.v131 (F := Ideal) c i arg3 harg3 arg4 harg4 arg5 harg5 arg6 harg6 arg7 harg7 arg8 harg8 arg9 harg9 arg10 harg10 arg11 harg11 arg12 harg12 x0 x1 x2 x3 = (lastS i (k0_pay15 (F := Ideal) x0) x3 x1 x2 (stN i x0 x1 x2 x3)).1 := by
    unfold run.sl.v131 run.sl.HS1_1_1
    rw [View.readCov_full, e83, e93, er]
    rfl
  unfold run.sl.r_4
  rw [e130, e131]
  simp only [View.readAt_eq_ld, View.ld_unit_zero (S := S1x4x64) hz3, View.ld_unit_zero (S := S1x128) hz, harg7.read_unread, harg8.read_unread]

end
end Cert.Diff2
end
-- ==== Proof.Diff2.Row.lean ====
/- One key block of the second layer's differential attention at one row: the maximum, the sum of the weights and the accumulator after it,
   from those before it. -/
module

public import proofs.«01_k».proof.Proof.Diff2.Body
public import proofs.«01_k».proof.Proof.Diff.Inp

@[expose] public section

set_option maxRecDepth 16384

noncomputable section

namespace Cert.Diff2
open Cert.Fox Cert.Diff Cert.Diff2KernelIdeal Cert.Diff2KernelIdeal.Gen Idealize.ShloMosaic Idealize.ShloMosaic.TcCoe Idealize.ShloMosaic.Tactic Idealize.SL.Sem

section
variable (i : grid0.Coords) (v0 : BitVec 32) (q : FVec Ideal S256x128 .bf16) (w : Sl) (k : Fin (k0_t1_loop i).trips) (kb vb : Vec Ideal S256x128 .bf16) (s : Scr) (ζ v : ℕ → EReal) (n : ℕ) (R : Fin 256)
  (hz : ∀ c : Fin 256, k0_pay1 (F := Ideal) i v0 q (k0_pay20 w) 0#32 1#32 k kb (ix2 R c) = ζ (n + c.val))

/-- A key's score before the mask: the product, and the slope by the distance from the block's first row. -/
theorem score_at (c : Fin 256) (σ : EReal) (hw : ∀ l : Fin 128, w (ix3 0 0 l) = σ) (R : Fin 256) (n : ℤ)
    (hn : (IntOp.addi (Scalar.subi (Scalar.muli (Scf.iv 0#32 1#32 k.val) 256#32) v0) (BitVec.ofNat 32 c.val)).toInt = n) :
    k0_pay1 (F := Ideal) i v0 q (k0_pay20 w) 0#32 1#32 k kb (ix2 R c) = ∑ x : Fin 128, q (ix2 R x) * kb (ix2 c x) + σ * ((n : ℝ) : EReal) := by
  pointwise [k0_pay1, k0_pay20]
  simp only [hw]
  rw [← hn]
  split <;> rfl

theorem score_diag_at (v17 : BitVec 32) (c : Fin 256) (σ : EReal) (hw : ∀ l : Fin 128, w (ix3 0 0 l) = σ) (R : Fin 256) (n : ℤ)
    (hn : (IntOp.addi (Scalar.subi (Scalar.muli v17 256#32) v0) (BitVec.ofNat 32 c.val)).toInt = n) :
    k0_pay25 (F := Ideal) v0 v17 q w kb (ix2 R c) = ∑ x : Fin 128, q (ix2 R x) * kb (ix2 c x) + σ * ((n : ℝ) : EReal) := by
  pointwise [k0_pay25, k0_pay20]
  simp only [hw]
  rw [← hn]
  split <;> rfl

include hz in
/-- The maximum after a block. -/
theorem step_mx (hm : ∀ l : Fin 128, s.1 (ix2 R l) = mx ζ n) (l : Fin 128) : k0_pay2 (F := Ideal) i v0 q (k0_pay20 w) 0#32 1#32 k kb s.1 (ix2 R l) = mx ζ (n + 256) := by
  pointwise [k0_pay2]
  rw [hm]
  exact mx_step ζ n _ hz

include hz in
/-- The weights of a block. -/
theorem step_p (hm : ∀ l : Fin 128, s.1 (ix2 R l) = mx ζ n) (c : Fin 256) :
    k0_pay4 (F := Ideal) i v0 q (k0_pay20 w) 0#32 1#32 k kb s.1 (ix2 R c) = Ideal.exp (ζ (n + c.val) - mx ζ (n + 256)) := by
  pointwise [k0_pay4]
  rw [hz]
  split <;> rw [step_mx i v0 q w k kb s ζ n R hz hm]

include hz in
/-- The factor of what was there before. -/
theorem step_alpha (hm : ∀ l : Fin 128, s.1 (ix2 R l) = mx ζ n) (l : Fin 128) :
    k0_pay3 (F := Ideal) i v0 q (k0_pay20 w) 0#32 1#32 k kb s.1 (ix2 R l) = Ideal.exp (mx ζ n - mx ζ (n + 256)) := by
  pointwise [k0_pay3]
  rw [step_mx i v0 q w k kb s ζ n R hz hm, hm]

include hz in
/-- The scratch contents after a block before the diagonal. -/
theorem step_val (hm : ∀ l : Fin 128, s.1 (ix2 R l) = mx ζ n) (hl : ∀ l : Fin 128, s.2.1 (ix2 R l) = ln ζ n) (l : Fin 128)
    (ha : s.2.2 (ix2 R l) = an ζ v n) (hv : ∀ c : Fin 256, vb (ix2 c l) = v (n + c.val)) :
    (stepS i v0 q w k kb vb s).1 (ix2 R l) = mx ζ (n + 256) ∧ (stepS i v0 q w k kb vb s).2.1 (ix2 R l) = ln ζ (n + 256)
    ∧ (stepS i v0 q w k kb vb s).2.2 (ix2 R l) = an ζ v (n + 256) := by
  unfold stepS
  refine ⟨?_, ?_, ?_⟩
  · pointwise [k0_pay22]
    exact step_mx i v0 q w k kb s ζ n R hz hm l
  · pointwise [k0_pay5]
    rw [step_alpha i v0 q w k kb s ζ n R hz hm, hl, ← ln_next ζ n]
    simp only [step_p i v0 q w k kb s ζ n R hz hm]
  · pointwise [k0_pay21, k0_pay6, k0_pay7]
    rw [step_alpha i v0 q w k kb s ζ n R hz hm, ha, ← an_next ζ v n]
    simp only [step_p i v0 q w k kb s ζ n R hz hm, hv]

end

section
variable (S : FVec Ideal S256x256 .f32) (w : BitVec 32) (x y : IVec S256x256 32) (vb : Vec Ideal S256x128 .bf16) (m : RB) (ζ v : ℕ → EReal) (n : ℕ) (R : Fin 256)
  (hz : ∀ c : Fin 256, k0_pay27 (F := Ideal) S w x y (ix2 R c) = ζ (n + c.val))
  (hm : ∀ l : Fin 128, m (ix2 R l) = mx ζ n)

include hz hm in
theorem last_mx (l : Fin 128) : k0_pay28 (F := Ideal) S w x y m (ix2 R l) = mx ζ (n + 256) := by
  pointwise [k0_pay28]
  rw [hm]
  exact mx_step ζ n _ hz

include hz hm in
theorem last_p (c : Fin 256) : k0_pay30 (F := Ideal) S w x y m (ix2 R c) = Ideal.exp (ζ (n + c.val) - mx ζ (n + 256)) := by
  pointwise [k0_pay30]
  rw [hz]
  split <;> rw [last_mx S w x y m ζ n R hz hm]

include hz hm in
theorem last_alpha (l : Fin 128) : k0_pay29 (F := Ideal) S w x y m (ix2 R l) = Ideal.exp (mx ζ n - mx ζ (n + 256)) := by
  pointwise [k0_pay29]
  rw [last_mx S w x y m ζ n R hz hm, hm]

include hz hm in
/-- The sum of the weights after the block on the diagonal. -/
theorem last_ln (L : RB) (l : Fin 128) (hl : L (ix2 R l) = ln ζ n) : k0_pay31 (F := Ideal) S w x y m L (ix2 R l) = ln ζ (n + 256) := by
  pointwise [k0_pay31]
  rw [last_alpha S w x y m ζ n R hz hm, hl, ← ln_next ζ n]
  simp only [last_p S w x y m ζ n R hz hm]

include hz hm in
/-- The accumulator after the block on the diagonal. -/
theorem last_an (A : RB) (l : Fin 128) (ha : A (ix2 R l) = an ζ v n) (hv : ∀ c : Fin 256, vb (ix2 c l) = v (n + c.val)) :
    k0_pay32 (F := Ideal) S w x y vb m A (ix2 R l) = an ζ v (n + 256) := by
  pointwise [k0_pay32]
  rw [last_alpha S w x y m ζ n R hz hm, ha, ← an_next ζ v n]
  simp only [last_p S w x y m ζ n R hz hm, hv]

end

end Cert.Diff2
end
-- ==== Proof.Diff2.KerVal.lean ====
/- The second layer's differential attention's kernel at one index of its output block: the recursion over the key blocks summed up. -/
module

public import proofs.«01_k».proof.Proof.Diff2.Row
public import proofs.«01_k».proof.Proof.Diff.Inp

@[expose] public section

set_option maxRecDepth 16384

noncomputable section

namespace Cert.Diff2
open Cert.Fox Cert.Diff Cert.Diff2KernelIdeal Cert.Diff2KernelIdeal.Gen Idealize.ShloMosaic Idealize.ShloMosaic.TcCoe Idealize.ShloMosaic.Tactic Idealize.SL.Sem

theorem v0_eq (i : grid0.Coords) : run.sl.v0 i = BitVec.ofNat 32 (128 * (i 2).val) := by
  unfold run.sl.v0
  generalize i 2 = x
  revert x
  decide +kernel

theorem v17_eq (i : grid0.Coords) : run.sl.v17 i = BitVec.ofNat 32 ((i 2).val / 2) := by
  unfold run.sl.v17
  sl_unfold_words
  generalize i 2 = x
  revert x
  decide +kernel

theorem t1_trips (i : grid0.Coords) : (k0_t1_loop i).trips = (i 2).val / 2 := by
  unfold k0_t1_loop
  generalize i 2 = x
  revert x
  decide +kernel

theorem t2_trips (i : grid0.Coords) : (k0_t2_loop i).trips = 0 := by
  unfold k0_t2_loop
  generalize i 2 = x
  revert x
  decide +kernel

theorem off3_eq (i : grid0.Coords) : k0_off3 i = ![(i 2).val / 2 * 256, 0] := by
  unfold k0_off3
  generalize i 2 = x
  revert x
  decide +kernel

theorem off1_eq (i : grid0.Coords) (k : Fin (k0_t1_loop i).trips) : k0_off1 i k = ![k.val * 256, 0] := by
  have h16 : (i 2).val < 16 := (i 2).isLt
  have hk : k.val < (i 2).val / 2 := lt_of_lt_of_eq k.isLt (t1_trips i)
  have h8 : k.val < 8 := by omega
  unfold k0_off1
  generalize k.val = n at *
  lift n to Fin 8 using h8
  clear h16
  generalize i 2 = x at *
  revert hk
  clear k
  revert n x
  decide +kernel

/-- A row of the scaled queries: its own head's lanes, the other head's zero. -/
theorem pay15_at (x0 : FVec Ideal S128x128 .bf16) (R : Fin 256) (c : Fin 128) :
    k0_pay15 (F := Ideal) x0 (ix2 R c) = if R.val / 128 = c.val / 64 then x0 (ix2 ⟨R.val % 128, Nat.mod_lt _ (by omega)⟩ c) * ((1 / 8 : ℝ) : EReal) else 0 := by
  pointwise [k0_pay15]
  simp only [eighth_bf16]
  have h64 : (64#32 : BitVec 32) = BitVec.ofNat 32 64 := rfl
  rw [h64]
  by_cases hR : R.val < 128
  · rw [dif_pos hR, sel_lt _ _ (by omega) (by omega)]
    by_cases hc : c.val < 64
    · rw [if_pos hc, if_pos (by omega)]
      congr 3
      exact Fin.ext (by dsimp only; omega)
    · rw [if_neg hc, if_neg (by omega)]
  · rw [dif_neg hR, sel_ge _ _ (by omega) (by omega)]
    by_cases hc : 64 ≤ c.val
    · refine (if_pos hc).trans (Eq.trans ?_ (if_pos (by omega)).symm)
      exact congrArg (fun r => x0 (ix2 r c) * ((1 / 8 : ℝ) : EReal)) (Fin.ext (by dsimp only; omega))
    · exact (if_neg hc).trans (if_neg (by omega)).symm

/-- A key block, at an index. -/
theorem blkAt_at (i : grid0.Coords) (x : Vec Ideal S2048x128 .bf16) (k : Fin (k0_t1_loop i).trips) (c : Fin 256) (l : Fin 128) :
    blkAt i x k (ix2 c l) = x (ix2 ⟨k.val * 256 + c.val, by have : (i 2).val < 16 := (i 2).isLt; have := lt_of_lt_of_eq k.isLt (t1_trips i); omega⟩ l) := by
  unfold blkAt
  refine congrArg x (funext fun a => Fin.ext ?_)
  have h0 := congrFun (off1_eq i k) a
  match a, h0 with
  | ⟨0, _⟩, h0 =>
    have h0 : k0_off1 i k 0 = k.val * 256 := h0
    show k0_off1 i k 0 + 1 * c.val = k.val * 256 + c.val
    rw [h0, one_mul]
  | ⟨1, _⟩, h0 =>
    have h0 : k0_off1 i k 1 = 0 := h0
    show k0_off1 i k 1 + 1 * l.val = l.val
    rw [h0]; omega

theorem blkDiag_at (i : grid0.Coords) (x : Vec Ideal S2048x128 .bf16) (c : Fin 256) (l : Fin 128) :
    blkDiag i x (ix2 c l) = x (ix2 ⟨(i 2).val / 2 * 256 + c.val, by have : (i 2).val < 16 := (i 2).isLt; omega⟩ l) := by
  unfold blkDiag
  refine congrArg x (funext fun a => Fin.ext ?_)
  have h0 := congrFun (off3_eq i) a
  match a, h0 with
  | ⟨0, _⟩, h0 =>
    have h0 : k0_off3 i 0 = (i 2).val / 2 * 256 := h0
    show k0_off3 i 0 + 1 * c.val = (i 2).val / 2 * 256 + c.val
    rw [h0, one_mul]
  | ⟨1, _⟩, h0 =>
    have h0 : k0_off3 i 1 = 0 := h0
    show k0_off3 i 1 + 1 * l.val = l.val
    rw [h0]; omega

/-- A block's first key, less the rows' first. -/
theorem rel_int (n k c : ℕ) (hn : n < 16) (hk : k < 8) (hc : c < 256) :
    (IntOp.addi (Scalar.subi (Scalar.muli (BitVec.ofNat 32 k) 256#32) (BitVec.ofNat 32 (128 * n))) (BitVec.ofNat 32 c)).toInt = ((k * 256 + c : ℕ) : ℤ) - ((n * 128 : ℕ) : ℤ) := by
  have e : IntOp.addi (Scalar.subi (Scalar.muli (BitVec.ofNat 32 k) 256#32) (BitVec.ofNat 32 (128 * n))) (BitVec.ofNat 32 c) = BitVec.ofNat 32 (k * 256 + c) - BitVec.ofNat 32 (n * 128) := by
    show BitVec.ofNat 32 k * BitVec.ofNat 32 256 - BitVec.ofNat 32 (128 * n) + BitVec.ofNat 32 c = _
    rw [← BitVec.ofNat_mul, BitVec.ofNat_add, mul_comm 128 n]
    generalize BitVec.ofNat 32 (k * 256) = x
    generalize BitVec.ofNat 32 (n * 128) = y
    generalize BitVec.ofNat 32 c = z
    bv_omega
  rw [e, BitVec.toInt_sub, BitVec.toInt_ofNat', BitVec.toInt_ofNat']
  simp only [Int.bmod]
  omega

theorem iv_eq (k : ℕ) (hk : k < 8) : Scf.iv 0#32 1#32 k = BitVec.ofNat 32 k := by
  lift k to Fin 8 using hk
  revert k
  decide +kernel

/-- The block on the diagonal, under the mask. -/
theorem mask_at (i : grid0.Coords) (S : FVec Ideal S256x256 .f32) (R c : Fin 256) :
    k0_pay27 (F := Ideal) S (run.sl.v64 i) (run.sl.r_3 i) run.sl.v73 (ix2 R c)
      = if (i 2).val / 2 * 256 + c.val ≤ (i 2).val * 128 + R.val % 128 then S (ix2 R c) else ⊥ := by
  have h16 : (i 2).val < 16 := (i 2).isLt
  unfold run.sl.v64 run.sl.r_3 run.sl.v73
  rw [v0_eq, v17_eq]
  pointwise [k0_pay27, k0_pay26]
  have hR : ∀ R : Fin 256, Scalar.select (IntOp.cmpi .sge (BitVec.ofNat 32 R.val) 128#32) (IntOp.subi (BitVec.ofNat 32 R.val) 128#32) (BitVec.ofNat 32 R.val)
      = BitVec.ofNat 32 (R.val % 128) := by decide +kernel
  have hm : IntOp.addi (Scalar.muli (BitVec.ofNat 32 ((i 2).val / 2)) 256#32) (BitVec.ofNat 32 c.val) = BitVec.ofNat 32 ((i 2).val / 2 * 256 + c.val) := by
    rw [BitVec.ofNat_add, BitVec.ofNat_mul]; rfl
  have ha : IntOp.addi (BitVec.ofNat 32 (128 * (i 2).val)) (BitVec.ofNat 32 (R.val % 128)) = BitVec.ofNat 32 ((i 2).val * 128 + R.val % 128) := by
    rw [BitVec.ofNat_add, mul_comm]; rfl
  rw [hR, hm, ha, WordCmp.cmpi_sle_ofNat (by omega) (by omega), sel_bool]
  rfl

/-- The output block: the two halves' difference, normalised. -/
theorem fin_at (x4 : Vec Ideal S1x4x64 .f32) (a l : FVec Ideal S256x128 .f32) (x5 : Vec Ideal S1x128 .f32) (R c : Fin 128) :
    k0_pay34 (F := Ideal) x4 a l x5 (ix2 R c)
      = nrm 0x3F24FD5C#32 (fun x => Ideal.div (a (ix2 ⟨R.val, by omega⟩ x)) (l (ix2 ⟨R.val, by omega⟩ x))
          - (lamE 0x3EB60549#32 fun e y => x4 (ix3 0 e y)) * Ideal.div (a (ix2 ⟨128 + R.val, by omega⟩ x)) (l (ix2 ⟨128 + R.val, by omega⟩ x))) (x5 (ix2 0 c)) c := by
  pointwise [k0_pay34]
  rfl

section
variable (X : Inp) (i : grid0.Coords) (b p : ℕ) (hp : p < 4) (x0 : Vec Ideal S128x128 .bf16) (x1 x2 : Vec Ideal S2048x128 .bf16) (x3 : Sl)
  (h0 : ∀ R l : Fin 128, x0 (ix2 R l) = Xe X (b * 2048 + ((i 2).val * 128 + R.val)) (3072 + (p * 128 + l.val)))
  (h1 : ∀ (s : Fin 2048) (l : Fin 128), x1 (ix2 s l) = Xe X (b * 2048 + s.val) (3584 + (p * 128 + l.val)))
  (h2 : ∀ (s : Fin 2048) (l : Fin 128), x2 (ix2 s l) = Xe X (b * 2048 + s.val) (4096 + (p * 128 + l.val)))
  (h3 : ∀ l : Fin 128, x3 (ix3 0 0 l) = sg p)

include h0 h1 in
/-- The kernel's scaled products: those over all lanes are those over the half's own. -/
theorem logit (R : Fin 256) (s : Fin 2048) :
    (∑ x : Fin 128, k0_pay15 (F := Ideal) x0 (ix2 R x) * x1 (ix2 s x))
      = pD X b p (R.val / 128) ((i 2).val * 128 + R.val % 128) s.val := by
  have hR := R.isLt
  rw [Fin.sum_univ_two_halves 64 64 rfl]
  unfold pD
  rw [mul_comm (∑ x : Fin 64, _), mul_sum_nonneg _ _ (by exact_mod_cast (by norm_num : (0 : ℝ) ≤ 1 / 8)) (EReal.coe_ne_top _)]
  have hterm : ∀ x : Fin 128, R.val / 128 = x.val / 64 → k0_pay15 (F := Ideal) x0 (ix2 R x) * x1 (ix2 s x)
      = ((1 / 8 : ℝ) : EReal) * (Xe X (b * 2048 + ((i 2).val * 128 + R.val % 128)) (3072 + (p * 128 + x.val)) * Xe X (b * 2048 + s.val) (3584 + (p * 128 + x.val))) := by
    intro x hx
    rw [pay15_at, if_pos hx, h0, h1, mul_right_comm, mul_comm]
  have hzero : ∀ x : Fin 128, R.val / 128 ≠ x.val / 64 → k0_pay15 (F := Ideal) x0 (ix2 R x) * x1 (ix2 s x) = 0 := by
    intro x hx
    rw [pay15_at, if_neg hx, zero_mul]
  rcases Nat.lt_or_ge R.val 128 with h | h
  · rw [Finset.sum_eq_zero (f := fun k : Fin 64 => k0_pay15 (F := Ideal) x0 (ix2 R ⟨64 + k.val, _⟩) * x1 (ix2 s ⟨64 + k.val, _⟩)) (fun k _ => hzero _ (by dsimp only; omega)), add_zero]
    refine Finset.sum_congr rfl fun k _ => ?_
    rw [hterm ⟨k.val, by omega⟩ (by dsimp only; omega), show R.val / 128 = 0 by omega]
    rw [show p * 128 + 0 * 64 + k.val = p * 128 + k.val by omega]
  · rw [Finset.sum_eq_zero (f := fun k : Fin 64 => k0_pay15 (F := Ideal) x0 (ix2 R ⟨k.val, _⟩) * x1 (ix2 s ⟨k.val, _⟩)) (fun k _ => hzero _ (by dsimp only; omega)), zero_add]
    refine Finset.sum_congr rfl fun k _ => ?_
    rw [hterm ⟨64 + k.val, by omega⟩ (by dsimp only; omega), show R.val / 128 = 1 by omega]
    rw [show p * 128 + 1 * 64 + k.val = p * 128 + (64 + k.val) by omega]

/-- The kernel's score of a key: the slope by the distance from the block's first row. -/
def zK (R : Fin 256) (s : ℕ) : EReal := pD X b p (R.val / 128) ((i 2).val * 128 + R.val % 128) s + ((sgR p * ((s : ℝ) - (((i 2).val * 128 : ℕ) : ℝ)) : ℝ) : EReal)

/-- The scores of a row of the block, under the mask. -/
abbrev rowS (R : Fin 256) : ℕ → EReal := zm (zK X i b p R) ((i 2).val * 128 + R.val % 128)

/-- They are the row's scores and a number added to all. -/
theorem rowS_eq (R : Fin 256) (s : ℕ) :
    rowS X i b p R s = sD X b p (R.val / 128) ((i 2).val * 128 + R.val % 128) s + ((-(sgR p * (((i 2).val * 128 : ℕ) : ℝ)) : ℝ) : EReal) := by
  unfold rowS sD zm zK zD
  by_cases hs : s ≤ (i 2).val * 128 + R.val % 128
  · rw [if_pos hs, if_pos hs, add_assoc, ← EReal.coe_add]
    congr 2
    ring
  · rw [if_neg hs, if_neg hs, EReal.bot_add]

include h0 h1 in
/-- The kernel's scores. -/
theorem score (R : Fin 256) (s : Fin 2048) :
    (∑ x : Fin 128, k0_pay15 (F := Ideal) x0 (ix2 R x) * x1 (ix2 s x)) + sg p * ((((s.val : ℤ) - (((i 2).val * 128 : ℕ) : ℤ) : ℤ) : ℝ) : EReal)
      = zK X i b p R s.val := by
  rw [logit X i b p x0 x1 h0 h1 R s, sg_eq, ← EReal.coe_mul]
  unfold zK
  push_cast
  rfl

include h0 h1 h2 h3 in
/-- The scratch contents before trip `k`: the first `k` key blocks taken in. -/
theorem st_val (R : Fin 256) (k : ℕ) (hk : k ≤ (i 2).val / 2) (l : Fin 128) :
    (st i (run.sl.v0 i) (k0_pay15 (F := Ideal) x0) x3 x1 x2 st0 k).1 (ix2 R l) = mx (rowS X i b p R) (k * 256)
    ∧ (st i (run.sl.v0 i) (k0_pay15 (F := Ideal) x0) x3 x1 x2 st0 k).2.1 (ix2 R l) = ln (rowS X i b p R) (k * 256)
    ∧ (st i (run.sl.v0 i) (k0_pay15 (F := Ideal) x0) x3 x1 x2 st0 k).2.2 (ix2 R l) = an (rowS X i b p R) (vD X b (p * 128 + l.val)) (k * 256) := by
  have h16 : (i 2).val < 16 := (i 2).isLt
  have hR := R.isLt
  induction k generalizing l with
  | zero =>
    refine ⟨?_, ?_, ?_⟩
    · show k0_pay16 (F := Ideal) (ix2 R l) = _
      pointwise [k0_pay16]
      refine Eq.trans (show _ = (⊥ : EReal) from rfl) ?_
      simp [mx]
    · show k0_pay18 (F := Ideal) (k0_pay17 (F := Ideal)) (ix2 R l) = _
      pointwise [k0_pay18, k0_pay17]
      simp [ln]
    · show k0_pay19 (F := Ideal) (ix2 R l) = _
      pointwise [k0_pay19]
      simp [an]
  | succ k ih =>
    have hk' : k < (k0_t1_loop i).trips := by rw [t1_trips]; omega
    have ih := ih (by omega)
    have hk8 : k < 8 := by omega
    have hz : ∀ c : Fin 256, k0_pay1 (F := Ideal) i (run.sl.v0 i) (k0_pay15 (F := Ideal) x0) (k0_pay20 x3) 0#32 1#32 ⟨k, hk'⟩ (blkAt i x1 ⟨k, hk'⟩) (ix2 R c) = rowS X i b p R (k * 256 + c.val) := by
      intro c
      rw [score_at i (run.sl.v0 i) _ x3 ⟨k, hk'⟩ _ c (sg p) h3 R (((k * 256 + c.val : ℕ) : ℤ) - (((i 2).val * 128 : ℕ) : ℤ)) (by rw [v0_eq, iv_eq k hk8]; exact rel_int _ k _ h16 hk8 c.isLt)]
      simp only [fun x => blkAt_at i x1 ⟨k, hk'⟩ c x]
      refine (score X i b p x0 x1 h0 h1 R ⟨k * 256 + c.val, _⟩).trans ?_
      exact (if_pos (by have := c.isLt; omega)).symm
    have hv : ∀ c : Fin 256, blkAt i x2 ⟨k, hk'⟩ (ix2 c l) = vD X b (p * 128 + l.val) (k * 256 + c.val) := by
      intro c
      rw [blkAt_at i x2 ⟨k, hk'⟩ c l, h2]
      rfl
    simp only [st, dif_pos hk']
    rw [show (k + 1) * 256 = k * 256 + 256 by omega]
    exact step_val _ _ _ _ _ _ _ _ _ _ _ R hz (fun l => (ih l).1) (fun l => (ih l).2.1) l (ih l).2.2 hv

include h0 h1 h2 h3 in
/-- A half's row after the block on the diagonal: the weighted sum over the weights' sum. -/
theorem half_val (R : Fin 256) (c : Fin 128) :
    Ideal.div ((lastS i (k0_pay15 (F := Ideal) x0) x3 x1 x2 (stN i x0 x1 x2 x3)).2 (ix2 R c)) ((lastS i (k0_pay15 (F := Ideal) x0) x3 x1 x2 (stN i x0 x1 x2 x3)).1 (ix2 R c))
      = quo (sD X b p (R.val / 128) ((i 2).val * 128 + R.val % 128)) (vD X b (p * 128 + c.val)) 2048 := by
  have h16 : (i 2).val < 16 := (i 2).isLt
  have hR := R.isLt
  have hst := fun l => st_val X i b p x0 x1 x2 x3 h0 h1 h2 h3 R _ le_rfl l
  have hz : ∀ u : Fin 256, k0_pay27 (F := Ideal) (diagS i (k0_pay15 (F := Ideal) x0) x3 x1) (run.sl.v64 i) (run.sl.r_3 i) run.sl.v73 (ix2 R u)
      = rowS X i b p R ((i 2).val / 2 * 256 + u.val) := by
    intro u
    rw [mask_at]
    unfold diagS
    rw [score_diag_at (run.sl.v0 i) _ x3 _ (run.sl.v17 i) u (sg p) h3 R (((((i 2).val / 2 * 256 + u.val : ℕ)) : ℤ) - (((i 2).val * 128 : ℕ) : ℤ)) (by rw [v0_eq, v17_eq]; exact rel_int _ _ _ h16 (by omega) u.isLt)]
    simp only [fun x => blkDiag_at i x1 u x]
    have e := score X i b p x0 x1 h0 h1 R ⟨(i 2).val / 2 * 256 + u.val, by have := u.isLt; omega⟩
    dsimp only at e
    rw [e]
    rfl
  have hv : ∀ u : Fin 256, blkDiag i x2 (ix2 u c) = vD X b (p * 128 + c.val) ((i 2).val / 2 * 256 + u.val) := by
    intro u
    rw [blkDiag_at, h2]
    rfl
  unfold lastS stN
  rw [t1_trips]
  dsimp only
  rw [last_an _ _ _ _ _ _ _ _ _ R hz (fun l => (hst l).1) _ c (hst c).2.2 hv,
    last_ln _ _ _ _ _ _ _ R hz (fun l => (hst l).1) _ c (hst c).2.1]
  refine Eq.trans (quo_ext _ _ _ (by omega) fun s hs => zm_bot _ _ _ (by omega)) ?_
  exact quo_moved _ _ _ _ (rowS_eq X i b p R) _

include h0 h1 h2 h3 in
/-- The output block at an index. -/
theorem block_val (x4 : Vec Ideal S1x4x64 .f32) (x5 : Vec Ideal S1x128 .f32) (R c : Fin 128) :
    k0_pay34 (F := Ideal) x4 (lastS i (k0_pay15 (F := Ideal) x0) x3 x1 x2 (stN i x0 x1 x2 x3)).2 (lastS i (k0_pay15 (F := Ideal) x0) x3 x1 x2 (stN i x0 x1 x2 x3)).1 x5 (ix2 R c)
      = nrm 0x3F24FD5C#32 (dA X (lamE 0x3EB60549#32 fun e y => x4 (ix3 0 e y)) b p ((i 2).val * 128 + R.val)) (x5 (ix2 0 c)) c := by
  have hR := R.isLt
  rw [fin_at]
  refine congrArg (fun d => nrm 0x3F24FD5C#32 d (x5 (ix2 0 c)) c) (funext fun x => ?_)
  unfold dA
  have e0 := half_val X i b p x0 x1 x2 x3 h0 h1 h2 h3 ⟨R.val, by omega⟩ x
  have e1 := half_val X i b p x0 x1 x2 x3 h0 h1 h2 h3 ⟨128 + R.val, by omega⟩ x
  rw [e0, e1]
  dsimp only
  rw [show R.val / 128 = 0 by omega, show R.val % 128 = R.val by omega, show (128 + R.val) / 128 = 1 by omega, show (128 + R.val) % 128 = R.val by omega]

end
end Cert.Diff2
end
-- ==== Proof.Diff2.Rmax.lean ====
/- The largest of each row of the second layer's differential attention's reference's logits. -/
module

public import proofs.«01_k».proof.Proof.Gen.Diff2ReferenceIdeal.Run
public import proofs.«01_k».proof.Proof.Fox.Math

@[expose] public section

set_option maxRecDepth 16384

noncomputable section

namespace Cert.Diff2.Ref
open Cert.Diff2ReferenceIdeal Cert.Diff2ReferenceIdeal.Gen Cert.Diff2ReferenceIdeal.Value Idealize.ShloMosaic Idealize.ShloMosaic.TcCoe Idealize.ShloMosaic.Tactic Idealize.SL.Sem

abbrev Sq := FVec Ideal S8x4x2048x2048 .f32

/-- Each row's largest. -/
def rmax (z : Sq) : FVec Ideal S8x4x2048 .f32 :=
  maximumf (broadcastInDim S8x4x2048 ![] bcast_S_S8x4x2048 (constant (F := Ideal) S_ .f32 0xFF800000#32)) (Host.reduce FloatOps.maximumf z (constant (F := Ideal) S_ .f32 0xFF800000#32) reducesTo_S8x4x2048x2048_S8x4x2048_d3 h_S_)

theorem fold_max {n : ℕ} (f : Fin n → EReal) : Finset.fold max (⊥ : EReal) f Finset.univ = Finset.univ.sup f := rfl

/-- The program's largest of the last axis, at an index. -/
theorem redmax {n0 n1 n2 n3 : ℕ} (z : FVec Ideal (⟨4, ![n0, n1, n2, n3]⟩ : Shape) .f32) (i : FVec Ideal S_ .f32)
    (hr : (⟨4, ![n0, n1, n2, n3]⟩ : Shape).ReducesTo [3] (⟨3, ![n0, n1, n2]⟩ : Shape)) (hu : 0 < S_.numel) (b : Fin n0) (h : Fin n1) (t : Fin n2)
    (β : EReal) (hi : i (Shape.Idx.first hu) = β) :
    Host.reduce FloatOps.maximumf z i hr hu (ix3 b h t) = Finset.fold max β (fun s : Fin n3 => z (ix4 b h t s)) Finset.univ := by
  subst hi
  simp only [pointwise]

theorem neg_inf : Ideal.ofBits .f32 4286578688#32 = (⊥ : EReal) := by simp [Ideal.ofBits, Ideal.ieee]

theorem max_at (x : FVec Ideal S8x4x2048 .f32) (b : Fin 8) (h : Fin 4) (t : Fin 2048) :
    maximumf (broadcastInDim S8x4x2048 ![] bcast_S_S8x4x2048 (constant (F := Ideal) S_ .f32 0xFF800000#32)) x (ix3 b h t) = x (ix3 b h t) := by
  pointwise
  rw [neg_inf]
  exact max_eq_right bot_le

theorem const_at : constant (F := Ideal) S_ .f32 0xFF800000#32 (Shape.Idx.first h_S_) = (⊥ : EReal) := neg_inf

theorem rmax_at (z : Sq) (b : Fin 8) (h : Fin 4) (t : Fin 2048) : rmax z (ix3 b h t) = Finset.univ.sup fun s : Fin 2048 => z (ix4 b h t s) := by
  unfold rmax
  rw [max_at]
  have e := redmax z (constant (F := Ideal) S_ .f32 0xFF800000#32) reducesTo_S8x4x2048x2048_S8x4x2048_d3 h_S_ b h t ⊥ const_at
  rw [fold_max] at e
  exact e

end Cert.Diff2.Ref
end
-- ==== Proof.Diff2.Ref.lean ====
/- The second layer's differential attention's reference, by stages, and each stage read at an index. -/
module

public import proofs.«01_k».proof.Proof.Gen.Diff2ReferenceIdeal.Run
public import proofs.«01_k».proof.Proof.Diff.Inp
public import proofs.«01_k».proof.Proof.Diff2.Rmax

@[expose] public section

set_option maxRecDepth 16384

noncomputable section

namespace Cert.Diff2.Ref
open Cert.Fox Cert.Diff Cert.Diff2ReferenceIdeal Cert.Diff2ReferenceIdeal.Gen Cert.Diff2ReferenceIdeal.Value Idealize.ShloMosaic Idealize.ShloMosaic.TcCoe Idealize.ShloMosaic.Tactic Idealize.SL.Sem

abbrev Hd := FVec Ideal S8x4x2048x128 .f32
abbrev Hf := FVec Ideal S8x4x2048x64 .f32

/-- The queries, by sequence and head. -/
def heads3072 (X : FVec Ideal S16384x4608 .bf16) : Hd :=
  transpose S8x4x2048x128 [0, 2, 1, 3] (shapeCast S8x2048x4x128 (extractStridedSlice S16384x512 ![0, 3072] (extf .f32 X bitsLt_bf16_f32) slices_S16384x4608_S16384x512_0_3072) shapeCasts_S16384x512_S8x2048x4x128) transposes_S8x2048x4x128_S8x4x2048x128_0_2_1_3
/-- The keys, by sequence and head. -/
def heads3584 (X : FVec Ideal S16384x4608 .bf16) : Hd :=
  transpose S8x4x2048x128 [0, 2, 1, 3] (shapeCast S8x2048x4x128 (extractStridedSlice S16384x512 ![0, 3584] (extf .f32 X bitsLt_bf16_f32) slices_S16384x4608_S16384x512_0_3584) shapeCasts_S16384x512_S8x2048x4x128) transposes_S8x2048x4x128_S8x4x2048x128_0_2_1_3
/-- The values, by sequence and head. -/
def heads4096 (X : FVec Ideal S16384x4608 .bf16) : Hd :=
  transpose S8x4x2048x128 [0, 2, 1, 3] (shapeCast S8x2048x4x128 (extractStridedSlice S16384x512 ![0, 4096] (extf .f32 X bitsLt_bf16_f32) slices_S16384x4608_S16384x512_0_4096) shapeCasts_S16384x512_S8x2048x4x128) transposes_S8x2048x4x128_S8x4x2048x128_0_2_1_3

/-- The first half of a head's lanes. -/
def lo (q : Hd) : Hf := extractStridedSlice S8x4x2048x64 ![0, 0, 0, 0] q slices_S8x4x2048x128_S8x4x2048x64_0_0_0_0
/-- The second half. -/
def hi (q : Hd) : Hf := extractStridedSlice S8x4x2048x64 ![0, 0, 0, 64] q slices_S8x4x2048x128_S8x4x2048x64_0_0_0_64

/-- The heads' slopes. -/
def slopes : FVec Ideal S4 .f32 :=
  Host.exp (mulf (broadcastInDim S4 ![] bcast_S_S4 (constant (F := Ideal) S_ .f32 0x3F317218#32)) (Host.divf (mulf (broadcastInDim S4 ![] bcast_S_S4 (constant (F := Ideal) S_ .f32 0xC1000000#32)) (addf (broadcastInDim S4 ![] bcast_S_S4 (constant (F := Ideal) S_ .f32 0x3F800000#32)) (sitofp .f32 (iotaInDim S4 32 0)))) (broadcastInDim S4 ![] bcast_S_S4 (constant (F := Ideal) S_ .f32 0x40800000#32))))

/-- The distance of a key from a row, in numbers. -/
def dist : FVec Ideal S2048x2048 .f32 :=
  sitofp .f32 (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))

/-- What a key loses by its distance. -/
def bias (w : FVec Ideal S4 .f32) (d : FVec Ideal S2048x2048 .f32) : Sq :=
  broadcastInDim S8x4x2048x2048 ![0, 1, 2, 3] bcast_S1x4x2048x2048_S8x4x2048x2048_0_1_2_3 (broadcastInDim S1x4x2048x2048 ![1, 2, 3] bcast_S4x2048x2048_S1x4x2048x2048_1_2_3 (mulf (broadcastInDim S4x2048x2048 ![0, 1, 2] bcast_S4x1x1_S4x2048x2048_0_1_2 (Host.negf (broadcastInDim S4x1x1 ![0] bcast_S4_S4x1x1_0 w)))
    (broadcastInDim S4x2048x2048 ![0, 1, 2] bcast_S1x2048x2048_S4x2048x2048_0_1_2 (broadcastInDim S1x2048x2048 ![1, 2] bcast_S2048x2048_S1x2048x2048_1_2 d))))

/-- The logits. -/
def zz (q k : Hf) (w : FVec Ideal S4 .f32) (d : FVec Ideal S2048x2048 .f32) : Sq :=
  addf (mulf (Host.dotGeneral dot_S8x4x2048x64_S8x4x2048x64_S8x4x2048x2048_3_3_2_2_01_01 none q k) (broadcastInDim S8x4x2048x2048 ![] bcast_S_S8x4x2048x2048 (constant (F := Ideal) S_ .f32 0x3E000000#32))) (bias w d)

def mask : IVec S8x4x2048x2048 1 :=
  broadcastInDim S8x4x2048x2048 ![2, 3] bcast_S2048x2048_S8x4x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The logits under the mask. -/
def msk (z : Sq) : Sq := select mask z (broadcastInDim S8x4x2048x2048 ![] bcast_S_S8x4x2048x2048 (id (constant (F := Ideal) S_ .f32 0xFF800000#32)))

/-- The weights before they are divided by their sum. -/
def ex (z : Sq) : Sq :=
  Host.exp (subf z (broadcastInDim S8x4x2048x2048 ![0, 1, 2, 3] bcast_S8x4x2048x1_S8x4x2048x2048_0_1_2_3 (broadcastInDim S8x4x2048x1 ![0, 1, 2] bcast_S8x4x2048_S8x4x2048x1_0_1_2 (rmax z))))

/-- The weights. -/
def wts (e : Sq) : Sq :=
  Host.divf e (broadcastInDim S8x4x2048x2048 ![0, 1, 2, 3] bcast_S8x4x2048x1_S8x4x2048x2048_0_1_2_3 (broadcastInDim S8x4x2048x1 ![0, 1, 2] bcast_S8x4x2048_S8x4x2048x1_0_1_2 (Host.reduceAdd e (constant (F := Ideal) S_ .f32 0x00000000#32) reducesTo_S8x4x2048x2048_S8x4x2048_d3 h_S_)))

/-- The factor of the second attention's weights. -/
def lam (d : FVec Ideal S4x64 .f32) : FVec Ideal S_ .f32 :=
  addf (subf (Host.exp (Host.reduceAdd (mulf (shapeCast S64 (extractStridedSlice S1x64 ![0, 0] d slices_S4x64_S1x64_0_0) shapeCasts_S1x64_S64) (shapeCast S64 (extractStridedSlice S1x64 ![1, 0] d slices_S4x64_S1x64_1_0) shapeCasts_S1x64_S64)) (constant (F := Ideal) S_ .f32 0x00000000#32) reducesTo_S64_S_d0 h_S_))
    (Host.exp (Host.reduceAdd (mulf (shapeCast S64 (extractStridedSlice S1x64 ![2, 0] d slices_S4x64_S1x64_2_0) shapeCasts_S1x64_S64) (shapeCast S64 (extractStridedSlice S1x64 ![3, 0] d slices_S4x64_S1x64_3_0) shapeCasts_S1x64_S64)) (constant (F := Ideal) S_ .f32 0x00000000#32) reducesTo_S64_S_d0 h_S_)))
    (constant (F := Ideal) S_ .f32 0x3EB60549#32)

/-- The difference of the weights, by the values. -/
def mix (a e : Sq) (L : FVec Ideal S_ .f32) (v : Hd) : Hd :=
  Host.dotGeneral dot_S8x4x2048x2048_S8x4x2048x128_S8x4x2048x128_3_2_2_3_01_01 none (subf a (mulf (broadcastInDim S8x4x2048x2048 ![] bcast_S_S8x4x2048x2048 L) e)) v

/-- The rows normalised, with the gain and the scale. -/
def out (o : Hd) (g : FVec Ideal S128 .f32) : FVec Ideal S16384x512 .bf16 :=
  truncf .bf16 (shapeCast S16384x512 (transpose S8x2048x4x128 [0, 2, 1, 3] (mulf (mulf (mulf o (broadcastInDim S8x4x2048x128 ![0, 1, 2, 3] bcast_S8x4x2048x1_S8x4x2048x128_0_1_2_3 (Host.rsqrt (addf (Host.divf (broadcastInDim S8x4x2048x1 ![0, 1, 2] bcast_S8x4x2048_S8x4x2048x1_0_1_2 (Host.reduceAdd (mulf o o) (constant (F := Ideal) S_ .f32 0x00000000#32) reducesTo_S8x4x2048x128_S8x4x2048_d3 h_S_)) (broadcastInDim S8x4x2048x1 ![] bcast_S_S8x4x2048x1 (constant (F := Ideal) S_ .f32 0x43000000#32))) (broadcastInDim S8x4x2048x1 ![] bcast_S_S8x4x2048x1 (constant (F := Ideal) S_ .f32 0x358637BD#32))))))
    (broadcastInDim S8x4x2048x128 ![0, 1, 2, 3] bcast_S1x1x1x128_S8x4x2048x128_0_1_2_3 (broadcastInDim S1x1x1x128 ![3] bcast_S128_S1x1x1x128_3 g))) (broadcastInDim S8x4x2048x128 ![] bcast_S_S8x4x2048x128 (constant (F := Ideal) S_ .f32 0x3F24FD5C#32))) transposes_S8x4x2048x128_S8x2048x4x128_0_2_1_3) shapeCasts_S8x2048x4x128_S16384x512) bitsLt_bf16_f32

/-- The whole, from the arguments. -/
def all (X : FVec Ideal S16384x4608 .bf16) (d : FVec Ideal S4x64 .f32) (g : FVec Ideal S128 .f32) : FVec Ideal S16384x512 .bf16 :=
  out (mix (wts (ex (msk (zz (lo (heads3072 X)) (lo (heads3584 X)) slopes dist)))) (wts (ex (msk (zz (hi (heads3072 X)) (hi (heads3584 X)) slopes dist)))) (lam d) (heads4096 X)) g

/-- The program's result is the stages composed. -/
theorem res_eq (m : (ℓ : Loc nD τ sig) → Buf (Elt Ideal) ℓ) (c : Dev nD) :
    res_out0 (F := Ideal) m c
      = all (m ((c.tc : Thread nD τ).loc main_arg0)) (m ((c.tc : Thread nD τ).loc main_arg1)) (m ((c.tc : Thread nD τ).loc main_arg2)) := by
  unfold res_out0 res_main_v117
  rfl

theorem out_at (o : Hd) (g : FVec Ideal S128 .f32) (b : Fin 8) (t : Fin 2048) (h : Fin 4) (l : Fin 128) :
    out o g (ix2 ⟨b.val * 2048 + t.val, by omega⟩ ⟨h.val * 128 + l.val, by omega⟩) = nrm 0x3F24FD5C#32 (fun x => o (ix4 b h t x)) (g (ix1 l)) l := by
  pointwise [out]
  rfl

theorem mix_at (a e : Sq) (L : FVec Ideal S_ .f32) (v : Hd) (b : Fin 8) (h : Fin 4) (t : Fin 2048) (l : Fin 128) :
    mix a e L v (ix4 b h t l) = ∑ s : Fin 2048, (a (ix4 b h t s) - L ix0 * e (ix4 b h t s)) * v (ix4 b h s l) := by
  pointwise [mix]

theorem lam_at (d : FVec Ideal S4x64 .f32) : lam d ix0 = lamE 0x3EB60549#32 fun a x => d (ix2 a x) := by
  pointwise [lam]
  rfl

theorem slopes_at (h : Fin 4) : slopes (ix1 h) = sg h.val := by
  pointwise [slopes]
  unfold sg
  rw [one_f32]
  rfl

theorem dist_at (t s : Fin 2048) : dist (ix2 t s) = (((t.val : ℝ) - (s.val : ℝ) : ℝ) : EReal) := by
  have e : (IntOp.subi (BitVec.ofNat 32 t.val) (BitVec.ofNat 32 s.val)).toInt = (t.val : ℤ) - (s.val : ℤ) := by
    have ht := t.isLt
    have hs := s.isLt
    show (BitVec.ofNat 32 t.val - BitVec.ofNat 32 s.val).toInt = _
    rw [BitVec.toInt_sub, BitVec.toInt_ofNat', BitVec.toInt_ofNat']
    simp only [Int.bmod]
    omega
  pointwise [dist]
  show (((IntOp.subi (BitVec.ofNat 32 t.val) (BitVec.ofNat 32 s.val)).toInt : ℝ) : EReal) = _
  rw [e]
  push_cast
  rfl

theorem zz_at (q k : Hf) (w : FVec Ideal S4 .f32) (d : FVec Ideal S2048x2048 .f32) (b : Fin 8) (h : Fin 4) (t s : Fin 2048) :
    zz q k w d (ix4 b h t s) = (∑ x : Fin 64, q (ix4 b h t x) * k (ix4 b h s x)) * Ideal.ofBits .f32 1040187392#32 + -(w (ix1 h)) * d (ix2 t s) := by
  pointwise [zz, bias]

theorem msk_at (z : Sq) (b : Fin 8) (h : Fin 4) (t s : Fin 2048) : msk z (ix4 b h t s) = if s.val ≤ t.val then z (ix4 b h t s) else ⊥ := by
  pointwise [msk, mask, id]
  rw [sel_le _ _ (by omega) (by omega), show Ideal.ofBits .f32 4286578688#32 = (⊥ : EReal) by simp [Ideal.ofBits, Ideal.ieee]]

theorem ex_at (z : Sq) (b : Fin 8) (h : Fin 4) (t s : Fin 2048) : ex z (ix4 b h t s) = Ideal.exp (z (ix4 b h t s) - rmax z (ix3 b h t)) := by
  pointwise [ex]

theorem wts_at (e : Sq) (b : Fin 8) (h : Fin 4) (t s : Fin 2048) : wts e (ix4 b h t s) = Ideal.div (e (ix4 b h t s)) (∑ u : Fin 2048, e (ix4 b h t u)) := by
  pointwise [wts]

theorem lo_at (q : Hd) (b : Fin 8) (h : Fin 4) (t : Fin 2048) (l : Fin 64) : lo q (ix4 b h t l) = q (ix4 b h t ⟨l.val, by omega⟩) := by
  pointwise [lo]

theorem hi_at (q : Hd) (b : Fin 8) (h : Fin 4) (t : Fin 2048) (l : Fin 64) : hi q (ix4 b h t l) = q (ix4 b h t ⟨64 + l.val, by omega⟩) := by
  pointwise [hi]

theorem heads3072_at (X : FVec Ideal S16384x4608 .bf16) (b : Fin 8) (h : Fin 4) (t : Fin 2048) (l : Fin 128) :
    heads3072 X (ix4 b h t l) = X (ix2 ⟨b.val * 2048 + t.val, by omega⟩ ⟨3072 + (h.val * 128 + l.val), by omega⟩) := by
  pointwise [heads3072]
theorem heads3584_at (X : FVec Ideal S16384x4608 .bf16) (b : Fin 8) (h : Fin 4) (t : Fin 2048) (l : Fin 128) :
    heads3584 X (ix4 b h t l) = X (ix2 ⟨b.val * 2048 + t.val, by omega⟩ ⟨3584 + (h.val * 128 + l.val), by omega⟩) := by
  pointwise [heads3584]
theorem heads4096_at (X : FVec Ideal S16384x4608 .bf16) (b : Fin 8) (h : Fin 4) (t : Fin 2048) (l : Fin 128) :
    heads4096 X (ix4 b h t l) = X (ix2 ⟨b.val * 2048 + t.val, by omega⟩ ⟨4096 + (h.val * 128 + l.val), by omega⟩) := by
  pointwise [heads4096]

end Cert.Diff2.Ref
end
-- ==== Proof.Diff2.RefVal.lean ====
/- The second layer's differential attention's reference at one index of its result. -/
module

public import proofs.«01_k».proof.Proof.Diff2.Ref

@[expose] public section

set_option maxRecDepth 16384

noncomputable section

namespace Cert.Diff2.Ref
open Cert.Fox Cert.Diff Cert.Diff2ReferenceIdeal Idealize.ShloMosaic Idealize.ShloMosaic.Tactic

/-- The constant the layer adds is a number. -/
theorem lam_const : ∃ r : ℝ, Ideal.ofBits .f32 0x3EB60549#32 = (r : EReal) := by
  simp [Ideal.ofBits, Ideal.ieee]
  exact ⟨_, (EReal.coe_mul _ _).symm⟩

theorem sup_mx (ζ : ℕ → EReal) : (Finset.univ.sup fun s : Fin 2048 => ζ s.val) = mx ζ 2048 := by
  refine le_antisymm (Finset.sup_le fun s _ => le_mx ζ 2048 s.val s.isLt) (Finset.sup_le fun s hs => ?_)
  exact Finset.le_sup (f := fun s : Fin 2048 => ζ s.val) (Finset.mem_univ (⟨s, Finset.mem_range.mp hs⟩ : Fin 2048))

variable (X : Inp)

/-- The reference's scores of a row. -/
def sc (b p e t s : ℕ) : EReal := sD X b p e t s + ((-(sgR p * t) : ℝ) : EReal)

section
variable (q k : Hf) (e : ℕ) (he : e < 2)
  (hq : ∀ (b : Fin 8) (h : Fin 4) (t : Fin 2048) (x : Fin 64), q (ix4 b h t x) = Xe X (b.val * 2048 + t.val) (3072 + (h.val * 128 + e * 64 + x.val)))
  (hk : ∀ (b : Fin 8) (h : Fin 4) (t : Fin 2048) (x : Fin 64), k (ix4 b h t x) = Xe X (b.val * 2048 + t.val) (3584 + (h.val * 128 + e * 64 + x.val)))

include hq hk in
theorem zz_coe (b : Fin 8) (h : Fin 4) (t s : Fin 2048) :
    zz q k slopes dist (ix4 b h t s) = zD X b.val h.val e t.val s.val + ((-(sgR h.val * t.val) : ℝ) : EReal) := by
  have hp : (∑ x : Fin 64, q (ix4 b h t x) * k (ix4 b h s x)) * ((1 / 8 : ℝ) : EReal) = pD X b.val h.val e t.val s.val := by
    unfold pD
    congr 1
    refine Finset.sum_congr rfl fun x _ => ?_
    rw [hq, hk]
  rw [zz_at, eighth_f32, hp, slopes_at, sg_eq, dist_at, ← EReal.coe_neg, ← EReal.coe_mul]
  unfold zD
  rw [add_assoc, ← EReal.coe_add]
  congr 2
  ring

include hq hk in
theorem msk_coe (b : Fin 8) (h : Fin 4) (t s : Fin 2048) :
    msk (zz q k slopes dist) (ix4 b h t s) = sc X b.val h.val e t.val s.val := by
  rw [msk_at, zz_coe X q k e hq hk]
  unfold sc sD zm
  by_cases hs : s.val ≤ t.val
  · rw [if_pos hs, if_pos hs]
  · rw [if_neg hs, if_neg hs, EReal.bot_add]

include hq hk in
/-- The reference's weights. -/
theorem wts_coe (b : Fin 8) (h : Fin 4) (t s : Fin 2048) :
    wts (ex (msk (zz q k slopes dist))) (ix4 b h t s) = wt (sD X b.val h.val e t.val) s.val := by
  have hex : ∀ s : Fin 2048, ex (msk (zz q k slopes dist)) (ix4 b h t s) = ew (sc X b.val h.val e t.val) (mx (sc X b.val h.val e t.val) 2048) s.val := by
    intro s
    rw [ex_at, rmax_at]
    simp only [msk_coe X q k e hq hk]
    rw [sup_mx (sc X b.val h.val e t.val)]
    rfl
  rw [← wt_moved (sD X b.val h.val e t.val) (sc X b.val h.val e t.val) (-(sgR h.val * t.val)) (fun _ => rfl), wts_at]
  unfold wt ln
  rw [Finset.sum_range]
  simp only [hex]

end

/-- The reference's result, at a sequence, row, head and lane. -/
theorem ref_val (d : FVec Ideal S4x64 .f32) (g : FVec Ideal S128 .f32) (b : Fin 8) (h : Fin 4) (t : Fin 2048) (l : Fin 128) :
    all X d g (ix2 ⟨b.val * 2048 + t.val, by omega⟩ ⟨h.val * 128 + l.val, by omega⟩)
      = nrm 0x3F24FD5C#32 (dR X (lamE 0x3EB60549#32 fun a x => d (ix2 a x)) b.val h.val t.val) (g (ix1 l)) l := by
  unfold all
  rw [out_at]
  congr 1
  funext x
  rw [mix_at, lam_at]
  unfold dR
  rw [Finset.sum_range]
  refine Finset.sum_congr rfl fun s _ => ?_
  rw [wts_coe X _ _ 0 (fun b h t x => ?_) (fun b h t x => ?_), wts_coe X _ _ 1 (fun b h t x => ?_) (fun b h t x => ?_), heads4096_at, Xe_eq X]
  · rfl
  · rw [hi_at, heads3072_at, Xe_eq X]; dsimp only; congr 1; omega
  · rw [hi_at, heads3584_at, Xe_eq X]; dsimp only; congr 1; omega
  · rw [lo_at, heads3072_at, Xe_eq X]; dsimp only; congr 1
  · rw [lo_at, heads3584_at, Xe_eq X]; dsimp only; congr 1

end Cert.Diff2.Ref
end
-- ==== Proof.Diff2.Value.lean ====
/- The second layer's differential attention: the kernel's result array is the reference's. -/
module

public import proofs.«01_k».proof.Proof.Diff2.KerVal
public import proofs.«01_k».proof.Proof.Diff2.RefVal
public import proofs.«01_k».proof.Proof.Diff2.Frame
public import proofs.«01_k».proof.Proof.Gen.Pre_diff_finite
public import proofs.«01_k».proof.Defs
public import Idealize.ShloMosaic.Lib.Pipeline.ValueKit

@[expose] public section

set_option maxRecDepth 16384

noncomputable section

namespace Cert.Diff2
open Cert.Fox Cert.Diff Cert.Diff2KernelIdeal Cert.Diff2KernelIdeal.Gen Idealize.ShloMosaic Idealize.ShloMosaic.TcCoe Idealize.ShloMosaic.Tactic Idealize.SL.Sem

/-- Where each window's block stands at a point. -/
theorem idx (t : Fin grid0.N) :
    win0_0.index t = ![(grid0.coords t 0).val * 16 + (grid0.coords t 2).val, 24 + (grid0.coords t 1).val]
    ∧ win0_1.index t = ![(grid0.coords t 0).val, 28 + (grid0.coords t 1).val]
    ∧ win0_2.index t = ![(grid0.coords t 0).val, 32 + (grid0.coords t 1).val]
    ∧ win0_3.index t = ![(grid0.coords t 1).val, 0, 0]
    ∧ win0_4.index t = ![0, 0, 0]
    ∧ win0_5.index t = ![0, 0]
    ∧ win0_6.index t = ![(grid0.coords t 0).val * 16 + (grid0.coords t 2).val, (grid0.coords t 1).val] :=
  (by decide +kernel : ∀ t : Fin grid0.N, win0_0.index t = ![(grid0.coords t 0).val * 16 + (grid0.coords t 2).val, 24 + (grid0.coords t 1).val]
    ∧ win0_1.index t = ![(grid0.coords t 0).val, 28 + (grid0.coords t 1).val]
    ∧ win0_2.index t = ![(grid0.coords t 0).val, 32 + (grid0.coords t 1).val]
    ∧ win0_3.index t = ![(grid0.coords t 1).val, 0, 0]
    ∧ win0_4.index t = ![0, 0, 0]
    ∧ win0_5.index t = ![0, 0]
    ∧ win0_6.index t = ![(grid0.coords t 0).val * 16 + (grid0.coords t 2).val, (grid0.coords t 1).val]) t

variable (m : (ℓ : Loc nD τ sig) → Buf (Elt Ideal) ℓ) (c : Dev nD)

theorem in0 (t : Fin cfg0.N) (R l : Fin 128) :
    iblk (F := Ideal) m c 0 t (ix2 R l) = Xe (m ((c.tc : Thread nD τ).loc main_arg0)) ((grid0.coords t 0).val * 2048 + ((grid0.coords t 2).val * 128 + R.val)) (3072 + ((grid0.coords t 1).val * 128 + l.val)) := by
  have h0 : (grid0.coords t 0).val < 8 := (grid0.coords t 0).isLt
  have h1 : (grid0.coords t 1).val < 4 := (grid0.coords t 1).isLt
  have h2 : (grid0.coords t 2).val < 16 := (grid0.coords t 2).isLt
  unfold Xe
  rw [dif_pos ⟨by omega, by omega⟩, ← V_main_arg0 m c]
  blk_ext [iblk, idx t]

theorem in1 (t : Fin cfg0.N) (s : Fin 2048) (l : Fin 128) :
    iblk (F := Ideal) m c 1 t (ix2 s l) = Xe (m ((c.tc : Thread nD τ).loc main_arg0)) ((grid0.coords t 0).val * 2048 + s.val) (3584 + ((grid0.coords t 1).val * 128 + l.val)) := by
  have h0 : (grid0.coords t 0).val < 8 := (grid0.coords t 0).isLt
  have h1 : (grid0.coords t 1).val < 4 := (grid0.coords t 1).isLt
  unfold Xe
  rw [dif_pos ⟨by omega, by omega⟩, ← V_main_arg0 m c]
  blk_ext [iblk, idx t]

theorem in2 (t : Fin cfg0.N) (s : Fin 2048) (l : Fin 128) :
    iblk (F := Ideal) m c 2 t (ix2 s l) = Xe (m ((c.tc : Thread nD τ).loc main_arg0)) ((grid0.coords t 0).val * 2048 + s.val) (4096 + ((grid0.coords t 1).val * 128 + l.val)) := by
  have h0 : (grid0.coords t 0).val < 8 := (grid0.coords t 0).isLt
  have h1 : (grid0.coords t 1).val < 4 := (grid0.coords t 1).isLt
  unfold Xe
  rw [dif_pos ⟨by omega, by omega⟩, ← V_main_arg0 m c]
  blk_ext [iblk, idx t]

/-- The slopes, each over a row of lanes. -/
def slopesL : FVec Ideal S4x1x128 .f32 :=
  broadcastInDim S4x1x128 ![0, 1, 2] bcast_S4x1x1_S4x1x128_0_1_2 (broadcastInDim S4x1x1 ![0] bcast_S4_S4x1x1_0
    (Host.exp (mulf (broadcastInDim S4 ![] bcast_S_S4 (constant (F := Ideal) S_ .f32 0x3F317218#32)) (Host.divf (mulf (broadcastInDim S4 ![] bcast_S_S4 (constant (F := Ideal) S_ .f32 0xC1000000#32)) (addf (broadcastInDim S4 ![] bcast_S_S4 (constant (F := Ideal) S_ .f32 0x3F800000#32)) (sitofp .f32 (iotaInDim S4 32 0)))) (broadcastInDim S4 ![] bcast_S_S4 (constant (F := Ideal) S_ .f32 0x40800000#32))))))

theorem slopesL_at (h : Fin 4) (l : Fin 128) : slopesL (ix3 h 0 l) = sg h.val := by
  pointwise [slopesL]
  unfold sg
  rw [one_f32]
  rfl

theorem V11 : V m c main_v11 = slopesL := by
  unfold V
  simp only [hostOps0, List.flatten_cons, List.flatten_nil, List.append_nil, List.cons_append, List.nil_append]
  after_results_simp
  rfl

theorem V12 : V m c main_v12 = broadcastInDim S1x4x64 ![1, 2] bcast_S4x64_S1x4x64_1_2 (m ((c.tc : Thread nD τ).loc main_arg1)) := by
  unfold V
  simp only [hostOps0, List.flatten_cons, List.flatten_nil, List.append_nil, List.cons_append, List.nil_append]
  after_results_simp

theorem V13 : V m c main_v13 = broadcastInDim S1x128 ![1] bcast_S128_S1x128_1 (m ((c.tc : Thread nD τ).loc main_arg2)) := by
  unfold V
  simp only [hostOps0, List.flatten_cons, List.flatten_nil, List.append_nil, List.cons_append, List.nil_append]
  after_results_simp

theorem in3 (t : Fin cfg0.N) (l : Fin 128) : iblk (F := Ideal) m c 3 t (ix3 0 0 l) = sg (grid0.coords t 1).val := by
  have h1 : (grid0.coords t 1).val < 4 := (grid0.coords t 1).isLt
  refine Eq.trans ?_ ((congrFun (V11 m c) (ix3 ⟨(grid0.coords t 1).val, h1⟩ 0 l)).trans (slopesL_at _ _))
  blk_ext [iblk, idx t]

theorem lamV_at (d : FVec Ideal S4x64 .f32) (e : Fin 4) (y : Fin 64) : broadcastInDim S1x4x64 ![1, 2] bcast_S4x64_S1x4x64_1_2 d (ix3 0 e y) = d (ix2 e y) := by
  pointwise

theorem gainV_at (d : FVec Ideal S128 .f32) (y : Fin 128) : broadcastInDim S1x128 ![1] bcast_S128_S1x128_1 d (ix2 0 y) = d (ix1 y) := by
  pointwise

theorem in4 (t : Fin cfg0.N) (e : Fin 4) (y : Fin 64) : iblk (F := Ideal) m c 4 t (ix3 0 e y) = m ((c.tc : Thread nD τ).loc main_arg1) (ix2 e y) := by
  refine Eq.trans ?_ ((congrFun (V12 m c) (ix3 0 e y)).trans (lamV_at _ _ _))
  blk_ext [iblk, idx t]

theorem in5 (t : Fin cfg0.N) (y : Fin 128) : iblk (F := Ideal) m c 5 t (ix2 0 y) = m ((c.tc : Thread nD τ).loc main_arg2) (ix1 y) := by
  refine Eq.trans ?_ ((congrFun (V13 m c) (ix2 0 y)).trans (gainV_at _ _))
  blk_ext [iblk, idx t]

/-- A set bit says that the test it holds came out true. -/
theorem of_bit {p : Prop} [Decidable p] (h : BitVec.ofBool (decide p) = 1#1) : p := by
  by_contra hn
  rw [decide_eq_false hn] at h
  exact absurd h (by decide)

/-- The precondition, read: the values are real numbers. -/
theorem fine (h : Pre_Diff2KernelIdeal_diff_finite m) : Fine (m ((c.tc : Thread nD τ).loc main_arg0)) := by
  have ht : Ideal.ofBits .f32 2139095040#32 = (⊤ : EReal) := by simp [Ideal.ofBits, Ideal.ieee]
  refine fine_of _ fun r k hk => ?_
  have hk' := k.isLt
  have e := congrFun (h c).1 (ix2 r ⟨k.val - 4096, by omega⟩)
  unfold Cert.Pre_diff_finite.fn at e
  pointwise at e
  rw [ht] at e
  have e := of_bit e
  have hk3 : (⟨4096 + (k.val - 4096), by omega⟩ : Fin 4608) = k := Fin.ext (by dsimp only; omega)
  rw [hk3] at e
  exact e

/-- The factor's arguments are real numbers. -/
theorem fineL (h : Pre_Diff2KernelIdeal_diff_finite m) (a : Fin 4) (x : Fin 64) : ∃ r : ℝ, m ((c.tc : Thread nD τ).loc main_arg1) (ix2 a x) = ((r : ℝ) : EReal) := by
  have ht : Ideal.ofBits .f32 2139095040#32 = (⊤ : EReal) := by simp [Ideal.ofBits, Ideal.ieee]
  have e := congrFun (h c).2 (ix2 a x)
  unfold Cert.Pre_diff_finite.fn at e
  pointwise at e
  rw [ht] at e
  exact ⟨_, coe_of _ (of_bit e)⟩

/-- The array after the run is the reference's. -/
theorem arr_eq (h : Pre_Diff2KernelIdeal_diff_finite m) :
    (dat (F := Ideal) m 0 c).arrAt 6 cfg0.N
      = Ref.all (m ((c.tc : Thread nD τ).loc main_arg0)) (m ((c.tc : Thread nD τ).loc main_arg1)) (m ((c.tc : Thread nD τ).loc main_arg2)) := by
  refine (dat m 0 c).arrAt_eq_of_covers 6 _ (by decide +kernel) fun t hf y => ?_
  blk_simp
  rw [after0_6]
  have hX := fine m c h
  have h0 : (grid0.coords t 0).val < 8 := (grid0.coords t 0).isLt
  have h1 : (grid0.coords t 1).val < 4 := (grid0.coords t 1).isLt
  have h2 : (grid0.coords t 2).val < 16 := (grid0.coords t 2).isLt
  obtain ⟨R, l, rfl⟩ : ∃ (R : Fin 128) (l : Fin 128), y = ix2 R l := ⟨y 0, y 1, by funext a; match a with | ⟨0, _⟩ => rfl | ⟨1, _⟩ => rfl⟩
  have hR := R.isLt
  have hl := l.isLt
  have hemb : (win0_6.blk t).view.emb (ix2 R l) = ix2 (⟨(grid0.coords t 0).val * 2048 + ((grid0.coords t 2).val * 128 + R.val), by omega⟩ : Fin 16384)
      (⟨(grid0.coords t 1).val * 128 + l.val, by omega⟩ : Fin 512) := by
    blk_ext [idx t]
  rw [hemb]
  refine Eq.trans ?_ (Ref.ref_val _ _ _ ⟨(grid0.coords t 0).val, h0⟩ ⟨(grid0.coords t 1).val, h1⟩ ⟨(grid0.coords t 2).val * 128 + R.val, by omega⟩ l).symm
  unfold outsAt
  rw [out_eq _ _ _ _ _ _ _ _ _ _ _ _ _ _ _ _ _ _ _ _ _ _ _ _ _ _ _ _ (t2_trips _)]
  refine (block_val _ (grid0.coords t) (grid0.coords t 0).val (grid0.coords t 1).val _ _ _ _ (in0 m c t) (in1 m c t) (in2 m c t) (in3 m c t) _ _ R l).trans ?_
  simp only [in4 m c t]
  rw [in5 m c t]
  exact row_eq _ hX _ (lam_real 0x3EB60549#32 Ref.lam_const _ (fineL m c h)) _ _ _ _ _ _

/-- The kernel computes the reference. -/
theorem algebraic : algebraic_Diff2KernelIdeal_Diff2ReferenceIdeal_pre_diff_finite := by
  intro m g m' g' hpre hagree
  refine ⟨fun c => (dat (F := Ideal) m 0 c).arrAt 6 cfg0.N, run_out m g, ?_⟩
  refine (θ_run _ _ _).mono (fun r h c => ⟨(h c).1.trans ?_, (h c).2⟩) (Cert.Diff2ReferenceIdeal.Value.run m' g')
  refine (Ref.res_eq m' c).trans ?_
  rw [(hagree c).1, (hagree c).2.1, (hagree c).2.2]
  exact (arr_eq m c hpre).symm

end Cert.Diff2
end
-- ==== Proof.lean ====
/-
The proof of `Cert.Claim`: the frames of every program but the forgetting and the differential attention's kernels, which
have modules of their own, come from the generated modules; no operation was rewritten except one constant named (`preserves` is trivial or that
rule's statement); and the value claims are proved in the modules of each call.
-/
module

public import proofs.«01_k».proof.Defs
public import proofs.«01_k».proof.Proof.Gen.SbKernel
public import proofs.«01_k».proof.Proof.Gen.SbKernel.Frame
public import proofs.«01_k».proof.Proof.Gen.SbKernelIdeal
public import proofs.«01_k».proof.Proof.Gen.SbKernelIdeal.Frame
public import proofs.«01_k».proof.Proof.Gen.SbReferenceIdeal
public import proofs.«01_k».proof.Proof.Gen.SbReferenceIdeal.Run
public import proofs.«01_k».proof.Proof.Gen.Pre_sb_finite
public import proofs.«01_k».proof.Proof.Gen.SbKernelIdeal.Value
public import proofs.«01_k».proof.Proof.Sb.Value
public import proofs.«01_k».proof.Proof.Gen.MoeKernel
public import proofs.«01_k».proof.Proof.Gen.MoeKernel.Frame
public import proofs.«01_k».proof.Proof.Gen.MoeKernelIdeal
public import proofs.«01_k».proof.Proof.Gen.MoeKernelIdeal.Frame
public import proofs.«01_k».proof.Proof.Gen.MoeReferenceIdeal
public import proofs.«01_k».proof.Proof.Gen.MoeReferenceIdeal.Run
public import proofs.«01_k».proof.Proof.Gen.MoeKernelIdeal.Value
public import proofs.«01_k».proof.Proof.Moe.Value
public import proofs.«01_k».proof.Proof.Gen.FfnKernel
public import proofs.«01_k».proof.Proof.Gen.FfnKernel.Frame
public import proofs.«01_k».proof.Proof.Gen.FfnKernelIdeal
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnKernelIdeal.Value
public import proofs.«01_k».proof.Proof.Ffn.Value
public import proofs.«01_k».proof.Proof.Gen.InKernel
public import proofs.«01_k».proof.Proof.Gen.InKernel.Frame
public import proofs.«01_k».proof.Proof.Gen.InKernelIdeal
public import proofs.«01_k».proof.Proof.Gen.InKernelIdeal.Frame
public import proofs.«01_k».proof.Proof.Gen.InReferenceIdeal
public import proofs.«01_k».proof.Proof.Gen.InReferenceIdeal.Run
public import proofs.«01_k».proof.Proof.Gen.InKernelIdeal.Value
public import proofs.«01_k».proof.Proof.In.Value
public import proofs.«01_k».proof.Proof.Gen.MergeKernel
public import proofs.«01_k».proof.Proof.Gen.MergeKernel.Frame
public import proofs.«01_k».proof.Proof.Gen.MergeKernelIdeal
public import proofs.«01_k».proof.Proof.Gen.MergeKernelIdeal.Frame
public import proofs.«01_k».proof.Proof.Gen.MergeReferenceIdeal
public import proofs.«01_k».proof.Proof.Gen.MergeReferenceIdeal.Run
public import proofs.«01_k».proof.Proof.Merge.Value
public import proofs.«01_k».proof.Proof.Gen.FoxKernel
public import proofs.«01_k».proof.Proof.Gen.FoxKernelIdeal
public import proofs.«01_k».proof.Proof.Gen.FoxReferenceIdeal
public import proofs.«01_k».proof.Proof.Gen.FoxReferenceIdeal.Run
public import proofs.«01_k».proof.Proof.Gen.Pre_fox_finite
public import proofs.«01_k».proof.Proof.Gen.Pre_diff_finite
public import proofs.«01_k».proof.Proof.FoxK.Frame
public import proofs.«01_k».proof.Proof.Fox.Frame
public import proofs.«01_k».proof.Proof.Fox.Value
public import proofs.«01_k».proof.Proof.Gen.DiffKernel
public import proofs.«01_k».proof.Proof.Gen.DiffKernelIdeal
public import proofs.«01_k».proof.Proof.Gen.DiffReferenceIdeal
public import proofs.«01_k».proof.Proof.Gen.DiffReferenceIdeal.Run
public import proofs.«01_k».proof.Proof.DiffK.Frame
public import proofs.«01_k».proof.Proof.Diff.Frame
public import proofs.«01_k».proof.Proof.Diff.Value
public import proofs.«01_k».proof.Proof.Gen.Diff2Kernel
public import proofs.«01_k».proof.Proof.Gen.Diff2KernelIdeal
public import proofs.«01_k».proof.Proof.Gen.Diff2ReferenceIdeal
public import proofs.«01_k».proof.Proof.Gen.Diff2ReferenceIdeal.Run
public import proofs.«01_k».proof.Proof.Diff2K.Frame
public import proofs.«01_k».proof.Proof.Diff2.Frame
public import proofs.«01_k».proof.Proof.Diff2.Value
public import Idealize.ShloMosaic.Lib.Quiescent

@[expose] public section

noncomputable section

namespace Cert.Proof

open Idealize.ShloMosaic Idealize.SL.Sem

/-- The reference `SbReferenceIdeal` runs, its arguments end unchanged and every semaphore is zero at the end. -/
theorem run_Sb : quiescent_SbReferenceIdeal := fun m ρ _ =>
  (θ_run (Cert.SbReferenceIdeal.defs (F := Ideal)) _ _).mono
    (fun r h => ⟨fun c => (h c).2, Idealize.ShloMosaic.sem_eq_zero_of_no_sems (by decide) r.2⟩)
    (Cert.SbReferenceIdeal.Value.run m ρ)

/-- The reference `SbReferenceIdeal` runs, its arguments end unchanged and every semaphore is zero at the end. -/
theorem run_Sb_pre_sb_finite [Cert.Pre_sb_finite.Facts] : quiescent_SbReferenceIdeal_pre_sb_finite := fun m ρ _ =>
  (θ_run (Cert.SbReferenceIdeal.defs (F := Ideal)) _ _).mono
    (fun r h => ⟨fun c => (h c).2, Idealize.ShloMosaic.sem_eq_zero_of_no_sems (by decide) r.2⟩)
    (Cert.SbReferenceIdeal.Value.run m ρ)

/-- The reference `MoeReferenceIdeal` runs, its arguments end unchanged and every semaphore is zero at the end. -/
theorem run_Moe : quiescent_MoeReferenceIdeal := fun m ρ _ =>
  (θ_run (Cert.MoeReferenceIdeal.defs (F := Ideal)) _ _).mono
    (fun r h => ⟨fun c => (h c).2, Idealize.ShloMosaic.sem_eq_zero_of_no_sems (by decide) r.2⟩)
    (Cert.MoeReferenceIdeal.Value.run m ρ)

/-- The reference `FfnReferenceIdeal` runs, its arguments end unchanged and every semaphore is zero at the end. -/
theorem run_Ffn : quiescent_FfnReferenceIdeal := fun m ρ _ =>
  (θ_run (Cert.FfnReferenceIdeal.defs (F := Ideal)) _ _).mono
    (fun r h => ⟨fun c => (h c).2, Idealize.ShloMosaic.sem_eq_zero_of_no_sems (by decide) r.2⟩)
    (Cert.FfnReferenceIdeal.Value.run m ρ)

/-- The reference `InReferenceIdeal` runs, its arguments end unchanged and every semaphore is zero at the end. -/
theorem run_In : quiescent_InReferenceIdeal := fun m ρ _ =>
  (θ_run (Cert.InReferenceIdeal.defs (F := Ideal)) _ _).mono
    (fun r h => ⟨fun c => (h c).2.2, Idealize.ShloMosaic.sem_eq_zero_of_no_sems (by decide) r.2⟩)
    (Cert.InReferenceIdeal.Value.run m ρ)

/-- The reference `MergeReferenceIdeal` runs, its arguments end unchanged and every semaphore is zero at the end. -/
theorem run_Merge : quiescent_MergeReferenceIdeal := fun m ρ _ =>
  (θ_run (Cert.MergeReferenceIdeal.defs (F := Ideal)) _ _).mono
    (fun r h => ⟨fun c => (h c).2, Idealize.ShloMosaic.sem_eq_zero_of_no_sems (by decide) r.2⟩)
    (Cert.MergeReferenceIdeal.Value.run m ρ)

/-- The reference `FoxReferenceIdeal` runs, its arguments end unchanged and every semaphore is zero at the end. -/
theorem run_Fox : quiescent_FoxReferenceIdeal := fun m ρ _ =>
  (θ_run (Cert.FoxReferenceIdeal.defs (F := Ideal)) _ _).mono
    (fun r h => ⟨fun c => (h c).2, Idealize.ShloMosaic.sem_eq_zero_of_no_sems (by decide) r.2⟩)
    (Cert.FoxReferenceIdeal.Value.run m ρ)

/-- The reference `FoxReferenceIdeal` runs, its arguments end unchanged and every semaphore is zero at the end. -/
theorem run_Fox_pre_fox_finite [Cert.Pre_fox_finite.Facts] : quiescent_FoxReferenceIdeal_pre_fox_finite := fun m ρ _ =>
  (θ_run (Cert.FoxReferenceIdeal.defs (F := Ideal)) _ _).mono
    (fun r h => ⟨fun c => (h c).2, Idealize.ShloMosaic.sem_eq_zero_of_no_sems (by decide) r.2⟩)
    (Cert.FoxReferenceIdeal.Value.run m ρ)

/-- The reference `DiffReferenceIdeal` runs, its arguments end unchanged and every semaphore is zero at the end. -/
theorem run_Diff : quiescent_DiffReferenceIdeal := fun m ρ _ =>
  (θ_run (Cert.DiffReferenceIdeal.defs (F := Ideal)) _ _).mono
    (fun r h => ⟨fun c => (h c).2, Idealize.ShloMosaic.sem_eq_zero_of_no_sems (by decide) r.2⟩)
    (Cert.DiffReferenceIdeal.Value.run m ρ)

/-- The reference `DiffReferenceIdeal` runs, its arguments end unchanged and every semaphore is zero at the end. -/
theorem run_Diff_pre_diff_finite [Cert.Pre_diff_finite.Facts] : quiescent_DiffReferenceIdeal_pre_diff_finite := fun m ρ _ =>
  (θ_run (Cert.DiffReferenceIdeal.defs (F := Ideal)) _ _).mono
    (fun r h => ⟨fun c => (h c).2, Idealize.ShloMosaic.sem_eq_zero_of_no_sems (by decide) r.2⟩)
    (Cert.DiffReferenceIdeal.Value.run m ρ)

/-- The reference `Diff2ReferenceIdeal` runs, its arguments end unchanged and every semaphore is zero at the end. -/
theorem run_Diff2 : quiescent_Diff2ReferenceIdeal := fun m ρ _ =>
  (θ_run (Cert.Diff2ReferenceIdeal.defs (F := Ideal)) _ _).mono
    (fun r h => ⟨fun c => (h c).2, Idealize.ShloMosaic.sem_eq_zero_of_no_sems (by decide) r.2⟩)
    (Cert.Diff2ReferenceIdeal.Value.run m ρ)

/-- The reference `Diff2ReferenceIdeal` runs, its arguments end unchanged and every semaphore is zero at the end. -/
theorem run_Diff2_pre_diff_finite [Cert.Pre_diff_finite.Facts] : quiescent_Diff2ReferenceIdeal_pre_diff_finite := fun m ρ _ =>
  (θ_run (Cert.Diff2ReferenceIdeal.defs (F := Ideal)) _ _).mono
    (fun r h => ⟨fun c => (h c).2, Idealize.ShloMosaic.sem_eq_zero_of_no_sems (by decide) r.2⟩)
    (Cert.Diff2ReferenceIdeal.Value.run m ρ)

/-- Every claim of the certificate. -/
theorem claim : Cert.Claim :=
  ⟨Cert.SbKernel.Gen.facts, Cert.SbKernelIdeal.Gen.facts, Cert.SbReferenceIdeal.Gen.facts, Cert.MoeKernel.Gen.facts, Cert.MoeKernelIdeal.Gen.facts, Cert.MoeReferenceIdeal.Gen.facts, Cert.FfnKernel.Gen.facts, Cert.FfnKernelIdeal.Gen.facts, Cert.FfnReferenceIdeal.Gen.facts, Cert.InKernel.Gen.facts, Cert.InKernelIdeal.Gen.facts, Cert.InReferenceIdeal.Gen.facts, Cert.MergeKernel.Gen.facts, Cert.MergeKernelIdeal.Gen.facts, Cert.MergeReferenceIdeal.Gen.facts, Cert.FoxKernel.Gen.facts, Cert.FoxKernelIdeal.Gen.facts, Cert.FoxReferenceIdeal.Gen.facts, Cert.DiffKernel.Gen.facts, Cert.DiffKernelIdeal.Gen.facts, Cert.DiffReferenceIdeal.Gen.facts, Cert.Diff2Kernel.Gen.facts, Cert.Diff2KernelIdeal.Gen.facts, Cert.Diff2ReferenceIdeal.Gen.facts, Cert.Pre_sb_finite.Gen.facts, Cert.Pre_fox_finite.Gen.facts, Cert.Pre_diff_finite.Gen.facts,
   fun m ρ _ => Cert.SbKernel.Gen.frame m ρ,
   fun m ρ _ => Cert.SbKernelIdeal.Gen.frame m ρ,
   fun m ρ _ => Cert.SbKernelIdeal.Gen.frame m ρ,
   run_Sb,
   run_Sb_pre_sb_finite,
   fun m ρ _ => Cert.MoeKernel.Gen.frame m ρ,
   fun m ρ _ => Cert.MoeKernelIdeal.Gen.frame m ρ,
   run_Moe,
   fun m ρ _ => Cert.FfnKernel.Gen.frame m ρ,
   fun m ρ _ => Cert.FfnKernelIdeal.Gen.frame m ρ,
   run_Ffn,
   fun m ρ _ => Cert.InKernel.Gen.frame m ρ,
   fun m ρ _ => Cert.InKernelIdeal.Gen.frame m ρ,
   run_In,
   fun m ρ _ => Cert.MergeKernel.Gen.frame m ρ,
   fun m ρ _ => Cert.MergeKernelIdeal.Gen.frame m ρ,
   run_Merge,
   fun m ρ _ => Cert.FoxK.frame m ρ,
   fun m ρ _ => Cert.Fox.frame m ρ,
   fun m ρ _ => Cert.Fox.frame m ρ,
   run_Fox,
   run_Fox_pre_fox_finite,
   fun m ρ _ => Cert.DiffK.frame m ρ,
   fun m ρ _ => Cert.Diff.frame m ρ,
   fun m ρ _ => Cert.Diff.frame m ρ,
   run_Diff,
   run_Diff_pre_diff_finite,
   fun m ρ _ => Cert.Diff2K.frame m ρ,
   fun m ρ _ => Cert.Diff2.frame m ρ,
   fun m ρ _ => Cert.Diff2.frame m ρ,
   run_Diff2,
   run_Diff2_pre_diff_finite,
   trivial,
   Cert.Sb.algebraic,
   trivial,
   Cert.Moe.algebraic,
   trivial,
   Cert.Ffn.algebraic,
   trivial,
   Cert.In.algebraic,
   trivial,
   Cert.Merge.algebraic,
   IdealRules.named_const.statement _ _ _ _ _ rfl,
   Cert.Fox.algebraic,
   IdealRules.named_const.statement _ _ _ _ _ rfl,
   Cert.Diff.algebraic,
   IdealRules.named_const.statement _ _ _ _ _ rfl,
   Cert.Diff2.algebraic⟩

end Cert.Proof

end
